-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13)
      ∧ r.2.mem ((c.tc : Thread Cert.Kernel8.nD Cert.Kernel8.τ).loc Cert.Kernel8.main_arg14) = m ((c.tc : Thread Cert.Kernel8.nD Cert.Kernel8.τ).loc Cert.Kernel8.main_arg14)
      ∧ r.2.mem ((c.tc : Thread Cert.Kernel8.nD Cert.Kernel8.τ).loc Cert.Kernel8.main_arg15) = m ((c.tc : Thread Cert.Kernel8.nD Cert.Kernel8.τ).loc Cert.Kernel8.main_arg15))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
      ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
      ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13)
      ∧ r.2.mem ((c.tc : Thread Cert.Reference8Ideal.nD Cert.Reference8Ideal.τ).loc Cert.Reference8Ideal.main_arg14) = m ((c.tc : Thread Cert.Reference8Ideal.nD Cert.Reference8Ideal.τ).loc Cert.Reference8Ideal.main_arg14)
      ∧ r.2.mem ((c.tc : Thread Cert.Reference8Ideal.nD Cert.Reference8Ideal.τ).loc Cert.Reference8Ideal.main_arg15) = m ((c.tc : Thread Cert.Reference8Ideal.nD Cert.Reference8Ideal.τ).loc Cert.Reference8Ideal.main_arg15))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11)
      ∧ r.2.mem ((c.tc : Thread Cert.Kernel9.nD Cert.Kernel9.τ).loc Cert.Kernel9.main_arg12) = m ((c.tc : Thread Cert.Kernel9.nD Cert.Kernel9.τ).loc Cert.Kernel9.main_arg12)
      ∧ r.2.mem ((c.tc : Thread Cert.Kernel9.nD Cert.Kernel9.τ).loc Cert.Kernel9.main_arg13) = m ((c.tc : Thread Cert.Kernel9.nD Cert.Kernel9.τ).loc Cert.Kernel9.main_arg13)
      ∧ r.2.mem ((c.tc : Thread Cert.Kernel9.nD Cert.Kernel9.τ).loc Cert.Kernel9.main_arg14) = m ((c.tc : Thread Cert.Kernel9.nD Cert.Kernel9.τ).loc Cert.Kernel9.main_arg14)
      ∧ r.2.mem ((c.tc : Thread Cert.Kernel9.nD Cert.Kernel9.τ).loc Cert.Kernel9.main_arg15) = m ((c.tc : Thread Cert.Kernel9.nD Cert.Kernel9.τ).loc Cert.Kernel9.main_arg15))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
      ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
      ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
      ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
      ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12)
      ∧ r.2.mem ((c.tc : Thread Cert.Reference9Ideal.nD Cert.Reference9Ideal.τ).loc Cert.Reference9Ideal.main_arg13) = m ((c.tc : Thread Cert.Reference9Ideal.nD Cert.Reference9Ideal.τ).loc Cert.Reference9Ideal.main_arg13)
      ∧ r.2.mem ((c.tc : Thread Cert.Reference9Ideal.nD Cert.Reference9Ideal.τ).loc Cert.Reference9Ideal.main_arg14) = m ((c.tc : Thread Cert.Reference9Ideal.nD Cert.Reference9Ideal.τ).loc Cert.Reference9Ideal.main_arg14)
      ∧ r.2.mem ((c.tc : Thread Cert.Reference9Ideal.nD Cert.Reference9Ideal.τ).loc Cert.Reference9Ideal.main_arg15) = m ((c.tc : Thread Cert.Reference9Ideal.nD Cert.Reference9Ideal.τ).loc Cert.Reference9Ideal.main_arg15))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_v126) = v2 c
          ∧ r.2.mem ((c.tc : Thread Cert.ReferenceIdeal.nD Cert.ReferenceIdeal.τ).loc Cert.ReferenceIdeal.main_v127) = v3 c
          ∧ r.2.mem ((c.tc : Thread Cert.ReferenceIdeal.nD Cert.ReferenceIdeal.τ).loc Cert.ReferenceIdeal.main_v128) = v4 c
          ∧ r.2.mem ((c.tc : Thread Cert.ReferenceIdeal.nD Cert.ReferenceIdeal.τ).loc Cert.ReferenceIdeal.main_v123) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v137_0)) (v1 : (c : Dev Cert.Kernel2Ideal.nD) → Buf (Elt Ideal) ((c.tc : Thread Cert.Kernel2Ideal.nD Cert.Kernel2Ideal.τ).loc Cert.Kernel2Ideal.main_v137_1)) (v2 : (c : Dev Cert.Kernel2Ideal.nD) → Buf (Elt Ideal) ((c.tc : Thread Cert.Kernel2Ideal.nD Cert.Kernel2Ideal.τ).loc Cert.Kernel2Ideal.main_v137_2)) (v3 : (c : Dev Cert.Kernel2Ideal.nD) → Buf (Elt Ideal) ((c.tc : Thread Cert.Kernel2Ideal.nD Cert.Kernel2Ideal.τ).loc Cert.Kernel2Ideal.main_v137_3)) (v4 : (c : Dev Cert.Kernel2Ideal.nD) → Buf (Elt Ideal) ((c.tc : Thread Cert.Kernel2Ideal.nD Cert.Kernel2Ideal.τ).loc Cert.Kernel2Ideal.main_v137_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v137_0) = v0 c
          ∧ r.2.mem ((c.tc : Thread Cert.Kernel2Ideal.nD Cert.Kernel2Ideal.τ).loc Cert.Kernel2Ideal.main_v137_1) = v1 c
          ∧ r.2.mem ((c.tc : Thread Cert.Kernel2Ideal.nD Cert.Kernel2Ideal.τ).loc Cert.Kernel2Ideal.main_v137_2) = v2 c
          ∧ r.2.mem ((c.tc : Thread Cert.Kernel2Ideal.nD Cert.Kernel2Ideal.τ).loc Cert.Kernel2Ideal.main_v137_3) = v3 c
          ∧ r.2.mem ((c.tc : Thread Cert.Kernel2Ideal.nD Cert.Kernel2Ideal.τ).loc Cert.Kernel2Ideal.main_v137_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v329) = v0 c
          ∧ r.2.mem ((c.tc : Thread Cert.Reference2Ideal.nD Cert.Reference2Ideal.τ).loc Cert.Reference2Ideal.main_v333) = v1 c
          ∧ r.2.mem ((c.tc : Thread Cert.Reference2Ideal.nD Cert.Reference2Ideal.τ).loc Cert.Reference2Ideal.main_v326) = v2 c
          ∧ r.2.mem ((c.tc : Thread Cert.Reference2Ideal.nD Cert.Reference2Ideal.τ).loc Cert.Reference2Ideal.main_v328) = v3 c
          ∧ r.2.mem ((c.tc : Thread Cert.Reference2Ideal.nD Cert.Reference2Ideal.τ).loc Cert.Reference2Ideal.main_v257) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_v26) = v1 c
          ∧ r.2.mem ((c.tc : Thread Cert.Reference4Ideal.nD Cert.Reference4Ideal.τ).loc Cert.Reference4Ideal.main_v7) = v2 c
          ∧ r.2.mem ((c.tc : Thread Cert.Reference4Ideal.nD Cert.Reference4Ideal.τ).loc Cert.Reference4Ideal.main_v13) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_v26) = v1 c
          ∧ r.2.mem ((c.tc : Thread Cert.Reference5Ideal.nD Cert.Reference5Ideal.τ).loc Cert.Reference5Ideal.main_v7) = v2 c
          ∧ r.2.mem ((c.tc : Thread Cert.Reference5Ideal.nD Cert.Reference5Ideal.τ).loc Cert.Reference5Ideal.main_v13) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_v26) = v1 c
          ∧ r.2.mem ((c.tc : Thread Cert.Reference6Ideal.nD Cert.Reference6Ideal.τ).loc Cert.Reference6Ideal.main_v7) = v2 c
          ∧ r.2.mem ((c.tc : Thread Cert.Reference6Ideal.nD Cert.Reference6Ideal.τ).loc Cert.Reference6Ideal.main_v13) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_v26) = v1 c
          ∧ r.2.mem ((c.tc : Thread Cert.Reference7Ideal.nD Cert.Reference7Ideal.τ).loc Cert.Reference7Ideal.main_v7) = v2 c
          ∧ r.2.mem ((c.tc : Thread Cert.Reference7Ideal.nD Cert.Reference7Ideal.τ).loc Cert.Reference7Ideal.main_v13) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)
      ∧ m' ((c.tc : Thread Cert.Reference8Ideal.nD Cert.Reference8Ideal.τ).loc Cert.Reference8Ideal.main_arg14) = m ((c.tc : Thread Cert.Kernel8Ideal.nD Cert.Kernel8Ideal.τ).loc Cert.Kernel8Ideal.main_arg14)
      ∧ m' ((c.tc : Thread Cert.Reference8Ideal.nD Cert.Reference8Ideal.τ).loc Cert.Reference8Ideal.main_arg15) = m ((c.tc : Thread Cert.Kernel8Ideal.nD Cert.Kernel8Ideal.τ).loc Cert.Kernel8Ideal.main_arg15)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)) (v4 : (c : Dev Cert.Kernel8Ideal.nD) → Buf (Elt Ideal) ((c.tc : Thread Cert.Kernel8Ideal.nD Cert.Kernel8Ideal.τ).loc Cert.Kernel8Ideal.main_v0_4)) (v5 : (c : Dev Cert.Kernel8Ideal.nD) → Buf (Elt Ideal) ((c.tc : Thread Cert.Kernel8Ideal.nD Cert.Kernel8Ideal.τ).loc Cert.Kernel8Ideal.main_v0_5)) (v6 : (c : Dev Cert.Kernel8Ideal.nD) → Buf (Elt Ideal) ((c.tc : Thread Cert.Kernel8Ideal.nD Cert.Kernel8Ideal.τ).loc Cert.Kernel8Ideal.main_v0_6)) (v7 : (c : Dev Cert.Kernel8Ideal.nD) → Buf (Elt Ideal) ((c.tc : Thread Cert.Kernel8Ideal.nD Cert.Kernel8Ideal.τ).loc Cert.Kernel8Ideal.main_v0_7)) (v8 : (c : Dev Cert.Kernel8Ideal.nD) → Buf (Elt Ideal) ((c.tc : Thread Cert.Kernel8Ideal.nD Cert.Kernel8Ideal.τ).loc Cert.Kernel8Ideal.main_v0_8)) (v9 : (c : Dev Cert.Kernel8Ideal.nD) → Buf (Elt Ideal) ((c.tc : Thread Cert.Kernel8Ideal.nD Cert.Kernel8Ideal.τ).loc Cert.Kernel8Ideal.main_v0_9)) (v10 : (c : Dev Cert.Kernel8Ideal.nD) → Buf (Elt Ideal) ((c.tc : Thread Cert.Kernel8Ideal.nD Cert.Kernel8Ideal.τ).loc Cert.Kernel8Ideal.main_v0_10)) (v11 : (c : Dev Cert.Kernel8Ideal.nD) → Buf (Elt Ideal) ((c.tc : Thread Cert.Kernel8Ideal.nD Cert.Kernel8Ideal.τ).loc Cert.Kernel8Ideal.main_v0_11)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_v0_4) = v4 c
          ∧ r.2.mem ((c.tc : Thread Cert.Kernel8Ideal.nD Cert.Kernel8Ideal.τ).loc Cert.Kernel8Ideal.main_v0_5) = v5 c
          ∧ r.2.mem ((c.tc : Thread Cert.Kernel8Ideal.nD Cert.Kernel8Ideal.τ).loc Cert.Kernel8Ideal.main_v0_6) = v6 c
          ∧ r.2.mem ((c.tc : Thread Cert.Kernel8Ideal.nD Cert.Kernel8Ideal.τ).loc Cert.Kernel8Ideal.main_v0_7) = v7 c
          ∧ r.2.mem ((c.tc : Thread Cert.Kernel8Ideal.nD Cert.Kernel8Ideal.τ).loc Cert.Kernel8Ideal.main_v0_8) = v8 c
          ∧ r.2.mem ((c.tc : Thread Cert.Kernel8Ideal.nD Cert.Kernel8Ideal.τ).loc Cert.Kernel8Ideal.main_v0_9) = v9 c
          ∧ r.2.mem ((c.tc : Thread Cert.Kernel8Ideal.nD Cert.Kernel8Ideal.τ).loc Cert.Kernel8Ideal.main_v0_10) = v10 c
          ∧ r.2.mem ((c.tc : Thread Cert.Kernel8Ideal.nD Cert.Kernel8Ideal.τ).loc Cert.Kernel8Ideal.main_v0_11) = v11 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
          ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
          ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_v47) = v3 c
          ∧ r.2.mem ((c.tc : Thread Cert.Reference8Ideal.nD Cert.Reference8Ideal.τ).loc Cert.Reference8Ideal.main_v28) = v4 c
          ∧ r.2.mem ((c.tc : Thread Cert.Reference8Ideal.nD Cert.Reference8Ideal.τ).loc Cert.Reference8Ideal.main_v34) = v5 c
          ∧ r.2.mem ((c.tc : Thread Cert.Reference8Ideal.nD Cert.Reference8Ideal.τ).loc Cert.Reference8Ideal.main_v71) = v6 c
          ∧ r.2.mem ((c.tc : Thread Cert.Reference8Ideal.nD Cert.Reference8Ideal.τ).loc Cert.Reference8Ideal.main_v52) = v7 c
          ∧ r.2.mem ((c.tc : Thread Cert.Reference8Ideal.nD Cert.Reference8Ideal.τ).loc Cert.Reference8Ideal.main_v58) = v8 c
          ∧ r.2.mem ((c.tc : Thread Cert.Reference8Ideal.nD Cert.Reference8Ideal.τ).loc Cert.Reference8Ideal.main_v95) = v9 c
          ∧ r.2.mem ((c.tc : Thread Cert.Reference8Ideal.nD Cert.Reference8Ideal.τ).loc Cert.Reference8Ideal.main_v76) = v10 c
          ∧ r.2.mem ((c.tc : Thread Cert.Reference8Ideal.nD Cert.Reference8Ideal.τ).loc Cert.Reference8Ideal.main_v82) = v11 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13)
          ∧ r.2.mem ((c.tc : Thread Cert.Reference8Ideal.nD Cert.Reference8Ideal.τ).loc Cert.Reference8Ideal.main_arg14) = m' ((c.tc : Thread Cert.Reference8Ideal.nD Cert.Reference8Ideal.τ).loc Cert.Reference8Ideal.main_arg14)
          ∧ r.2.mem ((c.tc : Thread Cert.Reference8Ideal.nD Cert.Reference8Ideal.τ).loc Cert.Reference8Ideal.main_arg15) = m' ((c.tc : Thread Cert.Reference8Ideal.nD Cert.Reference8Ideal.τ).loc Cert.Reference8Ideal.main_arg15))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)
      ∧ m' ((c.tc : Thread Cert.Reference9Ideal.nD Cert.Reference9Ideal.τ).loc Cert.Reference9Ideal.main_arg12) = m ((c.tc : Thread Cert.Kernel9Ideal.nD Cert.Kernel9Ideal.τ).loc Cert.Kernel9Ideal.main_arg12)
      ∧ m' ((c.tc : Thread Cert.Reference9Ideal.nD Cert.Reference9Ideal.τ).loc Cert.Reference9Ideal.main_arg13) = m ((c.tc : Thread Cert.Kernel9Ideal.nD Cert.Kernel9Ideal.τ).loc Cert.Kernel9Ideal.main_arg13)
      ∧ m' ((c.tc : Thread Cert.Reference9Ideal.nD Cert.Reference9Ideal.τ).loc Cert.Reference9Ideal.main_arg14) = m ((c.tc : Thread Cert.Kernel9Ideal.nD Cert.Kernel9Ideal.τ).loc Cert.Kernel9Ideal.main_arg14)
      ∧ m' ((c.tc : Thread Cert.Reference9Ideal.nD Cert.Reference9Ideal.τ).loc Cert.Reference9Ideal.main_arg15) = m ((c.tc : Thread Cert.Kernel9Ideal.nD Cert.Kernel9Ideal.τ).loc Cert.Kernel9Ideal.main_arg15)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)) (v4 : (c : Dev Cert.Kernel9Ideal.nD) → Buf (Elt Ideal) ((c.tc : Thread Cert.Kernel9Ideal.nD Cert.Kernel9Ideal.τ).loc Cert.Kernel9Ideal.main_v0_4)) (v5 : (c : Dev Cert.Kernel9Ideal.nD) → Buf (Elt Ideal) ((c.tc : Thread Cert.Kernel9Ideal.nD Cert.Kernel9Ideal.τ).loc Cert.Kernel9Ideal.main_v0_5)) (v6 : (c : Dev Cert.Kernel9Ideal.nD) → Buf (Elt Ideal) ((c.tc : Thread Cert.Kernel9Ideal.nD Cert.Kernel9Ideal.τ).loc Cert.Kernel9Ideal.main_v0_6)) (v7 : (c : Dev Cert.Kernel9Ideal.nD) → Buf (Elt Ideal) ((c.tc : Thread Cert.Kernel9Ideal.nD Cert.Kernel9Ideal.τ).loc Cert.Kernel9Ideal.main_v0_7)) (v8 : (c : Dev Cert.Kernel9Ideal.nD) → Buf (Elt Ideal) ((c.tc : Thread Cert.Kernel9Ideal.nD Cert.Kernel9Ideal.τ).loc Cert.Kernel9Ideal.main_v0_8)) (v9 : (c : Dev Cert.Kernel9Ideal.nD) → Buf (Elt Ideal) ((c.tc : Thread Cert.Kernel9Ideal.nD Cert.Kernel9Ideal.τ).loc Cert.Kernel9Ideal.main_v0_9)) (v10 : (c : Dev Cert.Kernel9Ideal.nD) → Buf (Elt Ideal) ((c.tc : Thread Cert.Kernel9Ideal.nD Cert.Kernel9Ideal.τ).loc Cert.Kernel9Ideal.main_v0_10)) (v11 : (c : Dev Cert.Kernel9Ideal.nD) → Buf (Elt Ideal) ((c.tc : Thread Cert.Kernel9Ideal.nD Cert.Kernel9Ideal.τ).loc Cert.Kernel9Ideal.main_v0_11)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_v0_4) = v4 c
          ∧ r.2.mem ((c.tc : Thread Cert.Kernel9Ideal.nD Cert.Kernel9Ideal.τ).loc Cert.Kernel9Ideal.main_v0_5) = v5 c
          ∧ r.2.mem ((c.tc : Thread Cert.Kernel9Ideal.nD Cert.Kernel9Ideal.τ).loc Cert.Kernel9Ideal.main_v0_6) = v6 c
          ∧ r.2.mem ((c.tc : Thread Cert.Kernel9Ideal.nD Cert.Kernel9Ideal.τ).loc Cert.Kernel9Ideal.main_v0_7) = v7 c
          ∧ r.2.mem ((c.tc : Thread Cert.Kernel9Ideal.nD Cert.Kernel9Ideal.τ).loc Cert.Kernel9Ideal.main_v0_8) = v8 c
          ∧ r.2.mem ((c.tc : Thread Cert.Kernel9Ideal.nD Cert.Kernel9Ideal.τ).loc Cert.Kernel9Ideal.main_v0_9) = v9 c
          ∧ r.2.mem ((c.tc : Thread Cert.Kernel9Ideal.nD Cert.Kernel9Ideal.τ).loc Cert.Kernel9Ideal.main_v0_10) = v10 c
          ∧ r.2.mem ((c.tc : Thread Cert.Kernel9Ideal.nD Cert.Kernel9Ideal.τ).loc Cert.Kernel9Ideal.main_v0_11) = v11 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
          ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
          ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
          ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
          ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_v47) = v3 c
          ∧ r.2.mem ((c.tc : Thread Cert.Reference9Ideal.nD Cert.Reference9Ideal.τ).loc Cert.Reference9Ideal.main_v28) = v4 c
          ∧ r.2.mem ((c.tc : Thread Cert.Reference9Ideal.nD Cert.Reference9Ideal.τ).loc Cert.Reference9Ideal.main_v34) = v5 c
          ∧ r.2.mem ((c.tc : Thread Cert.Reference9Ideal.nD Cert.Reference9Ideal.τ).loc Cert.Reference9Ideal.main_v71) = v6 c
          ∧ r.2.mem ((c.tc : Thread Cert.Reference9Ideal.nD Cert.Reference9Ideal.τ).loc Cert.Reference9Ideal.main_v52) = v7 c
          ∧ r.2.mem ((c.tc : Thread Cert.Reference9Ideal.nD Cert.Reference9Ideal.τ).loc Cert.Reference9Ideal.main_v58) = v8 c
          ∧ r.2.mem ((c.tc : Thread Cert.Reference9Ideal.nD Cert.Reference9Ideal.τ).loc Cert.Reference9Ideal.main_v95) = v9 c
          ∧ r.2.mem ((c.tc : Thread Cert.Reference9Ideal.nD Cert.Reference9Ideal.τ).loc Cert.Reference9Ideal.main_v76) = v10 c
          ∧ r.2.mem ((c.tc : Thread Cert.Reference9Ideal.nD Cert.Reference9Ideal.τ).loc Cert.Reference9Ideal.main_v82) = v11 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11)
          ∧ r.2.mem ((c.tc : Thread Cert.Reference9Ideal.nD Cert.Reference9Ideal.τ).loc Cert.Reference9Ideal.main_arg12) = m' ((c.tc : Thread Cert.Reference9Ideal.nD Cert.Reference9Ideal.τ).loc Cert.Reference9Ideal.main_arg12)
          ∧ r.2.mem ((c.tc : Thread Cert.Reference9Ideal.nD Cert.Reference9Ideal.τ).loc Cert.Reference9Ideal.main_arg13) = m' ((c.tc : Thread Cert.Reference9Ideal.nD Cert.Reference9Ideal.τ).loc Cert.Reference9Ideal.main_arg13)
          ∧ r.2.mem ((c.tc : Thread Cert.Reference9Ideal.nD Cert.Reference9Ideal.τ).loc Cert.Reference9Ideal.main_arg14) = m' ((c.tc : Thread Cert.Reference9Ideal.nD Cert.Reference9Ideal.τ).loc Cert.Reference9Ideal.main_arg14)
          ∧ r.2.mem ((c.tc : Thread Cert.Reference9Ideal.nD Cert.Reference9Ideal.τ).loc Cert.Reference9Ideal.main_arg15) = m' ((c.tc : Thread Cert.Reference9Ideal.nD Cert.Reference9Ideal.τ).loc Cert.Reference9Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S8192x1024 : Shape := ⟨2, ![8192, 1024]⟩
abbrev S6x1024 : Shape := ⟨2, ![6, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S6x1024 : S_.BroadcastsInDim S6x1024 (![] : Fin 0 → Fin S6x1024.rank)
  reducesTo_S6x1024_S_d0_1 : S6x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part2 {F : FTy → Type} [FloatOps F] (main_arg7 : FVec F S1024x4096 .f32) (main_arg8 : FVec F S4096x1024 .f32) (main_v29 : IVec S_ 1) (main_v32 : IVec S1x1024 1) (main_c_12 : IVec S_ 1) : IVec S_ 1 :=
  let main_v33 : IVec S_ 1 := (fun x v => Host.reduce IntOp.andi x v reducesTo_S1x1024_S_d0_1 h_S_) main_v32 main_c_12
  let main_v34 : IVec S_ 1 := andi main_v29 main_v33
  let main_v35 : FVec F S1024x4096 .f32 := Host.absf main_arg7
  let main_cst_13 : FVec F S_ .f32 := constant S_ .f32 0x7F800000#32
  let main_v36 : FVec F S1024x4096 .f32 := broadcastInDim S1024x4096 ![] bcast_S_S1024x4096 main_cst_13
  let main_v37 : IVec S1024x4096 1 := cmpf .olt main_v35 main_v36
  let main_c_14 : IVec S_ 1 := constantI S_ 1 1#1
  let main_v38 : IVec S_ 1 := (fun x v => Host.reduce IntOp.andi x v reducesTo_S1024x4096_S_d0_1 h_S_) main_v37 main_c_14
  let main_v39 : IVec S_ 1 := andi main_v34 main_v38
  let main_v40 : FVec F S4096x1024 .f32 := Host.absf main_arg8
  let main_cst_15 : FVec F S_ .f32 := constant S_ .f32 0x7F800000#32
  let main_v41 : FVec F S4096x1024 .f32 := broadcastInDim S4096x1024 ![] bcast_S_S4096x1024 main_cst_15
  let main_v42 : IVec S4096x1024 1 := cmpf .olt main_v40 main_v41
  let main_c_16 : IVec S_ 1 := constantI S_ 1 1#1
  let main_v43 : IVec S_ 1 := (fun x v => Host.reduce IntOp.andi x v reducesTo_S4096x1024_S_d0_1 h_S_) main_v42 main_c_16
  let main_v44 : IVec S_ 1 := andi main_v39 main_v43
  main_v44

def fn_part1 {F : FTy → Type} [FloatOps F] (main_arg4 : FVec F S1x1024 .f32) (main_arg5 : FVec F S1x1024 .f32) (main_arg6 : FVec F S1x1024 .f32) (main_arg7 : FVec F S1024x4096 .f32) (main_arg8 : FVec F S4096x1024 .f32) (main_v14 : IVec S_ 1) (main_v15 : FVec F S1x1024 .f32) (main_cst_5 : FVec F S_ .f32) : IVec S_ 1 :=
  let main_v16 : FVec F S1x1024 .f32 := broadcastInDim S1x1024 ![] bcast_S_S1x1024 main_cst_5
  let main_v17 : IVec S1x1024 1 := cmpf .olt main_v15 main_v16
  let main_c_6 : IVec S_ 1 := constantI S_ 1 1#1
  let main_v18 : IVec S_ 1 := (fun x v => Host.reduce IntOp.andi x v reducesTo_S1x1024_S_d0_1 h_S_) main_v17 main_c_6
  let main_v19 : IVec S_ 1 := andi main_v14 main_v18
  let main_v20 : FVec F S1x1024 .f32 := Host.absf main_arg4
  let main_cst_7 : FVec F S_ .f32 := constant S_ .f32 0x7F800000#32
  let main_v21 : FVec F S1x1024 .f32 := broadcastInDim S1x1024 ![] bcast_S_S1x1024 main_cst_7
  let main_v22 : IVec S1x1024 1 := cmpf .olt main_v20 main_v21
  let main_c_8 : IVec S_ 1 := constantI S_ 1 1#1
  let main_v23 : IVec S_ 1 := (fun x v => Host.reduce IntOp.andi x v reducesTo_S1x1024_S_d0_1 h_S_) main_v22 main_c_8
  let main_v24 : IVec S_ 1 := andi main_v19 main_v23
  let main_v25 : FVec F S1x1024 .f32 := Host.absf main_arg5
  let main_cst_9 : FVec F S_ .f32 := constant S_ .f32 0x7F800000#32
  let main_v26 : FVec F S1x1024 .f32 := broadcastInDim S1x1024 ![] bcast_S_S1x1024 main_cst_9
  let main_v27 : IVec S1x1024 1 := cmpf .olt main_v25 main_v26
  let main_c_10 : IVec S_ 1 := constantI S_ 1 1#1
  let main_v28 : IVec S_ 1 := (fun x v => Host.reduce IntOp.andi x v reducesTo_S1x1024_S_d0_1 h_S_) main_v27 main_c_10
  let main_v29 : IVec S_ 1 := andi main_v24 main_v28
  let main_v30 : FVec F S1x1024 .f32 := Host.absf main_arg6
  let main_cst_11 : FVec F S_ .f32 := constant S_ .f32 0x7F800000#32
  let main_v31 : FVec F S1x1024 .f32 := broadcastInDim S1x1024 ![] bcast_S_S1x1024 main_cst_11
  let main_v32 : IVec S1x1024 1 := cmpf .olt main_v30 main_v31
  let main_c_12 : IVec S_ 1 := constantI S_ 1 1#1
  fn_part2 (F := F) main_arg7 main_arg8 main_v29 main_v32 main_c_12

def fn {F : FTy → Type} [FloatOps F] (main_arg0 : FVec F S8192x1024 .f32) (main_arg1 : FVec F S8192x1024 .f32) (main_arg2 : FVec F S6x1024 .f32) (main_arg3 : FVec F S1x1024 .f32) (main_arg4 : FVec F S1x1024 .f32) (main_arg5 : FVec F S1x1024 .f32) (main_arg6 : FVec F S1x1024 .f32) (main_arg7 : FVec F S1024x4096 .f32) (main_arg8 : FVec F S4096x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S8192x1024 .f32 := Host.absf main_arg1
  let main_cst_1 : FVec F S_ .f32 := constant S_ .f32 0x7F800000#32
  let main_v6 : FVec F S8192x1024 .f32 := broadcastInDim S8192x1024 ![] bcast_S_S8192x1024 main_cst_1
  let main_v7 : IVec S8192x1024 1 := cmpf .olt main_v5 main_v6
  let main_c_2 : IVec S_ 1 := constantI S_ 1 1#1
  let main_v8 : IVec S_ 1 := (fun x v => Host.reduce IntOp.andi x v reducesTo_S8192x1024_S_d0_1 h_S_) main_v7 main_c_2
  let main_v9 : IVec S_ 1 := andi main_v4 main_v8
  let main_v10 : FVec F S6x1024 .f32 := Host.absf main_arg2
  let main_cst_3 : FVec F S_ .f32 := constant S_ .f32 0x7F800000#32
  let main_v11 : FVec F S6x1024 .f32 := broadcastInDim S6x1024 ![] bcast_S_S6x1024 main_cst_3
  let main_v12 : IVec S6x1024 1 := cmpf .olt main_v10 main_v11
  let main_c_4 : IVec S_ 1 := constantI S_ 1 1#1
  let main_v13 : IVec S_ 1 := (fun x v => Host.reduce IntOp.andi x v reducesTo_S6x1024_S_d0_1 h_S_) main_v12 main_c_4
  let main_v14 : IVec S_ 1 := andi main_v9 main_v13
  let main_v15 : FVec F S1x1024 .f32 := Host.absf main_arg3
  let main_cst_5 : FVec F S_ .f32 := constant S_ .f32 0x7F800000#32
  fn_part1 (F := F) main_arg4 main_arg5 main_arg6 main_arg7 main_arg8 main_v14 main_v15 main_cst_5
-- ==== Pre_finite2.lean ====
abbrev S8192x1024 : Shape := ⟨2, ![8192, 1024]⟩
abbrev S6x1024 : Shape := ⟨2, ![6, 1024]⟩
abbrev S1x1024 : Shape := ⟨2, ![1, 1024]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S6x1024 : S_.BroadcastsInDim S6x1024 (![] : Fin 0 → Fin S6x1024.rank)
  reducesTo_S6x1024_S_d0_1 : S6x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S3x512 : S_.BroadcastsInDim S3x512 (![] : Fin 0 → Fin S3x512.rank)
  reducesTo_S3x512_S_d0_1 : S3x512.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S1x512 : S_.BroadcastsInDim S1x512 (![] : Fin 0 → Fin S1x512.rank)
  reducesTo_S1x512_S_d0_1 : S1x512.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part3 {F : FTy → Type} [FloatOps F] (main_arg11 : FVec F S1024x1024 .f32) (main_v49 : IVec S_ 1) (main_v50 : FVec F S1x512 .f32) : IVec S_ 1 :=
  let main_cst_19 : FVec F S_ .f32 := constant S_ .f32 0x7F800000#32
  let main_v51 : FVec F S1x512 .f32 := broadcastInDim S1x512 ![] bcast_S_S1x512 main_cst_19
  let main_v52 : IVec S1x512 1 := cmpf .olt main_v50 main_v51
  let main_c_20 : IVec S_ 1 := constantI S_ 1 1#1
  let main_v53 : IVec S_ 1 := (fun x v => Host.reduce IntOp.andi x v reducesTo_S1x512_S_d0_1 h_S_) main_v52 main_c_20
  let main_v54 : IVec S_ 1 := andi main_v49 main_v53
  let main_v55 : FVec F S1024x1024 .f32 := Host.absf main_arg11
  let main_cst_21 : FVec F S_ .f32 := constant S_ .f32 0x7F800000#32
  let main_v56 : FVec F S1024x1024 .f32 := broadcastInDim S1024x1024 ![] bcast_S_S1024x1024 main_cst_21
  let main_v57 : IVec S1024x1024 1 := cmpf .olt main_v55 main_v56
  let main_c_22 : IVec S_ 1 := constantI S_ 1 1#1
  let main_v58 : IVec S_ 1 := (fun x v => Host.reduce IntOp.andi x v reducesTo_S1024x1024_S_d0_1 h_S_) main_v57 main_c_22
  let main_v59 : IVec S_ 1 := andi main_v54 main_v58
  main_v59

def fn_part2 {F : FTy → Type} [FloatOps F] (main_arg7 : FVec F S1024x2048 .f32) (main_arg8 : FVec F S3x512 .f32) (main_arg9 : FVec F S4x128x128 .f32) (main_arg10 : FVec F S1x512 .f32) (main_arg11 : FVec F S1024x1024 .f32) (main_v29 : IVec S_ 1) (main_v32 : IVec S1x1024 1) (main_c_12 : IVec S_ 1) : IVec S_ 1 :=
  let main_v33 : IVec S_ 1 := (fun x v => Host.reduce IntOp.andi x v reducesTo_S1x1024_S_d0_1 h_S_) main_v32 main_c_12
  let main_v34 : IVec S_ 1 := andi main_v29 main_v33
  let main_v35 : FVec F S1024x2048 .f32 := Host.absf main_arg7
  let main_cst_13 : FVec F S_ .f32 := constant S_ .f32 0x7F800000#32
  let main_v36 : FVec F S1024x2048 .f32 := broadcastInDim S1024x2048 ![] bcast_S_S1024x2048 main_cst_13
  let main_v37 : IVec S1024x2048 1 := cmpf .olt main_v35 main_v36
  let main_c_14 : IVec S_ 1 := constantI S_ 1 1#1
  let main_v38 : IVec S_ 1 := (fun x v => Host.reduce IntOp.andi x v reducesTo_S1024x2048_S_d0_1 h_S_) main_v37 main_c_14
  let main_v39 : IVec S_ 1 := andi main_v34 main_v38
  let main_v40 : FVec F S3x512 .f32 := Host.absf main_arg8
  let main_cst_15 : FVec F S_ .f32 := constant S_ .f32 0x7F800000#32
  let main_v41 : FVec F S3x512 .f32 := broadcastInDim S3x512 ![] bcast_S_S3x512 main_cst_15
  let main_v42 : IVec S3x512 1 := cmpf .olt main_v40 main_v41
  let main_c_16 : IVec S_ 1 := constantI S_ 1 1#1
  let main_v43 : IVec S_ 1 := (fun x v => Host.reduce IntOp.andi x v reducesTo_S3x512_S_d0_1 h_S_) main_v42 main_c_16
  let main_v44 : IVec S_ 1 := andi main_v39 main_v43
  let main_v45 : FVec F S4x128x128 .f32 := Host.absf main_arg9
  let main_cst_17 : FVec F S_ .f32 := constant S_ .f32 0x7F800000#32
  let main_v46 : FVec F S4x128x128 .f32 := broadcastInDim S4x128x128 ![] bcast_S_S4x128x128 main_cst_17
  let main_v47 : IVec S4x128x128 1 := cmpf .olt main_v45 main_v46
  let main_c_18 : IVec S_ 1 := constantI S_ 1 1#1
  let main_v48 : IVec S_ 1 := (fun x v => Host.reduce IntOp.andi x v reducesTo_S4x128x128_S_d0_1_2 h_S_) main_v47 main_c_18
  let main_v49 : IVec S_ 1 := andi main_v44 main_v48
  let main_v50 : FVec F S1x512 .f32 := Host.absf main_arg10
  fn_part3 (F := F) main_arg11 main_v49 main_v50

def fn_part1 {F : FTy → Type} [FloatOps F] (main_arg4 : FVec F S1x1024 .f32) (main_arg5 : FVec F S1x1024 .f32) (main_arg6 : FVec F S1x1024 .f32) (main_arg7 : FVec F S1024x2048 .f32) (main_arg8 : FVec F S3x512 .f32) (main_arg9 : FVec F S4x128x128 .f32) (main_arg10 : FVec F S1x512 .f32) (main_arg11 : FVec F S1024x1024 .f32) (main_v14 : IVec S_ 1) (main_v15 : FVec F S1x1024 .f32) (main_cst_5 : FVec F S_ .f32) : IVec S_ 1 :=
  let main_v16 : FVec F S1x1024 .f32 := broadcastInDim S1x1024 ![] bcast_S_S1x1024 main_cst_5
  let main_v17 : IVec S1x1024 1 := cmpf .olt main_v15 main_v16
  let main_c_6 : IVec S_ 1 := constantI S_ 1 1#1
  let main_v18 : IVec S_ 1 := (fun x v => Host.reduce IntOp.andi x v reducesTo_S1x1024_S_d0_1 h_S_) main_v17 main_c_6
  let main_v19 : IVec S_ 1 := andi main_v14 main_v18
  let main_v20 : FVec F S1x1024 .f32 := Host.absf main_arg4
  let main_cst_7 : FVec F S_ .f32 := constant S_ .f32 0x7F800000#32
  let main_v21 : FVec F S1x1024 .f32 := broadcastInDim S1x1024 ![] bcast_S_S1x1024 main_cst_7
  let main_v22 : IVec S1x1024 1 := cmpf .olt main_v20 main_v21
  let main_c_8 : IVec S_ 1 := constantI S_ 1 1#1
  let main_v23 : IVec S_ 1 := (fun x v => Host.reduce IntOp.andi x v reducesTo_S1x1024_S_d0_1 h_S_) main_v22 main_c_8
  let main_v24 : IVec S_ 1 := andi main_v19 main_v23
  let main_v25 : FVec F S1x1024 .f32 := Host.absf main_arg5
  let main_cst_9 : FVec F S_ .f32 := constant S_ .f32 0x7F800000#32
  let main_v26 : FVec F S1x1024 .f32 := broadcastInDim S1x1024 ![] bcast_S_S1x1024 main_cst_9
  let main_v27 : IVec S1x1024 1 := cmpf .olt main_v25 main_v26
  let main_c_10 : IVec S_ 1 := constantI S_ 1 1#1
  let main_v28 : IVec S_ 1 := (fun x v => Host.reduce IntOp.andi x v reducesTo_S1x1024_S_d0_1 h_S_) main_v27 main_c_10
  let main_v29 : IVec S_ 1 := andi main_v24 main_v28
  let main_v30 : FVec F S1x1024 .f32 := Host.absf main_arg6
  let main_cst_11 : FVec F S_ .f32 := constant S_ .f32 0x7F800000#32
  let main_v31 : FVec F S1x1024 .f32 := broadcastInDim S1x1024 ![] bcast_S_S1x1024 main_cst_11
  let main_v32 : IVec S1x1024 1 := cmpf .olt main_v30 main_v31
  let main_c_12 : IVec S_ 1 := constantI S_ 1 1#1
  fn_part2 (F := F) main_arg7 main_arg8 main_arg9 main_arg10 main_arg11 main_v29 main_v32 main_c_12

def fn {F : FTy → Type} [FloatOps F] (main_arg0 : FVec F S8192x1024 .f32) (main_arg1 : FVec F S8192x1024 .f32) (main_arg2 : FVec F S6x1024 .f32) (main_arg3 : FVec F S1x1024 .f32) (main_arg4 : FVec F S1x1024 .f32) (main_arg5 : FVec F S1x1024 .f32) (main_arg6 : FVec F S1x1024 .f32) (main_arg7 : FVec F S1024x2048 .f32) (main_arg8 : FVec F S3x512 .f32) (main_arg9 : FVec F S4x128x128 .f32) (main_arg10 : FVec F S1x512 .f32) (main_arg11 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S8192x1024 .f32 := Host.absf main_arg1
  let main_cst_1 : FVec F S_ .f32 := constant S_ .f32 0x7F800000#32
  let main_v6 : FVec F S8192x1024 .f32 := broadcastInDim S8192x1024 ![] bcast_S_S8192x1024 main_cst_1
  let main_v7 : IVec S8192x1024 1 := cmpf .olt main_v5 main_v6
  let main_c_2 : IVec S_ 1 := constantI S_ 1 1#1
  let main_v8 : IVec S_ 1 := (fun x v => Host.reduce IntOp.andi x v reducesTo_S8192x1024_S_d0_1 h_S_) main_v7 main_c_2
  let main_v9 : IVec S_ 1 := andi main_v4 main_v8
  let main_v10 : FVec F S6x1024 .f32 := Host.absf main_arg2
  let main_cst_3 : FVec F S_ .f32 := constant S_ .f32 0x7F800000#32
  let main_v11 : FVec F S6x1024 .f32 := broadcastInDim S6x1024 ![] bcast_S_S6x1024 main_cst_3
  let main_v12 : IVec S6x1024 1 := cmpf .olt main_v10 main_v11
  let main_c_4 : IVec S_ 1 := constantI S_ 1 1#1
  let main_v13 : IVec S_ 1 := (fun x v => Host.reduce IntOp.andi x v reducesTo_S6x1024_S_d0_1 h_S_) main_v12 main_c_4
  let main_v14 : IVec S_ 1 := andi main_v9 main_v13
  let main_v15 : FVec F S1x1024 .f32 := Host.absf main_arg3
  let main_cst_5 : FVec F S_ .f32 := constant S_ .f32 0x7F800000#32
  fn_part1 (F := F) main_arg4 main_arg5 main_arg6 main_arg7 main_arg8 main_arg9 main_arg10 main_arg11 main_v14 main_v15 main_cst_5
-- ==== Kernel.lean ====
abbrev S8192x1024 : Shape := ⟨2, ![8192, 1024]⟩
abbrev S6x1024 : Shape := ⟨2, ![6, 1024]⟩
abbrev S1x1024 : Shape := ⟨2, ![1, 1024]⟩
abbrev S1024x4096 : Shape := ⟨2, ![1024, 4096]⟩
abbrev S4096x1024 : Shape := ⟨2, ![4096, 1024]⟩
abbrev S4x1024 : Shape := ⟨2, ![4, 1024]⟩
abbrev S8192x4096 : Shape := ⟨2, ![8192, 4096]⟩
abbrev S8x1024 : Shape := ⟨2, ![8, 1024]⟩
abbrev S512x1024 : Shape := ⟨2, ![512, 1024]⟩
abbrev S512x4096 : Shape := ⟨2, ![512, 4096]⟩
abbrev S1024x1024 : Shape := ⟨2, ![1024, 1024]⟩
abbrev S512 : Shape := ⟨1, ![512]⟩
abbrev S512x1 : Shape := ⟨2, ![512, 1]⟩
abbrev S1024 : Shape := ⟨1, ![1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 18
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S6x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x4096, .f32⟩
  | .hbm, ⟨8, _⟩ => ⟨S4096x1024, .f32⟩
  | .hbm, ⟨9, _⟩ => ⟨S4x1024, .f32⟩
  | .hbm, ⟨10, _⟩ => ⟨S1024x4096, .bf16⟩
  | .hbm, ⟨11, _⟩ => ⟨S4096x1024, .bf16⟩
  | .hbm, ⟨12, _⟩ => ⟨S8192x1024, .f32⟩
  | .hbm, ⟨13, _⟩ => ⟨S8192x1024, .bf16⟩
  | .hbm, ⟨14, _⟩ => ⟨S8192x4096, .bf16⟩
  | .hbm, ⟨15, _⟩ => ⟨S8192x4096, .bf16⟩
  | .hbm, ⟨16, _⟩ => ⟨S8192x1024, .bf16⟩
  | .hbm, ⟨17, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S6x1024, .f32⟩
  | .local _ .vmem, ⟨5, _⟩ => ⟨S4x1024, .f32⟩
  | .local _ .vmem, ⟨6, _⟩ => ⟨S1024x4096, .bf16⟩
  | .local _ .vmem, ⟨7, _⟩ => ⟨S4096x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x4096, .bf16⟩
  | .local _ .vmem, ⟨13, _⟩ => ⟨S512x4096, .bf16⟩
  | .local _ .vmem, ⟨14, _⟩ => ⟨S512x4096, .bf16⟩
  | .local _ .vmem, ⟨15, _⟩ => ⟨S512x4096, .bf16⟩
  | .local _ .vmem, ⟨16, _⟩ => ⟨S512x1024, .bf16⟩
  | .local _ .vmem, ⟨17, _⟩ => ⟨S512x1024, .bf16⟩
  | .local _ .vmem, ⟨18, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev main_v3_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S8192x1024 : Shape := ⟨2, ![8192, 1024]⟩
abbrev S6x1024 : Shape := ⟨2, ![6, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1024 : Shape := ⟨1, ![1024]⟩
abbrev S2x1024 : Shape := ⟨2, ![2, 1024]⟩
abbrev S8x1024 : Shape := ⟨2, ![8, 1024]⟩

abbrev nBuf : Space → Nat
  | .hbm => 176
  | .vmem => 0
  | .smem => 0
  | _ => 0

abbrev hbmTy0_0 (i : Nat) : BufTy := match i % 128 with
  | 0 => ⟨S8192x1024, .f32⟩
  | 1 => ⟨S8192x1024, .f32⟩
  | 2 => ⟨S6x1024, .f32⟩
  | 3 => ⟨S1x1024, .f32⟩
  | 4 => ⟨S1x1024, .f32⟩
  | 5 => ⟨S1x1024, .f32⟩
  | 6 => ⟨S1x1024, .f32⟩
  | 7 => ⟨S1024x4096, .f32⟩
  | 8 => ⟨S4096x1024, .f32⟩
  | 9 => ⟨S8192x1024, .f32⟩
  | 10 => ⟨S8192x1024, .f32⟩
  | 11 => ⟨S8192x1024, .f32⟩
  | 12 => ⟨S8192x1024, .f32⟩
  | 13 => ⟨S1x1024, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S8192x1024, .f32⟩
  | 20 => ⟨S8192x1024, .f32⟩
  | 21 => ⟨S8192x1024, .f32⟩
  | 22 => ⟨S8192x1024, .f32⟩
  | 23 => ⟨S8192x4096, .f32⟩
  | 24 => ⟨S_, .f32⟩
  | 25 => ⟨S8192x4096, .f32⟩
  | 26 => ⟨S8192x4096, .f32⟩
  | 27 => ⟨S_, .f32⟩
  | 28 => ⟨S8192x4096, .f32⟩
  | 29 => ⟨S8192x4096, .i1⟩
  | 30 => ⟨S_, .f32⟩
  | 31 => ⟨S8192x4096, .f32⟩
  | 32 => ⟨S8192x4096, .f32⟩
  | 33 => ⟨S_, .f32⟩
  | 34 => ⟨S8192x4096, .f32⟩
  | 35 => ⟨S8192x4096, .f32⟩
  | 36 => ⟨S8192x1024, .f32⟩
  | 37 => ⟨S_, .f32⟩
  | 38 => ⟨S8192x1024, .f32⟩
  | 39 => ⟨S8192x1024, .f32⟩
  | 40 => ⟨S_, .f32⟩
  | 41 => ⟨S1x1024, .f32⟩
  | 42 => ⟨S1x1024, .f32⟩
  | 43 => ⟨S8192x1024, .f32⟩
  | 44 => ⟨S8192x1024, .f32⟩
  | 45 => ⟨S8192x1024, .f32⟩
  | 46 => ⟨S_, .f32⟩
  | 47 => ⟨S8192, .f32⟩
  | 48 => ⟨S8192x1, .f32⟩
  | 49 => ⟨S_, .f32⟩
  | 50 => ⟨S8192x1, .f32⟩
  | 51 => ⟨S8192x1, .f32⟩
  | 52 => ⟨S8192x1024, .f32⟩
  | 53 => ⟨S8192x1024, .f32⟩
  | 54 => ⟨S8192x1024, .f32⟩
  | 55 => ⟨S_, .f32⟩
  | 56 => ⟨S8192x1024, .f32⟩
  | 57 => ⟨S8192x1024, .f32⟩
  | 58 => ⟨S_, .f32⟩
  | 59 => ⟨S8192, .f32⟩
  | 60 => ⟨S8192x1, .f32⟩
  | 61 => ⟨S_, .f32⟩
  | 62 => ⟨S8192x1, .f32⟩
  | 63 => ⟨S8192x1, .f32⟩
  | 64 => ⟨S8192x1024, .f32⟩
  | 65 => ⟨S8192x1024, .f32⟩
  | 66 => ⟨S_, .f32⟩
  | 67 => ⟨S8192x1, .f32⟩
  | 68 => ⟨S8192x1, .f32⟩
  | 69 => ⟨S8192x1, .f32⟩
  | 70 => ⟨S8192x1, .f32⟩
  | 71 => ⟨S_, .f32⟩
  | 72 => ⟨S8192x1, .f32⟩
  | 73 => ⟨S8192x1, .f32⟩
  | 74 => ⟨S8192x1024, .f32⟩
  | 75 => ⟨S8192x1024, .f32⟩
  | 76 => ⟨S8192x1024, .f32⟩
  | 77 => ⟨S8192x1024, .f32⟩
  | 78 => ⟨S8192x1024, .f32⟩
  | 79 => ⟨S8192x1024, .f32⟩
  | 80 => ⟨S8192x1024, .f32⟩
  | 81 => ⟨S8192x1024, .f32⟩
  | 82 => ⟨S_, .f32⟩
  | 83 => ⟨S8192x1024, .f32⟩
  | 84 => ⟨S8192x1024, .f32⟩
  | 85 => ⟨S_, .f32⟩
  | 86 => ⟨S8192, .f32⟩
  | 87 => ⟨S_, .f32⟩
  | 88 => ⟨S8192, .f32⟩
  | 89 => ⟨S8192, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S8192, .f32⟩
  | 98 => ⟨S_, .f32⟩
  | 99 => ⟨S8192, .f32⟩
  | 100 => ⟨S8192, .f32⟩
  | 101 => ⟨S8192x1024, .f32⟩
  | 102 => ⟨S8192x1024, .f32⟩
  | 103 => ⟨S_, .f32⟩
  | 104 => ⟨S1024, .f32⟩
  | 105 => ⟨S1x1024, .f32⟩
  | 106 => ⟨S8192x1024, .f32⟩
  | 107 => ⟨S_, .f32⟩
  | 108 => ⟨S1024, .f32⟩
  | 109 => ⟨S1x1024, .f32⟩
  | 110 => ⟨S8192x1024, .f32⟩
  | 111 => ⟨S8192x1024, .f32⟩
  | 112 => ⟨S8192x1024, .f32⟩
  | 113 => ⟨S_, .f32⟩
  | 114 => ⟨S8192, .f32⟩
  | 115 => ⟨S8192x1, .f32⟩
  | 116 => ⟨S8192x1024, .f32⟩
  | 117 => ⟨S8192x1024, .f32⟩
  | 118 => ⟨S8192x1, .f32⟩
  | 119 => ⟨S8192x1024, .f32⟩
  | 120 => ⟨S_, .f32⟩
  | 121 => ⟨S8192, .f32⟩
  | 122 => ⟨S8192x1, .f32⟩
  | 123 => ⟨S_, .f32⟩
  | 124 => ⟨S8192x1, .f32⟩
  | 125 => ⟨S8192x1, .f32⟩
  | 126 => ⟨S_, .f32⟩
  | 127 => ⟨S8192, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S_, .f32⟩
  | 4 => ⟨S8192, .f32⟩
  | 5 => ⟨S8192x1, .f32⟩
  | 6 => ⟨S8192x1024, .f32⟩
  | 7 => ⟨S8192x1, .f32⟩
  | 8 => ⟨S_, .f32⟩
  | 9 => ⟨S8192x1, .f32⟩
  | 10 => ⟨S8192x1, .f32⟩
  | 11 => ⟨S_, .f32⟩
  | 12 => ⟨S8192, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S_, .f32⟩
  | 19 => ⟨S1024, .f32⟩
  | 20 => ⟨S1x1024, .f32⟩
  | 21 => ⟨S_, .f32⟩
  | 22 => ⟨S8192x1024, .f32⟩
  | 23 => ⟨S8192x1024, .f32⟩
  | 24 => ⟨S8192x4096, .f32⟩
  | 25 => ⟨S8192x4096, .f32⟩
  | 26 => ⟨S_, .f32⟩
  | 27 => ⟨S8192x4096, .f32⟩
  | 28 => ⟨S8192x4096, .f32⟩
  | 29 => ⟨S8192x1024, .f32⟩
  | 30 => ⟨S_, .f32⟩
  | 31 => ⟨S1024, .f32⟩
  | 32 => ⟨S1x1024, .f32⟩
  | 33 => ⟨S8192x1024, .f32⟩
  | 34 => ⟨S_, .f32⟩
  | 35 => ⟨S1024, .f32⟩
  | 36 => ⟨S1x1024, .f32⟩
  | 37 => ⟨S8192x1024, .f32⟩
  | 38 => ⟨S8192x1024, .f32⟩
  | 39 => ⟨S1x1024, .f32⟩
  | 40 => ⟨S_, .f32⟩
  | 41 => ⟨S2x1024, .f32⟩
  | 42 => ⟨S8x1024, .f32⟩
  | 43 => ⟨S8192x1024, .f32⟩
  | 44 => ⟨S8192x1024, .bf16⟩
  | 45 => ⟨S8192x4096, .bf16⟩
  | 46 => ⟨S8192x4096, .bf16⟩
  | 47 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_cst_14 : Ref sig .tc := ⟨.hbm, 87, rfl⟩
abbrev main_v61 : Ref sig .tc := ⟨.hbm, 88, rfl⟩
abbrev main_v62 : Ref sig .tc := ⟨.hbm, 89, rfl⟩
abbrev main_cst_15 : Ref sig .tc := ⟨.hbm, 90, rfl⟩
abbrev main_v63 : Ref sig .tc := ⟨.hbm, 91, rfl⟩
abbrev main_cst_16 : Ref sig .tc := ⟨.hbm, 92, rfl⟩
abbrev main_v64 : Ref sig .tc := ⟨.hbm, 93, rfl⟩
abbrev main_cst_17 : Ref sig .tc := ⟨.hbm, 94, rfl⟩
abbrev main_cst_18 : Ref sig .tc := ⟨.hbm, 95, rfl⟩
abbrev main_v65 : Ref sig .tc := ⟨.hbm, 96, rfl⟩
abbrev main_v66 : Ref sig .tc := ⟨.hbm, 97, rfl⟩
abbrev main_cst_19 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_20 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_21 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_22 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_23 : Ref sig .tc := ⟨.hbm, 120, rfl⟩
abbrev main_v85 : Ref sig .tc := ⟨.hbm, 121, rfl⟩
abbrev main_v86 : Ref sig .tc := ⟨.hbm, 122, rfl⟩
abbrev main_cst_24 : Ref sig .tc := ⟨.hbm, 123, rfl⟩
abbrev main_v87 : Ref sig .tc := ⟨.hbm, 124, rfl⟩
abbrev main_v88 : Ref sig .tc := ⟨.hbm, 125, rfl⟩
abbrev main_cst_25 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_26 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_27 : Ref sig .tc := ⟨.hbm, 136, rfl⟩
abbrev main_v97 : Ref sig .tc := ⟨.hbm, 137, rfl⟩
abbrev main_v98 : Ref sig .tc := ⟨.hbm, 138, rfl⟩
abbrev main_cst_28 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_29 : Ref sig .tc := ⟨.hbm, 146, rfl⟩
abbrev main_v105 : Ref sig .tc := ⟨.hbm, 147, rfl⟩
abbrev main_v106 : Ref sig .tc := ⟨.hbm, 148, rfl⟩
abbrev main_cst_30 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_31 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_32 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_33 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_34 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩

abbrev nD : Nat := 1
abbrev τ : Topo := Topo.v7x

variable {F : FTy → Type} [FloatOps F]
-- ==== Kernel2.lean ====
abbrev S8192x1024 : Shape := ⟨2, ![8192, 1024]⟩
abbrev S6x1024 : Shape := ⟨2, ![6, 1024]⟩
abbrev S1x1024 : Shape := ⟨2, ![1, 1024]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S_ : Shape := ⟨0, ![]⟩
abbrev S8192x2048 : Shape := ⟨2, ![8192, 2048]⟩
abbrev S8192x512 : Shape := ⟨2, ![8192, 512]⟩
abbrev S2x512 : Shape := ⟨2, ![2, 512]⟩
abbrev S8194x512 : Shape := ⟨2, ![8194, 512]⟩
abbrev S512 : Shape := ⟨1, ![512]⟩
abbrev S8192 : Shape := ⟨1, ![8192]⟩
abbrev S8192x1 : Shape := ⟨2, ![8192, 1]⟩
abbrev S2x128 : Shape := ⟨2, ![2, 128]⟩
abbrev S8192x128 : Shape := ⟨2, ![8192, 128]⟩
abbrev S8194x128 : Shape := ⟨2, ![8194, 128]⟩
abbrev S1x128x128 : Shape := ⟨3, ![1, 128, 128]⟩
abbrev S128x128 : Shape := ⟨2, ![128, 128]⟩
abbrev S4x128 : Shape := ⟨2, ![4, 128]⟩
abbrev S8196x128 : Shape := ⟨2, ![8196, 128]⟩
abbrev S8x128 : Shape := ⟨2, ![8, 128]⟩
abbrev S8200x128 : Shape := ⟨2, ![8200, 128]⟩
abbrev S16x128 : Shape := ⟨2, ![16, 128]⟩
abbrev S8208x128 : Shape := ⟨2, ![8208, 128]⟩
abbrev S4x1024 : Shape := ⟨2, ![4, 1024]⟩
abbrev S8192x4096 : Shape := ⟨2, ![8192, 4096]⟩
abbrev S8x1024 : Shape := ⟨2, ![8, 1024]⟩
abbrev S8x512 : Shape := ⟨2, ![8, 512]⟩
abbrev S512x1024 : Shape := ⟨2, ![512, 1024]⟩
abbrev S512x1 : Shape := ⟨2, ![512, 1]⟩
abbrev S512x2048 : Shape := ⟨2, ![512, 2048]⟩
abbrev S16x2048 : Shape := ⟨2, ![16, 2048]⟩
abbrev S512x4096 : Shape := ⟨2, ![512, 4096]⟩
abbrev S528x1024 : Shape := ⟨2, ![528, 1024]⟩
abbrev S16x512 : Shape := ⟨2, ![16, 512]⟩
abbrev S1024 : Shape := ⟨1, ![1024]⟩
abbrev S512x512 : Shape := ⟨2, ![512, 512]⟩
abbrev S528x512 : Shape := ⟨2, ![528, 512]⟩
abbrev S512x128 : Shape := ⟨2, ![512, 128]⟩
abbrev S528x384 : Shape := ⟨2, ![528, 384]⟩
abbrev S528x256 : Shape := ⟨2, ![528, 256]⟩
abbrev S528x128 : Shape := ⟨2, ![528, 128]⟩
abbrev S1x128 : Shape := ⟨2, ![1, 128]⟩
abbrev S128 : Shape := ⟨1, ![128]⟩

abbrev nBuf : Space → Nat
  | .hbm => 174
  | .vmem => 30
  | .smem => 0
  | _ => 0

abbrev hbmTy0_0 (i : Nat) : BufTy := match i % 128 with
  | 0 => ⟨S8192x1024, .f32⟩
  | 1 => ⟨S8192x1024, .f32⟩
  | 2 => ⟨S6x1024, .f32⟩
  | 3 => ⟨S1x1024, .f32⟩
  | 4 => ⟨S1x1024, .f32⟩
  | 5 => ⟨S1x1024, .f32⟩
  | 6 => ⟨S1x1024, .f32⟩
  | 7 => ⟨S1024x2048, .f32⟩
  | 8 => ⟨S3x512, .f32⟩
  | 9 => ⟨S4x128x128, .f32⟩
  | 10 => ⟨S1x512, .f32⟩
  | 11 => ⟨S1024x1024, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S8192x1024, .f32⟩
  | 18 => ⟨S8192x1024, .f32⟩
  | 19 => ⟨S8192x1024, .f32⟩
  | 20 => ⟨S8192x1024, .f32⟩
  | 21 => ⟨S8192x2048, .f32⟩
  | 22 => ⟨S8192x512, .f32⟩
  | 23 => ⟨S8192x512, .f32⟩
  | 24 => ⟨S8192x512, .f32⟩
  | 25 => ⟨S8192x512, .f32⟩
  | 26 => ⟨S8192x512, .f32⟩
  | 27 => ⟨S_, .f32⟩
  | 28 => ⟨S2x512, .f32⟩
  | 29 => ⟨S8194x512, .f32⟩
  | 30 => ⟨S8192x512, .f32⟩
  | 31 => ⟨S1x512, .f32⟩
  | 32 => ⟨S512, .f32⟩
  | 33 => ⟨S1x512, .f32⟩
  | 34 => ⟨S8192x512, .f32⟩
  | 35 => ⟨S8192x512, .f32⟩
  | 36 => ⟨S8192x512, .f32⟩
  | 37 => ⟨S1x512, .f32⟩
  | 38 => ⟨S512, .f32⟩
  | 39 => ⟨S1x512, .f32⟩
  | 40 => ⟨S8192x512, .f32⟩
  | 41 => ⟨S8192x512, .f32⟩
  | 42 => ⟨S8192x512, .f32⟩
  | 43 => ⟨S8192x512, .f32⟩
  | 44 => ⟨S1x512, .f32⟩
  | 45 => ⟨S512, .f32⟩
  | 46 => ⟨S1x512, .f32⟩
  | 47 => ⟨S8192x512, .f32⟩
  | 48 => ⟨S8192x512, .f32⟩
  | 49 => ⟨S8192x512, .f32⟩
  | 50 => ⟨S8192x512, .f32⟩
  | 51 => ⟨S_, .f32⟩
  | 52 => ⟨S_, .f32⟩
  | 53 => ⟨S8192x512, .f32⟩
  | 54 => ⟨S8192, .f32⟩
  | 55 => ⟨S_, .f32⟩
  | 56 => ⟨S8192, .f32⟩
  | 57 => ⟨S8192, .f32⟩
  | 58 => ⟨S8192x1, .f32⟩
  | 59 => ⟨S_, .f32⟩
  | 60 => ⟨S2x128, .f32⟩
  | 61 => ⟨S8192x128, .f32⟩
  | 62 => ⟨S8194x128, .f32⟩
  | 63 => ⟨S8192x128, .f32⟩
  | 64 => ⟨S8192x128, .f32⟩
  | 65 => ⟨S8192x128, .f32⟩
  | 66 => ⟨S_, .f32⟩
  | 67 => ⟨S8192x1, .f32⟩
  | 68 => ⟨S8192x1, .f32⟩
  | 69 => ⟨S8192x128, .f32⟩
  | 70 => ⟨S8192x128, .f32⟩
  | 71 => ⟨S8192x128, .f32⟩
  | 72 => ⟨S8192x128, .f32⟩
  | 73 => ⟨S1x128x128, .f32⟩
  | 74 => ⟨S128x128, .f32⟩
  | 75 => ⟨S8192x128, .f32⟩
  | 76 => ⟨S_, .f32⟩
  | 77 => ⟨S4x128, .f32⟩
  | 78 => ⟨S8192x128, .f32⟩
  | 79 => ⟨S8196x128, .f32⟩
  | 80 => ⟨S8192x128, .f32⟩
  | 81 => ⟨S8192x128, .f32⟩
  | 82 => ⟨S8192x128, .f32⟩
  | 83 => ⟨S_, .f32⟩
  | 84 => ⟨S8192x1, .f32⟩
  | 85 => ⟨S8192x1, .f32⟩
  | 86 => ⟨S8192x128, .f32⟩
  | 87 => ⟨S8192x128, .f32⟩
  | 88 => ⟨S8192x128, .f32⟩
  | 89 => ⟨S8192x128, .f32⟩
  | 90 => ⟨S1x128x128, .f32⟩
  | 91 => ⟨S128x128, .f32⟩
  | 92 => ⟨S8192x128, .f32⟩
  | 93 => ⟨S_, .f32⟩
  | 94 => ⟨S8x128, .f32⟩
  | 95 => ⟨S8192x128, .f32⟩
  | 96 => ⟨S8200x128, .f32⟩
  | 97 => ⟨S8192x128, .f32⟩
  | 98 => ⟨S8192x128, .f32⟩
  | 99 => ⟨S8192x128, .f32⟩
  | 100 => ⟨S_, .f32⟩
  | 101 => ⟨S8192x1, .f32⟩
  | 102 => ⟨S8192x1, .f32⟩
  | 103 => ⟨S8192x128, .f32⟩
  | 104 => ⟨S8192x128, .f32⟩
  | 105 => ⟨S8192x128, .f32⟩
  | 106 => ⟨S8192x128, .f32⟩
  | 107 => ⟨S1x128x128, .f32⟩
  | 108 => ⟨S128x128, .f32⟩
  | 109 => ⟨S8192x128, .f32⟩
  | 110 => ⟨S_, .f32⟩
  | 111 => ⟨S16x128, .f32⟩
  | 112 => ⟨S8192x128, .f32⟩
  | 113 => ⟨S8208x128, .f32⟩
  | 114 => ⟨S8192x128, .f32⟩
  | 115 => ⟨S8192x128, .f32⟩
  | 116 => ⟨S8192x128, .f32⟩
  | 117 => ⟨S_, .f32⟩
  | 118 => ⟨S8192x1, .f32⟩
  | 119 => ⟨S8192x1, .f32⟩
  | 120 => ⟨S8192x128, .f32⟩
  | 121 => ⟨S8192x128, .f32⟩
  | 122 => ⟨S8192x128, .f32⟩
  | 123 => ⟨S8192x128, .f32⟩
  | 124 => ⟨S1x128x128, .f32⟩
  | 125 => ⟨S128x128, .f32⟩
  | 126 => ⟨S8192x128, .f32⟩
  | 127 => ⟨S8192x512, .f32⟩
  | _ => ⟨S8192x1024, .f32⟩

abbrev hbmTy0_1 (i : Nat) : BufTy := match i % 128 with
  | 0 => ⟨S8192x512, .f32⟩
  | 1 => ⟨S8192x512, .f32⟩
  | 2 => ⟨S8192x1024, .f32⟩
  | 3 => ⟨S8192x1024, .f32⟩
  | 4 => ⟨S_, .f32⟩
  | 5 => ⟨S8192x1024, .f32⟩
  | 6 => ⟨S8192x1024, .f32⟩
  | 7 => ⟨S1x1024, .f32⟩
  | 8 => ⟨S_, .f32⟩
  | 9 => ⟨S1x1024, .f32⟩
  | 10 => ⟨S1x1024, .f32⟩
  | 11 => ⟨S8192x1024, .f32⟩
  | 12 => ⟨S8192x1024, .f32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S8192x1024, .f32⟩
  | 21 => ⟨S8192x1024, .f32⟩
  | 22 => ⟨S8192x1024, .f32⟩
  | 23 => ⟨S_, .f32⟩
  | 24 => ⟨S8192, .f32⟩
  | 25 => ⟨S8192x1, .f32⟩
  | 26 => ⟨S_, .f32⟩
  | 27 => ⟨S8192x1, .f32⟩
  | 28 => ⟨S8192x1, .f32⟩
  | 29 => ⟨S_, .f32⟩
  | 30 => ⟨S8192x1, .f32⟩
  | 31 => ⟨S8192x1, .f32⟩
  | 32 => ⟨S8192x1, .f32⟩
  | 33 => ⟨S4x1024, .f32⟩
  | 34 => ⟨S8192x1024, .f32⟩
  | 35 => ⟨S8192x1024, .f32⟩
  | 36 => ⟨S8192x1024, .f32⟩
  | 37 => ⟨S8192x1024, .f32⟩
  | 38 => ⟨S8192x2048, .bf16⟩
  | 39 => ⟨S1024x1024, .bf16⟩
  | 40 => ⟨S1024x2048, .bf16⟩
  | 41 => ⟨S8192x1024, .f32⟩
  | 42 => ⟨S8192x4096, .bf16⟩
  | 43 => ⟨S8x1024, .f32⟩
  | 44 => ⟨S8x512, .f32⟩
  | 45 => ⟨S4x128x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1, .f32⟩
  | .local _ .vmem, ⟨5, _⟩ => ⟨S512x1, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x2048, .bf16⟩
  | .local _ .vmem, ⟨11, _⟩ => ⟨S512x2048, .bf16⟩
  | .local _ .vmem, ⟨12, _⟩ => ⟨S16x2048, .bf16⟩
  | .local _ .vmem, ⟨13, _⟩ => ⟨S16x2048, .bf16⟩
  | .local _ .vmem, ⟨14, _⟩ => ⟨S6x1024, .f32⟩
  | .local _ .vmem, ⟨15, _⟩ => ⟨S4x1024, .f32⟩
  | .local _ .vmem, ⟨16, _⟩ => ⟨S1024x1024, .bf16⟩
  | .local _ .vmem, ⟨17, _⟩ => ⟨S1024x2048, .bf16⟩
  | .local _ .vmem, ⟨18, _⟩ => ⟨S3x512, .f32⟩
  | .local _ .vmem, ⟨19, _⟩ => ⟨S4x128x128, .f32⟩
  | .local _ .vmem, ⟨20, _⟩ => ⟨S1x512, .f32⟩
  | .local _ .vmem, ⟨21, _⟩ => ⟨S512x1024, .f32⟩
  | .local _ .vmem, ⟨22, _⟩ => ⟨S512x1024, .f32⟩
  | .local _ .vmem, ⟨23, _⟩ => ⟨S512x4096, .bf16⟩
  | .local _ .vmem, ⟨24, _⟩ => ⟨S512x4096, .bf16⟩
  | .local _ .vmem, ⟨25, _⟩ => ⟨S8x1024, .f32⟩
  | .local _ .vmem, ⟨26, _⟩ => ⟨S8x512, .f32⟩
  | .local _ .vmem, ⟨27, _⟩ => ⟨S4x128x128, .f32⟩
  | .local _ .vmem, ⟨28, _⟩ => ⟨S528x1024, .f32⟩
  | .local _ .vmem, ⟨29, _⟩ => ⟨S528x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call0_call0_cst : Ref sig .tc := ⟨.hbm, 51, rfl⟩
abbrev main_call0_call0_v0 : Ref sig .tc := ⟨.hbm, 52, rfl⟩
abbrev main_v37 : Ref sig .tc := ⟨.hbm, 53, rfl⟩
abbrev main_v38 : Ref sig .tc := ⟨.hbm, 54, rfl⟩
abbrev main_cst_1 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_2 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_3 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_4 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_5 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_6 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_7 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_8 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_9 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_10 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_cst_11 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_cst_12 : Ref sig .tc := ⟨.hbm, 142, rfl⟩
abbrev main_v115 : Ref sig .tc := ⟨.hbm, 143, rfl⟩
abbrev main_v116 : Ref sig .tc := ⟨.hbm, 144, rfl⟩
abbrev main_cst_13 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_cst_14 : Ref sig .tc := ⟨.hbm, 151, rfl⟩
abbrev main_v122 : Ref sig .tc := ⟨.hbm, 152, rfl⟩
abbrev main_v123 : Ref sig .tc := ⟨.hbm, 153, rfl⟩
abbrev main_cst_15 : Ref sig .tc := ⟨.hbm, 154, rfl⟩
abbrev main_v124 : Ref sig .tc := ⟨.hbm, 155, rfl⟩
abbrev main_v125 : Ref sig .tc := ⟨.hbm, 156, rfl⟩
abbrev main_cst_16 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137_0 : Ref sig .tc := ⟨.hbm, 169, rfl⟩
abbrev main_v137_1 : Ref sig .tc := ⟨.hbm, 170, rfl⟩
abbrev main_v137_2 : Ref sig .tc := ⟨.hbm, 171, rfl⟩
abbrev main_v137_3 : Ref sig .tc := ⟨.hbm, 172, rfl⟩
abbrev main_v137_4 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem17_0 : DmaSem sig := 26
abbrev cc0_sem18_0 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S6x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference2Ideal.lean ====
abbrev S8192x1024 : Shape := ⟨2, ![8192, 1024]⟩
abbrev S6x1024 : Shape := ⟨2, ![6, 1024]⟩
abbrev S1x1024 : Shape := ⟨2, ![1, 1024]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S_ : Shape := ⟨0, ![]⟩
abbrev S8192x2048 : Shape := ⟨2, ![8192, 2048]⟩
abbrev S8192x512 : Shape := ⟨2, ![8192, 512]⟩
abbrev S2x512 : Shape := ⟨2, ![2, 512]⟩
abbrev S8194x512 : Shape := ⟨2, ![8194, 512]⟩
abbrev S512 : Shape := ⟨1, ![512]⟩
abbrev S8192 : Shape := ⟨1, ![8192]⟩
abbrev S8192x1 : Shape := ⟨2, ![8192, 1]⟩
abbrev S2x128 : Shape := ⟨2, ![2, 128]⟩
abbrev S8192x128 : Shape := ⟨2, ![8192, 128]⟩
abbrev S8194x128 : Shape := ⟨2, ![8194, 128]⟩
abbrev S1x128x128 : Shape := ⟨3, ![1, 128, 128]⟩
abbrev S128x128 : Shape := ⟨2, ![128, 128]⟩
abbrev S4x128 : Shape := ⟨2, ![4, 128]⟩
abbrev S8196x128 : Shape := ⟨2, ![8196, 128]⟩
abbrev S8x128 : Shape := ⟨2, ![8, 128]⟩
abbrev S8200x128 : Shape := ⟨2, ![8200, 128]⟩
abbrev S16x128 : Shape := ⟨2, ![16, 128]⟩
abbrev S8208x128 : Shape := ⟨2, ![8208, 128]⟩
abbrev S1024 : Shape := ⟨1, ![1024]⟩
abbrev S3x1024 : Shape := ⟨2, ![3, 1024]⟩
abbrev S8x1024 : Shape := ⟨2, ![8, 1024]⟩
abbrev S4x512 : Shape := ⟨2, ![4, 512]⟩
abbrev S8x512 : Shape := ⟨2, ![8, 512]⟩
abbrev S8192x4096 : Shape := ⟨2, ![8192, 4096]⟩

abbrev nBuf : Space → Nat
  | .hbm => 427
  | .vmem => 0
  | .smem => 0
  | _ => 0

abbrev hbmTy0_0 (i : Nat) : BufTy := match i % 128 with
  | 0 => ⟨S8192x1024, .f32⟩
  | 1 => ⟨S8192x1024, .f32⟩
  | 2 => ⟨S6x1024, .f32⟩
  | 3 => ⟨S1x1024, .f32⟩
  | 4 => ⟨S1x1024, .f32⟩
  | 5 => ⟨S1x1024, .f32⟩
  | 6 => ⟨S1x1024, .f32⟩
  | 7 => ⟨S1024x2048, .f32⟩
  | 8 => ⟨S3x512, .f32⟩
  | 9 => ⟨S4x128x128, .f32⟩
  | 10 => ⟨S1x512, .f32⟩
  | 11 => ⟨S1024x1024, .f32⟩
  | 12 => ⟨S1x1024, .f32⟩
  | 13 => ⟨S1x1024, .f32⟩
  | 14 => ⟨S1x1024, .f32⟩
  | 15 => ⟨S_, .f32⟩
  | 16 => ⟨S1x1024, .f32⟩
  | 17 => ⟨S1x1024, .f32⟩
  | 18 => ⟨S8192x1024, .f32⟩
  | 19 => ⟨S8192x1024, .f32⟩
  | 20 => ⟨S8192x1024, .f32⟩
  | 21 => ⟨S8192x1024, .f32⟩
  | 22 => ⟨S8192x2048, .f32⟩
  | 23 => ⟨S8192x512, .f32⟩
  | 24 => ⟨S8192x512, .f32⟩
  | 25 => ⟨S8192x512, .f32⟩
  | 26 => ⟨S8192x512, .f32⟩
  | 27 => ⟨S8192x512, .f32⟩
  | 28 => ⟨S_, .f32⟩
  | 29 => ⟨S2x512, .f32⟩
  | 30 => ⟨S8194x512, .f32⟩
  | 31 => ⟨S_, .f32⟩
  | 32 => ⟨S2x512, .f32⟩
  | 33 => ⟨S8192x512, .f32⟩
  | 34 => ⟨S1x512, .f32⟩
  | 35 => ⟨S512, .f32⟩
  | 36 => ⟨S1x512, .f32⟩
  | 37 => ⟨S8192x512, .f32⟩
  | 38 => ⟨S8192x512, .f32⟩
  | 39 => ⟨S8192x512, .f32⟩
  | 40 => ⟨S1x512, .f32⟩
  | 41 => ⟨S512, .f32⟩
  | 42 => ⟨S1x512, .f32⟩
  | 43 => ⟨S8192x512, .f32⟩
  | 44 => ⟨S8192x512, .f32⟩
  | 45 => ⟨S8192x512, .f32⟩
  | 46 => ⟨S8192x512, .f32⟩
  | 47 => ⟨S1x512, .f32⟩
  | 48 => ⟨S512, .f32⟩
  | 49 => ⟨S1x512, .f32⟩
  | 50 => ⟨S8192x512, .f32⟩
  | 51 => ⟨S8192x512, .f32⟩
  | 52 => ⟨S8192x512, .f32⟩
  | 53 => ⟨S8192x512, .f32⟩
  | 54 => ⟨S_, .f32⟩
  | 55 => ⟨S_, .f32⟩
  | 56 => ⟨S8192x512, .f32⟩
  | 57 => ⟨S8192, .f32⟩
  | 58 => ⟨S_, .f32⟩
  | 59 => ⟨S8192, .f32⟩
  | 60 => ⟨S8192, .f32⟩
  | 61 => ⟨S8192x1, .f32⟩
  | 62 => ⟨S_, .f32⟩
  | 63 => ⟨S2x128, .f32⟩
  | 64 => ⟨S8192x128, .f32⟩
  | 65 => ⟨S8194x128, .f32⟩
  | 66 => ⟨S_, .f32⟩
  | 67 => ⟨S2x128, .f32⟩
  | 68 => ⟨S8192x128, .f32⟩
  | 69 => ⟨S8192x128, .f32⟩
  | 70 => ⟨S8192x128, .f32⟩
  | 71 => ⟨S_, .f32⟩
  | 72 => ⟨S8192x1, .f32⟩
  | 73 => ⟨S8192x1, .f32⟩
  | 74 => ⟨S8192x128, .f32⟩
  | 75 => ⟨S8192x128, .f32⟩
  | 76 => ⟨S8192x128, .f32⟩
  | 77 => ⟨S8192x128, .f32⟩
  | 78 => ⟨S1x128x128, .f32⟩
  | 79 => ⟨S128x128, .f32⟩
  | 80 => ⟨S8192x128, .f32⟩
  | 81 => ⟨S_, .f32⟩
  | 82 => ⟨S4x128, .f32⟩
  | 83 => ⟨S8192x128, .f32⟩
  | 84 => ⟨S8196x128, .f32⟩
  | 85 => ⟨S_, .f32⟩
  | 86 => ⟨S4x128, .f32⟩
  | 87 => ⟨S8192x128, .f32⟩
  | 88 => ⟨S8192x128, .f32⟩
  | 89 => ⟨S8192x128, .f32⟩
  | 90 => ⟨S_, .f32⟩
  | 91 => ⟨S8192x1, .f32⟩
  | 92 => ⟨S8192x1, .f32⟩
  | 93 => ⟨S8192x128, .f32⟩
  | 94 => ⟨S8192x128, .f32⟩
  | 95 => ⟨S8192x128, .f32⟩
  | 96 => ⟨S8192x128, .f32⟩
  | 97 => ⟨S1x128x128, .f32⟩
  | 98 => ⟨S128x128, .f32⟩
  | 99 => ⟨S8192x128, .f32⟩
  | 100 => ⟨S_, .f32⟩
  | 101 => ⟨S8x128, .f32⟩
  | 102 => ⟨S8192x128, .f32⟩
  | 103 => ⟨S8200x128, .f32⟩
  | 104 => ⟨S_, .f32⟩
  | 105 => ⟨S8x128, .f32⟩
  | 106 => ⟨S8192x128, .f32⟩
  | 107 => ⟨S8192x128, .f32⟩
  | 108 => ⟨S8192x128, .f32⟩
  | 109 => ⟨S_, .f32⟩
  | 110 => ⟨S8192x1, .f32⟩
  | 111 => ⟨S8192x1, .f32⟩
  | 112 => ⟨S8192x128, .f32⟩
  | 113 => ⟨S8192x128, .f32⟩
  | 114 => ⟨S8192x128, .f32⟩
  | 115 => ⟨S8192x128, .f32⟩
  | 116 => ⟨S1x128x128, .f32⟩
  | 117 => ⟨S128x128, .f32⟩
  | 118 => ⟨S8192x128, .f32⟩
  | 119 => ⟨S_, .f32⟩
  | 120 => ⟨S16x128, .f32⟩
  | 121 => ⟨S8192x128, .f32⟩
  | 122 => ⟨S8208x128, .f32⟩
  | 123 => ⟨S_, .f32⟩
  | 124 => ⟨S16x128, .f32⟩
  | 125 => ⟨S8192x128, .f32⟩
  | 126 => ⟨S8192x128, .f32⟩
  | 127 => ⟨S8192x128, .f32⟩
  | _ => ⟨S8192x1024, .f32⟩

abbrev hbmTy0_1 (i : Nat) : BufTy := match i % 128 with
  | 0 => ⟨S_, .f32⟩
  | 1 => ⟨S8192x1, .f32⟩
  | 2 => ⟨S8192x1, .f32⟩
  | 3 => ⟨S8192x128, .f32⟩
  | 4 => ⟨S8192x128, .f32⟩
  | 5 => ⟨S8192x128, .f32⟩
  | 6 => ⟨S8192x128, .f32⟩
  | 7 => ⟨S1x128x128, .f32⟩
  | 8 => ⟨S128x128, .f32⟩
  | 9 => ⟨S8192x128, .f32⟩
  | 10 => ⟨S8192x512, .f32⟩
  | 11 => ⟨S8192x512, .f32⟩
  | 12 => ⟨S8192x512, .f32⟩
  | 13 => ⟨S8192x1024, .f32⟩
  | 14 => ⟨S8192x1024, .f32⟩
  | 15 => ⟨S_, .f32⟩
  | 16 => ⟨S8192x1024, .f32⟩
  | 17 => ⟨S8192x1024, .f32⟩
  | 18 => ⟨S_, .f32⟩
  | 19 => ⟨S1x1024, .f32⟩
  | 20 => ⟨S1x1024, .f32⟩
  | 21 => ⟨S8192x1024, .f32⟩
  | 22 => ⟨S8192x1024, .f32⟩
  | 23 => ⟨S8192x1024, .f32⟩
  | 24 => ⟨S_, .f32⟩
  | 25 => ⟨S8192, .f32⟩
  | 26 => ⟨S8192x1, .f32⟩
  | 27 => ⟨S_, .f32⟩
  | 28 => ⟨S8192x1, .f32⟩
  | 29 => ⟨S8192x1, .f32⟩
  | 30 => ⟨S8192x1024, .f32⟩
  | 31 => ⟨S8192x1024, .f32⟩
  | 32 => ⟨S8192x1024, .f32⟩
  | 33 => ⟨S_, .f32⟩
  | 34 => ⟨S8192x1024, .f32⟩
  | 35 => ⟨S8192x1024, .f32⟩
  | 36 => ⟨S_, .f32⟩
  | 37 => ⟨S8192, .f32⟩
  | 38 => ⟨S8192x1, .f32⟩
  | 39 => ⟨S_, .f32⟩
  | 40 => ⟨S8192x1, .f32⟩
  | 41 => ⟨S8192x1, .f32⟩
  | 42 => ⟨S8192x1024, .f32⟩
  | 43 => ⟨S8192x1024, .f32⟩
  | 44 => ⟨S_, .f32⟩
  | 45 => ⟨S8192x1, .f32⟩
  | 46 => ⟨S8192x1, .f32⟩
  | 47 => ⟨S8192x1, .f32⟩
  | 48 => ⟨S8192x1, .f32⟩
  | 49 => ⟨S_, .f32⟩
  | 50 => ⟨S8192x1, .f32⟩
  | 51 => ⟨S8192x1, .f32⟩
  | 52 => ⟨S8192x1024, .f32⟩
  | 53 => ⟨S8192x1024, .f32⟩
  | 54 => ⟨S8192x1024, .f32⟩
  | 55 => ⟨S8192x1024, .f32⟩
  | 56 => ⟨S8192x1024, .f32⟩
  | 57 => ⟨S8192x1024, .f32⟩
  | 58 => ⟨S8192x1024, .f32⟩
  | 59 => ⟨S_, .f32⟩
  | 60 => ⟨S1024, .f32⟩
  | 61 => ⟨S1x1024, .f32⟩
  | 62 => ⟨S8192x1024, .f32⟩
  | 63 => ⟨S_, .f32⟩
  | 64 => ⟨S1024, .f32⟩
  | 65 => ⟨S1x1024, .f32⟩
  | 66 => ⟨S8192x1024, .f32⟩
  | 67 => ⟨S8192x1024, .f32⟩
  | 68 => ⟨S8192x1024, .f32⟩
  | 69 => ⟨S_, .f32⟩
  | 70 => ⟨S8192, .f32⟩
  | 71 => ⟨S8192x1, .f32⟩
  | 72 => ⟨S8192x1024, .f32⟩
  | 73 => ⟨S8192x1024, .f32⟩
  | 74 => ⟨S8192x1, .f32⟩
  | 75 => ⟨S8192x1024, .f32⟩
  | 76 => ⟨S_, .f32⟩
  | 77 => ⟨S8192, .f32⟩
  | 78 => ⟨S8192x1, .f32⟩
  | 79 => ⟨S_, .f32⟩
  | 80 => ⟨S8192x1, .f32⟩
  | 81 => ⟨S8192x1, .f32⟩
  | 82 => ⟨S_, .f32⟩
  | 83 => ⟨S8192, .f32⟩
  | 84 => ⟨S8192x1024, .f32⟩
  | 85 => ⟨S8192x1024, .f32⟩
  | 86 => ⟨S8192x1024, .f32⟩
  | 87 => ⟨S_, .f32⟩
  | 88 => ⟨S8192, .f32⟩
  | 89 => ⟨S8192x1, .f32⟩
  | 90 => ⟨S8192x1024, .f32⟩
  | 91 => ⟨S8192x1, .f32⟩
  | 92 => ⟨S_, .f32⟩
  | 93 => ⟨S8192x1, .f32⟩
  | 94 => ⟨S8192x1, .f32⟩
  | 95 => ⟨S_, .f32⟩
  | 96 => ⟨S8192, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S_, .f32⟩
  | 103 => ⟨S1024, .f32⟩
  | 104 => ⟨S1x1024, .f32⟩
  | 105 => ⟨S_, .f32⟩
  | 106 => ⟨S8192x1024, .f32⟩
  | 107 => ⟨S8192x1024, .f32⟩
  | 108 => ⟨S8192x1024, .f32⟩
  | 109 => ⟨S8192x512, .f32⟩
  | 110 => ⟨S8192x512, .f32⟩
  | 111 => ⟨S8192x512, .f32⟩
  | 112 => ⟨S_, .f32⟩
  | 113 => ⟨S512, .f32⟩
  | 114 => ⟨S1x512, .f32⟩
  | 115 => ⟨S8192x512, .f32⟩
  | 116 => ⟨S8192x512, .f32⟩
  | 117 => ⟨S8192x128, .f32⟩
  | 118 => ⟨S8192x128, .f32⟩
  | 119 => ⟨S8192x128, .f32⟩
  | 120 => ⟨S8192x128, .f32⟩
  | 121 => ⟨S128x128, .f32⟩
  | 122 => ⟨S128x128, .f32⟩
  | 123 => ⟨S8192x128, .f32⟩
  | 124 => ⟨S1x128x128, .f32⟩
  | 125 => ⟨S_, .f32⟩
  | 126 => ⟨S4x128x128, .f32⟩
  | 127 => ⟨S8192x128, .f32⟩
  | _ => ⟨S8192x1024, .f32⟩

abbrev hbmTy0_2 (i : Nat) : BufTy := match i % 128 with
  | 0 => ⟨S_, .f32⟩
  | 1 => ⟨S8192x512, .f32⟩
  | 2 => ⟨S8192x128, .f32⟩
  | 3 => ⟨S8192x128, .f32⟩
  | 4 => ⟨S8192x128, .f32⟩
  | 5 => ⟨S_, .f32⟩
  | 6 => ⟨S8192x512, .f32⟩
  | 7 => ⟨S_, .f32⟩
  | 8 => ⟨S8208x128, .f32⟩
  | 9 => ⟨S16x128, .f32⟩
  | 10 => ⟨S8192x128, .f32⟩
  | 11 => ⟨S_, .f32⟩
  | 12 => ⟨S8192x512, .f32⟩
  | 13 => ⟨S8192x512, .f32⟩
  | 14 => ⟨S128x128, .f32⟩
  | 15 => ⟨S128x128, .f32⟩
  | 16 => ⟨S8192x128, .f32⟩
  | 17 => ⟨S1x128x128, .f32⟩
  | 18 => ⟨S_, .f32⟩
  | 19 => ⟨S4x128x128, .f32⟩
  | 20 => ⟨S4x128x128, .f32⟩
  | 21 => ⟨S8192x128, .f32⟩
  | 22 => ⟨S_, .f32⟩
  | 23 => ⟨S8192x512, .f32⟩
  | 24 => ⟨S8192x512, .f32⟩
  | 25 => ⟨S8192x128, .f32⟩
  | 26 => ⟨S8192x128, .f32⟩
  | 27 => ⟨S8192x128, .f32⟩
  | 28 => ⟨S_, .f32⟩
  | 29 => ⟨S8192x512, .f32⟩
  | 30 => ⟨S8192x512, .f32⟩
  | 31 => ⟨S_, .f32⟩
  | 32 => ⟨S8200x128, .f32⟩
  | 33 => ⟨S8x128, .f32⟩
  | 34 => ⟨S8192x128, .f32⟩
  | 35 => ⟨S_, .f32⟩
  | 36 => ⟨S8192x512, .f32⟩
  | 37 => ⟨S8192x512, .f32⟩
  | 38 => ⟨S128x128, .f32⟩
  | 39 => ⟨S128x128, .f32⟩
  | 40 => ⟨S8192x128, .f32⟩
  | 41 => ⟨S1x128x128, .f32⟩
  | 42 => ⟨S_, .f32⟩
  | 43 => ⟨S4x128x128, .f32⟩
  | 44 => ⟨S4x128x128, .f32⟩
  | 45 => ⟨S8192x128, .f32⟩
  | 46 => ⟨S_, .f32⟩
  | 47 => ⟨S8192x512, .f32⟩
  | 48 => ⟨S8192x512, .f32⟩
  | 49 => ⟨S8192x128, .f32⟩
  | 50 => ⟨S8192x128, .f32⟩
  | 51 => ⟨S8192x128, .f32⟩
  | 52 => ⟨S_, .f32⟩
  | 53 => ⟨S8192x512, .f32⟩
  | 54 => ⟨S8192x512, .f32⟩
  | 55 => ⟨S_, .f32⟩
  | 56 => ⟨S8196x128, .f32⟩
  | 57 => ⟨S4x128, .f32⟩
  | 58 => ⟨S8192x128, .f32⟩
  | 59 => ⟨S_, .f32⟩
  | 60 => ⟨S8192x512, .f32⟩
  | 61 => ⟨S8192x512, .f32⟩
  | 62 => ⟨S128x128, .f32⟩
  | 63 => ⟨S128x128, .f32⟩
  | 64 => ⟨S8192x128, .f32⟩
  | 65 => ⟨S1x128x128, .f32⟩
  | 66 => ⟨S_, .f32⟩
  | 67 => ⟨S4x128x128, .f32⟩
  | 68 => ⟨S4x128x128, .f32⟩
  | 69 => ⟨S8192x128, .f32⟩
  | 70 => ⟨S_, .f32⟩
  | 71 => ⟨S8192x512, .f32⟩
  | 72 => ⟨S8192x512, .f32⟩
  | 73 => ⟨S8192x128, .f32⟩
  | 74 => ⟨S8192x128, .f32⟩
  | 75 => ⟨S8192x128, .f32⟩
  | 76 => ⟨S_, .f32⟩
  | 77 => ⟨S8192x512, .f32⟩
  | 78 => ⟨S8192x512, .f32⟩
  | 79 => ⟨S_, .f32⟩
  | 80 => ⟨S8194x128, .f32⟩
  | 81 => ⟨S2x128, .f32⟩
  | 82 => ⟨S8192x128, .f32⟩
  | 83 => ⟨S_, .f32⟩
  | 84 => ⟨S8192x512, .f32⟩
  | 85 => ⟨S8192x512, .f32⟩
  | 86 => ⟨S_, .f32⟩
  | 87 => ⟨S_, .f32⟩
  | 88 => ⟨S8192x512, .f32⟩
  | 89 => ⟨S8192x512, .f32⟩
  | 90 => ⟨S8192x512, .f32⟩
  | 91 => ⟨S8192x512, .f32⟩
  | 92 => ⟨S8192x512, .f32⟩
  | 93 => ⟨S_, .f32⟩
  | 94 => ⟨S512, .f32⟩
  | 95 => ⟨S1x512, .f32⟩
  | 96 => ⟨S8192x512, .f32⟩
  | 97 => ⟨S8192x512, .f32⟩
  | 98 => ⟨S_, .f32⟩
  | 99 => ⟨S512, .f32⟩
  | 100 => ⟨S1x512, .f32⟩
  | 101 => ⟨S_, .f32⟩
  | 102 => ⟨S3x512, .f32⟩
  | 103 => ⟨S_, .f32⟩
  | 104 => ⟨S8194x512, .f32⟩
  | 105 => ⟨S8192x512, .f32⟩
  | 106 => ⟨S_, .f32⟩
  | 107 => ⟨S512, .f32⟩
  | 108 => ⟨S1x512, .f32⟩
  | 109 => ⟨S8192x512, .f32⟩
  | 110 => ⟨S8192x512, .f32⟩
  | 111 => ⟨S_, .f32⟩
  | 112 => ⟨S512, .f32⟩
  | 113 => ⟨S1x512, .f32⟩
  | 114 => ⟨S_, .f32⟩
  | 115 => ⟨S3x512, .f32⟩
  | 116 => ⟨S3x512, .f32⟩
  | 117 => ⟨S_, .f32⟩
  | 118 => ⟨S8194x512, .f32⟩
  | 119 => ⟨S8194x512, .f32⟩
  | 120 => ⟨S8192x512, .f32⟩
  | 121 => ⟨S_, .f32⟩
  | 122 => ⟨S512, .f32⟩
  | 123 => ⟨S1x512, .f32⟩
  | 124 => ⟨S8192x512, .f32⟩
  | 125 => ⟨S8192x512, .f32⟩
  | 126 => ⟨S_, .f32⟩
  | 127 => ⟨S512, .f32⟩
  | _ => ⟨S8192x1024, .f32⟩

abbrev hbmTy0_3 (i : Nat) : BufTy := match i % 128 with
  | 0 => ⟨S1x512, .f32⟩
  | 1 => ⟨S_, .f32⟩
  | 2 => ⟨S3x512, .f32⟩
  | 3 => ⟨S3x512, .f32⟩
  | 4 => ⟨S_, .f32⟩
  | 5 => ⟨S8194x512, .f32⟩
  | 6 => ⟨S8194x512, .f32⟩
  | 7 => ⟨S2x512, .f32⟩
  | 8 => ⟨S8192x512, .f32⟩
  | 9 => ⟨S8192x512, .f32⟩
  | 10 => ⟨S8192x512, .f32⟩
  | 11 => ⟨S_, .f32⟩
  | 12 => ⟨S8192x2048, .f32⟩
  | 13 => ⟨S_, .f32⟩
  | 14 => ⟨S8192x2048, .f32⟩
  | 15 => ⟨S8192x2048, .f32⟩
  | 16 => ⟨S_, .f32⟩
  | 17 => ⟨S8192x2048, .f32⟩
  | 18 => ⟨S8192x2048, .f32⟩
  | 19 => ⟨S_, .f32⟩
  | 20 => ⟨S8192x2048, .f32⟩
  | 21 => ⟨S8192x2048, .f32⟩
  | 22 => ⟨S8192x1024, .f32⟩
  | 23 => ⟨S_, .f32⟩
  | 24 => ⟨S1024, .f32⟩
  | 25 => ⟨S1x1024, .f32⟩
  | 26 => ⟨S8192x1024, .f32⟩
  | 27 => ⟨S_, .f32⟩
  | 28 => ⟨S1024, .f32⟩
  | 29 => ⟨S1x1024, .f32⟩
  | 30 => ⟨S8192x1024, .f32⟩
  | 31 => ⟨S8192x1024, .f32⟩
  | 32 => ⟨S_, .f32⟩
  | 33 => ⟨S3x1024, .f32⟩
  | 34 => ⟨S8x1024, .f32⟩
  | 35 => ⟨S_, .f32⟩
  | 36 => ⟨S4x512, .f32⟩
  | 37 => ⟨S8x512, .f32⟩
  | 38 => ⟨S8192x1024, .f32⟩
  | 39 => ⟨S8192x1024, .bf16⟩
  | 40 => ⟨S8192x1024, .bf16⟩
  | 41 => ⟨S8192x2048, .bf16⟩
  | 42 => ⟨S8192x4096, .bf16⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call0_call0_cst : Ref sig .tc := ⟨.hbm, 54, rfl⟩
abbrev main_call0_call0_v0 : Ref sig .tc := ⟨.hbm, 55, rfl⟩
abbrev main_v39 : Ref sig .tc := ⟨.hbm, 56, rfl⟩
abbrev main_v40 : Ref sig .tc := ⟨.hbm, 57, rfl⟩
abbrev main_cst_2 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_3 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_4 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_5 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_6 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_7 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_8 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_9 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_10 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_11 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_12 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_13 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_14 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_15 : Ref sig .tc := ⟨.hbm, 143, rfl⟩
abbrev main_v113 : Ref sig .tc := ⟨.hbm, 144, rfl⟩
abbrev main_v114 : Ref sig .tc := ⟨.hbm, 145, rfl⟩
abbrev main_cst_16 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_17 : Ref sig .tc := ⟨.hbm, 152, rfl⟩
abbrev main_v120 : Ref sig .tc := ⟨.hbm, 153, rfl⟩
abbrev main_v121 : Ref sig .tc := ⟨.hbm, 154, rfl⟩
abbrev main_cst_18 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_cst_19 : Ref sig .tc := ⟨.hbm, 161, rfl⟩
abbrev main_v127 : Ref sig .tc := ⟨.hbm, 162, rfl⟩
abbrev main_v128 : Ref sig .tc := ⟨.hbm, 163, rfl⟩
abbrev main_cst_20 : Ref sig .tc := ⟨.hbm, 164, rfl⟩
abbrev main_v129 : Ref sig .tc := ⟨.hbm, 165, rfl⟩
abbrev main_v130 : Ref sig .tc := ⟨.hbm, 166, rfl⟩
abbrev main_cst_21 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_22 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_cst_23 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_cst_24 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_cst_25 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_cst_26 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_cst_27 : Ref sig .tc := ⟨.hbm, 204, rfl⟩
abbrev main_v162 : Ref sig .tc := ⟨.hbm, 205, rfl⟩
abbrev main_v163 : Ref sig .tc := ⟨.hbm, 206, rfl⟩
abbrev main_cst_28 : Ref sig .tc := ⟨.hbm, 207, rfl⟩
abbrev main_v164 : Ref sig .tc := ⟨.hbm, 208, rfl⟩
abbrev main_v165 : Ref sig .tc := ⟨.hbm, 209, rfl⟩
abbrev main_cst_29 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_cst_30 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_cst_31 : Ref sig .tc := ⟨.hbm, 220, rfl⟩
abbrev main_v174 : Ref sig .tc := ⟨.hbm, 221, rfl⟩
abbrev main_v175 : Ref sig .tc := ⟨.hbm, 222, rfl⟩
abbrev main_cst_32 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_cst_33 : Ref sig .tc := ⟨.hbm, 230, rfl⟩
abbrev main_v182 : Ref sig .tc := ⟨.hbm, 231, rfl⟩
abbrev main_v183 : Ref sig .tc := ⟨.hbm, 232, rfl⟩
abbrev main_cst_34 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_cst_35 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_cst_36 : Ref sig .tc := ⟨.hbm, 253, rfl⟩
abbrev main_v202 : Ref sig .tc := ⟨.hbm, 254, rfl⟩
abbrev main_v203 : Ref sig .tc := ⟨.hbm, 255, rfl⟩
abbrev main_cst_37 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_cst_38 : Ref sig .tc := ⟨.hbm, 261, rfl⟩
abbrev main_v208 : Ref sig .tc := ⟨.hbm, 262, rfl⟩
abbrev main_cst_39 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_cst_40 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_cst_41 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_cst_42 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_cst_43 : Ref sig .tc := ⟨.hbm, 284, rfl⟩
abbrev main_v226 : Ref sig .tc := ⟨.hbm, 285, rfl⟩
abbrev main_v227 : Ref sig .tc := ⟨.hbm, 286, rfl⟩
abbrev main_cst_44 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_cst_45 : Ref sig .tc := ⟨.hbm, 291, rfl⟩
abbrev main_v231 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_cst_46 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_cst_47 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_cst_48 : Ref sig .tc := ⟨.hbm, 308, rfl⟩
abbrev main_v245 : Ref sig .tc := ⟨.hbm, 309, rfl⟩
abbrev main_v246 : Ref sig .tc := ⟨.hbm, 310, rfl⟩
abbrev main_cst_49 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_cst_50 : Ref sig .tc := ⟨.hbm, 315, rfl⟩
abbrev main_v250 : Ref sig .tc := ⟨.hbm, 316, rfl⟩
abbrev main_v251 : Ref sig .tc := ⟨.hbm, 317, rfl⟩
abbrev main_v252 : Ref sig .tc := ⟨.hbm, 318, rfl⟩
abbrev main_v253 : Ref sig .tc := ⟨.hbm, 319, rfl⟩
abbrev main_v254 : Ref sig .tc := ⟨.hbm, 320, rfl⟩
abbrev main_v255 : Ref sig .tc := ⟨.hbm, 321, rfl⟩
abbrev main_cst_51 : Ref sig .tc := ⟨.hbm, 322, rfl⟩
abbrev main_v256 : Ref sig .tc := ⟨.hbm, 323, rfl⟩
abbrev main_v257 : Ref sig .tc := ⟨.hbm, 324, rfl⟩
abbrev main_v258 : Ref sig .tc := ⟨.hbm, 325, rfl⟩
abbrev main_cst_52 : Ref sig .tc := ⟨.hbm, 326, rfl⟩
abbrev main_v259 : Ref sig .tc := ⟨.hbm, 327, rfl⟩
abbrev main_v260 : Ref sig .tc := ⟨.hbm, 328, rfl⟩
abbrev main_v261 : Ref sig .tc := ⟨.hbm, 329, rfl⟩
abbrev main_v262 : Ref sig .tc := ⟨.hbm, 330, rfl⟩
abbrev main_v263 : Ref sig .tc := ⟨.hbm, 331, rfl⟩
abbrev main_cst_53 : Ref sig .tc := ⟨.hbm, 332, rfl⟩
abbrev main_v264 : Ref sig .tc := ⟨.hbm, 333, rfl⟩
abbrev main_v265 : Ref sig .tc := ⟨.hbm, 334, rfl⟩
abbrev main_cst_54 : Ref sig .tc := ⟨.hbm, 335, rfl⟩
abbrev main_v266 : Ref sig .tc := ⟨.hbm, 336, rfl⟩
abbrev main_v267 : Ref sig .tc := ⟨.hbm, 337, rfl⟩
abbrev main_v268 : Ref sig .tc := ⟨.hbm, 338, rfl⟩
abbrev main_cst_55 : Ref sig .tc := ⟨.hbm, 339, rfl⟩
abbrev main_v269 : Ref sig .tc := ⟨.hbm, 340, rfl⟩
abbrev main_v270 : Ref sig .tc := ⟨.hbm, 341, rfl⟩
abbrev main_call1_call0_cst : Ref sig .tc := ⟨.hbm, 342, rfl⟩
abbrev main_call1_call0_v0 : Ref sig .tc := ⟨.hbm, 343, rfl⟩
abbrev main_v271 : Ref sig .tc := ⟨.hbm, 344, rfl⟩
abbrev main_v272 : Ref sig .tc := ⟨.hbm, 345, rfl⟩
abbrev main_v273 : Ref sig .tc := ⟨.hbm, 346, rfl⟩
abbrev main_v274 : Ref sig .tc := ⟨.hbm, 347, rfl⟩
abbrev main_v275 : Ref sig .tc := ⟨.hbm, 348, rfl⟩
abbrev main_cst_56 : Ref sig .tc := ⟨.hbm, 349, rfl⟩
abbrev main_v276 : Ref sig .tc := ⟨.hbm, 350, rfl⟩
abbrev main_v277 : Ref sig .tc := ⟨.hbm, 351, rfl⟩
abbrev main_v278 : Ref sig .tc := ⟨.hbm, 352, rfl⟩
abbrev main_v279 : Ref sig .tc := ⟨.hbm, 353, rfl⟩
abbrev main_cst_57 : Ref sig .tc := ⟨.hbm, 354, rfl⟩
abbrev main_v280 : Ref sig .tc := ⟨.hbm, 355, rfl⟩
abbrev main_v281 : Ref sig .tc := ⟨.hbm, 356, rfl⟩
abbrev main_cst_58 : Ref sig .tc := ⟨.hbm, 357, rfl⟩
abbrev main_v282 : Ref sig .tc := ⟨.hbm, 358, rfl⟩
abbrev main_cst_59 : Ref sig .tc := ⟨.hbm, 359, rfl⟩
abbrev main_v283 : Ref sig .tc := ⟨.hbm, 360, rfl⟩
abbrev main_v284 : Ref sig .tc := ⟨.hbm, 361, rfl⟩
abbrev main_cst_60 : Ref sig .tc := ⟨.hbm, 362, rfl⟩
abbrev main_v285 : Ref sig .tc := ⟨.hbm, 363, rfl⟩
abbrev main_v286 : Ref sig .tc := ⟨.hbm, 364, rfl⟩
abbrev main_v287 : Ref sig .tc := ⟨.hbm, 365, rfl⟩
abbrev main_v288 : Ref sig .tc := ⟨.hbm, 366, rfl⟩
abbrev main_cst_61 : Ref sig .tc := ⟨.hbm, 367, rfl⟩
abbrev main_v289 : Ref sig .tc := ⟨.hbm, 368, rfl⟩
abbrev main_v290 : Ref sig .tc := ⟨.hbm, 369, rfl⟩
abbrev main_cst_62 : Ref sig .tc := ⟨.hbm, 370, rfl⟩
abbrev main_v291 : Ref sig .tc := ⟨.hbm, 371, rfl⟩
abbrev main_v292 : Ref sig .tc := ⟨.hbm, 372, rfl⟩
abbrev main_cst_63 : Ref sig .tc := ⟨.hbm, 373, rfl⟩
abbrev main_v293 : Ref sig .tc := ⟨.hbm, 374, rfl⟩
abbrev main_v294 : Ref sig .tc := ⟨.hbm, 375, rfl⟩
abbrev main_v295 : Ref sig .tc := ⟨.hbm, 376, rfl⟩
abbrev main_cst_64 : Ref sig .tc := ⟨.hbm, 377, rfl⟩
abbrev main_v296 : Ref sig .tc := ⟨.hbm, 378, rfl⟩
abbrev main_v297 : Ref sig .tc := ⟨.hbm, 379, rfl⟩
abbrev main_v298 : Ref sig .tc := ⟨.hbm, 380, rfl⟩
abbrev main_v299 : Ref sig .tc := ⟨.hbm, 381, rfl⟩
abbrev main_cst_65 : Ref sig .tc := ⟨.hbm, 382, rfl⟩
abbrev main_v300 : Ref sig .tc := ⟨.hbm, 383, rfl⟩
abbrev main_v301 : Ref sig .tc := ⟨.hbm, 384, rfl⟩
abbrev main_cst_66 : Ref sig .tc := ⟨.hbm, 385, rfl⟩
abbrev main_v302 : Ref sig .tc := ⟨.hbm, 386, rfl⟩
abbrev main_v303 : Ref sig .tc := ⟨.hbm, 387, rfl⟩
abbrev main_cst_67 : Ref sig .tc := ⟨.hbm, 388, rfl⟩
abbrev main_v304 : Ref sig .tc := ⟨.hbm, 389, rfl⟩
abbrev main_v305 : Ref sig .tc := ⟨.hbm, 390, rfl⟩
abbrev main_v306 : Ref sig .tc := ⟨.hbm, 391, rfl⟩
abbrev main_v307 : Ref sig .tc := ⟨.hbm, 392, rfl⟩
abbrev main_v308 : Ref sig .tc := ⟨.hbm, 393, rfl⟩
abbrev main_v309 : Ref sig .tc := ⟨.hbm, 394, rfl⟩
abbrev main_cst_68 : Ref sig .tc := ⟨.hbm, 395, rfl⟩
abbrev main_v310 : Ref sig .tc := ⟨.hbm, 396, rfl⟩
abbrev main_cst_69 : Ref sig .tc := ⟨.hbm, 397, rfl⟩
abbrev main_v311 : Ref sig .tc := ⟨.hbm, 398, rfl⟩
abbrev main_v312 : Ref sig .tc := ⟨.hbm, 399, rfl⟩
abbrev main_cst_70 : Ref sig .tc := ⟨.hbm, 400, rfl⟩
abbrev main_v313 : Ref sig .tc := ⟨.hbm, 401, rfl⟩
abbrev main_v314 : Ref sig .tc := ⟨.hbm, 402, rfl⟩
abbrev main_cst_71 : Ref sig .tc := ⟨.hbm, 403, rfl⟩
abbrev main_v315 : Ref sig .tc := ⟨.hbm, 404, rfl⟩
abbrev main_v316 : Ref sig .tc := ⟨.hbm, 405, rfl⟩
abbrev main_v317 : Ref sig .tc := ⟨.hbm, 406, rfl⟩
abbrev main_cst_72 : Ref sig .tc := ⟨.hbm, 407, rfl⟩
abbrev main_v318 : Ref sig .tc := ⟨.hbm, 408, rfl⟩
abbrev main_v319 : Ref sig .tc := ⟨.hbm, 409, rfl⟩
abbrev main_v320 : Ref sig .tc := ⟨.hbm, 410, rfl⟩
abbrev main_cst_73 : Ref sig .tc := ⟨.hbm, 411, rfl⟩
abbrev main_v321 : Ref sig .tc := ⟨.hbm, 412, rfl⟩
abbrev main_v322 : Ref sig .tc := ⟨.hbm, 413, rfl⟩
abbrev main_v323 : Ref sig .tc := ⟨.hbm, 414, rfl⟩
abbrev main_v324 : Ref sig .tc := ⟨.hbm, 415, rfl⟩
abbrev main_cst_74 : Ref sig .tc := ⟨.hbm, 416, rfl⟩
abbrev main_v325 : Ref sig .tc := ⟨.hbm, 417, rfl⟩
abbrev main_v326 : Ref sig .tc := ⟨.hbm, 418, rfl⟩
abbrev main_cst_75 : Ref sig .tc := ⟨.hbm, 419, rfl⟩
abbrev main_v327 : Ref sig .tc := ⟨.hbm, 420, rfl⟩
abbrev main_v328 : Ref sig .tc := ⟨.hbm, 421, rfl⟩
abbrev main_v329 : Ref sig .tc := ⟨.hbm, 422, rfl⟩
abbrev main_v330 : Ref sig .tc := ⟨.hbm, 423, rfl⟩
abbrev main_v331 : Ref sig .tc := ⟨.hbm, 424, rfl⟩
abbrev main_v332 : Ref sig .tc := ⟨.hbm, 425, rfl⟩
abbrev main_v333 : Ref sig .tc := ⟨.hbm, 426, rfl⟩

abbrev nD : Nat := 1
abbrev τ : Topo := Topo.v7x

variable {F : FTy → Type} [FloatOps F]
-- ==== Kernel3.lean ====
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩
abbrev S1024x4096 : Shape := ⟨2, ![1024, 4096]⟩
abbrev S1024x512 : Shape := ⟨2, ![1024, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v19 : BitVec 1 := Scalar.cmpi .eq arg2 c1_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x4096, .f32⟩
  | .hbm, ⟨3, _⟩ => ⟨S8192x1024, .f32⟩
  | .hbm, ⟨4, _⟩ => ⟨S_, .f32⟩
  | .hbm, ⟨5, _⟩ => ⟨S4096x1024, .f32⟩
  | .hbm, ⟨6, _⟩ => ⟨S8192x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4x512x1024 : Shape := ⟨3, ![4, 512, 1024]⟩
abbrev S1x512x1024 : Shape := ⟨3, ![1, 512, 1024]⟩
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x512x1024, .bf16⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S1x512x1024, .f32⟩
  | .hbm, ⟨5, _⟩ => ⟨S1x512x1024, .f32⟩
  | .hbm, ⟨6, _⟩ => ⟨S1x512x1024, .f32⟩
  | .hbm, ⟨7, _⟩ => ⟨S1x512x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S4x512x1024 : Shape := ⟨3, ![4, 512, 1024]⟩
abbrev S1x512x1024 : Shape := ⟨3, ![1, 512, 1024]⟩
abbrev S_ : Shape := ⟨0, ![]⟩
abbrev S512x1024 : Shape := ⟨2, ![512, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x512x1024, .bf16⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S4x512x1024, .f32⟩
  | .hbm, ⟨5, _⟩ => ⟨S_, .f32⟩
  | .hbm, ⟨6, _⟩ => ⟨S512x1024, .f32⟩
  | .hbm, ⟨7, _⟩ => ⟨S1x512x1024, .f32⟩
  | .hbm, ⟨8, _⟩ => ⟨S_, .f32⟩
  | .hbm, ⟨9, _⟩ => ⟨S1x512x1024, .f32⟩
  | .hbm, ⟨10, _⟩ => ⟨S1x512x1024, .f32⟩
  | .hbm, ⟨11, _⟩ => ⟨S_, .f32⟩
  | .hbm, ⟨12, _⟩ => ⟨S1x512x1024, .f32⟩
  | .hbm, ⟨13, _⟩ => ⟨S1x512x1024, .f32⟩
  | .hbm, ⟨14, _⟩ => ⟨S1x512x1024, .f32⟩
  | .hbm, ⟨15, _⟩ => ⟨S_, .f32⟩
  | .hbm, ⟨16, _⟩ => ⟨S1x512x1024, .f32⟩
  | .hbm, ⟨17, _⟩ => ⟨S1x512x1024, .f32⟩
  | .hbm, ⟨18, _⟩ => ⟨S1x512x1024, .f32⟩
  | .hbm, ⟨19, _⟩ => ⟨S_, .f32⟩
  | .hbm, ⟨20, _⟩ => ⟨S1x512x1024, .f32⟩
  | .hbm, ⟨21, _⟩ => ⟨S1x512x1024, .f32⟩
  | .hbm, ⟨22, _⟩ => ⟨S1x512x1024, .f32⟩
  | .hbm, ⟨23, _⟩ => ⟨S_, .f32⟩
  | .hbm, ⟨24, _⟩ => ⟨S1x512x1024, .f32⟩
  | .hbm, ⟨25, _⟩ => ⟨S1x512x1024, .f32⟩
  | .hbm, ⟨26, _⟩ => ⟨S_, .f32⟩
  | .hbm, ⟨27, _⟩ => ⟨S1x512x1024, .f32⟩
  | .hbm, ⟨28, _⟩ => ⟨S1x512x1024, .f32⟩
  | .hbm, ⟨29, _⟩ => ⟨S1x512x1024, .f32⟩
  | .hbm, ⟨30, _⟩ => ⟨S_, .f32⟩
  | .hbm, ⟨31, _⟩ => ⟨S1x512x1024, .f32⟩
  | .hbm, ⟨32, _⟩ => ⟨S1x512x1024, .f32⟩
  | .hbm, ⟨33, _⟩ => ⟨S1x512x1024, .f32⟩
  | .hbm, ⟨34, _⟩ => ⟨S_, .f32⟩
  | .hbm, ⟨35, _⟩ => ⟨S1x512x1024, .f32⟩
  | .hbm, ⟨36, _⟩ => ⟨S1x512x1024, .f32⟩
  | .hbm, ⟨37, _⟩ => ⟨S1x512x1024, .f32⟩
  | .hbm, ⟨38, _⟩ => ⟨S_, .f32⟩
  | .hbm, ⟨39, _⟩ => ⟨S1x512x1024, .f32⟩
  | .hbm, ⟨40, _⟩ => ⟨S1x512x1024, .f32⟩
  | _, _ => ⟨S4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel5.lean ====
abbrev S4x1024x512 : Shape := ⟨3, ![4, 1024, 512]⟩
abbrev S1x1024x512 : Shape := ⟨3, ![1, 1024, 512]⟩
abbrev S4x256x512 : Shape := ⟨3, ![4, 256, 512]⟩
abbrev S1x256x512 : Shape := ⟨3, ![1, 256, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x512, .bf16⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S1x1024x512, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .local _ .vmem, ⟨0, _⟩ => ⟨S4x256x512, .bf16⟩
  | .local _ .vmem, ⟨1, _⟩ => ⟨S4x256x512, .bf16⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S4x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S4x1024x512 : Shape := ⟨3, ![4, 1024, 512]⟩
abbrev S1x1024x512 : Shape := ⟨3, ![1, 1024, 512]⟩
abbrev S_ : Shape := ⟨0, ![]⟩
abbrev S1024x512 : Shape := ⟨2, ![1024, 512]⟩

abbrev nBuf : Space → Nat
  | .hbm => 41
  | .vmem => 0
  | .smem => 0
  | _ => 0

abbrev bufTy : (tb : Table) → Fin (tcTables nBuf tb) → BufTy
  | .hbm, ⟨0, _⟩ => ⟨S4x1024x512, .bf16⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S4x1024x512, .f32⟩
  | .hbm, ⟨5, _⟩ => ⟨S_, .f32⟩
  | .hbm, ⟨6, _⟩ => ⟨S1024x512, .f32⟩
  | .hbm, ⟨7, _⟩ => ⟨S1x1024x512, .f32⟩
  | .hbm, ⟨8, _⟩ => ⟨S_, .f32⟩
  | .hbm, ⟨9, _⟩ => ⟨S1x1024x512, .f32⟩
  | .hbm, ⟨10, _⟩ => ⟨S1x1024x512, .f32⟩
  | .hbm, ⟨11, _⟩ => ⟨S_, .f32⟩
  | .hbm, ⟨12, _⟩ => ⟨S1x1024x512, .f32⟩
  | .hbm, ⟨13, _⟩ => ⟨S1x1024x512, .f32⟩
  | .hbm, ⟨14, _⟩ => ⟨S1x1024x512, .f32⟩
  | .hbm, ⟨15, _⟩ => ⟨S_, .f32⟩
  | .hbm, ⟨16, _⟩ => ⟨S1x1024x512, .f32⟩
  | .hbm, ⟨17, _⟩ => ⟨S1x1024x512, .f32⟩
  | .hbm, ⟨18, _⟩ => ⟨S1x1024x512, .f32⟩
  | .hbm, ⟨19, _⟩ => ⟨S_, .f32⟩
  | .hbm, ⟨20, _⟩ => ⟨S1x1024x512, .f32⟩
  | .hbm, ⟨21, _⟩ => ⟨S1x1024x512, .f32⟩
  | .hbm, ⟨22, _⟩ => ⟨S1x1024x512, .f32⟩
  | .hbm, ⟨23, _⟩ => ⟨S_, .f32⟩
  | .hbm, ⟨24, _⟩ => ⟨S1x1024x512, .f32⟩
  | .hbm, ⟨25, _⟩ => ⟨S1x1024x512, .f32⟩
  | .hbm, ⟨26, _⟩ => ⟨S_, .f32⟩
  | .hbm, ⟨27, _⟩ => ⟨S1x1024x512, .f32⟩
  | .hbm, ⟨28, _⟩ => ⟨S1x1024x512, .f32⟩
  | .hbm, ⟨29, _⟩ => ⟨S1x1024x512, .f32⟩
  | .hbm, ⟨30, _⟩ => ⟨S_, .f32⟩
  | .hbm, ⟨31, _⟩ => ⟨S1x1024x512, .f32⟩
  | .hbm, ⟨32, _⟩ => ⟨S1x1024x512, .f32⟩
  | .hbm, ⟨33, _⟩ => ⟨S1x1024x512, .f32⟩
  | .hbm, ⟨34, _⟩ => ⟨S_, .f32⟩
  | .hbm, ⟨35, _⟩ => ⟨S1x1024x512, .f32⟩
  | .hbm, ⟨36, _⟩ => ⟨S1x1024x512, .f32⟩
  | .hbm, ⟨37, _⟩ => ⟨S1x1024x512, .f32⟩
  | .hbm, ⟨38, _⟩ => ⟨S_, .f32⟩
  | .hbm, ⟨39, _⟩ => ⟨S1x1024x512, .f32⟩
  | .hbm, ⟨40, _⟩ => ⟨S1x1024x512, .f32⟩
  | _, _ => ⟨S4x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel6.lean ====
abbrev S4x1024x256 : Shape := ⟨3, ![4, 1024, 256]⟩
abbrev S1x1024x256 : Shape := ⟨3, ![1, 1024, 256]⟩
abbrev S4x512x256 : Shape := ⟨3, ![4, 512, 256]⟩
abbrev S1x512x256 : Shape := ⟨3, ![1, 512, 256]⟩
abbrev S512x256 : Shape := ⟨2, ![512, 256]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x256, .bf16⟩
  | .hbm, ⟨1, _⟩ => ⟨S1x1024x256, .f32⟩
  | .hbm, ⟨2, _⟩ => ⟨S1x1024x256, .f32⟩
  | .hbm, ⟨3, _⟩ => ⟨S1x1024x256, .f32⟩
  | .hbm, ⟨4, _⟩ => ⟨S1x1024x256, .f32⟩
  | .hbm, ⟨5, _⟩ => ⟨S1x1024x256, .f32⟩
  | .hbm, ⟨6, _⟩ => ⟨S1x1024x256, .f32⟩
  | .hbm, ⟨7, _⟩ => ⟨S1x1024x256, .f32⟩
  | .local _ .vmem, ⟨0, _⟩ => ⟨S4x512x256, .bf16⟩
  | .local _ .vmem, ⟨1, _⟩ => ⟨S4x512x256, .bf16⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | _, _ => ⟨S4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S4x1024x256 : Shape := ⟨3, ![4, 1024, 256]⟩
abbrev S1x1024x256 : Shape := ⟨3, ![1, 1024, 256]⟩
abbrev S_ : Shape := ⟨0, ![]⟩
abbrev S1024x256 : Shape := ⟨2, ![1024, 256]⟩

abbrev nBuf : Space → Nat
  | .hbm => 41
  | .vmem => 0
  | .smem => 0
  | _ => 0

abbrev bufTy : (tb : Table) → Fin (tcTables nBuf tb) → BufTy
  | .hbm, ⟨0, _⟩ => ⟨S4x1024x256, .bf16⟩
  | .hbm, ⟨1, _⟩ => ⟨S1x1024x256, .f32⟩
  | .hbm, ⟨2, _⟩ => ⟨S1x1024x256, .f32⟩
  | .hbm, ⟨3, _⟩ => ⟨S1x1024x256, .f32⟩
  | .hbm, ⟨4, _⟩ => ⟨S4x1024x256, .f32⟩
  | .hbm, ⟨5, _⟩ => ⟨S_, .f32⟩
  | .hbm, ⟨6, _⟩ => ⟨S1024x256, .f32⟩
  | .hbm, ⟨7, _⟩ => ⟨S1x1024x256, .f32⟩
  | .hbm, ⟨8, _⟩ => ⟨S_, .f32⟩
  | .hbm, ⟨9, _⟩ => ⟨S1x1024x256, .f32⟩
  | .hbm, ⟨10, _⟩ => ⟨S1x1024x256, .f32⟩
  | .hbm, ⟨11, _⟩ => ⟨S_, .f32⟩
  | .hbm, ⟨12, _⟩ => ⟨S1x1024x256, .f32⟩
  | .hbm, ⟨13, _⟩ => ⟨S1x1024x256, .f32⟩
  | .hbm, ⟨14, _⟩ => ⟨S1x1024x256, .f32⟩
  | .hbm, ⟨15, _⟩ => ⟨S_, .f32⟩
  | .hbm, ⟨16, _⟩ => ⟨S1x1024x256, .f32⟩
  | .hbm, ⟨17, _⟩ => ⟨S1x1024x256, .f32⟩
  | .hbm, ⟨18, _⟩ => ⟨S1x1024x256, .f32⟩
  | .hbm, ⟨19, _⟩ => ⟨S_, .f32⟩
  | .hbm, ⟨20, _⟩ => ⟨S1x1024x256, .f32⟩
  | .hbm, ⟨21, _⟩ => ⟨S1x1024x256, .f32⟩
  | .hbm, ⟨22, _⟩ => ⟨S1x1024x256, .f32⟩
  | .hbm, ⟨23, _⟩ => ⟨S_, .f32⟩
  | .hbm, ⟨24, _⟩ => ⟨S1x1024x256, .f32⟩
  | .hbm, ⟨25, _⟩ => ⟨S1x1024x256, .f32⟩
  | .hbm, ⟨26, _⟩ => ⟨S_, .f32⟩
  | .hbm, ⟨27, _⟩ => ⟨S1x1024x256, .f32⟩
  | .hbm, ⟨28, _⟩ => ⟨S1x1024x256, .f32⟩
  | .hbm, ⟨29, _⟩ => ⟨S1x1024x256, .f32⟩
  | .hbm, ⟨30, _⟩ => ⟨S_, .f32⟩
  | .hbm, ⟨31, _⟩ => ⟨S1x1024x256, .f32⟩
  | .hbm, ⟨32, _⟩ => ⟨S1x1024x256, .f32⟩
  | .hbm, ⟨33, _⟩ => ⟨S1x1024x256, .f32⟩
  | .hbm, ⟨34, _⟩ => ⟨S_, .f32⟩
  | .hbm, ⟨35, _⟩ => ⟨S1x1024x256, .f32⟩
  | .hbm, ⟨36, _⟩ => ⟨S1x1024x256, .f32⟩
  | .hbm, ⟨37, _⟩ => ⟨S1x1024x256, .f32⟩
  | .hbm, ⟨38, _⟩ => ⟨S_, .f32⟩
  | .hbm, ⟨39, _⟩ => ⟨S1x1024x256, .f32⟩
  | .hbm, ⟨40, _⟩ => ⟨S1x1024x256, .f32⟩
  | _, _ => ⟨S4x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel7.lean ====
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S4x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference7Ideal.lean ====
abbrev S4x128x1024 : Shape := ⟨3, ![4, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S4x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel8.lean ====
abbrev S1x6144 : Shape := ⟨2, ![1, 6144]⟩
abbrev S3x1x64 : Shape := ⟨3, ![3, 1, 64]⟩
abbrev S1x4x128x128 : Shape := ⟨4, ![1, 4, 128, 128]⟩
abbrev S1x512 : Shape := ⟨2, ![1, 512]⟩

abbrev nBuf : Space → Nat
  | .hbm => 28
  | .vmem => 28
  | .smem => 0
  | _ => 0

abbrev bufTy : (tb : Table) → Fin (tcTables nBuf tb) → BufTy
  | .hbm, ⟨0, _⟩ => ⟨S1x6144, .f32⟩
  | .hbm, ⟨1, _⟩ => ⟨S1x6144, .f32⟩
  | .hbm, ⟨2, _⟩ => ⟨S1x6144, .f32⟩
  | .hbm, ⟨3, _⟩ => ⟨S1x6144, .f32⟩
  | .hbm, ⟨4, _⟩ => ⟨S3x1x64, .f32⟩
  | .hbm, ⟨5, _⟩ => ⟨S3x1x64, .f32⟩
  | .hbm, ⟨6, _⟩ => ⟨S3x1x64, .f32⟩
  | .hbm, ⟨7, _⟩ => ⟨S3x1x64, .f32⟩
  | .hbm, ⟨8, _⟩ => ⟨S1x4x128x128, .f32⟩
  | .hbm, ⟨9, _⟩ => ⟨S1x4x128x128, .f32⟩
  | .hbm, ⟨10, _⟩ => ⟨S1x4x128x128, .f32⟩
  | .hbm, ⟨11, _⟩ => ⟨S1x4x128x128, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x6144, .f32⟩
  | .hbm, ⟨17, _⟩ => ⟨S1x6144, .f32⟩
  | .hbm, ⟨18, _⟩ => ⟨S1x6144, .f32⟩
  | .hbm, ⟨19, _⟩ => ⟨S3x1x64, .f32⟩
  | .hbm, ⟨20, _⟩ => ⟨S3x1x64, .f32⟩
  | .hbm, ⟨21, _⟩ => ⟨S3x1x64, .f32⟩
  | .hbm, ⟨22, _⟩ => ⟨S1x4x128x128, .f32⟩
  | .hbm, ⟨23, _⟩ => ⟨S1x4x128x128, .f32⟩
  | .hbm, ⟨24, _⟩ => ⟨S1x4x128x128, .f32⟩
  | .hbm, ⟨25, _⟩ => ⟨S1x512, .f32⟩
  | .hbm, ⟨26, _⟩ => ⟨S1x512, .f32⟩
  | .hbm, ⟨27, _⟩ => ⟨S1x512, .f32⟩
  | .local _ .vmem, ⟨0, _⟩ => ⟨S1x6144, .f32⟩
  | .local _ .vmem, ⟨1, _⟩ => ⟨S1x6144, .f32⟩
  | .local _ .vmem, ⟨2, _⟩ => ⟨S1x6144, .f32⟩
  | .local _ .vmem, ⟨3, _⟩ => ⟨S1x6144, .f32⟩
  | .local _ .vmem, ⟨4, _⟩ => ⟨S3x1x64, .f32⟩
  | .local _ .vmem, ⟨5, _⟩ => ⟨S3x1x64, .f32⟩
  | .local _ .vmem, ⟨6, _⟩ => ⟨S3x1x64, .f32⟩
  | .local _ .vmem, ⟨7, _⟩ => ⟨S3x1x64, .f32⟩
  | .local _ .vmem, ⟨8, _⟩ => ⟨S1x4x128x128, .f32⟩
  | .local _ .vmem, ⟨9, _⟩ => ⟨S1x4x128x128, .f32⟩
  | .local _ .vmem, ⟨10, _⟩ => ⟨S1x4x128x128, .f32⟩
  | .local _ .vmem, ⟨11, _⟩ => ⟨S1x4x128x128, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x6144, .f32⟩
  | .local _ .vmem, ⟨17, _⟩ => ⟨S1x6144, .f32⟩
  | .local _ .vmem, ⟨18, _⟩ => ⟨S1x6144, .f32⟩
  | .local _ .vmem, ⟨19, _⟩ => ⟨S3x1x64, .f32⟩
  | .local _ .vmem, ⟨20, _⟩ => ⟨S3x1x64, .f32⟩
  | .local _ .vmem, ⟨21, _⟩ => ⟨S3x1x64, .f32⟩
  | .local _ .vmem, ⟨22, _⟩ => ⟨S1x4x128x128, .f32⟩
  | .local _ .vmem, ⟨23, _⟩ => ⟨S1x4x128x128, .f32⟩
  | .local _ .vmem, ⟨24, _⟩ => ⟨S1x4x128x128, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | _, _ => ⟨S1x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x6144 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x6144 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x6144 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S3x1x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S3x1x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S3x1x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x4x128x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x4x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x4x128x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== Reference8Ideal.lean ====
abbrev S1x6144 : Shape := ⟨2, ![1, 6144]⟩
abbrev S3x1x64 : Shape := ⟨3, ![3, 1, 64]⟩
abbrev S1x4x128x128 : Shape := ⟨4, ![1, 4, 128, 128]⟩
abbrev S1x512 : Shape := ⟨2, ![1, 512]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S1x6144, .f32⟩
  | 1 => ⟨S1x6144, .f32⟩
  | 2 => ⟨S1x6144, .f32⟩
  | 3 => ⟨S1x6144, .f32⟩
  | 4 => ⟨S3x1x64, .f32⟩
  | 5 => ⟨S3x1x64, .f32⟩
  | 6 => ⟨S3x1x64, .f32⟩
  | 7 => ⟨S3x1x64, .f32⟩
  | 8 => ⟨S1x4x128x128, .f32⟩
  | 9 => ⟨S1x4x128x128, .f32⟩
  | 10 => ⟨S1x4x128x128, .f32⟩
  | 11 => ⟨S1x4x128x128, .f32⟩
  | 12 => ⟨S1x512, .f32⟩
  | 13 => ⟨S1x512, .f32⟩
  | 14 => ⟨S1x512, .f32⟩
  | 15 => ⟨S1x512, .f32⟩
  | 16 => ⟨S_, .f32⟩
  | 17 => ⟨S1x6144, .f32⟩
  | 18 => ⟨S1x6144, .f32⟩
  | 19 => ⟨S_, .f32⟩
  | 20 => ⟨S1x6144, .f32⟩
  | 21 => ⟨S1x6144, .f32⟩
  | 22 => ⟨S1x6144, .f32⟩
  | 23 => ⟨S_, .f32⟩
  | 24 => ⟨S1x6144, .f32⟩
  | 25 => ⟨S1x6144, .f32⟩
  | 26 => ⟨S1x6144, .f32⟩
  | 27 => ⟨S_, .f32⟩
  | 28 => ⟨S1x6144, .f32⟩
  | 29 => ⟨S1x6144, .f32⟩
  | 30 => ⟨S1x6144, .f32⟩
  | 31 => ⟨S_, .f32⟩
  | 32 => ⟨S1x6144, .f32⟩
  | 33 => ⟨S1x6144, .f32⟩
  | 34 => ⟨S_, .f32⟩
  | 35 => ⟨S1x6144, .f32⟩
  | 36 => ⟨S1x6144, .f32⟩
  | 37 => ⟨S1x6144, .f32⟩
  | 38 => ⟨S_, .f32⟩
  | 39 => ⟨S1x6144, .f32⟩
  | 40 => ⟨S1x6144, .f32⟩
  | 41 => ⟨S1x6144, .f32⟩
  | 42 => ⟨S_, .f32⟩
  | 43 => ⟨S1x6144, .f32⟩
  | 44 => ⟨S1x6144, .f32⟩
  | 45 => ⟨S1x6144, .f32⟩
  | 46 => ⟨S_, .f32⟩
  | 47 => ⟨S1x6144, .f32⟩
  | 48 => ⟨S1x6144, .f32⟩
  | 49 => ⟨S_, .f32⟩
  | 50 => ⟨S3x1x64, .f32⟩
  | 51 => ⟨S3x1x64, .f32⟩
  | 52 => ⟨S_, .f32⟩
  | 53 => ⟨S3x1x64, .f32⟩
  | 54 => ⟨S3x1x64, .f32⟩
  | 55 => ⟨S3x1x64, .f32⟩
  | 56 => ⟨S_, .f32⟩
  | 57 => ⟨S3x1x64, .f32⟩
  | 58 => ⟨S3x1x64, .f32⟩
  | 59 => ⟨S3x1x64, .f32⟩
  | 60 => ⟨S_, .f32⟩
  | 61 => ⟨S3x1x64, .f32⟩
  | 62 => ⟨S3x1x64, .f32⟩
  | 63 => ⟨S3x1x64, .f32⟩
  | 64 => ⟨S_, .f32⟩
  | 65 => ⟨S3x1x64, .f32⟩
  | 66 => ⟨S3x1x64, .f32⟩
  | 67 => ⟨S_, .f32⟩
  | 68 => ⟨S3x1x64, .f32⟩
  | 69 => ⟨S3x1x64, .f32⟩
  | 70 => ⟨S3x1x64, .f32⟩
  | 71 => ⟨S_, .f32⟩
  | 72 => ⟨S3x1x64, .f32⟩
  | 73 => ⟨S3x1x64, .f32⟩
  | 74 => ⟨S3x1x64, .f32⟩
  | 75 => ⟨S_, .f32⟩
  | 76 => ⟨S3x1x64, .f32⟩
  | 77 => ⟨S3x1x64, .f32⟩
  | 78 => ⟨S3x1x64, .f32⟩
  | 79 => ⟨S_, .f32⟩
  | 80 => ⟨S3x1x64, .f32⟩
  | 81 => ⟨S3x1x64, .f32⟩
  | 82 => ⟨S_, .f32⟩
  | 83 => ⟨S1x4x128x128, .f32⟩
  | 84 => ⟨S1x4x128x128, .f32⟩
  | 85 => ⟨S_, .f32⟩
  | 86 => ⟨S1x4x128x128, .f32⟩
  | 87 => ⟨S1x4x128x128, .f32⟩
  | 88 => ⟨S1x4x128x128, .f32⟩
  | 89 => ⟨S_, .f32⟩
  | 90 => ⟨S1x4x128x128, .f32⟩
  | 91 => ⟨S1x4x128x128, .f32⟩
  | 92 => ⟨S1x4x128x128, .f32⟩
  | 93 => ⟨S_, .f32⟩
  | 94 => ⟨S1x4x128x128, .f32⟩
  | 95 => ⟨S1x4x128x128, .f32⟩
  | 96 => ⟨S1x4x128x128, .f32⟩
  | 97 => ⟨S_, .f32⟩
  | 98 => ⟨S1x4x128x128, .f32⟩
  | 99 => ⟨S1x4x128x128, .f32⟩
  | 100 => ⟨S_, .f32⟩
  | 101 => ⟨S1x4x128x128, .f32⟩
  | 102 => ⟨S1x4x128x128, .f32⟩
  | 103 => ⟨S1x4x128x128, .f32⟩
  | 104 => ⟨S_, .f32⟩
  | 105 => ⟨S1x4x128x128, .f32⟩
  | 106 => ⟨S1x4x128x128, .f32⟩
  | 107 => ⟨S1x4x128x128, .f32⟩
  | 108 => ⟨S_, .f32⟩
  | 109 => ⟨S1x4x128x128, .f32⟩
  | 110 => ⟨S1x4x128x128, .f32⟩
  | 111 => ⟨S1x4x128x128, .f32⟩
  | 112 => ⟨S_, .f32⟩
  | 113 => ⟨S1x4x128x128, .f32⟩
  | 114 => ⟨S1x4x128x128, .f32⟩
  | 115 => ⟨S_, .f32⟩
  | 116 => ⟨S1x512, .f32⟩
  | 117 => ⟨S1x512, .f32⟩
  | 118 => ⟨S_, .f32⟩
  | 119 => ⟨S1x512, .f32⟩
  | 120 => ⟨S1x512, .f32⟩
  | 121 => ⟨S1x512, .f32⟩
  | 122 => ⟨S_, .f32⟩
  | 123 => ⟨S1x512, .f32⟩
  | 124 => ⟨S1x512, .f32⟩
  | 125 => ⟨S1x512, .f32⟩
  | 126 => ⟨S_, .f32⟩
  | 127 => ⟨S1x512, .f32⟩
  | _ => ⟨S1x6144, .f32⟩

abbrev hbmTy0_1 (i : Nat) : BufTy := match i % 128 with
  | 0 => ⟨S1x512, .f32⟩
  | 1 => ⟨S1x512, .f32⟩
  | 2 => ⟨S_, .f32⟩
  | 3 => ⟨S1x512, .f32⟩
  | 4 => ⟨S1x512, .f32⟩
  | 5 => ⟨S_, .f32⟩
  | 6 => ⟨S1x512, .f32⟩
  | 7 => ⟨S1x512, .f32⟩
  | 8 => ⟨S1x512, .f32⟩
  | 9 => ⟨S_, .f32⟩
  | 10 => ⟨S1x512, .f32⟩
  | 11 => ⟨S1x512, .f32⟩
  | 12 => ⟨S1x512, .f32⟩
  | 13 => ⟨S_, .f32⟩
  | 14 => ⟨S1x512, .f32⟩
  | 15 => ⟨S1x512, .f32⟩
  | 16 => ⟨S1x512, .f32⟩
  | 17 => ⟨S_, .f32⟩
  | 18 => ⟨S1x512, .f32⟩
  | 19 => ⟨S1x512, .f32⟩
  | _ => ⟨S1x6144, .f32⟩

abbrev hbmTy (i : Nat) : BufTy := match i / 128 with
  | 0 => hbmTy0_0 i
  | 1 => hbmTy0_1 i
  | _ => ⟨S1x6144, .f32⟩

abbrev bufTy : (tb : Table) → Fin (tcTables nBuf tb) → BufTy
  | .hbm, ⟨i, _⟩ => hbmTy i
  | _, _ => ⟨S1x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Kernel9.lean ====
abbrev S1x1024 : Shape := ⟨2, ![1, 1024]⟩

abbrev nBuf : Space → Nat
  | .hbm => 28
  | .vmem => 28
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== Reference9Ideal.lean ====
abbrev S1x1024 : Shape := ⟨2, ![1, 1024]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S_, .f32⟩
  | 20 => ⟨S1x1024, .f32⟩
  | 21 => ⟨S1x1024, .f32⟩
  | 22 => ⟨S1x1024, .f32⟩
  | 23 => ⟨S_, .f32⟩
  | 24 => ⟨S1x1024, .f32⟩
  | 25 => ⟨S1x1024, .f32⟩
  | 26 => ⟨S1x1024, .f32⟩
  | 27 => ⟨S_, .f32⟩
  | 28 => ⟨S1x1024, .f32⟩
  | 29 => ⟨S1x1024, .f32⟩
  | 30 => ⟨S1x1024, .f32⟩
  | 31 => ⟨S_, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S1x1024, .f32⟩
  | 42 => ⟨S_, .f32⟩
  | 43 => ⟨S1x1024, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S_, .f32⟩
  | 50 => ⟨S1x1024, .f32⟩
  | 51 => ⟨S1x1024, .f32⟩
  | 52 => ⟨S_, .f32⟩
  | 53 => ⟨S1x1024, .f32⟩
  | 54 => ⟨S1x1024, .f32⟩
  | 55 => ⟨S1x1024, .f32⟩
  | 56 => ⟨S_, .f32⟩
  | 57 => ⟨S1x1024, .f32⟩
  | 58 => ⟨S1x1024, .f32⟩
  | 59 => ⟨S1x1024, .f32⟩
  | 60 => ⟨S_, .f32⟩
  | 61 => ⟨S1x1024, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S_, .f32⟩
  | 119 => ⟨S1x1024, .f32⟩
  | 120 => ⟨S1x1024, .f32⟩
  | 121 => ⟨S1x1024, .f32⟩
  | 122 => ⟨S_, .f32⟩
  | 123 => ⟨S1x1024, .f32⟩
  | 124 => ⟨S1x1024, .f32⟩
  | 125 => ⟨S1x1024, .f32⟩
  | 126 => ⟨S_, .f32⟩
  | 127 => ⟨S1x1024, .f32⟩
  | _ => ⟨S1x1024, .f32⟩

abbrev hbmTy0_1 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S1x1024, .f32⟩
  | 9 => ⟨S_, .f32⟩
  | 10 => ⟨S1x1024, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S1x1024, .f32⟩
  | 17 => ⟨S_, .f32⟩
  | 18 => ⟨S1x1024, .f32⟩
  | 19 => ⟨S1x1024, .f32⟩
  | _ => ⟨S1x1024, .f32⟩

abbrev hbmTy (i : Nat) : BufTy := match i / 128 with
  | 0 => hbmTy0_0 i
  | 1 => hbmTy0_1 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Proof.Reals.lean ====
/- Extended reals that are real numbers: the coercions of sums, maxima, quotients and reciprocal roots, the float literals the
   programs carry, and a real matrix read as an array of extended reals. -/
module

public import Idealize.ShloMosaic.Lib.Pointwise
public import Mathlib.Tactic.Ring
public import Mathlib.Tactic.FieldSimp
public import Mathlib.Tactic.Linarith
public import Mathlib.Tactic.Positivity

@[expose] public section

noncomputable section

namespace Cert.Reals

open Idealize.ShloMosaic

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals, as an extended real. -/
theorem coe_max (x y : ℝ) : ((max x y : ℝ) : EReal) = max (x : EReal) (y : EReal) :=
  EReal.coe_strictMono.monotone.map_max

/-- The quotient of two reals, the divisor not zero. -/
theorem div_real {y : ℝ} (h : y ≠ 0) (x : ℝ) : Ideal.div (x : EReal) (y : EReal) = ((x / y : ℝ) : EReal) := by
  rw [Ideal.div_coe h, ← EReal.coe_mul, mul_one_div]

/-- The reciprocal square root of a positive real. -/
theorem rsqrt_real {x : ℝ} (h : 0 < x) : Ideal.rsqrt (x : EReal) = (((Real.sqrt x)⁻¹ : ℝ) : EReal) := by
  rw [Ideal.rsqrt_coe, if_neg (not_lt.mpr h.le), if_neg h.ne']

/-- The residual scale of the sub-layers, the float nearest to 2^(1/4). -/
def alpha : ℝ := 9975792 / 8388608
/-- The variance offset of the layer norms. -/
def eps : ℝ := 10995116 / 1099511627776

theorem eps_pos : 0 < eps := by unfold eps; norm_num

theorem ofBits_alpha : Ideal.ofBits .f32 0x3F9837F0#32 = ((alpha : ℝ) : EReal) := by
  unfold alpha; simp [Ideal.ofBits, Ideal.ieee, -EReal.coe_mul]; norm_num
theorem ofBits_eps : Ideal.ofBits .f32 0x3727C5AC#32 = ((eps : ℝ) : EReal) := by
  unfold eps; simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
theorem ofBits_inv1024 : Ideal.ofBits .f32 0x3A800000#32 = ((1 / 1024 : ℝ) : EReal) := by
  simp [Ideal.ofBits, Ideal.ieee, -EReal.coe_mul]; norm_num
theorem ofBits_inv2048 : Ideal.ofBits .f32 0x3A000000#32 = ((1 / 2048 : ℝ) : EReal) := by
  simp [Ideal.ofBits, Ideal.ieee, -EReal.coe_mul]; norm_num

/-- A real matrix as an array of extended reals. -/
def up {n m : ℕ} (A : Fin n → Fin m → ℝ) : (⟨2, ![n, m]⟩ : Shape).Idx → EReal :=
  fun i => ((A (i 0) (i 1) : ℝ) : EReal)

theorem up_apply {n m : ℕ} (A : Fin n → Fin m → ℝ) (a : Fin n) (b : Fin m) : up A (ix2 a b) = ((A a b : ℝ) : EReal) := rfl

/-- A real vector as a one-row array of extended reals. -/
abbrev row {m : ℕ} (v : Fin m → ℝ) : (⟨2, ![1, m]⟩ : Shape).Idx → EReal := up fun _ : Fin 1 => v

/-- A real vector as a one-column array of extended reals. -/
abbrev col {n : ℕ} (v : Fin n → ℝ) : (⟨2, ![n, 1]⟩ : Shape).Idx → EReal := up fun r (_ : Fin 1) => v r

/-- A real vector as a vector of extended reals. -/
def upv {n : ℕ} (v : Fin n → ℝ) : (⟨1, ![n]⟩ : Shape).Idx → EReal := fun i => ((v (i 0) : ℝ) : EReal)

theorem upv_apply {n : ℕ} (v : Fin n → ℝ) (a : Fin n) : upv v (ix1 a) = ((v a : ℝ) : EReal) := rfl

/-- An array whose every element is the given real is that real matrix. -/
theorem eq_up {n m : ℕ} (v : (⟨2, ![n, m]⟩ : Shape).Idx → EReal) (A : Fin n → Fin m → ℝ)
    (h : ∀ a b, v (ix2 a b) = ((A a b : ℝ) : EReal)) : v = up A := by
  funext i
  obtain ⟨a, b, rfl⟩ : ∃ (a : Fin n) (b : Fin m), i = ix2 a b := ⟨i 0, i 1, eq_ix2 i⟩
  exact h a b

/-- The mean of a row of 1024 reals. -/
def mean (v : Fin 1024 → ℝ) : ℝ := (∑ j, v j) / 1024

end Cert.Reals

end
-- ==== Proof.MlpSpec.lean ====
/- The MLP sub-layer of one token and its gradient, over the reals: every quantity the kernel writes is one of these functions of
   the token's row, or a sum of them over tokens. -/
module

public import proofs.«01_k».proof.Proof.Reals

@[expose] public section

noncomputable section

namespace Cert.Mlp

open Cert.Reals

/-- The sub-layer's parameters as reals: the two layer norms, the modulation, the two weights. -/
structure Par where
  g1 : Fin 1024 → ℝ
  b1 : Fin 1024 → ℝ
  g2 : Fin 1024 → ℝ
  b2 : Fin 1024 → ℝ
  sh : Fin 1024 → ℝ
  sc : Fin 1024 → ℝ
  gt : Fin 1024 → ℝ
  W1 : Fin 1024 → Fin 4096 → ℝ
  W2 : Fin 4096 → Fin 1024 → ℝ

/-- The parameters that four arrays hold: the modulation's rows 3 to 5, the layer norms' rows, the weights. -/
def par (Md : Fin 6 → Fin 1024 → ℝ) (Ln : Fin 4 → Fin 1024 → ℝ) (W1 : Fin 1024 → Fin 4096 → ℝ) (W2 : Fin 4096 → Fin 1024 → ℝ) :
    Par where
  g1 := Ln 0
  b1 := Ln 1
  g2 := Ln 2
  b2 := Ln 3
  sh := Md 3
  sc := Md 4
  gt := Md 5
  W1 := W1
  W2 := W2

variable (p : Par) (x t : Fin 1024 → ℝ)

/-- The first layer norm's output. -/
def x1 (j : Fin 1024) : ℝ := x j * p.g1 j + p.b1 j
/-- The modulated input of the MLP. -/
def h (j : Fin 1024) : ℝ := x1 p x j * (1 + p.sc j) + p.sh j
/-- The hidden layer. -/
def u (k : Fin 4096) : ℝ := ∑ i, h p x i * p.W1 i k
def rl (k : Fin 4096) : ℝ := max (u p x k) 0
/-- The squared ReLU. -/
def a (k : Fin 4096) : ℝ := rl p x k * rl p x k
def f (j : Fin 1024) : ℝ := ∑ k, a p x k * p.W2 k j
/-- The residual sum the second layer norm reads. -/
def res (j : Fin 1024) : ℝ := alpha * x1 p x j + (1 + p.gt j) * f p x j
def cen (j : Fin 1024) : ℝ := res p x j - mean (res p x)
/-- The variance with its offset. -/
def va : ℝ := mean (fun j => cen p x j * cen p x j) + eps
def rs : ℝ := (Real.sqrt (va p x))⁻¹
def xh (j : Fin 1024) : ℝ := cen p x j * rs p x
/-- The output's difference from the target. -/
def d (j : Fin 1024) : ℝ := xh p x j * p.g2 j + p.b2 j - t j
def q (j : Fin 1024) : ℝ := d p x t j * (p.g2 j * (1 / 1024))
/-- The gradient at the residual sum. -/
def dr (j : Fin 1024) : ℝ :=
  rs p x * (q p x t j - mean (q p x t) - xh p x j * mean (fun i => q p x t i * xh p x i))
def df (j : Fin 1024) : ℝ := (1 + p.gt j) * dr p x t j
def da (k : Fin 4096) : ℝ := ∑ j, df p x t j * p.W2 k j
def du (k : Fin 4096) : ℝ := da p x t k * (2 * rl p x k)
def dh (j : Fin 1024) : ℝ := ∑ k, du p x t k * p.W1 j k
/-- The gradient at the first layer norm's output. -/
def dx (j : Fin 1024) : ℝ := alpha * dr p x t j + dh p x t j * (1 + p.sc j)

/-- The variance with its offset is positive. -/
theorem va_pos : 0 < va p x := by
  unfold va mean
  have : (0 : ℝ) ≤ ∑ j, cen p x j * cen p x j := Finset.sum_nonneg fun j _ => mul_self_nonneg _
  have := eps_pos
  positivity

/-- One token's contribution to the eight accumulated rows: the second norm's scale and offset gradients, the shift, scale and gate
    gradients of the modulation, the loss (in every column), and two rows of zeros. -/
def part (i : Fin 8) (j : Fin 1024) : ℝ :=
  match i with
  | 0 => d p x t j * xh p x j * (1 / 1024)
  | 1 => d p x t j * (1 / 1024)
  | 2 => dh p x t j
  | 3 => dh p x t j * x1 p x j
  | 4 => dr p x t j * f p x j
  | 5 => 1 / 2048 * ∑ l, d p x t l * d p x t l
  | 6 => 0
  | 7 => 0

/-! The hidden dimension in four chunks of 1024. -/

/-- Entry `k` of chunk `c`. -/
def ch (c : Fin 4) (k : Fin 1024) : Fin 4096 := ⟨1024 * c.val + k.val, by omega⟩

/-- A sum over the hidden dimension is the sum of its four chunks' sums. -/
theorem sum_ch (F : Fin 4096 → ℝ) :
    ∑ k, F k = (∑ k, F (ch 0 k)) + (∑ k, F (ch 1 k)) + (∑ k, F (ch 2 k)) + ∑ k, F (ch 3 k) := by
  have e : ∑ k, F k = ∑ q : Fin 4 × Fin 1024, F (ch q.1 q.2) :=
    (Fintype.sum_equiv (finProdFinEquiv (m := 4) (n := 1024)) (fun q => F (ch q.1 q.2)) F fun q => by
      refine congrArg F (Fin.ext ?_)
      simp [ch, finProdFinEquiv]; omega).symm
  rw [e, Fintype.sum_prod_type, Fin.sum_univ_four]

/-- Chunk `c`'s part of the second product. -/
def fc (c : Fin 4) (j : Fin 1024) : ℝ := ∑ k, a p x (ch c k) * p.W2 (ch c k) j
/-- Chunk `c`'s part of the gradient at the MLP's input. -/
def dhc (c : Fin 4) (j : Fin 1024) : ℝ := ∑ k, du p x t (ch c k) * p.W1 j (ch c k)

theorem f_ch (j : Fin 1024) : fc p x 0 j + fc p x 1 j + fc p x 2 j + fc p x 3 j = f p x j := by
  unfold fc f; exact (sum_ch fun k => a p x k * p.W2 k j).symm
theorem dh_ch (j : Fin 1024) : dhc p x t 0 j + dhc p x t 1 j + dhc p x t 2 j + dhc p x t 3 j = dh p x t j := by
  unfold dhc dh; exact (sum_ch fun k => du p x t k * p.W1 j k).symm

end Cert.Mlp

end
-- ==== Proof.KPay.lean ====
/- What each value the kernel's body computes is, its operands being real matrices: the functions of MlpSpec on the block's rows. -/
module

public import proofs.«01_k».proof.Proof.Gen.KernelIdeal.Skeleton
public import proofs.«01_k».proof.Proof.MlpSpec

@[expose] public section

set_option maxRecDepth 16384

noncomputable section

namespace Cert.KernelIdeal.Block

open Cert.KernelIdeal Cert.KernelIdeal.Gen Cert.Reals Cert.Mlp Idealize.ShloMosaic

variable (p : Par) (X T : Fin 512 → Fin 1024 → ℝ)

/-- A chunk of the first weight, and of the second. -/
abbrev w1c (c : Fin 4) : S1024x1024.Idx → EReal := up fun i k => p.W1 i (ch c k)
abbrev w2c (c : Fin 4) : S1024x1024.Idx → EReal := up fun k j => p.W2 (ch c k) j
/-- The rows' quantities the body carries from one value to the next. -/
abbrev bx1 : S512x1024.Idx → EReal := up fun r => x1 p (X r)
abbrev bh : S512x1024.Idx → EReal := up fun r => h p (X r)
abbrev brl (c : Fin 4) : S512x1024.Idx → EReal := up fun r k => rl p (X r) (ch c k)
abbrev ba (c : Fin 4) : S512x1024.Idx → EReal := up fun r k => a p (X r) (ch c k)
abbrev bf2 : S512x1024.Idx → EReal := up fun r j => fc p (X r) 0 j + fc p (X r) 1 j
abbrev bf : S512x1024.Idx → EReal := up fun r => f p (X r)
abbrev bcen : S512x1024.Idx → EReal := up fun r => cen p (X r)
abbrev bva : S512x1.Idx → EReal := col fun r => va p (X r)
abbrev bxh : S512x1024.Idx → EReal := up fun r => xh p (X r)
abbrev bd : S512x1024.Idx → EReal := up fun r => d p (X r) (T r)
abbrev bdr : S512x1024.Idx → EReal := up fun r => dr p (X r) (T r)
abbrev bdf : S512x1024.Idx → EReal := up fun r => df p (X r) (T r)
abbrev bda (c : Fin 4) : S512x1024.Idx → EReal := up fun r k => da p (X r) (T r) (ch c k)
abbrev bdu (c : Fin 4) : S512x1024.Idx → EReal := up fun r k => du p (X r) (T r) (ch c k)
abbrev bdh2 : S512x1024.Idx → EReal := up fun r j => dhc p (X r) (T r) 0 j + dhc p (X r) (T r) 1 j
abbrev bdh : S512x1024.Idx → EReal := up fun r => dh p (X r) (T r)
abbrev bdx : S512x1024.Idx → EReal := up fun r => dx p (X r) (T r)

theorem pay4_up :
    k0_pay4 (F := Ideal) (up X) (row p.g1) (row p.b1) = bx1 p X := by
  refine eq_up _ _ fun r j => ?_
  pointwise [k0_pay4, up]
  simp only [← EReal.coe_mul, ← EReal.coe_add, ← EReal.coe_sub, ← EReal.coe_one, ← EReal.coe_zero, ← coe_sum, ← coe_max, x1]

theorem pay5_up :
    k0_pay5 (F := Ideal) (row p.sh) (row p.sc) (up X) (row p.g1) (row p.b1) = bh p X := by
  refine eq_up _ _ fun r j => ?_
  pointwise [k0_pay5, k0_pay4, up]
  simp only [← EReal.coe_mul, ← EReal.coe_add, ← EReal.coe_sub, ← EReal.coe_one, ← EReal.coe_zero, ← coe_sum, ← coe_max, h, x1]

theorem pay6_up :
    k0_pay6 (F := Ideal) = up fun _ _ => 0 := by
  refine eq_up _ _ fun r j => ?_
  pointwise [k0_pay6, up]
  simp only [← EReal.coe_mul, ← EReal.coe_add, ← EReal.coe_sub, ← EReal.coe_one, ← EReal.coe_zero, ← coe_sum, ← coe_max]

theorem pay7_up :
    k0_pay7 (F := Ideal) (row p.sh) (row p.sc) (up X) (row p.g1) (row p.b1) (w1c p 0) = brl p X 0 := by
  refine eq_up _ _ fun r j => ?_
  rw [k0_pay7, pay5_up]
  pointwise [up]
  simp only [← EReal.coe_mul, ← EReal.coe_add, ← EReal.coe_sub, ← EReal.coe_one, ← EReal.coe_zero, ← coe_sum, ← coe_max, rl, u]

theorem pay8_up :
    k0_pay8 (F := Ideal) (row p.sh) (row p.sc) (up X) (row p.g1) (row p.b1) (w1c p 0) = brl p X 0 := by
  refine eq_up _ _ fun r j => ?_
  rw [k0_pay8, pay7_up]
  pointwise [up]

theorem pay9_up :
    k0_pay9 (F := Ideal) (row p.sh) (row p.sc) (up X) (row p.g1) (row p.b1) (w1c p 0) = ba p X 0 := by
  refine eq_up _ _ fun r j => ?_
  rw [k0_pay9, pay7_up]
  pointwise [up]
  simp only [← EReal.coe_mul, ← EReal.coe_add, ← EReal.coe_sub, ← EReal.coe_one, ← EReal.coe_zero, ← coe_sum, ← coe_max, a]

theorem pay11_up :
    k0_pay11 (F := Ideal) (bh p X) (w1c p 1) = brl p X 1 := by
  refine eq_up _ _ fun r j => ?_
  rw [k0_pay11]
  pointwise [up]
  simp only [← EReal.coe_mul, ← EReal.coe_add, ← EReal.coe_sub, ← EReal.coe_one, ← EReal.coe_zero, ← coe_sum, ← coe_max, rl, u]

theorem pay12_up :
    k0_pay12 (F := Ideal) (bh p X) (w1c p 1) = brl p X 1 := by
  refine eq_up _ _ fun r j => ?_
  rw [k0_pay12, pay11_up]
  pointwise [up]

theorem pay13_up :
    k0_pay13 (F := Ideal) (bh p X) (w1c p 1) = ba p X 1 := by
  refine eq_up _ _ fun r j => ?_
  rw [k0_pay13, pay11_up]
  pointwise [up]
  simp only [← EReal.coe_mul, ← EReal.coe_add, ← EReal.coe_sub, ← EReal.coe_one, ← EReal.coe_zero, ← coe_sum, ← coe_max, a]

theorem pay15_up :
    k0_pay15 (F := Ideal) (bh p X) (w1c p 2) = brl p X 2 := by
  refine eq_up _ _ fun r j => ?_
  rw [k0_pay15]
  pointwise [up]
  simp only [← EReal.coe_mul, ← EReal.coe_add, ← EReal.coe_sub, ← EReal.coe_one, ← EReal.coe_zero, ← coe_sum, ← coe_max, rl, u, max_comm (0 : ℝ)]

theorem pay16_up :
    k0_pay16 (F := Ideal) (bh p X) (w1c p 2) = brl p X 2 := by
  refine eq_up _ _ fun r j => ?_
  rw [k0_pay16, pay15_up]
  pointwise [up]

theorem pay17_up :
    k0_pay17 (F := Ideal) (bh p X) (w1c p 2) = ba p X 2 := by
  refine eq_up _ _ fun r j => ?_
  rw [k0_pay17, pay15_up]
  pointwise [up]
  simp only [← EReal.coe_mul, ← EReal.coe_add, ← EReal.coe_sub, ← EReal.coe_one, ← EReal.coe_zero, ← coe_sum, ← coe_max, a]

theorem pay18_up :
    k0_pay18 (F := Ideal) (bh p X) (w1c p 3) = brl p X 3 := by
  refine eq_up _ _ fun r j => ?_
  rw [k0_pay18]
  pointwise [up]
  simp only [← EReal.coe_mul, ← EReal.coe_add, ← EReal.coe_sub, ← EReal.coe_one, ← EReal.coe_zero, ← coe_sum, ← coe_max, rl, u]

theorem pay19_up :
    k0_pay19 (F := Ideal) (bh p X) (w1c p 3) = brl p X 3 := by
  refine eq_up _ _ fun r j => ?_
  rw [k0_pay19, pay18_up]
  pointwise [up]

theorem pay20_up :
    k0_pay20 (F := Ideal) (bh p X) (w1c p 3) = ba p X 3 := by
  refine eq_up _ _ fun r j => ?_
  rw [k0_pay20, pay18_up]
  pointwise [up]
  simp only [← EReal.coe_mul, ← EReal.coe_add, ← EReal.coe_sub, ← EReal.coe_one, ← EReal.coe_zero, ← coe_sum, ← coe_max, a]

/-- A conversion of a real matrix between float types keeps it. -/
theorem pay10_up (A : Fin 512 → Fin 1024 → ℝ) : k0_pay10 (F := Ideal) (up A) = up A := rfl

theorem pay14_up :
    k0_pay14 (F := Ideal) (bh p X) (up fun _ _ => 0) (ba p X 0) (w2c p 0) (w1c p 1) (w2c p 1) = bf2 p X := by
  refine eq_up _ _ fun r j => ?_
  rw [k0_pay14, pay10_up, pay13_up]
  pointwise [up]
  simp only [← EReal.coe_mul, ← EReal.coe_add, ← EReal.coe_sub, ← EReal.coe_one, ← EReal.coe_zero, ← coe_sum, ← coe_max, fc, zero_add]

theorem pay21_up :
    k0_pay21 (F := Ideal) (bh p X) (bf2 p X) (ba p X 2) (w2c p 2) (w1c p 3) (w2c p 3) = bf p X := by
  refine eq_up _ _ fun r j => ?_
  rw [k0_pay21, pay20_up]
  pointwise [up]
  simp only [← EReal.coe_mul, ← EReal.coe_add, ← EReal.coe_sub, ← EReal.coe_one, ← EReal.coe_zero, ← coe_sum, ← coe_max, ← f_ch, fc]

theorem pay22_up :
    k0_pay22 (F := Ideal) (row p.gt) (bx1 p X) (bh p X) (bf2 p X) (ba p X 2) (w2c p 2) (w1c p 3) (w2c p 3) = bcen p X := by
  refine eq_up _ _ fun r j => ?_
  rw [k0_pay22, pay21_up]
  pointwise [up]
  simp only [ofBits_alpha, ofBits_1024, div_real (by norm_num : (1024 : ℝ) ≠ 0), ← EReal.coe_mul, ← EReal.coe_add, ← EReal.coe_sub, ← EReal.coe_one, ← EReal.coe_zero, ← coe_sum, ← coe_max, cen, res, mean]

theorem pay23_up :
    k0_pay23 (F := Ideal) (row p.gt) (bx1 p X) (bh p X) (bf2 p X) (ba p X 2) (w2c p 2) (w1c p 3) (w2c p 3) = bva p X := by
  refine eq_up _ _ fun r j => ?_
  rw [k0_pay23, pay22_up]
  pointwise [up]
  simp only [ofBits_eps, ofBits_1024, div_real (by norm_num : (1024 : ℝ) ≠ 0), ← EReal.coe_mul, ← EReal.coe_add, ← EReal.coe_sub, ← EReal.coe_one, ← EReal.coe_zero, ← coe_sum, ← coe_max, va, mean]

theorem pay24_up :
    k0_pay24 (F := Ideal) (bva p X) = col fun r => rs p (X r) := by
  refine eq_up _ _ fun r j => ?_
  pointwise [k0_pay24, up]
  simp only [rsqrt_real (va_pos p _), ← EReal.coe_mul, ← EReal.coe_add, ← EReal.coe_sub, ← EReal.coe_one, ← EReal.coe_zero, ← coe_sum, ← coe_max, rs]

theorem pay25_up :
    k0_pay25 (F := Ideal) (bcen p X) (bva p X) = bxh p X := by
  refine eq_up _ _ fun r j => ?_
  rw [k0_pay25, pay24_up]
  pointwise [up]
  simp only [← EReal.coe_mul, ← EReal.coe_add, ← EReal.coe_sub, ← EReal.coe_one, ← EReal.coe_zero, ← coe_sum, ← coe_max, xh]

theorem pay26_up (v : Fin 1024 → ℝ) : k0_pay26 (F := Ideal) (row v) = row v := by
  refine eq_up _ _ fun r j => ?_
  pointwise [k0_pay26, up]

theorem pay27_up :
    k0_pay27 (F := Ideal) (bcen p X) (bva p X) (row p.g2) (row p.b2) (up T) = bd p X T := by
  refine eq_up _ _ fun r j => ?_
  rw [k0_pay27, pay25_up, pay26_up]
  pointwise [up]
  simp only [← EReal.coe_mul, ← EReal.coe_add, ← EReal.coe_sub, ← EReal.coe_one, ← EReal.coe_zero, ← coe_sum, ← coe_max, d]

theorem pay28_up :
    k0_pay28 (F := Ideal) (bcen p X) (bva p X) (row p.g2) (row p.b2) (up T) = bdr p X T := by
  refine eq_up _ _ fun r j => ?_
  rw [k0_pay28, pay24_up, pay25_up, pay26_up, pay27_up]
  pointwise [up]
  simp only [ofBits_inv1024, ofBits_1024, div_real (by norm_num : (1024 : ℝ) ≠ 0), ← EReal.coe_mul, ← EReal.coe_add, ← EReal.coe_sub, ← EReal.coe_one, ← EReal.coe_zero, ← coe_sum, ← coe_max, dr, q, mean]

theorem pay29_up :
    k0_pay29 (F := Ideal) (row p.gt) (bcen p X) (bva p X) (row p.g2) (row p.b2) (up T) = bdf p X T := by
  refine eq_up _ _ fun r j => ?_
  rw [k0_pay29, pay28_up]
  pointwise [up]
  simp only [← EReal.coe_mul, ← EReal.coe_add, ← EReal.coe_sub, ← EReal.coe_one, ← EReal.coe_zero, ← coe_sum, ← coe_max, df]

theorem pay30_up :
    k0_pay30 (F := Ideal) = up fun _ _ => 0 := by
  refine eq_up _ _ fun r j => ?_
  pointwise [k0_pay30, up]
  simp only [← EReal.coe_mul, ← EReal.coe_add, ← EReal.coe_sub, ← EReal.coe_one, ← EReal.coe_zero, ← coe_sum, ← coe_max]

theorem pay31_up (A : Fin 1024 → Fin 1024 → ℝ) : k0_pay31 (F := Ideal) (up A) = up A := by
  refine eq_up _ _ fun r j => ?_
  pointwise [k0_pay31, up]

theorem pay36_up (A : Fin 512 → Fin 1024 → ℝ) : k0_pay36 (F := Ideal) (up A) = up A := by
  refine eq_up _ _ fun r j => ?_
  pointwise [k0_pay36, up]

theorem pay32_up :
    k0_pay32 (F := Ideal) (bdf p X T) (w2c p 0) (brl p X 0) = bdu p X T 0 := by
  refine eq_up _ _ fun r j => ?_
  rw [k0_pay32]
  pointwise [up]
  simp only [ofBits_two, ← EReal.coe_mul, ← EReal.coe_add, ← EReal.coe_sub, ← EReal.coe_one, ← EReal.coe_zero, ← coe_sum, ← coe_max, du, da]

theorem pay33_up :
    k0_pay33 (F := Ideal) (bdf p X T) (w2c p 1) (brl p X 1) = bdu p X T 1 := by
  refine eq_up _ _ fun r j => ?_
  rw [k0_pay33]
  pointwise [up]
  simp only [ofBits_two, ← EReal.coe_mul, ← EReal.coe_add, ← EReal.coe_sub, ← EReal.coe_one, ← EReal.coe_zero, ← coe_sum, ← coe_max, du, da]

theorem pay34_up :
    k0_pay34 (F := Ideal) (bdf p X T) (up fun _ _ => 0) (w2c p 0) (brl p X 0) (w1c p 0) (w2c p 1) (brl p X 1) (w1c p 1) = bdh2 p X T := by
  refine eq_up _ _ fun r j => ?_
  rw [k0_pay34, pay32_up, pay33_up]
  pointwise [up]
  simp only [← EReal.coe_mul, ← EReal.coe_add, ← EReal.coe_sub, ← EReal.coe_one, ← EReal.coe_zero, ← coe_sum, ← coe_max, dhc, zero_add]

theorem pay35_up :
    k0_pay35 (F := Ideal) (bdf p X T) (w2c p 2) = bda p X T 2 := by
  refine eq_up _ _ fun r j => ?_
  rw [k0_pay35]
  pointwise [up]
  simp only [← EReal.coe_mul, ← EReal.coe_add, ← EReal.coe_sub, ← EReal.coe_one, ← EReal.coe_zero, ← coe_sum, ← coe_max, da]

theorem pay37_up :
    k0_pay37 (F := Ideal) (bda p X T 2) (brl p X 2) = bdu p X T 2 := by
  refine eq_up _ _ fun r j => ?_
  rw [k0_pay37]
  pointwise [up]
  simp only [ofBits_two, ← EReal.coe_mul, ← EReal.coe_add, ← EReal.coe_sub, ← EReal.coe_one, ← EReal.coe_zero, ← coe_sum, ← coe_max, du]

theorem pay38_up :
    k0_pay38 (F := Ideal) (bdf p X T) (w2c p 3) (brl p X 3) = bdu p X T 3 := by
  refine eq_up _ _ fun r j => ?_
  rw [k0_pay38]
  pointwise [up]
  simp only [ofBits_two, ← EReal.coe_mul, ← EReal.coe_add, ← EReal.coe_sub, ← EReal.coe_one, ← EReal.coe_zero, ← coe_sum, ← coe_max, du, da]

theorem pay39_up :
    k0_pay39 (F := Ideal) (bdf p X T) (bdh2 p X T) (bda p X T 2) (brl p X 2) (w1c p 2) (w2c p 3) (brl p X 3) (w1c p 3) = bdh p X T := by
  refine eq_up _ _ fun r j => ?_
  rw [k0_pay39, pay37_up, pay38_up]
  pointwise [up]
  simp only [← EReal.coe_mul, ← EReal.coe_add, ← EReal.coe_sub, ← EReal.coe_one, ← EReal.coe_zero, ← coe_sum, ← coe_max, ← dh_ch, dhc]

theorem pay40_up :
    k0_pay40 (F := Ideal) (row p.sc) (bdr p X T) (bdf p X T) (bdh2 p X T) (bda p X T 2) (brl p X 2) (w1c p 2) (w2c p 3) (brl p X 3) (w1c p 3) = bdx p X T := by
  refine eq_up _ _ fun r j => ?_
  rw [k0_pay40, pay39_up]
  pointwise [up]
  simp only [ofBits_alpha, ← EReal.coe_mul, ← EReal.coe_add, ← EReal.coe_sub, ← EReal.coe_one, ← EReal.coe_zero, ← coe_sum, ← coe_max, dx]

/-! The accumulated rows: what is added to a row is the sum of the tokens' parts. -/

theorem pay41_up (V : Fin 1024 → ℝ) :
    k0_pay41 (F := Ideal) (bxh p X) (bd p X T) (row V) = row fun j => V j + ∑ r, part p (X r) (T r) 0 j := by
  refine eq_up _ _ fun r j => ?_
  rw [k0_pay41]
  pointwise [up]
  simp only [ofBits_inv1024, ← EReal.coe_mul, ← EReal.coe_add, ← EReal.coe_sub, ← EReal.coe_one, ← EReal.coe_zero, ← coe_sum, ← coe_max, part, Finset.sum_mul]

theorem pay42_up (V : Fin 1024 → ℝ) :
    k0_pay42 (F := Ideal) (bd p X T) (row V) = row fun j => V j + ∑ r, part p (X r) (T r) 1 j := by
  refine eq_up _ _ fun r j => ?_
  rw [k0_pay42]
  pointwise [up]
  simp only [ofBits_inv1024, ← EReal.coe_mul, ← EReal.coe_add, ← EReal.coe_sub, ← EReal.coe_one, ← EReal.coe_zero, ← coe_sum, ← coe_max, part, Finset.sum_mul]

theorem pay43_up (V : Fin 1024 → ℝ) :
    k0_pay43 (F := Ideal) (bdh p X T) (row V) = row fun j => V j + ∑ r, part p (X r) (T r) 2 j := by
  refine eq_up _ _ fun r j => ?_
  rw [k0_pay43]
  pointwise [up]
  simp only [← EReal.coe_mul, ← EReal.coe_add, ← EReal.coe_sub, ← EReal.coe_one, ← EReal.coe_zero, ← coe_sum, ← coe_max, part]

theorem pay44_up (V : Fin 1024 → ℝ) :
    k0_pay44 (F := Ideal) (bx1 p X) (bdh p X T) (row V) = row fun j => V j + ∑ r, part p (X r) (T r) 3 j := by
  refine eq_up _ _ fun r j => ?_
  rw [k0_pay44]
  pointwise [up]
  simp only [← EReal.coe_mul, ← EReal.coe_add, ← EReal.coe_sub, ← EReal.coe_one, ← EReal.coe_zero, ← coe_sum, ← coe_max, part]

theorem pay45_up (v : Fin 1024 → ℝ) : k0_pay45 (F := Ideal) (row v) = row v := by
  refine eq_up _ _ fun r j => ?_
  pointwise [k0_pay45, up]

theorem pay46_up (V : Fin 1024 → ℝ) :
    k0_pay1 (F := Ideal) (row V) (k0_pay46 (bf p X) (bdr p X T)) = row fun j => V j + ∑ r, part p (X r) (T r) 4 j := by
  refine eq_up _ _ fun r j => ?_
  rw [k0_pay1, k0_pay46]
  pointwise [up]
  simp only [← EReal.coe_mul, ← EReal.coe_add, ← EReal.coe_sub, ← EReal.coe_one, ← EReal.coe_zero, ← coe_sum, ← coe_max, part]

/-- The sum over every entry of a block cast to another shape is the sum over its rows and columns. -/
theorem total_cast (x : FVec Ideal S512x1024 .f32) (h : S512x1024.ShapeCasts S1x512x1024) :
    ∑ i, shapeCast S1x512x1024 x h i = ∑ r : Fin 512, ∑ j : Fin 1024, x (ix2 r j) := by
  rw [← sum_idx2]
  exact Equiv.sum_comp (Shape.reshapeEquiv h) x

theorem pay2_up (V : Fin 1024 → ℝ) :
    k0_pay2 (F := Ideal) (bd p X T) (row V) = row fun j => V j + ∑ r, part p (X r) (T r) 5 j := by
  refine eq_up _ _ fun r j => ?_
  have hM : ∀ i, multiReduction (F := Ideal) .add [1, 2] S1 (shapeCast S1x512x1024 (mulf (F := Ideal) (φ := .f32) (bd p X T) (bd p X T))
      shapeCasts_S512x1024_S1x512x1024) 0x00000000#32 reduces_S1x512x1024_S1 (.inl rfl) rfl i
        = ((∑ r, ∑ l, d p (X r) (T r) l * d p (X r) (T r) l : ℝ) : EReal) := by
    intro i
    refine (Ideal.multiReduction_add_total (shapeCast S1x512x1024 (mulf (F := Ideal) (φ := .f32) (bd p X T) (bd p X T))
      shapeCasts_S512x1024_S1x512x1024) _ reduces_S1x512x1024_S1 (by decide) (.inl rfl) rfl i).trans ?_
    rw [total_cast]
    simp only [coe_sum, EReal.coe_mul]
    rfl
  unfold k0_pay2
  dsimp only
  generalize multiReduction (F := Ideal) .add [1, 2] S1 (shapeCast S1x512x1024 (mulf (F := Ideal) (φ := .f32) (bd p X T) (bd p X T))
      shapeCasts_S512x1024_S1x512x1024) 0x00000000#32 reduces_S1x512x1024_S1 (.inl rfl) rfl = M at hM
  obtain rfl : M = fun _ => ((∑ r, ∑ l, d p (X r) (T r) l * d p (X r) (T r) l : ℝ) : EReal) := funext hM
  pointwise [up]
  simp only [ofBits_inv2048, ← EReal.coe_mul, ← EReal.coe_add, ← EReal.coe_zero, ← coe_sum, part, Finset.mul_sum, zero_add]

end Cert.KernelIdeal.Block

end
-- ==== Proof.Loads.lean ====
/- What the body's loads of its operands read, as the sub-layer's parameters, and what it reads back of its own stores. -/
module

public import proofs.«01_k».proof.Proof.KPay
public import Idealize.ShloMosaic.Lib.Pipeline.ValueKit.Tiles

@[expose] public section

set_option maxRecDepth 16384

noncomputable section

namespace Cert.KernelIdeal.Block

open Cert.KernelIdeal Cert.KernelIdeal.Gen Cert.Reals Cert.Mlp Idealize.ShloMosaic

variable (Md : Fin 6 → Fin 1024 → ℝ) (Ln : Fin 4 → Fin 1024 → ℝ) (W1 : Fin 1024 → Fin 4096 → ℝ) (W2 : Fin 4096 → Fin 1024 → ℝ)

/-- A load of a box of a real matrix is the box of the matrix (f32 words; bf16 words). -/
theorem ld_up {n m s0 s1 o0 o1 : ℕ} (A : Fin n → Fin m → ℝ) (h0 : o0 + s0 ≤ n) (h1 : o1 + s1 ≤ m)
    (inb : ∀ a, (![o0, o1] : Fin 2 → ℕ) a + (![s0, s1] : Fin 2 → ℕ) a ≤ (⟨2, ![n, m]⟩ : Shape).size a) :
    View.ld (Val := Elt Ideal) (S := ⟨2, ![n, m]⟩) (e' := .f32) (up A) (Rect.unit ![o0, o1] ![s0, s1] inb)
      = up fun (i : Fin s0) (j : Fin s1) => A ⟨o0 + i.val, by omega⟩ ⟨o1 + j.val, by omega⟩ := by
  funext x
  refine View.ld_unit_apply_of (Val := Elt Ideal) (e := .f32) (up A) ![o0, o1] ![s0, s1] inb x
    (ix2 ⟨o0 + (x 0).val, by have : (x 0).val < s0 := (x 0).isLt; omega⟩ ⟨o1 + (x 1).val, by have : (x 1).val < s1 := (x 1).isLt; omega⟩) fun a => ?_
  fin_cases a <;> rfl

theorem ld_up_bf16 {n m s0 s1 o0 o1 : ℕ} (A : Fin n → Fin m → ℝ) (h0 : o0 + s0 ≤ n) (h1 : o1 + s1 ≤ m)
    (inb : ∀ a, (![o0, o1] : Fin 2 → ℕ) a + (![s0, s1] : Fin 2 → ℕ) a ≤ (⟨2, ![n, m]⟩ : Shape).size a) :
    View.ld (Val := Elt Ideal) (S := ⟨2, ![n, m]⟩) (e' := .bf16) (up A) (Rect.unit ![o0, o1] ![s0, s1] inb)
      = up fun (i : Fin s0) (j : Fin s1) => A ⟨o0 + i.val, by omega⟩ ⟨o1 + j.val, by omega⟩ :=
  ld_up A h0 h1 inb

/-- The load of a whole block. -/
theorem ld_whole (X : Fin 512 → Fin 1024 → ℝ) (inb) :
    View.ld (Val := Elt Ideal) (S := S512x1024) (e' := .f32) (up X) (Rect.unit ![0, 0] ![512, 1024] inb) = up X := by
  rw [ld_up X (by norm_num) (by norm_num) inb]; simp only [Nat.zero_add, Fin.eta]

/-- The load of one row. -/
theorem ld_row {n : ℕ} (A : Fin n → Fin 1024 → ℝ) (o : Fin n)
    (inb : ∀ a, (![o.val, 0] : Fin 2 → ℕ) a + (![1, 1024] : Fin 2 → ℕ) a ≤ (⟨2, ![n, 1024]⟩ : Shape).size a) :
    View.ld (Val := Elt Ideal) (S := ⟨2, ![n, 1024]⟩) (e' := .f32) (up A) (Rect.unit ![o.val, 0] ![1, 1024] inb) = row (A o) := by
  rw [ld_up A (by omega) (by norm_num) inb]
  refine eq_up _ _ fun a b => ?_
  simp only [up_apply, Fin.val_eq_zero, Nat.add_zero, Nat.zero_add, Fin.eta]

theorem ld_sh (inb) : View.ld (Val := Elt Ideal) (S := S6x1024) (e' := .f32) (up Md) (Rect.unit ![3, 0] ![1, 1024] inb)
    = row (par Md Ln W1 W2).sh := ld_row Md 3 inb
theorem ld_sc (inb) : View.ld (Val := Elt Ideal) (S := S6x1024) (e' := .f32) (up Md) (Rect.unit ![4, 0] ![1, 1024] inb)
    = row (par Md Ln W1 W2).sc := ld_row Md 4 inb
theorem ld_gt (inb) : View.ld (Val := Elt Ideal) (S := S6x1024) (e' := .f32) (up Md) (Rect.unit ![5, 0] ![1, 1024] inb)
    = row (par Md Ln W1 W2).gt := ld_row Md 5 inb
theorem ld_g1 (inb) : View.ld (Val := Elt Ideal) (S := S4x1024) (e' := .f32) (up Ln) (Rect.unit ![0, 0] ![1, 1024] inb)
    = row (par Md Ln W1 W2).g1 := ld_row Ln 0 inb
theorem ld_b1 (inb) : View.ld (Val := Elt Ideal) (S := S4x1024) (e' := .f32) (up Ln) (Rect.unit ![1, 0] ![1, 1024] inb)
    = row (par Md Ln W1 W2).b1 := ld_row Ln 1 inb
theorem ld_g2 (inb) : View.ld (Val := Elt Ideal) (S := S4x1024) (e' := .f32) (up Ln) (Rect.unit ![2, 0] ![1, 1024] inb)
    = row (par Md Ln W1 W2).g2 := ld_row Ln 2 inb
theorem ld_b2 (inb) : View.ld (Val := Elt Ideal) (S := S4x1024) (e' := .f32) (up Ln) (Rect.unit ![3, 0] ![1, 1024] inb)
    = row (par Md Ln W1 W2).b2 := ld_row Ln 3 inb

/-- The load of a chunk of the first weight's columns, and of the second's rows. -/
theorem ld_w1 (c : Fin 4) (inb) : View.ld (Val := Elt Ideal) (S := S1024x4096) (e' := .bf16) (up W1)
    (Rect.unit ![0, 1024 * c.val] ![1024, 1024] inb) = w1c (par Md Ln W1 W2) c := by
  rw [ld_up_bf16 W1 (by norm_num) (by omega) inb]; simp only [Nat.zero_add, Fin.eta]; rfl

theorem ld_w2 (c : Fin 4) (inb) : View.ld (Val := Elt Ideal) (S := S4096x1024) (e' := .bf16) (up W2)
    (Rect.unit ![1024 * c.val, 0] ![1024, 1024] inb) = w2c (par Md Ln W1 W2) c := by
  rw [ld_up_bf16 W2 (by omega) (by norm_num) inb]; simp only [Nat.zero_add, Fin.eta]; rfl

theorem ld_w1_0 (inb) : View.ld (Val := Elt Ideal) (S := S1024x4096) (e' := .bf16) (up W1)
    (Rect.unit ![0, 0] ![1024, 1024] inb) = w1c (par Md Ln W1 W2) 0 := ld_w1 Md Ln W1 W2 0 inb
theorem ld_w2_0 (inb) : View.ld (Val := Elt Ideal) (S := S4096x1024) (e' := .bf16) (up W2)
    (Rect.unit ![0, 0] ![1024, 1024] inb) = w2c (par Md Ln W1 W2) 0 := ld_w2 Md Ln W1 W2 0 inb
theorem ld_w1_1 (inb) : View.ld (Val := Elt Ideal) (S := S1024x4096) (e' := .bf16) (up W1)
    (Rect.unit ![0, 1024] ![1024, 1024] inb) = w1c (par Md Ln W1 W2) 1 := ld_w1 Md Ln W1 W2 1 inb
theorem ld_w2_1 (inb) : View.ld (Val := Elt Ideal) (S := S4096x1024) (e' := .bf16) (up W2)
    (Rect.unit ![1024, 0] ![1024, 1024] inb) = w2c (par Md Ln W1 W2) 1 := ld_w2 Md Ln W1 W2 1 inb
theorem ld_w1_2 (inb) : View.ld (Val := Elt Ideal) (S := S1024x4096) (e' := .bf16) (up W1)
    (Rect.unit ![0, 2048] ![1024, 1024] inb) = w1c (par Md Ln W1 W2) 2 := ld_w1 Md Ln W1 W2 2 inb
theorem ld_w2_2 (inb) : View.ld (Val := Elt Ideal) (S := S4096x1024) (e' := .bf16) (up W2)
    (Rect.unit ![2048, 0] ![1024, 1024] inb) = w2c (par Md Ln W1 W2) 2 := ld_w2 Md Ln W1 W2 2 inb
theorem ld_w1_3 (inb) : View.ld (Val := Elt Ideal) (S := S1024x4096) (e' := .bf16) (up W1)
    (Rect.unit ![0, 3072] ![1024, 1024] inb) = w1c (par Md Ln W1 W2) 3 := ld_w1 Md Ln W1 W2 3 inb
theorem ld_w2_3 (inb) : View.ld (Val := Elt Ideal) (S := S4096x1024) (e' := .bf16) (up W2)
    (Rect.unit ![3072, 0] ![1024, 1024] inb) = w2c (par Md Ln W1 W2) 3 := ld_w2 Md Ln W1 W2 3 inb

/-- A chunk of the buffer of the hidden gradient read back after another chunk was stored reads the earlier stores. -/
theorem back_other {sig : RefSig} {κ : Kind} {sp : Space} (v : View sig κ sp S512x4096 .bf16) (o o' : ℕ) (inb inb')
    (w : S512x1024.Idx → Elt Ideal .bf16) (L : List (View.Piece (Elt Ideal) S512x4096 .bf16)) (h : o + 1024 ≤ o' ∨ o' + 1024 ≤ o) :
    v.readCov (⟨Rect.unit ![0, o] ![512, 1024] inb, w⟩ :: L) (Rect.unit ![0, o'] ![512, 1024] inb').toLoadRect
      = v.readCov L (Rect.unit ![0, o'] ![512, 1024] inb').toLoadRect :=
  View.readCov_cons_of_disjoint v _ L _ (Rect.unit_disjoint (s := S512x4096) (inb := inb) (inb' := inb') 1 h)

/-- A chunk just stored is read back as stored. -/
theorem back_same {sig : RefSig} {κ : Kind} {sp : Space} (v : View sig κ sp S512x4096 .bf16) (o : ℕ) (inb inb')
    (w : S512x1024.Idx → Elt Ideal .bf16) (L : List (View.Piece (Elt Ideal) S512x4096 .bf16)) :
    v.readCov (⟨Rect.unit ![0, o] ![512, 1024] inb, w⟩ :: L) (Rect.unit ![0, o] ![512, 1024] inb').toLoadRect = w :=
  View.readCov_cons_toLoadRect v (Rect.unit (s := S512x4096) ![0, o] ![512, 1024] inb) w L

/-- The same two facts, the store a real matrix. -/
theorem back_skip {sig : RefSig} {κ : Kind} {sp : Space} (v : View sig κ sp S512x4096 .bf16) (o o' : ℕ) (inb inb')
    (A : Fin 512 → Fin 1024 → ℝ) (L : List (View.Piece (Elt Ideal) S512x4096 .bf16)) (h : o + 1024 ≤ o' ∨ o' + 1024 ≤ o) :
    v.readCov (⟨Rect.unit ![0, o] ![512, 1024] inb, up A⟩ :: L) (Rect.unit ![0, o'] ![512, 1024] inb').toLoadRect
      = v.readCov L (Rect.unit ![0, o'] ![512, 1024] inb').toLoadRect :=
  back_other v o o' inb inb' (up A) L h

theorem back_hit {sig : RefSig} {κ : Kind} {sp : Space} (v : View sig κ sp S512x4096 .bf16) (o : ℕ) (inb inb')
    (A : Fin 512 → Fin 1024 → ℝ) (L : List (View.Piece (Elt Ideal) S512x4096 .bf16)) :
    v.readCov (⟨Rect.unit ![0, o] ![512, 1024] inb, up A⟩ :: L) (Rect.unit ![0, o] ![512, 1024] inb').toLoadRect = up A :=
  back_same v o inb inb' (up A) L

end Cert.KernelIdeal.Block

end
-- ==== Proof.Stores.lean ====
/- What a buffer holds after the body's stores: four chunks of columns, six single rows. -/
module

public import proofs.«01_k».proof.Proof.Loads

@[expose] public section

set_option maxRecDepth 16384

noncomputable section

namespace Cert.KernelIdeal.Block

open Cert.KernelIdeal Cert.KernelIdeal.Gen Cert.Reals Cert.Mlp Idealize.ShloMosaic

/-- An element under the newest store, the store a real matrix. -/
theorem hit {sig : RefSig} {κ : Kind} {sp : Space} {e : EltTy} {n m s0 s1 : ℕ} (h : Elt Ideal e = EReal)
    (v : View sig κ sp (⟨2, ![n, m]⟩ : Shape) e) (f : v.ty.Contents (Elt Ideal)) (o0 o1 : ℕ) (inb)
    (w : (⟨2, ![s0, s1]⟩ : Shape).Idx → Elt Ideal e) (L : List (View.Piece (Elt Ideal) (⟨2, ![n, m]⟩ : Shape) e))
    (a : Fin n) (b : Fin m) (i : Fin s0) (j : Fin s1) (ha : a.val = o0 + i.val) (hb : b.val = o1 + j.val) :
    v.read (Elt Ideal) (v.writes (Elt Ideal) f (⟨Rect.unit ![o0, o1] ![s0, s1] inb, w⟩ :: L)) (ix2 a b) = w (ix2 i j) :=
  View.read_writes_cons_hit_of_coords v f (Rect.unit (s := (⟨2, ![n, m]⟩ : Shape)) ![o0, o1] ![s0, s1] inb) w L (ix2 i j) (ix2 a b) fun x => by
    fin_cases x
    · show a.val = o0 + 1 * i.val; omega
    · show b.val = o1 + 1 * j.val; omega

/-- Four chunks of columns stored last hold the matrix they are cut from, whatever was there before. -/
theorem cols_written {sig : RefSig} {κ : Kind} {sp : Space} (v : View sig κ sp S512x4096 .bf16) (f : v.ty.Contents (Elt Ideal))
    (G : Fin 512 → Fin 4096 → ℝ) (i0 i1 i2 i3) (L : List (View.Piece (Elt Ideal) S512x4096 .bf16)) :
    v.read (Elt Ideal) (v.writes (Elt Ideal) f
      (⟨Rect.unit ![0, 3072] ![512, 1024] i3, up fun r k => G r (ch 3 k)⟩
        :: ⟨Rect.unit ![0, 2048] ![512, 1024] i2, up fun r k => G r (ch 2 k)⟩
        :: ⟨Rect.unit ![0, 1024] ![512, 1024] i1, up fun r k => G r (ch 1 k)⟩
        :: ⟨Rect.unit ![0, 0] ![512, 1024] i0, up fun r k => G r (ch 0 k)⟩ :: L)) = up G := by
  refine eq_up _ _ fun a b => ?_
  have hb := b.isLt
  have key : ∀ c : Fin 4, 1024 * c.val ≤ b.val → b.val < 1024 * c.val + 1024 →
      ∃ k : Fin 1024, b.val = 1024 * c.val + k.val ∧ b = ch c k := fun c h1 h2 =>
    ⟨⟨b.val - 1024 * c.val, by omega⟩, by show b.val = 1024 * c.val + (b.val - 1024 * c.val); omega,
      Fin.ext (by show b.val = 1024 * c.val + (b.val - 1024 * c.val); omega)⟩
  by_cases h3 : 3072 ≤ b.val
  · obtain ⟨k, hk, rfl⟩ := key 3 h3 hb
    rw [hit rfl v f 0 3072 i3 _ _ a _ a k (by omega) hk]; rfl
  rw [View.read_writes_cons_miss_of_axis v f _ _ (ix2 a b) (1 : Fin 2) 3072 1024 rfl rfl rfl (Or.inl (by show b.val < 3072; omega))]
  by_cases h2 : 2048 ≤ b.val
  · obtain ⟨k, hk, rfl⟩ := key 2 h2 (by show b.val < 3072; omega)
    rw [hit rfl v f 0 2048 i2 _ _ a _ a k (by omega) hk]; rfl
  rw [View.read_writes_cons_miss_of_axis v f _ _ (ix2 a b) (1 : Fin 2) 2048 1024 rfl rfl rfl (Or.inl (by show b.val < 2048; omega))]
  by_cases h1 : 1024 ≤ b.val
  · obtain ⟨k, hk, rfl⟩ := key 1 h1 (by show b.val < 2048; omega)
    rw [hit rfl v f 0 1024 i1 _ _ a _ a k (by omega) hk]; rfl
  rw [View.read_writes_cons_miss_of_axis v f _ _ (ix2 a b) (1 : Fin 2) 1024 1024 rfl rfl rfl (Or.inl (by show b.val < 1024; omega))]
  obtain ⟨k, hk, rfl⟩ := key 0 (by show 0 ≤ b.val; omega) (by show b.val < 1024; omega)
  rw [hit rfl v f 0 0 i0 _ _ a _ a k (by omega) hk]; rfl

/-- Six rows stored last hold the rows of the matrix they are cut from; the other two rows are what they were. -/
theorem rows_written {sig : RefSig} {κ : Kind} {sp : Space} (v : View sig κ sp S8x1024 .f32) (f : v.ty.Contents (Elt Ideal))
    (V R : Fin 8 → Fin 1024 → ℝ) (hf : v.read (Elt Ideal) f = up V) (h6 : R 6 = V 6) (h7 : R 7 = V 7) (i0 i1 i2 i3 i4 i5) :
    v.read (Elt Ideal) (v.writes (Elt Ideal) f
      [⟨Rect.unit ![5, 0] ![1, 1024] i5, row (R 5)⟩, ⟨Rect.unit ![4, 0] ![1, 1024] i4, row (R 4)⟩,
        ⟨Rect.unit ![3, 0] ![1, 1024] i3, row (R 3)⟩, ⟨Rect.unit ![2, 0] ![1, 1024] i2, row (R 2)⟩,
        ⟨Rect.unit ![1, 0] ![1, 1024] i1, row (R 1)⟩, ⟨Rect.unit ![0, 0] ![1, 1024] i0, row (R 0)⟩]) = up R := by
  refine eq_up _ _ fun a b => ?_
  by_cases e5 : a = 5
  · subst e5; rw [hit rfl v f 5 0 i5 _ _ _ b 0 b rfl (by omega)]; rfl
  rw [View.read_writes_cons_miss_of_axis v f _ _ (ix2 a b) (0 : Fin 2) 5 1 rfl rfl rfl (by show a.val < 5 ∨ 6 ≤ a.val; omega)]
  by_cases e4 : a = 4
  · subst e4; rw [hit rfl v f 4 0 i4 _ _ _ b 0 b rfl (by omega)]; rfl
  rw [View.read_writes_cons_miss_of_axis v f _ _ (ix2 a b) (0 : Fin 2) 4 1 rfl rfl rfl (by show a.val < 4 ∨ 5 ≤ a.val; omega)]
  by_cases e3 : a = 3
  · subst e3; rw [hit rfl v f 3 0 i3 _ _ _ b 0 b rfl (by omega)]; rfl
  rw [View.read_writes_cons_miss_of_axis v f _ _ (ix2 a b) (0 : Fin 2) 3 1 rfl rfl rfl (by show a.val < 3 ∨ 4 ≤ a.val; omega)]
  by_cases e2 : a = 2
  · subst e2; rw [hit rfl v f 2 0 i2 _ _ _ b 0 b rfl (by omega)]; rfl
  rw [View.read_writes_cons_miss_of_axis v f _ _ (ix2 a b) (0 : Fin 2) 2 1 rfl rfl rfl (by show a.val < 2 ∨ 3 ≤ a.val; omega)]
  by_cases e1 : a = 1
  · subst e1; rw [hit rfl v f 1 0 i1 _ _ _ b 0 b rfl (by omega)]; rfl
  rw [View.read_writes_cons_miss_of_axis v f _ _ (ix2 a b) (0 : Fin 2) 1 1 rfl rfl rfl (by show a.val < 1 ∨ 2 ≤ a.val; omega)]
  by_cases e0 : a = 0
  · subst e0; rw [hit rfl v f 0 0 i0 _ _ _ b 0 b rfl (by omega)]; rfl
  rw [View.read_writes_cons_miss_of_axis v f _ _ (ix2 a b) (0 : Fin 2) 0 1 rfl rfl rfl (by show a.val < 0 ∨ 1 ≤ a.val; omega)]
  rw [View.writes_nil, hf]
  obtain rfl | rfl : a = 6 ∨ a = 7 := by omega
  · rw [up_apply, h6]
  · rw [up_apply, h7]

/-- A row of the accumulator read back after another row was stored reads the earlier stores. -/
theorem row_other {sig : RefSig} {κ : Kind} {sp : Space} (v : View sig κ sp S8x1024 .f32) (o o' : ℕ) (inb inb')
    (w : S1x1024.Idx → Elt Ideal .f32) (L : List (View.Piece (Elt Ideal) S8x1024 .f32)) (h : o + 1 ≤ o' ∨ o' + 1 ≤ o) :
    v.readCov (⟨Rect.unit ![o, 0] ![1, 1024] inb, w⟩ :: L) (Rect.unit ![o', 0] ![1, 1024] inb').toLoadRect
      = v.readCov L (Rect.unit ![o', 0] ![1, 1024] inb').toLoadRect :=
  View.readCov_cons_of_disjoint v _ L _ (Rect.unit_disjoint (s := S8x1024) (inb := inb) (inb' := inb') 0 h)

theorem row_skip {sig : RefSig} {κ : Kind} {sp : Space} (v : View sig κ sp S8x1024 .f32) (o o' : ℕ) (inb inb')
    (w : Fin 1024 → ℝ) (L : List (View.Piece (Elt Ideal) S8x1024 .f32)) (h : o + 1 ≤ o' ∨ o' + 1 ≤ o) :
    v.readCov (⟨Rect.unit ![o, 0] ![1, 1024] inb, row w⟩ :: L) (Rect.unit ![o', 0] ![1, 1024] inb').toLoadRect
      = v.readCov L (Rect.unit ![o', 0] ![1, 1024] inb').toLoadRect :=
  row_other v o o' inb inb' (row w) L h

/-- A row of the accumulator read back after the zeroing alone. -/
theorem row_first {sig : RefSig} {κ : Kind} {sp : Space} (v : View sig κ sp S8x1024 .f32) (o : ℕ) (inb inb')
    (w : S8x1024.Idx → Elt Ideal .f32) (h : ∀ i, w i = ((0 : ℝ) : EReal)) :
    v.readCov (Val := Elt Ideal) [⟨Rect.unit ![0, 0] ![8, 1024] inb, w⟩] (Rect.unit ![o, 0] ![1, 1024] inb').toLoadRect
      = fun _ => ((0 : ℝ) : EReal) := by
  rw [View.readCov_eq_canon']
  funext j
  rw [View.canon_unit_zero (S := S8x1024) (by decide) inb]
  exact h _

theorem row_zero {sig : RefSig} {κ : Kind} {sp : Space} (v : View sig κ sp S8x1024 .f32) (o : ℕ) (inb inb') :
    v.readCov (Val := Elt Ideal) [⟨Rect.unit ![0, 0] ![8, 1024] inb, up fun (_ : Fin 8) (_ : Fin 1024) => (0 : ℝ)⟩]
      (Rect.unit ![o, 0] ![1, 1024] inb').toLoadRect = row fun _ => 0 :=
  row_first v o inb inb' (up fun (_ : Fin 8) (_ : Fin 1024) => (0 : ℝ)) fun _ => rfl

end Cert.KernelIdeal.Block

end
-- ==== Proof.BlockVal.lean ====
/- What the body leaves in each output block, its operands being real matrices. -/
module

public import proofs.«01_k».proof.Proof.Gen.KernelIdeal.Frame
public import proofs.«01_k».proof.Proof.Stores
public import Idealize.ShloMosaic.Lib.VecWindow

@[expose] public section

set_option maxRecDepth 16384

noncomputable section

namespace Cert.KernelIdeal.Block

open Cert.KernelIdeal Cert.KernelIdeal.Gen Cert.Reals Cert.Mlp Idealize.ShloMosaic Idealize.ShloMosaic.TcCoe

variable (X T : Fin 512 → Fin 1024 → ℝ) (Md : Fin 6 → Fin 1024 → ℝ) (Ln : Fin 4 → Fin 1024 → ℝ)
  (W1 : Fin 1024 → Fin 4096 → ℝ) (W2 : Fin 4096 → Fin 1024 → ℝ)
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S6x1024 .f32) (harg3 : arg3.IsWhole) (arg4 : Memref sig .tc .vmem S4x1024 .f32) (harg4 : arg4.IsWhole) (arg5 : Memref sig .tc .vmem S1024x4096 .bf16) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x4096 .bf16) (harg9 : arg9.IsWhole) (arg10 : Memref sig .tc .vmem S512x4096 .bf16) (harg10 : arg10.IsWhole) (arg11 : Memref sig .tc .vmem S512x1024 .bf16) (harg11 : arg11.IsWhole) (arg12 : Memref sig .tc .vmem S8x1024 .f32) (harg12 : arg12.IsWhole)

theorem ld_acc_0 (V : Fin 8 → Fin 1024 → ℝ) (inb) : View.ld (Val := Elt Ideal) (S := S8x1024) (e' := .f32) (up V)
    (Rect.unit ![0, 0] ![1, 1024] inb) = row (V 0) := ld_row V 0 inb
theorem ld_acc_1 (V : Fin 8 → Fin 1024 → ℝ) (inb) : View.ld (Val := Elt Ideal) (S := S8x1024) (e' := .f32) (up V)
    (Rect.unit ![1, 0] ![1, 1024] inb) = row (V 1) := ld_row V 1 inb
theorem ld_acc_2 (V : Fin 8 → Fin 1024 → ℝ) (inb) : View.ld (Val := Elt Ideal) (S := S8x1024) (e' := .f32) (up V)
    (Rect.unit ![2, 0] ![1, 1024] inb) = row (V 2) := ld_row V 2 inb
theorem ld_acc_3 (V : Fin 8 → Fin 1024 → ℝ) (inb) : View.ld (Val := Elt Ideal) (S := S8x1024) (e' := .f32) (up V)
    (Rect.unit ![3, 0] ![1, 1024] inb) = row (V 3) := ld_row V 3 inb
theorem ld_acc_4 (V : Fin 8 → Fin 1024 → ℝ) (inb) : View.ld (Val := Elt Ideal) (S := S8x1024) (e' := .f32) (up V)
    (Rect.unit ![4, 0] ![1, 1024] inb) = row (V 4) := ld_row V 4 inb
theorem ld_acc_5 (V : Fin 8 → Fin 1024 → ℝ) (inb) : View.ld (Val := Elt Ideal) (S := S8x1024) (e' := .f32) (up V)
    (Rect.unit ![5, 0] ![1, 1024] inb) = row (V 5) := ld_row V 5 inb

theorem pay3_up : k0_pay3 (F := Ideal) = up fun _ _ => 0 := by
  refine eq_up _ _ fun r j => ?_
  pointwise [k0_pay3, up]
  rfl

theorem out_A_6 (hc0 : cond0_0 i) :
    out0_A_6 (F := Ideal) c i arg1 harg1 arg2 harg2 arg3 harg3 arg4 harg4 arg5 harg5 arg6 harg6 arg7 harg7 arg8 harg8 arg9 harg9 arg10 harg10 arg11 harg11 arg12 harg12 hc0 (up X) (up T) (up Md) (up Ln) (up W1) (up W2) = bdx (par Md Ln W1 W2) X T := by
  unfold out0_A_6 kernelRun0_A
  dsimp only
  sl_unfold_words
  simp only [View.readAt_eq_ld, harg1.read_unread, harg2.read_unread, harg3.read_unread, harg4.read_unread, harg5.read_unread, harg6.read_unread,
    ld_whole, ld_sh Md Ln W1 W2, ld_sc Md Ln W1 W2, ld_gt Md Ln W1 W2, ld_g1 Md Ln W1 W2, ld_b1 Md Ln W1 W2, ld_g2 Md Ln W1 W2, ld_b2 Md Ln W1 W2, ld_w1_0 Md Ln W1 W2, ld_w1_1 Md Ln W1 W2, ld_w1_2 Md Ln W1 W2, ld_w1_3 Md Ln W1 W2, ld_w2_0 Md Ln W1 W2, ld_w2_1 Md Ln W1 W2, ld_w2_2 Md Ln W1 W2, ld_w2_3 Md Ln W1 W2,
    pay4_up, pay5_up, pay6_up, pay7_up, pay8_up, pay9_up, pay10_up, pay11_up, pay12_up, pay13_up, pay14_up, pay15_up, pay16_up, pay17_up, pay18_up, pay19_up, pay20_up, pay21_up, pay22_up, pay23_up, pay25_up, pay27_up, pay28_up, pay29_up, pay30_up, pay31_up, pay32_up, pay33_up, pay34_up, pay35_up, pay36_up, pay37_up, pay38_up, pay39_up, pay40_up, pay41_up, pay42_up, pay43_up, pay44_up, pay45_up, pay46_up, pay2_up, pay3_up, back_hit, back_skip, true_or, or_true, row_skip, row_zero, Nat.reduceAdd, Nat.reduceLeDiff]
  rw [View.read_writes_junk_eq_canon]
  exact View.canon_unit_zero (by decide) _ _

theorem out_A_7 (hc0 : cond0_0 i) :
    out0_A_7 (F := Ideal) c i arg1 harg1 arg2 harg2 arg3 harg3 arg4 harg4 arg5 harg5 arg6 harg6 arg7 harg7 arg8 harg8 arg9 harg9 arg10 harg10 arg11 harg11 arg12 harg12 hc0 (up X) (up T) (up Md) (up Ln) (up W1) (up W2) = bh (par Md Ln W1 W2) X := by
  unfold out0_A_7 kernelRun0_A
  dsimp only
  sl_unfold_words
  simp only [View.readAt_eq_ld, harg1.read_unread, harg2.read_unread, harg3.read_unread, harg4.read_unread, harg5.read_unread, harg6.read_unread,
    ld_whole, ld_sh Md Ln W1 W2, ld_sc Md Ln W1 W2, ld_gt Md Ln W1 W2, ld_g1 Md Ln W1 W2, ld_b1 Md Ln W1 W2, ld_g2 Md Ln W1 W2, ld_b2 Md Ln W1 W2, ld_w1_0 Md Ln W1 W2, ld_w1_1 Md Ln W1 W2, ld_w1_2 Md Ln W1 W2, ld_w1_3 Md Ln W1 W2, ld_w2_0 Md Ln W1 W2, ld_w2_1 Md Ln W1 W2, ld_w2_2 Md Ln W1 W2, ld_w2_3 Md Ln W1 W2,
    pay4_up, pay5_up, pay6_up, pay7_up, pay8_up, pay9_up, pay10_up, pay11_up, pay12_up, pay13_up, pay14_up, pay15_up, pay16_up, pay17_up, pay18_up, pay19_up, pay20_up, pay21_up, pay22_up, pay23_up, pay25_up, pay27_up, pay28_up, pay29_up, pay30_up, pay31_up, pay32_up, pay33_up, pay34_up, pay35_up, pay36_up, pay37_up, pay38_up, pay39_up, pay40_up, pay41_up, pay42_up, pay43_up, pay44_up, pay45_up, pay46_up, pay2_up, pay3_up, back_hit, back_skip, true_or, or_true, row_skip, row_zero, Nat.reduceAdd, Nat.reduceLeDiff]
  rw [View.read_writes_junk_eq_canon]
  exact View.canon_unit_zero (by decide) _ _

theorem out_A_8 (hc0 : cond0_0 i) :
    out0_A_8 (F := Ideal) c i arg1 harg1 arg2 harg2 arg3 harg3 arg4 harg4 arg5 harg5 arg6 harg6 arg7 harg7 arg8 harg8 arg9 harg9 arg10 harg10 arg11 harg11 arg12 harg12 hc0 (up X) (up T) (up Md) (up Ln) (up W1) (up W2) = up fun r => a (par Md Ln W1 W2) (X r) := by
  unfold out0_A_8 kernelRun0_A
  dsimp only
  sl_unfold_words
  simp only [View.readAt_eq_ld, harg1.read_unread, harg2.read_unread, harg3.read_unread, harg4.read_unread, harg5.read_unread, harg6.read_unread,
    ld_whole, ld_sh Md Ln W1 W2, ld_sc Md Ln W1 W2, ld_gt Md Ln W1 W2, ld_g1 Md Ln W1 W2, ld_b1 Md Ln W1 W2, ld_g2 Md Ln W1 W2, ld_b2 Md Ln W1 W2, ld_w1_0 Md Ln W1 W2, ld_w1_1 Md Ln W1 W2, ld_w1_2 Md Ln W1 W2, ld_w1_3 Md Ln W1 W2, ld_w2_0 Md Ln W1 W2, ld_w2_1 Md Ln W1 W2, ld_w2_2 Md Ln W1 W2, ld_w2_3 Md Ln W1 W2,
    pay4_up, pay5_up, pay6_up, pay7_up, pay8_up, pay9_up, pay10_up, pay11_up, pay12_up, pay13_up, pay14_up, pay15_up, pay16_up, pay17_up, pay18_up, pay19_up, pay20_up, pay21_up, pay22_up, pay23_up, pay25_up, pay27_up, pay28_up, pay29_up, pay30_up, pay31_up, pay32_up, pay33_up, pay34_up, pay35_up, pay36_up, pay37_up, pay38_up, pay39_up, pay40_up, pay41_up, pay42_up, pay43_up, pay44_up, pay45_up, pay46_up, pay2_up, pay3_up, back_hit, back_skip, true_or, or_true, row_skip, row_zero, Nat.reduceAdd, Nat.reduceLeDiff]
  exact cols_written _ _ _ _ _ _ _ _

theorem out_A_9 (hc0 : cond0_0 i) :
    out0_A_9 (F := Ideal) c i arg1 harg1 arg2 harg2 arg3 harg3 arg4 harg4 arg5 harg5 arg6 harg6 arg7 harg7 arg8 harg8 arg9 harg9 arg10 harg10 arg11 harg11 arg12 harg12 hc0 (up X) (up T) (up Md) (up Ln) (up W1) (up W2) = up fun r => du (par Md Ln W1 W2) (X r) (T r) := by
  unfold out0_A_9 kernelRun0_A
  dsimp only
  sl_unfold_words
  simp only [View.readAt_eq_ld, harg1.read_unread, harg2.read_unread, harg3.read_unread, harg4.read_unread, harg5.read_unread, harg6.read_unread,
    ld_whole, ld_sh Md Ln W1 W2, ld_sc Md Ln W1 W2, ld_gt Md Ln W1 W2, ld_g1 Md Ln W1 W2, ld_b1 Md Ln W1 W2, ld_g2 Md Ln W1 W2, ld_b2 Md Ln W1 W2, ld_w1_0 Md Ln W1 W2, ld_w1_1 Md Ln W1 W2, ld_w1_2 Md Ln W1 W2, ld_w1_3 Md Ln W1 W2, ld_w2_0 Md Ln W1 W2, ld_w2_1 Md Ln W1 W2, ld_w2_2 Md Ln W1 W2, ld_w2_3 Md Ln W1 W2,
    pay4_up, pay5_up, pay6_up, pay7_up, pay8_up, pay9_up, pay10_up, pay11_up, pay12_up, pay13_up, pay14_up, pay15_up, pay16_up, pay17_up, pay18_up, pay19_up, pay20_up, pay21_up, pay22_up, pay23_up, pay25_up, pay27_up, pay28_up, pay29_up, pay30_up, pay31_up, pay32_up, pay33_up, pay34_up, pay35_up, pay36_up, pay37_up, pay38_up, pay39_up, pay40_up, pay41_up, pay42_up, pay43_up, pay44_up, pay45_up, pay46_up, pay2_up, pay3_up, back_hit, back_skip, true_or, or_true, row_skip, row_zero, Nat.reduceAdd, Nat.reduceLeDiff]
  exact cols_written _ _ _ _ _ _ _ _

theorem out_A_10 (hc0 : cond0_0 i) :
    out0_A_10 (F := Ideal) c i arg1 harg1 arg2 harg2 arg3 harg3 arg4 harg4 arg5 harg5 arg6 harg6 arg7 harg7 arg8 harg8 arg9 harg9 arg10 harg10 arg11 harg11 arg12 harg12 hc0 (up X) (up T) (up Md) (up Ln) (up W1) (up W2) = bdf (par Md Ln W1 W2) X T := by
  unfold out0_A_10 kernelRun0_A
  dsimp only
  sl_unfold_words
  simp only [View.readAt_eq_ld, harg1.read_unread, harg2.read_unread, harg3.read_unread, harg4.read_unread, harg5.read_unread, harg6.read_unread,
    ld_whole, ld_sh Md Ln W1 W2, ld_sc Md Ln W1 W2, ld_gt Md Ln W1 W2, ld_g1 Md Ln W1 W2, ld_b1 Md Ln W1 W2, ld_g2 Md Ln W1 W2, ld_b2 Md Ln W1 W2, ld_w1_0 Md Ln W1 W2, ld_w1_1 Md Ln W1 W2, ld_w1_2 Md Ln W1 W2, ld_w1_3 Md Ln W1 W2, ld_w2_0 Md Ln W1 W2, ld_w2_1 Md Ln W1 W2, ld_w2_2 Md Ln W1 W2, ld_w2_3 Md Ln W1 W2,
    pay4_up, pay5_up, pay6_up, pay7_up, pay8_up, pay9_up, pay10_up, pay11_up, pay12_up, pay13_up, pay14_up, pay15_up, pay16_up, pay17_up, pay18_up, pay19_up, pay20_up, pay21_up, pay22_up, pay23_up, pay25_up, pay27_up, pay28_up, pay29_up, pay30_up, pay31_up, pay32_up, pay33_up, pay34_up, pay35_up, pay36_up, pay37_up, pay38_up, pay39_up, pay40_up, pay41_up, pay42_up, pay43_up, pay44_up, pay45_up, pay46_up, pay2_up, pay3_up, back_hit, back_skip, true_or, or_true, row_skip, row_zero, Nat.reduceAdd, Nat.reduceLeDiff]
  rw [View.read_writes_junk_eq_canon]
  exact View.canon_unit_zero (by decide) _ _

theorem out_A_11 (hc0 : cond0_0 i) :
    out0_A_11 (F := Ideal) c i arg1 harg1 arg2 harg2 arg3 harg3 arg4 harg4 arg5 harg5 arg6 harg6 arg7 harg7 arg8 harg8 arg9 harg9 arg10 harg10 arg11 harg11 arg12 harg12 hc0 (up X) (up T) (up Md) (up Ln) (up W1) (up W2) = up fun k j => 0 + ∑ r, part (par Md Ln W1 W2) (X r) (T r) k j := by
  unfold out0_A_11 kernelRun0_A
  dsimp only
  sl_unfold_words
  simp only [View.readAt_eq_ld, harg1.read_unread, harg2.read_unread, harg3.read_unread, harg4.read_unread, harg5.read_unread, harg6.read_unread,
    ld_whole, ld_sh Md Ln W1 W2, ld_sc Md Ln W1 W2, ld_gt Md Ln W1 W2, ld_g1 Md Ln W1 W2, ld_b1 Md Ln W1 W2, ld_g2 Md Ln W1 W2, ld_b2 Md Ln W1 W2, ld_w1_0 Md Ln W1 W2, ld_w1_1 Md Ln W1 W2, ld_w1_2 Md Ln W1 W2, ld_w1_3 Md Ln W1 W2, ld_w2_0 Md Ln W1 W2, ld_w2_1 Md Ln W1 W2, ld_w2_2 Md Ln W1 W2, ld_w2_3 Md Ln W1 W2,
    pay4_up, pay5_up, pay6_up, pay7_up, pay8_up, pay9_up, pay10_up, pay11_up, pay12_up, pay13_up, pay14_up, pay15_up, pay16_up, pay17_up, pay18_up, pay19_up, pay20_up, pay21_up, pay22_up, pay23_up, pay25_up, pay27_up, pay28_up, pay29_up, pay30_up, pay31_up, pay32_up, pay33_up, pay34_up, pay35_up, pay36_up, pay37_up, pay38_up, pay39_up, pay40_up, pay41_up, pay42_up, pay43_up, pay44_up, pay45_up, pay46_up, pay2_up, pay3_up, back_hit, back_skip, true_or, or_true, row_skip, row_zero, Nat.reduceAdd, Nat.reduceLeDiff]
  exact rows_written _ (View.writes _ _ _ [⟨Rect.unit ![0, 0] ![8, 1024] inb_S8x1024_S8x1024_0_0, up fun _ _ => 0⟩])
    (fun _ _ => 0) (fun k j => 0 + ∑ r, part (par Md Ln W1 W2) (X r) (T r) k j)
    (View.read_writes_full _ _ _ _ _) (by funext j; simp [part]) (by funext j; simp [part]) _ _ _ _ _ _

theorem out_B_6 (hc0 : ¬cond0_0 i) (V : Fin 8 → Fin 1024 → ℝ) :
    out0_B_6 (F := Ideal) c i arg1 harg1 arg2 harg2 arg3 harg3 arg4 harg4 arg5 harg5 arg6 harg6 arg7 harg7 arg8 harg8 arg9 harg9 arg10 harg10 arg11 harg11 arg12 harg12 hc0 (up X) (up T) (up Md) (up Ln) (up W1) (up W2) (up V) = bdx (par Md Ln W1 W2) X T := by
  unfold out0_B_6 kernelRun0_B
  dsimp only
  sl_unfold_words
  simp only [View.readAt_eq_ld, harg1.read_unread, harg2.read_unread, harg3.read_unread, harg4.read_unread, harg5.read_unread, harg6.read_unread,
    ld_whole, ld_sh Md Ln W1 W2, ld_sc Md Ln W1 W2, ld_gt Md Ln W1 W2, ld_g1 Md Ln W1 W2, ld_b1 Md Ln W1 W2, ld_g2 Md Ln W1 W2, ld_b2 Md Ln W1 W2, ld_w1_0 Md Ln W1 W2, ld_w1_1 Md Ln W1 W2, ld_w1_2 Md Ln W1 W2, ld_w1_3 Md Ln W1 W2, ld_w2_0 Md Ln W1 W2, ld_w2_1 Md Ln W1 W2, ld_w2_2 Md Ln W1 W2, ld_w2_3 Md Ln W1 W2,
    pay4_up, pay5_up, pay6_up, pay7_up, pay8_up, pay9_up, pay10_up, pay11_up, pay12_up, pay13_up, pay14_up, pay15_up, pay16_up, pay17_up, pay18_up, pay19_up, pay20_up, pay21_up, pay22_up, pay23_up, pay25_up, pay27_up, pay28_up, pay29_up, pay30_up, pay31_up, pay32_up, pay33_up, pay34_up, pay35_up, pay36_up, pay37_up, pay38_up, pay39_up, pay40_up, pay41_up, pay42_up, pay43_up, pay44_up, pay45_up, pay46_up, pay2_up, pay3_up, back_hit, back_skip, true_or, or_true, row_skip, row_zero, harg12.read_unread, ld_acc_0 V, ld_acc_1 V, ld_acc_2 V, ld_acc_3 V, ld_acc_4 V, ld_acc_5 V, Nat.reduceAdd, Nat.reduceLeDiff]
  rw [View.read_writes_junk_eq_canon]
  exact View.canon_unit_zero (by decide) _ _

theorem out_B_7 (hc0 : ¬cond0_0 i) (V : Fin 8 → Fin 1024 → ℝ) :
    out0_B_7 (F := Ideal) c i arg1 harg1 arg2 harg2 arg3 harg3 arg4 harg4 arg5 harg5 arg6 harg6 arg7 harg7 arg8 harg8 arg9 harg9 arg10 harg10 arg11 harg11 arg12 harg12 hc0 (up X) (up T) (up Md) (up Ln) (up W1) (up W2) (up V) = bh (par Md Ln W1 W2) X := by
  unfold out0_B_7 kernelRun0_B
  dsimp only
  sl_unfold_words
  simp only [View.readAt_eq_ld, harg1.read_unread, harg2.read_unread, harg3.read_unread, harg4.read_unread, harg5.read_unread, harg6.read_unread,
    ld_whole, ld_sh Md Ln W1 W2, ld_sc Md Ln W1 W2, ld_gt Md Ln W1 W2, ld_g1 Md Ln W1 W2, ld_b1 Md Ln W1 W2, ld_g2 Md Ln W1 W2, ld_b2 Md Ln W1 W2, ld_w1_0 Md Ln W1 W2, ld_w1_1 Md Ln W1 W2, ld_w1_2 Md Ln W1 W2, ld_w1_3 Md Ln W1 W2, ld_w2_0 Md Ln W1 W2, ld_w2_1 Md Ln W1 W2, ld_w2_2 Md Ln W1 W2, ld_w2_3 Md Ln W1 W2,
    pay4_up, pay5_up, pay6_up, pay7_up, pay8_up, pay9_up, pay10_up, pay11_up, pay12_up, pay13_up, pay14_up, pay15_up, pay16_up, pay17_up, pay18_up, pay19_up, pay20_up, pay21_up, pay22_up, pay23_up, pay25_up, pay27_up, pay28_up, pay29_up, pay30_up, pay31_up, pay32_up, pay33_up, pay34_up, pay35_up, pay36_up, pay37_up, pay38_up, pay39_up, pay40_up, pay41_up, pay42_up, pay43_up, pay44_up, pay45_up, pay46_up, pay2_up, pay3_up, back_hit, back_skip, true_or, or_true, row_skip, row_zero, harg12.read_unread, ld_acc_0 V, ld_acc_1 V, ld_acc_2 V, ld_acc_3 V, ld_acc_4 V, ld_acc_5 V, Nat.reduceAdd, Nat.reduceLeDiff]
  rw [View.read_writes_junk_eq_canon]
  exact View.canon_unit_zero (by decide) _ _

theorem out_B_8 (hc0 : ¬cond0_0 i) (V : Fin 8 → Fin 1024 → ℝ) :
    out0_B_8 (F := Ideal) c i arg1 harg1 arg2 harg2 arg3 harg3 arg4 harg4 arg5 harg5 arg6 harg6 arg7 harg7 arg8 harg8 arg9 harg9 arg10 harg10 arg11 harg11 arg12 harg12 hc0 (up X) (up T) (up Md) (up Ln) (up W1) (up W2) (up V) = up fun r => a (par Md Ln W1 W2) (X r) := by
  unfold out0_B_8 kernelRun0_B
  dsimp only
  sl_unfold_words
  simp only [View.readAt_eq_ld, harg1.read_unread, harg2.read_unread, harg3.read_unread, harg4.read_unread, harg5.read_unread, harg6.read_unread,
    ld_whole, ld_sh Md Ln W1 W2, ld_sc Md Ln W1 W2, ld_gt Md Ln W1 W2, ld_g1 Md Ln W1 W2, ld_b1 Md Ln W1 W2, ld_g2 Md Ln W1 W2, ld_b2 Md Ln W1 W2, ld_w1_0 Md Ln W1 W2, ld_w1_1 Md Ln W1 W2, ld_w1_2 Md Ln W1 W2, ld_w1_3 Md Ln W1 W2, ld_w2_0 Md Ln W1 W2, ld_w2_1 Md Ln W1 W2, ld_w2_2 Md Ln W1 W2, ld_w2_3 Md Ln W1 W2,
    pay4_up, pay5_up, pay6_up, pay7_up, pay8_up, pay9_up, pay10_up, pay11_up, pay12_up, pay13_up, pay14_up, pay15_up, pay16_up, pay17_up, pay18_up, pay19_up, pay20_up, pay21_up, pay22_up, pay23_up, pay25_up, pay27_up, pay28_up, pay29_up, pay30_up, pay31_up, pay32_up, pay33_up, pay34_up, pay35_up, pay36_up, pay37_up, pay38_up, pay39_up, pay40_up, pay41_up, pay42_up, pay43_up, pay44_up, pay45_up, pay46_up, pay2_up, pay3_up, back_hit, back_skip, true_or, or_true, row_skip, row_zero, harg12.read_unread, ld_acc_0 V, ld_acc_1 V, ld_acc_2 V, ld_acc_3 V, ld_acc_4 V, ld_acc_5 V, Nat.reduceAdd, Nat.reduceLeDiff]
  exact cols_written _ _ _ _ _ _ _ _

theorem out_B_9 (hc0 : ¬cond0_0 i) (V : Fin 8 → Fin 1024 → ℝ) :
    out0_B_9 (F := Ideal) c i arg1 harg1 arg2 harg2 arg3 harg3 arg4 harg4 arg5 harg5 arg6 harg6 arg7 harg7 arg8 harg8 arg9 harg9 arg10 harg10 arg11 harg11 arg12 harg12 hc0 (up X) (up T) (up Md) (up Ln) (up W1) (up W2) (up V) = up fun r => du (par Md Ln W1 W2) (X r) (T r) := by
  unfold out0_B_9 kernelRun0_B
  dsimp only
  sl_unfold_words
  simp only [View.readAt_eq_ld, harg1.read_unread, harg2.read_unread, harg3.read_unread, harg4.read_unread, harg5.read_unread, harg6.read_unread,
    ld_whole, ld_sh Md Ln W1 W2, ld_sc Md Ln W1 W2, ld_gt Md Ln W1 W2, ld_g1 Md Ln W1 W2, ld_b1 Md Ln W1 W2, ld_g2 Md Ln W1 W2, ld_b2 Md Ln W1 W2, ld_w1_0 Md Ln W1 W2, ld_w1_1 Md Ln W1 W2, ld_w1_2 Md Ln W1 W2, ld_w1_3 Md Ln W1 W2, ld_w2_0 Md Ln W1 W2, ld_w2_1 Md Ln W1 W2, ld_w2_2 Md Ln W1 W2, ld_w2_3 Md Ln W1 W2,
    pay4_up, pay5_up, pay6_up, pay7_up, pay8_up, pay9_up, pay10_up, pay11_up, pay12_up, pay13_up, pay14_up, pay15_up, pay16_up, pay17_up, pay18_up, pay19_up, pay20_up, pay21_up, pay22_up, pay23_up, pay25_up, pay27_up, pay28_up, pay29_up, pay30_up, pay31_up, pay32_up, pay33_up, pay34_up, pay35_up, pay36_up, pay37_up, pay38_up, pay39_up, pay40_up, pay41_up, pay42_up, pay43_up, pay44_up, pay45_up, pay46_up, pay2_up, pay3_up, back_hit, back_skip, true_or, or_true, row_skip, row_zero, harg12.read_unread, ld_acc_0 V, ld_acc_1 V, ld_acc_2 V, ld_acc_3 V, ld_acc_4 V, ld_acc_5 V, Nat.reduceAdd, Nat.reduceLeDiff]
  exact cols_written _ _ _ _ _ _ _ _

theorem out_B_10 (hc0 : ¬cond0_0 i) (V : Fin 8 → Fin 1024 → ℝ) :
    out0_B_10 (F := Ideal) c i arg1 harg1 arg2 harg2 arg3 harg3 arg4 harg4 arg5 harg5 arg6 harg6 arg7 harg7 arg8 harg8 arg9 harg9 arg10 harg10 arg11 harg11 arg12 harg12 hc0 (up X) (up T) (up Md) (up Ln) (up W1) (up W2) (up V) = bdf (par Md Ln W1 W2) X T := by
  unfold out0_B_10 kernelRun0_B
  dsimp only
  sl_unfold_words
  simp only [View.readAt_eq_ld, harg1.read_unread, harg2.read_unread, harg3.read_unread, harg4.read_unread, harg5.read_unread, harg6.read_unread,
    ld_whole, ld_sh Md Ln W1 W2, ld_sc Md Ln W1 W2, ld_gt Md Ln W1 W2, ld_g1 Md Ln W1 W2, ld_b1 Md Ln W1 W2, ld_g2 Md Ln W1 W2, ld_b2 Md Ln W1 W2, ld_w1_0 Md Ln W1 W2, ld_w1_1 Md Ln W1 W2, ld_w1_2 Md Ln W1 W2, ld_w1_3 Md Ln W1 W2, ld_w2_0 Md Ln W1 W2, ld_w2_1 Md Ln W1 W2, ld_w2_2 Md Ln W1 W2, ld_w2_3 Md Ln W1 W2,
    pay4_up, pay5_up, pay6_up, pay7_up, pay8_up, pay9_up, pay10_up, pay11_up, pay12_up, pay13_up, pay14_up, pay15_up, pay16_up, pay17_up, pay18_up, pay19_up, pay20_up, pay21_up, pay22_up, pay23_up, pay25_up, pay27_up, pay28_up, pay29_up, pay30_up, pay31_up, pay32_up, pay33_up, pay34_up, pay35_up, pay36_up, pay37_up, pay38_up, pay39_up, pay40_up, pay41_up, pay42_up, pay43_up, pay44_up, pay45_up, pay46_up, pay2_up, pay3_up, back_hit, back_skip, true_or, or_true, row_skip, row_zero, harg12.read_unread, ld_acc_0 V, ld_acc_1 V, ld_acc_2 V, ld_acc_3 V, ld_acc_4 V, ld_acc_5 V, Nat.reduceAdd, Nat.reduceLeDiff]
  rw [View.read_writes_junk_eq_canon]
  exact View.canon_unit_zero (by decide) _ _

theorem out_B_11 (hc0 : ¬cond0_0 i) (V : Fin 8 → Fin 1024 → ℝ) :
    out0_B_11 (F := Ideal) c i arg1 harg1 arg2 harg2 arg3 harg3 arg4 harg4 arg5 harg5 arg6 harg6 arg7 harg7 arg8 harg8 arg9 harg9 arg10 harg10 arg11 harg11 arg12 harg12 hc0 (up X) (up T) (up Md) (up Ln) (up W1) (up W2) (up V) = up fun k j => V k j + ∑ r, part (par Md Ln W1 W2) (X r) (T r) k j := by
  unfold out0_B_11 kernelRun0_B
  dsimp only
  sl_unfold_words
  simp only [View.readAt_eq_ld, harg1.read_unread, harg2.read_unread, harg3.read_unread, harg4.read_unread, harg5.read_unread, harg6.read_unread,
    ld_whole, ld_sh Md Ln W1 W2, ld_sc Md Ln W1 W2, ld_gt Md Ln W1 W2, ld_g1 Md Ln W1 W2, ld_b1 Md Ln W1 W2, ld_g2 Md Ln W1 W2, ld_b2 Md Ln W1 W2, ld_w1_0 Md Ln W1 W2, ld_w1_1 Md Ln W1 W2, ld_w1_2 Md Ln W1 W2, ld_w1_3 Md Ln W1 W2, ld_w2_0 Md Ln W1 W2, ld_w2_1 Md Ln W1 W2, ld_w2_2 Md Ln W1 W2, ld_w2_3 Md Ln W1 W2,
    pay4_up, pay5_up, pay6_up, pay7_up, pay8_up, pay9_up, pay10_up, pay11_up, pay12_up, pay13_up, pay14_up, pay15_up, pay16_up, pay17_up, pay18_up, pay19_up, pay20_up, pay21_up, pay22_up, pay23_up, pay25_up, pay27_up, pay28_up, pay29_up, pay30_up, pay31_up, pay32_up, pay33_up, pay34_up, pay35_up, pay36_up, pay37_up, pay38_up, pay39_up, pay40_up, pay41_up, pay42_up, pay43_up, pay44_up, pay45_up, pay46_up, pay2_up, pay3_up, back_hit, back_skip, true_or, or_true, row_skip, row_zero, harg12.read_unread, ld_acc_0 V, ld_acc_1 V, ld_acc_2 V, ld_acc_3 V, ld_acc_4 V, ld_acc_5 V, Nat.reduceAdd, Nat.reduceLeDiff]
  exact rows_written _ _ V (fun k j => V k j + ∑ r, part (par Md Ln W1 W2) (X r) (T r) k j)
    (harg12.read_unread _) (by funext j; simp [part]) (by funext j; simp [part]) _ _ _ _ _ _

end Cert.KernelIdeal.Block

end
-- ==== Proof.ArrayVal.lean ====
/- What the kernel's six result arrays hold, its arguments being real: the sub-layer's functions of each token, and the sums over
   the tokens. -/
module

public import proofs.«01_k».proof.Proof.Gen.KernelIdeal.Value
public import proofs.«01_k».proof.Proof.BlockVal
public import Idealize.ShloMosaic.Lib.Pipeline.ValueKit
public import Idealize.ShloMosaic.Lib.Claim

@[expose] public section

set_option maxRecDepth 16384

noncomputable section

namespace Cert.KernelIdeal.Arrays

open Cert.KernelIdeal Cert.KernelIdeal.Gen Cert.KernelIdeal.Block Cert.Reals Cert.Mlp
open Idealize.ShloMosaic Idealize.ShloMosaic.TcCoe Idealize.ShloMosaic.Pipeline

variable (m : (ℓ : Loc nD τ sig) → Buf (Elt Ideal) ℓ) (c : Dev nD)
  (X T : Fin 8192 → Fin 1024 → ℝ) (Md : Fin 6 → Fin 1024 → ℝ) (Ln : Fin 4 → Fin 1024 → ℝ)
  (W1 : Fin 1024 → Fin 4096 → ℝ) (W2 : Fin 4096 → Fin 1024 → ℝ)

/-- The nine arguments are these real matrices. -/
structure Holds : Prop where
  a0 : m ((c : Thread nD τ).loc main_arg0) = up X
  a1 : m ((c : Thread nD τ).loc main_arg1) = up T
  a2 : m ((c : Thread nD τ).loc main_arg2) = up Md
  a3 : m ((c : Thread nD τ).loc main_arg3) = row (Ln 0)
  a4 : m ((c : Thread nD τ).loc main_arg4) = row (Ln 1)
  a5 : m ((c : Thread nD τ).loc main_arg5) = row (Ln 2)
  a6 : m ((c : Thread nD τ).loc main_arg6) = row (Ln 3)
  a7 : m ((c : Thread nD τ).loc main_arg7) = up W1
  a8 : m ((c : Thread nD τ).loc main_arg8) = up W2

/-- Token `r` of block `t`. -/
def tok (t : Fin cfg0.N) (r : Fin 512) : Fin 8192 :=
  ⟨t.val * 512 + r.val, by have := lt_of_lt_of_eq t.isLt (show cfg0.N = 16 from N_0); omega⟩

theorem idx0 : ∀ t : Fin cfg0.N, win0_0.index t = ![t.val, 0] ∧ win0_1.index t = ![t.val, 0] :=
  (by decide +kernel : ∀ t : Fin grid0.N, _)
theorem idxw : ∀ t : Fin cfg0.N, win0_2.index t = ![0, 0] ∧ win0_3.index t = ![0, 0] ∧ win0_4.index t = ![0, 0] ∧ win0_5.index t = ![0, 0] :=
  (by decide +kernel : ∀ t : Fin grid0.N, _)
theorem idxo : ∀ t : Fin cfg0.N, win0_6.index t = ![t.val, 0] ∧ win0_7.index t = ![t.val, 0] ∧ win0_8.index t = ![t.val, 0]
    ∧ win0_9.index t = ![t.val, 0] ∧ win0_10.index t = ![t.val, 0] :=
  (by decide +kernel : ∀ t : Fin grid0.N, _)

theorem idxl : ∀ t : Fin cfg0.N, win0_11.index t = ![0, 0] :=
  (by decide +kernel : ∀ t : Fin grid0.N, _)

/-- The six blocks a point leaves: five of functions of its tokens, the sixth the sums so far. -/
abbrev Left (t : Fin cfg0.N) (V : Fin 8 → Fin 1024 → ℝ) :
    Vec Ideal S512x1024 .f32 × Vec Ideal S512x1024 .bf16 × Vec Ideal S512x4096 .bf16 × Vec Ideal S512x4096 .bf16
      × Vec Ideal S512x1024 .bf16 × Vec Ideal S8x1024 .f32 :=
  (bdx (par Md Ln W1 W2) (fun r => X (tok t r)) (fun r => T (tok t r)), bh (par Md Ln W1 W2) (fun r => X (tok t r)),
    up fun r => a (par Md Ln W1 W2) (X (tok t r)), up fun r => du (par Md Ln W1 W2) (X (tok t r)) (T (tok t r)),
    bdf (par Md Ln W1 W2) (fun r => X (tok t r)) (fun r => T (tok t r)), up V)

/-- The eight rows' sums over the tokens of the first points. -/
def sums (n : ℕ) (k : Fin 8) (j : Fin 1024) : ℝ :=
  ∑ s : Fin 8192, if s.val < 512 * n then part (par Md Ln W1 W2) (X s) (T s) k j else 0

variable {m c X T Md Ln W1 W2} (H : Holds m c X T Md Ln W1 W2) (t : Fin cfg0.N)
include H

theorem iblk0 : iblk m c 0 t = (up fun r => X (tok t r) : S512x1024.Idx → EReal) := by
  refine eq_up _ _ fun a b => ?_
  have e : iblk m c 0 t (ix2 a b) = m ((c : Thread nD τ).loc main_arg0) (ix2 (tok t a) b) := by
    blk_ext! [iblk, V, (idx0 t).1, tok]
  rw [e, H.a0]
  rfl

theorem iblk1 : iblk m c 1 t = (up fun r => T (tok t r) : S512x1024.Idx → EReal) := by
  refine eq_up _ _ fun a b => ?_
  have e : iblk m c 1 t (ix2 a b) = m ((c : Thread nD τ).loc main_arg1) (ix2 (tok t a) b) := by
    blk_ext! [iblk, V, (idx0 t).2, tok]
  rw [e, H.a1]
  rfl

theorem iblk2 : iblk m c 2 t = (up Md : S6x1024.Idx → EReal) := by
  have e : iblk m c 2 t = m ((c : Thread nD τ).loc main_arg2) := by
    blk_ext! [iblk, V, (idxw t).1]
  rw [e, H.a2]

theorem iblk4 : iblk m c 4 t = (up W1 : S1024x4096.Idx → EReal) := by
  have e : iblk m c 4 t = m ((c : Thread nD τ).loc main_arg7) := by
    blk_ext! [iblk, V, (idxw t).2.2.1]
  rw [e, H.a7]

theorem iblk5 : iblk m c 5 t = (up W2 : S4096x1024.Idx → EReal) := by
  have e : iblk m c 5 t = m ((c : Thread nD τ).loc main_arg8) := by
    blk_ext! [iblk, V, (idxw t).2.2.2]
  rw [e, H.a8]

/-- The host's stack of the four layer norm rows. -/
theorem ln_rows : V m c main_v0 = (up Ln : S4x1024.Idx → EReal) := by
  entry_read
  show concatenate S4x1024 0 [⟨S1x1024, m ((c : Thread nD τ).loc main_arg3)⟩, ⟨S1x1024, m ((c : Thread nD τ).loc main_arg4)⟩,
    ⟨S1x1024, m ((c : Thread nD τ).loc main_arg5)⟩, ⟨S1x1024, m ((c : Thread nD τ).loc main_arg6)⟩]
      concatenates_S1x1024_S1x1024_S1x1024_S1x1024_S4x1024_d0 = _
  rw [H.a3, H.a4, H.a5, H.a6]
  refine eq_up _ _ fun k j => ?_
  fin_cases k <;> pointwise [up]

theorem iblk3 : iblk m c 3 t = (up Ln : S4x1024.Idx → EReal) := by
  rw [← ln_rows H]
  funext i
  show V m c main_v0 _ = V m c main_v0 _
  generalize V m c main_v0 = y
  blk_ext [(idxw t).2.1]

theorem outs_A (h0 : t.val % 16 = 0) :
    outsAt0 m c t.val t.isLt = Left X T Md Ln W1 W2 t fun k j => 0 + ∑ r, part (par Md Ln W1 W2) (X (tok t r)) (T (tok t r)) k j := by
  rw [outsAt0_A m c t h0, iblk0 H t, iblk1 H t, iblk2 H t, iblk3 H t, iblk4 H t, iblk5 H t,
    out_A_6 (fun r => X (tok t r)) (fun r => T (tok t r)) Md Ln W1 W2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0),
    out_A_7 (fun r => X (tok t r)) (fun r => T (tok t r)) Md Ln W1 W2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0),
    out_A_8 (fun r => X (tok t r)) (fun r => T (tok t r)) Md Ln W1 W2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0),
    out_A_9 (fun r => X (tok t r)) (fun r => T (tok t r)) Md Ln W1 W2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0),
    out_A_10 (fun r => X (tok t r)) (fun r => T (tok t r)) Md Ln W1 W2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0),
    out_A_11 (fun r => X (tok t r)) (fun r => T (tok t r)) Md Ln W1 W2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0)]

theorem outs_B (h0 : ¬t.val % 16 = 0) (V : Fin 8 → Fin 1024 → ℝ)
    (hV : (outsAt0 m c (t.val - 1) (Nat.lt_of_le_of_lt (Nat.sub_le _ _) t.isLt)).2.2.2.2.2 = up V) :
    outsAt0 m c t.val t.isLt = Left X T Md Ln W1 W2 t fun k j => V k j + ∑ r, part (par Md Ln W1 W2) (X (tok t r)) (T (tok t r)) k j := by
  rw [outsAt0_B m c t h0, hV, iblk0 H t, iblk1 H t, iblk2 H t, iblk3 H t, iblk4 H t, iblk5 H t,
    out_B_6 (fun r => X (tok t r)) (fun r => T (tok t r)) Md Ln W1 W2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) V,
    out_B_7 (fun r => X (tok t r)) (fun r => T (tok t r)) Md Ln W1 W2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) V,
    out_B_8 (fun r => X (tok t r)) (fun r => T (tok t r)) Md Ln W1 W2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) V,
    out_B_9 (fun r => X (tok t r)) (fun r => T (tok t r)) Md Ln W1 W2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) V,
    out_B_10 (fun r => X (tok t r)) (fun r => T (tok t r)) Md Ln W1 W2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) V,
    out_B_11 (fun r => X (tok t r)) (fun r => T (tok t r)) Md Ln W1 W2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) V]

omit H in
theorem tok_val (r : Fin 512) : (tok t r).val = t.val * 512 + r.val := rfl

omit H in
theorem tok_inj : Function.Injective (tok t) := fun a b h => by
  have := congrArg Fin.val h
  rw [tok_val, tok_val] at this
  exact Fin.ext (by omega)

omit H in
/-- One point more: the sums over its tokens are added. -/
theorem sums_step (k : Fin 8) (j : Fin 1024) :
    sums X T Md Ln W1 W2 (t.val + 1) k j
      = sums X T Md Ln W1 W2 t.val k j + ∑ r, part (par Md Ln W1 W2) (X (tok t r)) (T (tok t r)) k j := by
  have ht := lt_of_lt_of_eq t.isLt (show cfg0.N = 16 from N_0)
  have e : ∑ r, part (par Md Ln W1 W2) (X (tok t r)) (T (tok t r)) k j
      = ∑ s ∈ Finset.univ.map ⟨tok t, tok_inj t⟩, part (par Md Ln W1 W2) (X s) (T s) k j := by
    rw [Finset.sum_map]; rfl
  have e2 : Finset.univ.map ⟨tok t, tok_inj t⟩
      = Finset.univ.filter fun s : Fin 8192 => 512 * t.val ≤ s.val ∧ s.val < 512 * (t.val + 1) := by
    ext s
    simp only [Finset.mem_map, Finset.mem_univ, true_and, Function.Embedding.coeFn_mk, Finset.mem_filter]
    constructor
    · rintro ⟨r, rfl⟩
      have := tok_val t r; omega
    · intro h
      exact ⟨⟨s.val - 512 * t.val, by omega⟩, Fin.ext (by rw [tok_val]; dsimp only; omega)⟩
  rw [e, e2, Finset.sum_filter]
  unfold sums
  rw [← Finset.sum_add_distrib]
  refine Finset.sum_congr rfl fun s _ => ?_
  by_cases h1 : s.val < 512 * t.val
  · rw [if_pos (by omega), if_pos h1, if_neg (by omega), add_zero]
  · by_cases h2 : s.val < 512 * (t.val + 1)
    · rw [if_pos h2, if_neg h1, if_pos ⟨by omega, h2⟩, zero_add]
    · rw [if_neg h2, if_neg h1, if_neg (by omega), add_zero]

/-- Every point leaves its tokens' blocks and the sums over all the tokens up to its own. -/
theorem outs (n : ℕ) : ∀ hn : n < cfg0.N, outsAt0 m c n hn = Left X T Md Ln W1 W2 ⟨n, hn⟩ (sums X T Md Ln W1 W2 (n + 1)) := by
  induction n with
  | zero =>
    intro hn
    refine (outs_A H ⟨0, hn⟩ rfl).trans (congrArg _ ?_)
    funext k j
    rw [show sums X T Md Ln W1 W2 (0 + 1) k j = _ from sums_step ⟨0, hn⟩ k j]
    simp [sums]
  | succ n ih =>
    intro hn
    have h16 := lt_of_lt_of_eq hn (show cfg0.N = 16 from N_0)
    refine (outs_B H ⟨n + 1, hn⟩ (show ¬(n + 1) % 16 = 0 by omega) (sums X T Md Ln W1 W2 (n + 1)) ?_).trans (congrArg _ ?_)
    · exact congrArg (·.2.2.2.2.2) (ih (Nat.lt_of_succ_lt hn))
    · funext k j
      exact (sums_step ⟨n + 1, hn⟩ k j).symm

theorem arr6 : (dats m 0 c).arrAt 6 cfg0.N = (up fun s => dx (par Md Ln W1 W2) (X s) (T s) : S8192x1024.Idx → EReal) := by
  refine (dats m 0 c).arrAt_eq_of_covers 6 _ (by decide +kernel) fun t _ y => ?_
  blk_simp
  rw [after0_6, outs H]
  have e : (win0_6.blk t).view.emb y = (ix2 (tok t (y 0)) (y 1) : S8192x1024.Idx) := by
    blk_ext [(idxo t).1, tok]
  exact (congrArg (up fun s => dx (par Md Ln W1 W2) (X s) (T s) : S8192x1024.Idx → EReal) e).symm

theorem arr7 : (dats m 0 c).arrAt 7 cfg0.N = (up fun s => h (par Md Ln W1 W2) (X s) : S8192x1024.Idx → EReal) := by
  refine (dats m 0 c).arrAt_eq_of_covers 7 _ (by decide +kernel) fun t _ y => ?_
  blk_simp
  rw [after0_7, outs H]
  have e : (win0_7.blk t).view.emb y = (ix2 (tok t (y 0)) (y 1) : S8192x1024.Idx) := by
    blk_ext [(idxo t).2.1, tok]
  exact (congrArg (up fun s => h (par Md Ln W1 W2) (X s) : S8192x1024.Idx → EReal) e).symm

theorem arr8 : (dats m 0 c).arrAt 8 cfg0.N = (up fun s => a (par Md Ln W1 W2) (X s) : S8192x4096.Idx → EReal) := by
  refine (dats m 0 c).arrAt_eq_of_covers 8 _ (by decide +kernel) fun t _ y => ?_
  blk_simp
  rw [after0_8, outs H]
  have e : (win0_8.blk t).view.emb y = (ix2 (tok t (y 0)) (y 1) : S8192x4096.Idx) := by
    blk_ext [(idxo t).2.2.1, tok]
  exact (congrArg (up fun s => a (par Md Ln W1 W2) (X s) : S8192x4096.Idx → EReal) e).symm

theorem arr9 : (dats m 0 c).arrAt 9 cfg0.N = (up fun s => du (par Md Ln W1 W2) (X s) (T s) : S8192x4096.Idx → EReal) := by
  refine (dats m 0 c).arrAt_eq_of_covers 9 _ (by decide +kernel) fun t _ y => ?_
  blk_simp
  rw [after0_9, outs H]
  have e : (win0_9.blk t).view.emb y = (ix2 (tok t (y 0)) (y 1) : S8192x4096.Idx) := by
    blk_ext [(idxo t).2.2.2.1, tok]
  exact (congrArg (up fun s => du (par Md Ln W1 W2) (X s) (T s) : S8192x4096.Idx → EReal) e).symm

theorem arr10 : (dats m 0 c).arrAt 10 cfg0.N = (up fun s => df (par Md Ln W1 W2) (X s) (T s) : S8192x1024.Idx → EReal) := by
  refine (dats m 0 c).arrAt_eq_of_covers 10 _ (by decide +kernel) fun t _ y => ?_
  blk_simp
  rw [after0_10, outs H]
  have e : (win0_10.blk t).view.emb y = (ix2 (tok t (y 0)) (y 1) : S8192x1024.Idx) := by
    blk_ext [(idxo t).2.2.2.2, tok]
  exact (congrArg (up fun s => df (par Md Ln W1 W2) (X s) (T s) : S8192x1024.Idx → EReal) e).symm

omit H in
/-- After the sixteen points the sums are over every token. -/
theorem sums_all (k : Fin 8) (j : Fin 1024) :
    sums X T Md Ln W1 W2 16 k j = ∑ s, part (par Md Ln W1 W2) (X s) (T s) k j :=
  Finset.sum_congr rfl fun s _ => if_pos (by have := s.isLt; omega)

theorem arr11 : (dats m 0 c).arrAt 11 cfg0.N
    = (up fun k j => ∑ s, part (par Md Ln W1 W2) (X s) (T s) k j : S8x1024.Idx → EReal) := by
  refine (dats m 0 c).arrAt_eq_of_covers 11 _ (by decide +kernel) fun t hf y => ?_
  have h15 : t.val = 15 := by
    have := (flush0_11 t).mp hf
    have := lt_of_lt_of_eq t.isLt (show cfg0.N = 16 from N_0)
    dsimp only at *
    omega
  blk_simp
  rw [after0_11, outs H]
  have e : (win0_11.blk t).view.emb y = (ix2 (y 0) (y 1) : S8x1024.Idx) := by
    blk_ext [idxl t]
  have e2 : sums X T Md Ln W1 W2 (t.val + 1) = fun k j => ∑ s, part (par Md Ln W1 W2) (X s) (T s) k j := by
    funext k j; rw [h15]; exact sums_all k j
  rw [e2]
  exact (congrArg (up fun k j => ∑ s, part (par Md Ln W1 W2) (X s) (T s) k j : S8x1024.Idx → EReal) e).symm

end Cert.KernelIdeal.Arrays
-- ==== Proof.RefVal.lean ====
/- What the reference's stages compute, its arguments being real: the sub-layer's functions, row by row. -/
module

public import proofs.«01_k».proof.Proof.Gen.ReferenceIdeal.Read
public import proofs.«01_k».proof.Proof.MlpSpec

@[expose] public section

set_option maxRecDepth 16384

noncomputable section

namespace Cert.ReferenceIdeal.Stages

open Cert.ReferenceIdeal Cert.ReferenceIdeal.Gen Cert.ReferenceIdeal.Read Cert.Reals Cert.Mlp Idealize.ShloMosaic

variable (X T : Fin 8192 → Fin 1024 → ℝ) (Md : Fin 6 → Fin 1024 → ℝ) (Ln : Fin 4 → Fin 1024 → ℝ)
  (W1 : Fin 1024 → Fin 4096 → ℝ) (W2 : Fin 4096 → Fin 1024 → ℝ)

/-- A row less its mean sums to zero. -/
theorem sum_cen (p : Par) (x : Fin 1024 → ℝ) : ∑ j, cen p x j = 0 := by
  simp only [cen, mean, Finset.sum_sub_distrib, Finset.sum_const, Finset.card_univ, Fintype.card_fin, nsmul_eq_mul]
  push_cast
  ring

/-- The inverse root's square is the inverse of the variance with its offset. -/
theorem rs_sq (p : Par) (x : Fin 1024 → ℝ) : rs p x * rs p x * va p x = 1 := by
  have hv := va_pos p x
  have hs : Real.sqrt (va p x) ≠ 0 := (Real.sqrt_pos.mpr hv).ne'
  have h := Real.mul_self_sqrt hv.le
  unfold rs
  field_simp
  rw [pow_two, h]

/-- The layer norm's gradient as differentiating its two means and its variance gives it is the centred form. -/
theorem dr_vjp (p : Par) (x t : Fin 1024 → ℝ) (j : Fin 1024) :
    dr p x t j = q p x t j * rs p x + (∑ i, cen p x i * q p x t i) * (-(1 / 2) * (rs p x / va p x)) / 1024 * (2 * cen p x j)
      + ((∑ i, -(q p x t i * rs p x))
        + ∑ i, -((∑ l, cen p x l * q p x t l) * (-(1 / 2) * (rs p x / va p x)) / 1024 * (2 * cen p x i))) / 1024 := by
  have hv : va p x ≠ 0 := (va_pos p x).ne'
  have e1 : ∑ i, -(q p x t i * rs p x) = -((∑ i, q p x t i) * rs p x) := by rw [Finset.sum_neg_distrib, Finset.sum_mul]
  have e2 : ∀ K : ℝ, ∑ i, -(K * (2 * cen p x i)) = 0 := fun K => by
    rw [Finset.sum_neg_distrib, ← Finset.mul_sum, ← Finset.mul_sum, sum_cen]; ring
  have e3 : ∑ i, q p x t i * xh p x i = (∑ i, cen p x i * q p x t i) * rs p x := by
    rw [Finset.sum_mul]; exact Finset.sum_congr rfl fun i _ => by unfold xh; ring
  have e4 : rs p x / va p x = rs p x * (rs p x * rs p x) := by
    rw [div_eq_iff hv, mul_assoc, rs_sq, mul_one]
  rw [e1, e2, e4]
  unfold dr
  simp only [mean, e3]
  unfold xh
  ring

/-- The gradient of the squared ReLU is the product chosen where the hidden value is positive, and elsewhere zero. -/
theorem du_select (p : Par) (x t : Fin 1024 → ℝ) (k : Fin 4096) :
    du p x t k = if 0 < u p x k then da p x t k * (2 * rl p x k) else 0 := by
  unfold du
  split
  · rfl
  · rename_i h
    simp [rl, max_eq_right (not_lt.mp h)]

theorem v3_up : val_main_v3 (F := Ideal) (up X) (row (Ln 0)) (row (Ln 1)) =
    up fun s => x1 (par Md Ln W1 W2) (X s) := by
  refine eq_up _ _ fun s j => ?_
  pointwise [val_main_v3, val_main_v1, val_main_v0, val_main_v2, up]
  simp only [← EReal.coe_mul, ← EReal.coe_add, ← EReal.coe_sub, ← EReal.coe_neg, ← EReal.coe_one, ← EReal.coe_zero, ← coe_sum, ← coe_max, x1, par]

theorem v12_up : val_main_v12 (F := Ideal) (up X) (up Md) (row (Ln 0)) (row (Ln 1)) =
    up fun s => h (par Md Ln W1 W2) (X s) := by
  refine eq_up _ _ fun s j => ?_
  rw [val_main_v12, val_main_v10, v3_up X Md Ln W1 W2]
  pointwise [val_main_v11, val_main_v9, val_main_v8, val_main_v7, val_main_v5, val_main_v4, val_main_cst, up]
  simp only [← EReal.coe_mul, ← EReal.coe_add, ← EReal.coe_sub, ← EReal.coe_neg, ← EReal.coe_one, ← EReal.coe_zero, ← coe_sum, ← coe_max, h, par]

theorem v13_up : val_main_v13 (F := Ideal) (up X) (up Md) (row (Ln 0)) (row (Ln 1)) (up W1) =
    up fun s => u (par Md Ln W1 W2) (X s) := by
  refine eq_up _ _ fun s j => ?_
  rw [val_main_v13, v12_up X Md Ln W1 W2]
  pointwise [up]
  simp only [← EReal.coe_mul, ← EReal.coe_add, ← EReal.coe_sub, ← EReal.coe_neg, ← EReal.coe_one, ← EReal.coe_zero, ← coe_sum, ← coe_max, u, par]

theorem v14_up : val_main_v14 (F := Ideal) (up X) (up Md) (row (Ln 0)) (row (Ln 1)) (up W1) =
    up fun s => rl (par Md Ln W1 W2) (X s) := by
  refine eq_up _ _ fun s j => ?_
  rw [val_main_v14, v13_up X Md Ln W1 W2]
  pointwise [val_main_call0_v0, val_main_call0_cst, up]
  simp only [← EReal.coe_mul, ← EReal.coe_add, ← EReal.coe_sub, ← EReal.coe_neg, ← EReal.coe_one, ← EReal.coe_zero, ← coe_sum, ← coe_max, rl]

theorem v18_up : val_main_v18 (F := Ideal) (up X) (up Md) (row (Ln 0)) (row (Ln 1)) (up W1) =
    up fun s => a (par Md Ln W1 W2) (X s) := by
  refine eq_up _ _ fun s j => ?_
  rw [val_main_v18, v14_up X Md Ln W1 W2]
  pointwise [up]
  simp only [← EReal.coe_mul, ← EReal.coe_add, ← EReal.coe_sub, ← EReal.coe_neg, ← EReal.coe_one, ← EReal.coe_zero, ← coe_sum, ← coe_max, a]

theorem v20_up : val_main_v20 (F := Ideal) (up X) (up Md) (row (Ln 0)) (row (Ln 1)) (up W1) =
    up fun s k => 2 * rl (par Md Ln W1 W2) (X s) k := by
  refine eq_up _ _ fun s j => ?_
  rw [val_main_v20, v14_up X Md Ln W1 W2]
  pointwise [val_main_v19, val_main_cst_2, up]
  rw [ofBits_two]
  simp only [← EReal.coe_mul, ← EReal.coe_add, ← EReal.coe_sub, ← EReal.coe_neg, ← EReal.coe_one, ← EReal.coe_zero, ← coe_sum, ← coe_max]

theorem v21_up : val_main_v21 (F := Ideal) (up X) (up Md) (row (Ln 0)) (row (Ln 1)) (up W1) (up W2) =
    up fun s => f (par Md Ln W1 W2) (X s) := by
  refine eq_up _ _ fun s j => ?_
  rw [val_main_v21, v18_up X Md Ln W1 W2]
  pointwise [up]
  simp only [← EReal.coe_mul, ← EReal.coe_add, ← EReal.coe_sub, ← EReal.coe_neg, ← EReal.coe_one, ← EReal.coe_zero, ← coe_sum, ← coe_max, f, par]

theorem v28_up : val_main_v28 (F := Ideal) (up X) (up Md) (row (Ln 0)) (row (Ln 1)) (up W1) (up W2) =
    up fun s => res (par Md Ln W1 W2) (X s) := by
  refine eq_up _ _ fun s j => ?_
  rw [val_main_v28, val_main_v23, val_main_v27, v3_up X Md Ln W1 W2, v21_up X Md Ln W1 W2]
  pointwise [val_main_v22, val_main_v26, val_main_v25, val_main_v24, val_main_v6, val_main_cst_3, val_main_cst_4, up]
  rw [ofBits_alpha]
  simp only [← EReal.coe_mul, ← EReal.coe_add, ← EReal.coe_sub, ← EReal.coe_neg, ← EReal.coe_one, ← EReal.coe_zero, ← coe_sum, ← coe_max, res, par]

theorem v32_up : val_main_v32 (F := Ideal) (up X) (up Md) (row (Ln 0)) (row (Ln 1)) (up W1) (up W2) =
    col fun s => mean (res (par Md Ln W1 W2) (X s)) := by
  refine eq_up _ _ fun s j => ?_
  rw [val_main_v32, val_main_v30, val_main_v29, v28_up X Md Ln W1 W2]
  pointwise [val_main_v31, val_main_cst_5, val_main_cst_6, up]
  rw [ofBits_1024, ← coe_sum, div_real (by norm_num)]
  rfl

theorem v34_up : val_main_v34 (F := Ideal) (up X) (up Md) (row (Ln 0)) (row (Ln 1)) (up W1) (up W2) =
    up fun s => cen (par Md Ln W1 W2) (X s) := by
  refine eq_up _ _ fun s j => ?_
  rw [val_main_v34, val_main_v33, v28_up X Md Ln W1 W2, v32_up X Md Ln W1 W2]
  pointwise [up]
  simp only [← EReal.coe_mul, ← EReal.coe_add, ← EReal.coe_sub, ← EReal.coe_neg, ← EReal.coe_one, ← EReal.coe_zero, ← coe_sum, ← coe_max, cen]

theorem v43_up : val_main_v43 (F := Ideal) (up X) (up Md) (row (Ln 0)) (row (Ln 1)) (up W1) (up W2) =
    up fun s => cen (par Md Ln W1 W2) (X s) := by
  refine eq_up _ _ fun s j => ?_
  rw [val_main_v43, val_main_v42, v28_up X Md Ln W1 W2, v32_up X Md Ln W1 W2]
  pointwise [up]
  simp only [← EReal.coe_mul, ← EReal.coe_add, ← EReal.coe_sub, ← EReal.coe_neg, ← EReal.coe_one, ← EReal.coe_zero, ← coe_sum, ← coe_max, cen]

theorem v45_up : val_main_v45 (F := Ideal) (up X) (up Md) (row (Ln 0)) (row (Ln 1)) (up W1) (up W2) =
    col fun s => va (par Md Ln W1 W2) (X s) := by
  refine eq_up _ _ fun s j => ?_
  rw [val_main_v45, val_main_v41, val_main_v39, val_main_v38, val_main_v35, v34_up X Md Ln W1 W2]
  pointwise [val_main_v44, val_main_v40, val_main_cst_8, val_main_cst_9, val_main_cst_10, up]
  simp only [← EReal.coe_mul, ← coe_sum]
  rw [ofBits_1024, ofBits_eps, div_real (by norm_num)]
  simp only [← EReal.coe_mul, ← EReal.coe_add, ← EReal.coe_sub, ← EReal.coe_neg, ← EReal.coe_one, ← EReal.coe_zero, ← coe_sum, ← coe_max, va, mean]

theorem v46_up : val_main_v46 (F := Ideal) (up X) (up Md) (row (Ln 0)) (row (Ln 1)) (up W1) (up W2) =
    col fun s => rs (par Md Ln W1 W2) (X s) := by
  refine eq_up _ _ fun s j => ?_
  rw [val_main_v46, v45_up X Md Ln W1 W2]
  pointwise [up]
  rw [rsqrt_real (va_pos _ _)]
  rfl

theorem v49_up : val_main_v49 (F := Ideal) (up X) (up Md) (row (Ln 0)) (row (Ln 1)) (up W1) (up W2) =
    col fun s => -(1 / 2) * (rs (par Md Ln W1 W2) (X s) / va (par Md Ln W1 W2) (X s)) := by
  refine eq_up _ _ fun s j => ?_
  rw [val_main_v49, val_main_v47, v45_up X Md Ln W1 W2, v46_up X Md Ln W1 W2]
  pointwise [val_main_v48, val_main_cst_11, up]
  rw [ofBits_neg_half, div_real (va_pos _ _).ne']
  simp only [← EReal.coe_mul, ← EReal.coe_add, ← EReal.coe_sub, ← EReal.coe_neg, ← EReal.coe_one, ← EReal.coe_zero, ← coe_sum, ← coe_max]

theorem v51_up : val_main_v51 (F := Ideal) (up X) (up Md) (row (Ln 0)) (row (Ln 1)) (up W1) (up W2) =
    up fun s => xh (par Md Ln W1 W2) (X s) := by
  refine eq_up _ _ fun s j => ?_
  rw [val_main_v51, val_main_v50, v43_up X Md Ln W1 W2, v46_up X Md Ln W1 W2]
  pointwise [up]
  simp only [← EReal.coe_mul, ← EReal.coe_add, ← EReal.coe_sub, ← EReal.coe_neg, ← EReal.coe_one, ← EReal.coe_zero, ← coe_sum, ← coe_max, xh]

theorem v56_up : val_main_v56 (F := Ideal) (up X) (up T) (up Md) (row (Ln 0)) (row (Ln 1)) (row (Ln 2)) (row (Ln 3)) (up W1) (up W2) =
    up fun s => d (par Md Ln W1 W2) (X s) (T s) := by
  refine eq_up _ _ fun s j => ?_
  rw [val_main_v56, val_main_v55, val_main_v53, v51_up X Md Ln W1 W2]
  pointwise [val_main_v52, val_main_v54, up]
  simp only [← EReal.coe_mul, ← EReal.coe_add, ← EReal.coe_sub, ← EReal.coe_neg, ← EReal.coe_one, ← EReal.coe_zero, ← coe_sum, ← coe_max, d, par]

theorem v70_up : val_main_v70 (F := Ideal) (up X) (up T) (up Md) (row (Ln 0)) (row (Ln 1)) (row (Ln 2)) (row (Ln 3)) (up W1) (up W2) =
    up fun s j => d (par Md Ln W1 W2) (X s) (T s) j * (1 / 1024) := by
  refine eq_up _ _ fun s j => ?_
  rw [val_main_v70, val_main_v59, v56_up X T Md Ln W1 W2]
  pointwise [val_main_v69, val_main_v68, val_main_v67, val_main_v66, val_main_v65, val_main_v58, val_main_cst_12, val_main_cst_17, val_main_cst_18, val_main_cst_19, up]
  rw [ofBits_half, ofBits_two, ofBits_1024]
  simp only [← EReal.coe_one, ← EReal.coe_mul]
  rw [div_real (by norm_num), ← EReal.coe_mul, EReal.coe_eq_coe_iff]
  ring

theorem v77_up : val_main_v77 (F := Ideal) (up X) (up T) (up Md) (row (Ln 0)) (row (Ln 1)) (row (Ln 2)) (row (Ln 3)) (up W1) (up W2) =
    up fun s => q (par Md Ln W1 W2) (X s) (T s) := by
  refine eq_up _ _ fun s j => ?_
  rw [val_main_v77, v70_up X T Md Ln W1 W2]
  pointwise [val_main_v76, up]
  rw [← EReal.coe_mul, EReal.coe_eq_coe_iff]
  simp only [q, par]
  ring

theorem v82_up : val_main_v82 (F := Ideal) (up X) (up T) (up Md) (row (Ln 0)) (row (Ln 1)) (row (Ln 2)) (row (Ln 3)) (up W1) (up W2) =
    up fun s j => q (par Md Ln W1 W2) (X s) (T s) j * rs (par Md Ln W1 W2) (X s) := by
  refine eq_up _ _ fun s j => ?_
  rw [val_main_v82, val_main_v81, v77_up X T Md Ln W1 W2, v46_up X Md Ln W1 W2]
  pointwise [up]
  simp only [← EReal.coe_mul, ← EReal.coe_add, ← EReal.coe_sub, ← EReal.coe_neg, ← EReal.coe_one, ← EReal.coe_zero, ← coe_sum, ← coe_max]

theorem v91_up : val_main_v91 (F := Ideal) (up X) (up T) (up Md) (row (Ln 0)) (row (Ln 1)) (row (Ln 2)) (row (Ln 3)) (up W1) (up W2) =
    up fun s j => (∑ i, cen (par Md Ln W1 W2) (X s) i * q (par Md Ln W1 W2) (X s) (T s) i) * (-(1 / 2) * (rs (par Md Ln W1 W2) (X s) / va (par Md Ln W1 W2) (X s))) / 1024 * (2 * cen (par Md Ln W1 W2) (X s) j) := by
  refine eq_up _ _ fun s j => ?_
  rw [val_main_v91, val_main_v90, val_main_v89, val_main_v88, val_main_v83, val_main_v80, val_main_v79, val_main_v78, val_main_v37, v43_up X Md Ln W1 W2, v77_up X T Md Ln W1 W2, v49_up X Md Ln W1 W2, v34_up X Md Ln W1 W2]
  pointwise [val_main_v87, val_main_v36, val_main_cst_7, val_main_cst_22, val_main_cst_24, val_main_cst_25, up]
  simp only [Finset.univ_unique, Finset.sum_singleton, ← EReal.coe_mul, ← coe_sum]
  rw [ofBits_1024, ofBits_two, div_real (by norm_num)]
  simp only [← EReal.coe_mul, ← EReal.coe_add, ← EReal.coe_sub, ← EReal.coe_neg, ← EReal.coe_one, ← EReal.coe_zero, ← coe_sum, ← coe_max]

theorem v101_up : val_main_v101 (F := Ideal) (up X) (up T) (up Md) (row (Ln 0)) (row (Ln 1)) (row (Ln 2)) (row (Ln 3)) (up W1) (up W2) =
    up fun s => dr (par Md Ln W1 W2) (X s) (T s) := by
  refine eq_up _ _ fun s j => ?_
  rw [val_main_v101, val_main_v95, val_main_v100, val_main_v99, val_main_v98, val_main_v96, val_main_v94, val_main_v93, val_main_v92, val_main_v86, val_main_v85, val_main_v84, v91_up X T Md Ln W1 W2, v82_up X T Md Ln W1 W2]
  pointwise [val_main_v97, val_main_cst_23, val_main_cst_26, val_main_cst_27, val_main_cst_28, up]
  simp only [Finset.univ_unique, Finset.sum_singleton, ← EReal.coe_neg, ← EReal.coe_add, ← coe_sum]
  rw [ofBits_1024, div_real (by norm_num), ← EReal.coe_add, EReal.coe_eq_coe_iff]
  exact (dr_vjp _ _ _ _).symm

theorem v103_up : val_main_v103 (F := Ideal) (up X) (up T) (up Md) (row (Ln 0)) (row (Ln 1)) (row (Ln 2)) (row (Ln 3)) (up W1) (up W2) =
    up fun s => df (par Md Ln W1 W2) (X s) (T s) := by
  refine eq_up _ _ fun s j => ?_
  rw [val_main_v103, v101_up X T Md Ln W1 W2]
  pointwise [val_main_v102, val_main_v25, val_main_v24, val_main_v6, val_main_cst_4, up]
  simp only [← EReal.coe_mul, ← EReal.coe_add, ← EReal.coe_sub, ← EReal.coe_neg, ← EReal.coe_one, ← EReal.coe_zero, ← coe_sum, ← coe_max, df, par]

theorem v109_up : val_main_v109 (F := Ideal) (up X) (up T) (up Md) (row (Ln 0)) (row (Ln 1)) (row (Ln 2)) (row (Ln 3)) (up W1) (up W2) =
    up fun s => da (par Md Ln W1 W2) (X s) (T s) := by
  refine eq_up _ _ fun s j => ?_
  rw [val_main_v109, v103_up X T Md Ln W1 W2]
  pointwise [up]
  simp only [← EReal.coe_mul, ← EReal.coe_add, ← EReal.coe_sub, ← EReal.coe_neg, ← EReal.coe_one, ← EReal.coe_zero, ← coe_sum, ← coe_max, da, par]

theorem v112_up : val_main_v112 (F := Ideal) (up X) (up T) (up Md) (row (Ln 0)) (row (Ln 1)) (row (Ln 2)) (row (Ln 3)) (up W1) (up W2) =
    up fun s => du (par Md Ln W1 W2) (X s) (T s) := by
  refine eq_up _ _ fun s j => ?_
  rw [val_main_v112, val_main_v110, val_main_v16, v109_up X T Md Ln W1 W2, v20_up X Md Ln W1 W2, v13_up X Md Ln W1 W2]
  pointwise [val_main_v111, val_main_v15, val_main_cst_0, val_main_cst_31, up]
  rw [du_select, ← EReal.coe_zero]
  simp only [EReal.coe_lt_coe_iff, ← EReal.coe_mul]
  split <;> rfl

theorem v113_up : val_main_v113 (F := Ideal) (up X) (up T) (up Md) (row (Ln 0)) (row (Ln 1)) (row (Ln 2)) (row (Ln 3)) (up W1) (up W2) =
    up fun s => dh (par Md Ln W1 W2) (X s) (T s) := by
  refine eq_up _ _ fun s j => ?_
  rw [val_main_v113, v112_up X T Md Ln W1 W2]
  pointwise [up]
  simp only [← EReal.coe_mul, ← EReal.coe_add, ← EReal.coe_sub, ← EReal.coe_neg, ← EReal.coe_one, ← EReal.coe_zero, ← coe_sum, ← coe_max, dh, par]

theorem v124_up : val_main_v124 (F := Ideal) (up X) (up T) (up Md) (row (Ln 0)) (row (Ln 1)) (row (Ln 2)) (row (Ln 3)) (up W1) (up W2) =
    up fun s => dx (par Md Ln W1 W2) (X s) (T s) := by
  refine eq_up _ _ fun s j => ?_
  rw [val_main_v124, val_main_v108, val_main_v120, v101_up X T Md Ln W1 W2, v113_up X T Md Ln W1 W2]
  pointwise [val_main_v107, val_main_v119, val_main_v8, val_main_v7, val_main_v5, val_main_cst, val_main_cst_30, up]
  rw [ofBits_alpha]
  simp only [← EReal.coe_mul, ← EReal.coe_add, ← EReal.coe_sub, ← EReal.coe_neg, ← EReal.coe_one, ← EReal.coe_zero, ← coe_sum, ← coe_max, dx, par]

theorem v72_up : val_main_v72 (F := Ideal) (up X) (up T) (up Md) (row (Ln 0)) (row (Ln 1)) (row (Ln 2)) (row (Ln 3)) (up W1) (up W2) =
    row fun j => ∑ s, part (par Md Ln W1 W2) (X s) (T s) 1 j := by
  refine eq_up _ _ fun s j => ?_
  rw [val_main_v72, val_main_v71, v70_up X T Md Ln W1 W2]
  pointwise [val_main_cst_20, up]
  simp only [← EReal.coe_mul, ← EReal.coe_add, ← EReal.coe_sub, ← EReal.coe_neg, ← EReal.coe_one, ← EReal.coe_zero, ← coe_sum, ← coe_max, part]

theorem v75_up : val_main_v75 (F := Ideal) (up X) (up T) (up Md) (row (Ln 0)) (row (Ln 1)) (row (Ln 2)) (row (Ln 3)) (up W1) (up W2) =
    row fun j => ∑ s, part (par Md Ln W1 W2) (X s) (T s) 0 j := by
  refine eq_up _ _ fun s j => ?_
  rw [val_main_v75, val_main_v74, val_main_v73, v70_up X T Md Ln W1 W2, v51_up X Md Ln W1 W2]
  pointwise [val_main_cst_21, up]
  simp only [← EReal.coe_mul, ← EReal.coe_add, ← EReal.coe_sub, ← EReal.coe_neg, ← EReal.coe_one, ← EReal.coe_zero, ← coe_sum, ← coe_max, part]
  rw [EReal.coe_eq_coe_iff]
  exact Finset.sum_congr rfl fun _ _ => by ring

theorem v115_up : val_main_v115 (F := Ideal) (up X) (up T) (up Md) (row (Ln 0)) (row (Ln 1)) (row (Ln 2)) (row (Ln 3)) (up W1) (up W2) =
    row fun j => ∑ s, part (par Md Ln W1 W2) (X s) (T s) 2 j := by
  refine eq_up _ _ fun s j => ?_
  rw [val_main_v115, val_main_v114, v113_up X T Md Ln W1 W2]
  pointwise [val_main_cst_32, up]
  simp only [← EReal.coe_mul, ← EReal.coe_add, ← EReal.coe_sub, ← EReal.coe_neg, ← EReal.coe_one, ← EReal.coe_zero, ← coe_sum, ← coe_max, part]

theorem v118_up : val_main_v118 (F := Ideal) (up X) (up T) (up Md) (row (Ln 0)) (row (Ln 1)) (row (Ln 2)) (row (Ln 3)) (up W1) (up W2) =
    row fun j => ∑ s, part (par Md Ln W1 W2) (X s) (T s) 3 j := by
  refine eq_up _ _ fun s j => ?_
  rw [val_main_v118, val_main_v117, val_main_v116, v3_up X Md Ln W1 W2, v113_up X T Md Ln W1 W2]
  pointwise [val_main_cst_33, up]
  simp only [← EReal.coe_mul, ← EReal.coe_add, ← EReal.coe_sub, ← EReal.coe_neg, ← EReal.coe_one, ← EReal.coe_zero, ← coe_sum, ← coe_max, part]
  rw [EReal.coe_eq_coe_iff]
  exact Finset.sum_congr rfl fun _ _ => by ring

theorem v106_up : val_main_v106 (F := Ideal) (up X) (up T) (up Md) (row (Ln 0)) (row (Ln 1)) (row (Ln 2)) (row (Ln 3)) (up W1) (up W2) =
    row fun j => ∑ s, part (par Md Ln W1 W2) (X s) (T s) 4 j := by
  refine eq_up _ _ fun s j => ?_
  rw [val_main_v106, val_main_v105, val_main_v104, v101_up X T Md Ln W1 W2, v21_up X Md Ln W1 W2]
  pointwise [val_main_cst_29, up]
  simp only [← EReal.coe_mul, ← EReal.coe_add, ← EReal.coe_sub, ← EReal.coe_neg, ← EReal.coe_one, ← EReal.coe_zero, ← coe_sum, ← coe_max, part]

theorem v121_up : val_main_v121 (F := Ideal) (up X) (up T) (up Md) (row (Ln 0)) (row (Ln 1)) (row (Ln 2)) (row (Ln 3)) (up W1) (up W2) =
    row fun j => ∑ s, part (par Md Ln W1 W2) (X s) (T s) 5 j := by
  refine eq_up _ _ fun s j => ?_
  rw [val_main_v121, val_main_v64, val_main_v63, val_main_v62, val_main_v60, val_main_v57, v56_up X T Md Ln W1 W2]
  pointwise [val_main_v61, val_main_cst_13, val_main_cst_14, val_main_cst_15, val_main_cst_16, up]
  simp only [← EReal.coe_mul, ← coe_sum]
  rw [ofBits_half, ofBits_1024]
  simp only [div_real (show (1024 : ℝ) ≠ 0 by norm_num), ← coe_sum, ← EReal.coe_mul]
  rw [EReal.coe_eq_coe_iff, Finset.mul_sum]
  exact Finset.sum_congr rfl fun _ _ => by simp only [part]; ring

theorem v123_up : val_main_v123 (F := Ideal) (up X) (up T) (up Md) (row (Ln 0)) (row (Ln 1)) (row (Ln 2)) (row (Ln 3)) (up W1) (up W2) =
    up fun k j => ∑ s, part (par Md Ln W1 W2) (X s) (T s) k j := by
  refine eq_up _ _ fun k j => ?_
  rw [val_main_v123, v75_up X T Md Ln W1 W2, v72_up X T Md Ln W1 W2, v115_up X T Md Ln W1 W2, v118_up X T Md Ln W1 W2, v106_up X T Md Ln W1 W2, v121_up X T Md Ln W1 W2]
  fin_cases k <;> pointwise [val_main_v122, val_main_cst_34, up] <;> simp [part]

theorem v125_up : val_main_v125 (F := Ideal) (up X) (up Md) (row (Ln 0)) (row (Ln 1)) =
    up fun s => h (par Md Ln W1 W2) (X s) := by
  rw [val_main_v125, v12_up X Md Ln W1 W2]
  rfl

theorem v126_up : val_main_v126 (F := Ideal) (up X) (up Md) (row (Ln 0)) (row (Ln 1)) (up W1) =
    up fun s => a (par Md Ln W1 W2) (X s) := by
  rw [val_main_v126, v18_up X Md Ln W1 W2]
  rfl

theorem v127_up : val_main_v127 (F := Ideal) (up X) (up T) (up Md) (row (Ln 0)) (row (Ln 1)) (row (Ln 2)) (row (Ln 3)) (up W1) (up W2) =
    up fun s => du (par Md Ln W1 W2) (X s) (T s) := by
  rw [val_main_v127, v112_up X T Md Ln W1 W2]
  rfl

theorem v128_up : val_main_v128 (F := Ideal) (up X) (up T) (up Md) (row (Ln 0)) (row (Ln 1)) (row (Ln 2)) (row (Ln 3)) (up W1) (up W2) =
    up fun s => df (par Md Ln W1 W2) (X s) (T s) := by
  rw [val_main_v128, v103_up X T Md Ln W1 W2]
  rfl

end Cert.ReferenceIdeal.Stages
-- ==== Proof.Finite.lean ====
/- The precondition read back: every element of every argument is a real number. -/
module

public import proofs.«01_k».proof.Proof.Gen.Pre_finite
public import proofs.«01_k».proof.Proof.Reals
public import Idealize.ShloMosaic.Lib.ReduceAll
public import Idealize.ShloMosaic.Lib.Affine
public import Idealize.ShloMosaic.Lib.Pointwise

@[expose] public section

set_option maxRecDepth 16384

noncomputable section

namespace Cert.Pre_finite.Real

open Cert.Pre_finite Cert.Pre_finite.Gen Cert.Reals Idealize.ShloMosaic

instance : Subsingleton S_.Idx := ⟨fun a b => funext fun i => i.elim0⟩

/-- The elements whose absolute value is below infinity are reals. -/
theorem real_of_lt (x : EReal) (h : max x (-x) < ⊤) : ∃ r : ℝ, x = (r : EReal) := by
  induction x with
  | bot => simp at h
  | top => simp at h
  | coe r => exact ⟨r, rfl⟩

theorem ofBits_inf : Ideal.ofBits .f32 0x7F800000#32 = ⊤ := by
  simp [Ideal.ofBits, Ideal.ieee]

/-- An array whose comparison with infinity is all ones is a real matrix. -/
theorem up_of_all {n k : ℕ} (x : FVec Ideal ⟨2, ![n, k]⟩ .f32) (hb : S_.BroadcastsInDim ⟨2, ![n, k]⟩ ![])
    (h : (⟨2, ![n, k]⟩ : Shape).ReducesTo [0, 1] S_)
    (e : Host.reduce IntOp.andi (cmpf .olt (Host.absf x) (broadcastInDim _ ![] hb (constant S_ .f32 0x7F800000#32)))
      (constantI S_ 1 1#1) h h_S_ (fun a => a.elim0) = 1#1) :
    ∃ A : Fin n → Fin k → ℝ, x = up A := by
  have key : ∀ i, ∃ r : ℝ, x i = (r : EReal) := fun i => by
    have := Host.reduce_andi_all _ _ h h_S_ _ e i
    refine real_of_lt _ ?_
    revert this
    pointwise []
    rw [ofBits_inf]
    intro hh
    exact of_decide_eq_true (by revert hh; cases decide (FloatOps.absf (F := Ideal) (φ := .f32) (x i) < ⊤) <;> simp)
  choose f hf using key
  refine ⟨fun a b => f (ix2 a b), ?_⟩
  refine eq_up _ _ fun a b => hf _

theorem and_one (a b : IVec S_ 1) (i : S_.Idx) : andi a b i = 1#1 ↔ a i = 1#1 ∧ b i = 1#1 := IntOp.andi_eq_one

/-- Under the precondition the nine arguments are real matrices. -/
theorem args_real (x0 x1 : FVec Ideal S8192x1024 .f32) (x2 : FVec Ideal S6x1024 .f32) (x3 x4 x5 x6 : FVec Ideal S1x1024 .f32)
    (x7 : FVec Ideal S1024x4096 .f32) (x8 : FVec Ideal S4096x1024 .f32)
    (h : fn (F := Ideal) x0 x1 x2 x3 x4 x5 x6 x7 x8 = fun _ => 1#1) :
    ((∃ A, x0 = up A) ∧ (∃ A, x1 = up A) ∧ (∃ A, x2 = up A) ∧ (∃ A, x3 = up A) ∧ (∃ A, x4 = up A) ∧ (∃ A, x5 = up A))
      ∧ (∃ A, x6 = up A) ∧ (∃ A, x7 = up A) ∧ ∃ A, x8 = up A := by
  have e := congrFun h (fun a => a.elim0)
  unfold fn fn_part1 fn_part2 at e
  simp only [and_one] at e
  obtain ⟨⟨⟨⟨⟨⟨⟨⟨⟨-, e0⟩, e1⟩, e2⟩, e3⟩, e4⟩, e5⟩, e6⟩, e7⟩, e8⟩ := e
  exact ⟨⟨up_of_all _ _ _ e0, up_of_all _ _ _ e1, up_of_all _ _ _ e2, up_of_all _ _ _ e3, up_of_all _ _ _ e4, up_of_all _ _ _ e5⟩,
    up_of_all _ _ _ e6, up_of_all _ _ _ e7, up_of_all _ _ _ e8⟩

end Cert.Pre_finite.Real
-- ==== Proof.MlpClaim.lean ====
/- The claims of the feed-forward sub-layer's call: the runs of its kernel and of its reference, and that they leave the same arrays. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.ArrayVal
public import proofs.«01_k».proof.Proof.RefVal
public import proofs.«01_k».proof.Proof.Finite
public import Idealize.ShloMosaic.Lib.Claim

@[expose] public section

set_option maxRecDepth 16384

noncomputable section

namespace Cert.MlpClaim

open Idealize.ShloMosaic Idealize.ShloMosaic.TcCoe Idealize.SL.Sem Cert.Reals Cert.Mlp

theorem frame_p : Cert.quiescent_Kernel (hKernel := Cert.Kernel.Gen.facts) := fun m g _ => Cert.Kernel.Gen.frame m g

theorem frame_pi : Cert.quiescent_KernelIdeal (hKernelIdeal := Cert.KernelIdeal.Gen.facts) := fun m g _ => Cert.KernelIdeal.Gen.frame m g

/-- The reference declares no semaphore, and its run leaves the arguments. -/
theorem frame_ri : Cert.quiescent_ReferenceIdeal (hReferenceIdeal := Cert.ReferenceIdeal.Gen.facts) := fun m g _ =>
  (θ_run _ _ _).mono (fun r h => ⟨fun c => (h c).2.2.2.2.2.2, sem_eq_zero_of_no_sems (by decide) r.2⟩)
    (Cert.ReferenceIdeal.Value.run m g)

/-- A matrix of one row is that row. -/
theorem up_row {n : ℕ} (A : Fin 1 → Fin n → ℝ) : (up A : (⟨2, ![1, n]⟩ : Shape).Idx → EReal) = row (A 0) := by
  have e : A = fun _ => A 0 := funext fun i => by rw [Subsingleton.elim i 0]
  exact congrArg up e

open Cert.KernelIdeal Cert.KernelIdeal.Gen in
/-- The precondition gives real arguments. -/
theorem holds (m : (ℓ : Loc nD τ sig) → Buf (Elt Ideal) ℓ) (c : Dev nD)
    (hpre : Cert.Pre_KernelIdeal_finite (hPre_finite := Cert.Pre_finite.Gen.facts) m) :
    ∃ X T Md Ln W1 W2, Cert.KernelIdeal.Arrays.Holds m c X T Md Ln W1 W2 := by
  obtain ⟨⟨⟨X, h0⟩, ⟨T, h1⟩, ⟨Md, h2⟩, ⟨A3, h3⟩, ⟨A4, h4⟩, ⟨A5, h5⟩⟩, ⟨A6, h6⟩, ⟨W1, h7⟩, ⟨W2, h8⟩⟩ :=
    Cert.Pre_finite.Real.args_real _ _ _ _ _ _ _ _ _ (hpre c)
  exact ⟨X, T, Md, ![A3 0, A4 0, A5 0, A6 0], W1, W2, h0, h1, h2, h3.trans (up_row A3), h4.trans (up_row A4), h5.trans (up_row A5),
    h6.trans (up_row A6), h7, h8⟩

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from Cert.KernelIdeal.Value.run_blocks m g
  · refine (θ_run _ _ _).mono (fun r h c => ?_) (Cert.ReferenceIdeal.Value.run m' g')
    obtain ⟨X, T, Md, Ln, W1, W2, H⟩ := holds m c hpre
    obtain ⟨g0, g1, g2, g3, g4, g5, g6, g7, g8⟩ := hagree c
    have l0 : StableHlo.launchContents m' c (Proc.devRef .tc Cert.ReferenceIdeal.main_arg0) = up X := g0.trans H.a0
    have l1 : StableHlo.launchContents m' c (Proc.devRef .tc Cert.ReferenceIdeal.main_arg1) = up T := g1.trans H.a1
    have l2 : StableHlo.launchContents m' c (Proc.devRef .tc Cert.ReferenceIdeal.main_arg2) = up Md := g2.trans H.a2
    have l3 : StableHlo.launchContents m' c (Proc.devRef .tc Cert.ReferenceIdeal.main_arg3) = row (Ln 0) := g3.trans H.a3
    have l4 : StableHlo.launchContents m' c (Proc.devRef .tc Cert.ReferenceIdeal.main_arg4) = row (Ln 1) := g4.trans H.a4
    have l5 : StableHlo.launchContents m' c (Proc.devRef .tc Cert.ReferenceIdeal.main_arg5) = row (Ln 2) := g5.trans H.a5
    have l6 : StableHlo.launchContents m' c (Proc.devRef .tc Cert.ReferenceIdeal.main_arg6) = row (Ln 3) := g6.trans H.a6
    have l7 : StableHlo.launchContents m' c (Proc.devRef .tc Cert.ReferenceIdeal.main_arg7) = up W1 := g7.trans H.a7
    have l8 : StableHlo.launchContents m' c (Proc.devRef .tc Cert.ReferenceIdeal.main_arg8) = up W2 := g8.trans H.a8
    obtain ⟨r0, r1, r2, r3, r4, r5, k⟩ := h c
    refine ⟨r0.trans ?_, r1.trans ?_, r2.trans ?_, r3.trans ?_, r4.trans ?_, r5.trans ?_, k⟩
    · refine (Cert.ReferenceIdeal.Read.val_main_v124_eq (StableHlo.launchContents m' c)).trans ?_
      rw [l0, l1, l2, l3, l4, l5, l6, l7, l8]
      exact (Cert.ReferenceIdeal.Stages.v124_up X T Md Ln W1 W2).trans (Cert.KernelIdeal.Arrays.arr6 H).symm
    · refine (Cert.ReferenceIdeal.Read.val_main_v125_eq (StableHlo.launchContents m' c)).trans ?_
      rw [l0, l2, l3, l4]
      exact (Cert.ReferenceIdeal.Stages.v125_up X Md Ln W1 W2).trans (Cert.KernelIdeal.Arrays.arr7 H).symm
    · refine (Cert.ReferenceIdeal.Read.val_main_v126_eq (StableHlo.launchContents m' c)).trans ?_
      rw [l0, l2, l3, l4, l7]
      exact (Cert.ReferenceIdeal.Stages.v126_up X Md Ln W1 W2).trans (Cert.KernelIdeal.Arrays.arr8 H).symm
    · refine (Cert.ReferenceIdeal.Read.val_main_v127_eq (StableHlo.launchContents m' c)).trans ?_
      rw [l0, l1, l2, l3, l4, l5, l6, l7, l8]
      exact (Cert.ReferenceIdeal.Stages.v127_up X T Md Ln W1 W2).trans (Cert.KernelIdeal.Arrays.arr9 H).symm
    · refine (Cert.ReferenceIdeal.Read.val_main_v128_eq (StableHlo.launchContents m' c)).trans ?_
      rw [l0, l1, l2, l3, l4, l5, l6, l7, l8]
      exact (Cert.ReferenceIdeal.Stages.v128_up X T Md Ln W1 W2).trans (Cert.KernelIdeal.Arrays.arr10 H).symm
    · refine (Cert.ReferenceIdeal.Read.val_main_v123_eq (StableHlo.launchContents m' c)).trans ?_
      rw [l0, l1, l2, l3, l4, l5, l6, l7, l8]
      exact (Cert.ReferenceIdeal.Stages.v123_up X T Md Ln W1 W2).trans (Cert.KernelIdeal.Arrays.arr11 H).symm

end Cert.MlpClaim

end
-- ==== Proof.WgradBlock.lean ====
/- What one point of the weight gradient's call leaves in its accumulator and in its output block. -/
module

public import proofs.«01_k».proof.Proof.Gen.Kernel3Ideal.Frame
public import proofs.«01_k».proof.Proof.Stores
public import Idealize.ShloMosaic.Lib.VecWindow
public import Idealize.ShloMosaic.Lib.Pipeline.ValueKit
public import Idealize.ShloMosaic.Lib.Pipeline.ValueKit.Tiles

@[expose] public section

set_option maxRecDepth 16384

noncomputable section

namespace Cert.Kernel3Ideal.Block

open Cert.Kernel3Ideal Cert.Kernel3Ideal.Gen Idealize.ShloMosaic Idealize.ShloMosaic.TcCoe

/-- A matrix of extended reals as an array. -/
def mx {n m : ℕ} (A : Fin n → Fin m → EReal) : (⟨2, ![n, m]⟩ : Shape).Idx → EReal := fun i => A (i 0) (i 1)

theorem mx_apply {n m : ℕ} (A : Fin n → Fin m → EReal) (a : Fin n) (b : Fin m) : mx A (ix2 a b) = A a b := rfl

theorem eq_mx {n m : ℕ} (v : (⟨2, ![n, m]⟩ : Shape).Idx → EReal) (A : Fin n → Fin m → EReal) (h : ∀ a b, v (ix2 a b) = A a b) : v = mx A := by
  funext i
  obtain ⟨a, b, rfl⟩ : ∃ (a : Fin n) (b : Fin m), i = ix2 a b := ⟨i 0, i 1, eq_ix2 i⟩
  exact h a b

/-- The two halves of a matrix's columns. -/
def lo {n : ℕ} (A : Fin n → Fin 1024 → EReal) (a : Fin n) (j : Fin 512) : EReal := A a ⟨j.val, by omega⟩
def hi {n : ℕ} (A : Fin n → Fin 1024 → EReal) (a : Fin n) (j : Fin 512) : EReal := A a ⟨512 + j.val, by omega⟩

/-- The product of a block's transposed activations with its cotangents. -/
def prod {m : ℕ} (A : Fin 4096 → Fin 1024 → EReal) (B : Fin 4096 → Fin m → EReal) (i : Fin 1024) (j : Fin m) : EReal := ∑ t, A t i * B t j

variable (A B : Fin 4096 → Fin 1024 → EReal) (V : Fin 1024 → Fin 512 → EReal) (W : Fin 1024 → Fin 1024 → EReal)

theorem pay3_mx (D : Fin 4096 → Fin 512 → EReal) :
    k0_pay3 (F := Ideal) (mx A) (mx V) (mx D) = mx fun i j => V i j + prod A D i j := by
  refine eq_mx _ _ fun r j => ?_
  pointwise [k0_pay3, k0_pay2, mx]
  rfl

theorem pay4_mx (D : Fin 4096 → Fin 512 → EReal) :
    k0_pay4 (F := Ideal) (mx A) (mx V) (mx D) = mx fun i j => V i j + prod A D i j := by
  refine eq_mx _ _ fun r j => ?_
  pointwise [k0_pay4, k0_pay2, mx]
  rfl

theorem pay1_mx : k0_pay1 (F := Ideal) = mx fun _ _ => 0 := by
  refine eq_mx _ _ fun r j => ?_
  pointwise [k0_pay1, mx]

theorem pay5_mx : k0_pay5 (F := Ideal) (mx W) = mx W := rfl

/-- A load of a whole block, and of a half of its columns. -/
theorem ld_all (inb) : View.ld (Val := Elt Ideal) (S := S4096x1024) (e' := .bf16) (mx A) (Rect.unit ![0, 0] ![4096, 1024] inb) = mx A :=
  View.ld_unit_zero (S := S4096x1024) (by decide) inb _

theorem ld_half {n o : ℕ} (D : Fin n → Fin 1024 → EReal) (h : o + 512 ≤ 1024)
    (inb : ∀ a, (![0, o] : Fin 2 → ℕ) a + (![n, 512] : Fin 2 → ℕ) a ≤ (⟨2, ![n, 1024]⟩ : Shape).size a) :
    View.ld (Val := Elt Ideal) (S := ⟨2, ![n, 1024]⟩) (e' := .f32) (mx D) (Rect.unit ![0, o] ![n, 512] inb)
      = mx fun (a : Fin n) (j : Fin 512) => D a ⟨o + j.val, by omega⟩ := by
  funext x
  refine View.ld_unit_apply_of (Val := Elt Ideal) (e := .f32) (mx D) ![0, o] ![n, 512] inb x
    (ix2 (x 0) ⟨o + (x 1).val, by have : (x 1).val < 512 := (x 1).isLt; omega⟩) fun a => ?_
  fin_cases a
  · show (x 0).val = 0 + (x 0).val; omega
  · rfl

theorem ld_lo {n : ℕ} (D : Fin n → Fin 1024 → EReal) (inb) :
    View.ld (Val := Elt Ideal) (S := ⟨2, ![n, 1024]⟩) (e' := .f32) (mx D) (Rect.unit ![0, 0] ![n, 512] inb) = mx (lo D) := by
  rw [ld_half D (by norm_num) inb]; simp only [Nat.zero_add]; rfl
theorem ld_hi {n : ℕ} (D : Fin n → Fin 1024 → EReal) (inb) :
    View.ld (Val := Elt Ideal) (S := ⟨2, ![n, 1024]⟩) (e' := .f32) (mx D) (Rect.unit ![0, 512] ![n, 512] inb) = mx (hi D) :=
  ld_half D (by norm_num) inb
theorem ld_lo16 {n : ℕ} (D : Fin n → Fin 1024 → EReal) (inb) :
    View.ld (Val := Elt Ideal) (S := ⟨2, ![n, 1024]⟩) (e' := .bf16) (mx D) (Rect.unit ![0, 0] ![n, 512] inb) = mx (lo D) := ld_lo D inb
theorem ld_hi16 {n : ℕ} (D : Fin n → Fin 1024 → EReal) (inb) :
    View.ld (Val := Elt Ideal) (S := ⟨2, ![n, 1024]⟩) (e' := .bf16) (mx D) (Rect.unit ![0, 512] ![n, 512] inb) = mx (hi D) := ld_hi D inb

/-- The zeroed accumulator read back: a half of it, and the other half after the first was stored. -/
theorem back_zero {sig : RefSig} {κ : Kind} {sp : Space} (v : View sig κ sp S1024x1024 .f32) (o : ℕ) (inb inb') :
    v.readCov (Val := Elt Ideal) [⟨Rect.unit ![0, 0] ![1024, 1024] inb, mx fun _ _ => (0 : EReal)⟩]
      (Rect.unit ![0, o] ![1024, 512] inb').toLoadRect = mx fun _ _ => (0 : EReal) := by
  rw [View.readCov_eq_canon']
  funext j
  rw [View.canon_unit_zero (S := S1024x1024) (by decide) inb]
  rfl

theorem back_zero_hi {sig : RefSig} {κ : Kind} {sp : Space} (v : View sig κ sp S1024x1024 .f32) (U : Fin 1024 → Fin 512 → EReal) (inb inb' inb'') :
    v.readCov (Val := Elt Ideal) [⟨Rect.unit ![0, 0] ![1024, 512] inb'', mx U⟩, ⟨Rect.unit ![0, 0] ![1024, 1024] inb, mx fun _ _ => (0 : EReal)⟩]
      (Rect.unit ![0, 512] ![1024, 512] inb').toLoadRect = mx fun _ _ => (0 : EReal) :=
  (View.readCov_cons_of_disjoint v (⟨Rect.unit ![0, 0] ![1024, 512] inb'', mx U⟩ : View.Piece (Elt Ideal) S1024x1024 .f32) _ _
    (Rect.unit_disjoint (s := S1024x1024) (inb := inb'') (inb' := inb') 1 (Or.inl (by decide)))).trans (back_zero v 512 inb inb')

/-- The two halves stored last hold the matrix, whatever was there before. -/
theorem halves {sig : RefSig} {κ : Kind} {sp : Space} (v : View sig κ sp S1024x1024 .f32) (f : v.ty.Contents (Elt Ideal))
    (G : Fin 1024 → Fin 1024 → EReal) (i0 i1) (L : List (View.Piece (Elt Ideal) S1024x1024 .f32)) :
    v.read (Elt Ideal) (v.writes (Elt Ideal) f
      (⟨Rect.unit ![0, 512] ![1024, 512] i1, mx (hi G)⟩ :: ⟨Rect.unit ![0, 0] ![1024, 512] i0, mx (lo G)⟩ :: L)) = mx G := by
  refine eq_mx _ _ fun a b => ?_
  have hb := b.isLt
  by_cases h1 : 512 ≤ b.val
  · rw [Cert.KernelIdeal.Block.hit rfl v f 0 512 i1 _ _ a b a ⟨b.val - 512, by omega⟩ (by omega) (by dsimp only; omega), mx_apply]
    exact congrArg (G a) (Fin.ext (by dsimp only; omega))
  · rw [View.read_writes_cons_miss_of_axis v f _ _ (ix2 a b) (1 : Fin 2) 512 512 rfl rfl rfl (Or.inl (by show b.val < 512; omega)),
      Cert.KernelIdeal.Block.hit rfl v f 0 0 i0 _ _ a b a ⟨b.val, by omega⟩ (by omega) (by dsimp only; omega), mx_apply]
    rfl

theorem halves_back {sig : RefSig} {κ : Kind} {sp : Space} (v : View sig κ sp S1024x1024 .f32) (G : Fin 1024 → Fin 1024 → EReal) (i0 i1 inb) :
    v.readCov (Val := Elt Ideal) [⟨Rect.unit ![0, 512] ![1024, 512] i1, mx (hi G)⟩, ⟨Rect.unit ![0, 0] ![1024, 512] i0, mx (lo G)⟩]
      (Rect.unit ![0, 0] ![1024, 1024] inb).toLoadRect = mx G := by
  rw [View.readCov_eq_canon', ← View.read_writes_junk_eq_canon v, halves v v.junk G i0 i1 []]
  exact View.ld_unit_zero (Val := Elt Ideal) (S := S1024x1024) (e := .f32) (by decide) inb (mx G)

variable (c : Dev nD) (i : grid0.Coords) (arg3 : Memref sig .tc .vmem S4096x1024 .bf16) (harg3 : arg3.IsWhole) (arg4 : Memref sig .tc .vmem S4096x1024 .bf16) (harg4 : arg4.IsWhole) (arg5 : Memref sig .tc .vmem S1024x1024 .bf16) (harg5 : arg5.IsWhole) (arg6 : Memref sig .tc .vmem S1024x1024 .f32) (harg6 : arg6.IsWhole)

theorem sout_A (hc0 : cond0_0 i) (hc1 : ¬cond0_1 i) :
    sout0_A_0 (F := Ideal) c i arg3 harg3 arg4 harg4 arg5 harg5 arg6 harg6 hc0 hc1 (mx A) (mx B) = mx fun i j => 0 + prod A B i j := by
  unfold sout0_A_0 kernelRun0_A
  dsimp only
  sl_unfold_words
  simp only [View.readAt_eq_ld, harg3.read_unread, harg4.read_unread, ld_all, ld_lo16, ld_hi16, pay1_mx, back_zero, pay3_mx, back_zero_hi, pay4_mx]
  exact halves _ _ (fun i j => 0 + prod A B i j) _ _ _

theorem sout_B (hc0 : ¬cond0_0 i) (hc1 : cond0_1 i) :
    sout0_B_0 (F := Ideal) c i arg3 harg3 arg4 harg4 arg5 harg5 arg6 harg6 hc0 hc1 (mx A) (mx B) (mx W) = mx fun i j => W i j + prod A B i j := by
  unfold sout0_B_0 kernelRun0_B
  dsimp only
  sl_unfold_words
  simp only [View.readAt_eq_ld, harg3.read_unread, harg4.read_unread, harg6.read_unread, ld_all, ld_lo, ld_hi, ld_lo16, ld_hi16, pay3_mx, pay4_mx]
  exact halves _ _ (fun i j => W i j + prod A B i j) _ _ _

theorem out_B (hc0 : ¬cond0_0 i) (hc1 : cond0_1 i) :
    out0_B_2 (F := Ideal) c i arg3 harg3 arg4 harg4 arg5 harg5 arg6 harg6 hc0 hc1 (mx A) (mx B) (mx W) = mx fun i j => W i j + prod A B i j := by
  unfold out0_B_2 kernelRun0_B
  dsimp only
  sl_unfold_words
  simp only [View.readAt_eq_ld, harg3.read_unread, harg4.read_unread, harg6.read_unread, ld_all, ld_lo, ld_hi, ld_lo16, ld_hi16, pay3_mx, pay4_mx]
  rw [View.read_writes_junk_eq_canon]
  refine (View.canon_unit_zero (S := S1024x1024) (by decide) _ _).trans ?_
  exact (congrArg (k0_pay5 (F := Ideal)) (halves_back arg6.view (fun i j => W i j + prod A B i j) _ _ _)).trans (pay5_mx _)

end Cert.Kernel3Ideal.Block

end
-- ==== Proof.WgradClaim.lean ====
/- The claims of the output weight's gradient: what its kernel's array holds, and that its reference leaves the same. -/
module

public import proofs.«01_k».proof.Defs
public import proofs.«01_k».proof.Proof.Gen.Kernel3.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.WgradBlock
public import Idealize.ShloMosaic.Lib.Pipeline.ValueKit
public import Idealize.ShloMosaic.Lib.Claim

@[expose] public section

set_option maxRecDepth 16384

noncomputable section

namespace Cert.WgradClaim

open Idealize.ShloMosaic Idealize.ShloMosaic.TcCoe Idealize.SL.Sem Idealize.ShloMosaic.Pipeline

theorem frame_p : Cert.quiescent_Kernel3 (hKernel3 := Cert.Kernel3.Gen.facts) := fun m g _ => Cert.Kernel3.Gen.frame m g

theorem frame_pi : Cert.quiescent_Kernel3Ideal (hKernel3Ideal := Cert.Kernel3Ideal.Gen.facts) := fun m g _ => Cert.Kernel3Ideal.Gen.frame m g

/-- The reference declares no semaphore, and its run leaves the arguments. -/
theorem frame_ri : Cert.quiescent_Reference3Ideal (hReference3Ideal := Cert.Reference3Ideal.Gen.facts) := fun m g _ =>
  (θ_run _ _ _).mono (fun r h => ⟨fun c => (h c).2, sem_eq_zero_of_no_sems (by decide) r.2⟩) (Cert.Reference3Ideal.Value.run m g)

section Array

open Cert.Kernel3Ideal Cert.Kernel3Ideal.Gen Cert.Kernel3Ideal.Block

variable (m : (ℓ : Loc nD τ sig) → Buf (Elt Ideal) ℓ) (c : Dev nD) (t : Fin cfg0.N)

/-- The activations and their cotangents. -/
def act (s : Fin 8192) (i : Fin 4096) : EReal := m ((c : Thread nD τ).loc main_arg0) (ix2 s i)
def cot (s : Fin 8192) (j : Fin 1024) : EReal := m ((c : Thread nD τ).loc main_arg1) (ix2 s j)

/-- Token `r` of half `u`, and row `i` of the weight's block at a point. -/
def half (u : Fin 2) (r : Fin 4096) : Fin 8192 := ⟨u.val * 4096 + r.val, by omega⟩
def wrow (i : Fin 1024) : Fin 4096 := ⟨t.val / 2 * 1024 + i.val, by have := lt_of_lt_of_eq t.isLt (show cfg0.N = 8 from N_0); omega⟩
def par (n : ℕ) : Fin 2 := ⟨n % 2, Nat.mod_lt _ (by decide)⟩

theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

theorem iblk0 : iblk m c 0 t = (mx fun r i => act m c (half (par t.val) r) (wrow t i) : S4096x1024.Idx → EReal) := by
  refine eq_mx _ _ fun a b => ?_
  show _ = m ((c : Thread nD τ).loc main_arg0) (ix2 (half (par t.val) a) (wrow t b))
  blk_ext! [iblk, V, (idx t).1, half, par, wrow]

theorem iblk1 : iblk m c 1 t = (mx fun r j => cot m c (half (par t.val) r) j : S4096x1024.Idx → EReal) := by
  refine eq_mx _ _ fun a b => ?_
  show _ = m ((c : Thread nD τ).loc main_arg1) (ix2 (half (par t.val) a) b)
  blk_ext! [iblk, V, (idx t).2.1, half, par]

/-- The gradient: the sum over the tokens of activation times cotangent. -/
def grad (i : Fin 4096) (j : Fin 1024) : EReal := ∑ s : Fin 8192, act m c s i * cot m c s j

/-- It is the first half's sum and the second half's. -/
theorem grad_halves (i : Fin 4096) (j : Fin 1024) :
    grad m c i j = (∑ r, act m c (half 0 r) i * cot m c (half 0 r) j) + ∑ r, act m c (half 1 r) i * cot m c (half 1 r) j := by
  unfold grad
  refine (Fin.sum_univ_add (a := 4096) (b := 4096) fun s => act m c s i * cot m c s j).trans (congrArg₂ (· + ·) ?_ ?_) <;>
    refine Finset.sum_congr rfl fun r _ => ?_
  · rw [show Fin.castAdd 4096 r = half 0 r from Fin.ext (by simp [half])]
  · rw [show Fin.natAdd 4096 r = half 1 r from Fin.ext (by simp [half, Nat.add_comm])]

/-- A second point of a block leaves the block of the gradient. -/
theorem outs (h : t.val % 2 = 1) :
    (outsAt0 m c t.val t.isLt).1 = (mx fun i j => grad m c (wrow t i) j : S1024x1024.Idx → EReal) := by
  have ht := lt_of_lt_of_eq t.isLt (show cfg0.N = 8 from N_0)
  have hp : t.val - 1 < cfg0.N := Nat.lt_of_le_of_lt (Nat.sub_le _ _) t.isLt
  have e1 : (outsAt0 m c (t.val - 1) hp).2
      = (mx fun i j => 0 + ∑ r, act m c (half 0 r) (wrow t i) * cot m c (half 0 r) j : S1024x1024.Idx → EReal) := by
    refine (congrArg (·.2) (outsAt0_A m c ⟨t.val - 1, hp⟩ (by dsimp only; omega) (by dsimp only; omega))).trans ?_
    dsimp only
    rw [iblk0, iblk1, sout_A]
    have ep : par (t.val - 1) = 0 := Fin.ext (by simp [par]; omega)
    have ew : wrow ⟨t.val - 1, hp⟩ = wrow t := funext fun i => Fin.ext (by simp only [wrow]; omega)
    rw [ep, ew]
    rfl
  refine (congrArg (·.1) (outsAt0_B m c t (by omega) h)).trans ?_
  dsimp only
  rw [e1, iblk0, iblk1, out_B]
  have ep : par t.val = 1 := Fin.ext h
  rw [ep]
  refine congrArg _ (funext fun i => funext fun j => ?_)
  rw [grad_halves, zero_add]
  rfl

theorem arr2 : (dats m 0 c).arrAt 2 cfg0.N = (mx (grad m c) : S4096x1024.Idx → EReal) := by
  refine (dats m 0 c).arrAt_eq_of_covers 2 _ (by decide +kernel) fun t hf y => ?_
  blk_simp
  rw [after0_2, outs m c t ((flush0_2 t).mp hf)]
  have e : (win0_2.blk t).view.emb y = (ix2 (wrow t (y 0)) (y 1) : S4096x1024.Idx) := by
    blk_ext [(idx t).2.2, wrow]
  exact (congrArg (mx (grad m c) : S4096x1024.Idx → EReal) e).symm

end Array

theorem algebraic : Cert.algebraic_Kernel3Ideal_Reference3Ideal (hKernel3Ideal := Cert.Kernel3Ideal.Gen.facts)
    (hReference3Ideal := Cert.Reference3Ideal.Gen.facts) := by
  pair_intro
  · run_from Cert.Kernel3Ideal.Value.run_blocks m g
  · refine (θ_run _ _ _).mono (fun r h c => ?_) (Cert.Reference3Ideal.Value.run m' g')
    obtain ⟨g0, g1⟩ := hagree c
    obtain ⟨r0, k⟩ := h c
    refine ⟨r0.trans ?_, k⟩
    refine (Cert.Reference3Ideal.Read.val_main_v6_eq (F := Ideal) _ _).trans ?_
    rw [g0, g1]
    refine Eq.trans ?_ (arr2 m c).symm
    refine Cert.Kernel3Ideal.Block.eq_mx _ _ fun i j => ?_
    rw [Cert.Reference3Ideal.Read.val_main_v6_apply, Cert.Reference3Ideal.Read.val_main_v5_apply]
    refine (Cert.Reference3Ideal.Read.val_main_v4_apply _ _ _).trans (Finset.sum_congr rfl fun s _ => ?_)
    refine (mul_comm _ _).trans (congrArg₂ (· * ·) ?_ ?_)
    · exact congrArg (m _) (funext fun a => by fin_cases a <;> rfl)
    · exact congrArg (m _) (funext fun a => by fin_cases a <;> rfl)

end Cert.WgradClaim

end
-- ==== Proof.MixSpec.lean ====
/- The mixing sub-layer and its gradient, over the reals: every quantity the kernel writes is one of these functions of a token, or a
   sum of them over tokens. The tokens a sequence lacks, before its first and after its last, count as zero rows. -/
module

public import proofs.«01_k».proof.Proof.Reals

@[expose] public section

noncomputable section

namespace Cert.Mix

open Cert.Reals Idealize.ShloMosaic

/-- The smaller of two reals, as an extended real. -/
theorem coe_min (x y : ℝ) : ((min x y : ℝ) : EReal) = min (x : EReal) (y : EReal) :=
  EReal.coe_strictMono.monotone.map_min

/-- The sub-layer's inputs and parameters as reals: the gradient at its layer norm's output, the tokens, the modulation, the norm's
    scale, the four weights. -/
structure Par where
  D : Fin 8192 → Fin 1024 → ℝ
  X : Fin 8192 → Fin 1024 → ℝ
  Md : Fin 6 → Fin 1024 → ℝ
  G : Fin 4 → Fin 1024 → ℝ
  Wi : Fin 1024 → Fin 2048 → ℝ
  Cw : Fin 3 → Fin 512 → ℝ
  Wp : Fin 4 → Fin 128 → Fin 128 → ℝ
  Ps : Fin 512 → ℝ
  Wo : Fin 1024 → Fin 1024 → ℝ

/-- A stack of real matrices as an array of extended reals. -/
def up3 {l n m : ℕ} (A : Fin l → Fin n → Fin m → ℝ) : (⟨3, ![l, n, m]⟩ : Shape).Idx → EReal := fun i => ((A (i 0) (i 1) (i 2) : ℝ) : EReal)

/-- Column `c` of quarter `q` of 2048 columns, of half `u` of 1024, of group `g` of 512. -/
def q4 (q : Fin 4) (c : Fin 512) : Fin 2048 := ⟨512 * q.val + c.val, by omega⟩
def hf (u : Fin 2) (c : Fin 512) : Fin 1024 := ⟨512 * u.val + c.val, by omega⟩
def gcol (g : Fin 4) (c : Fin 128) : Fin 512 := ⟨128 * g.val + c.val, by omega⟩
def grp (k : Fin 512) : Fin 4 := ⟨k.val / 128, by omega⟩
def low (k : Fin 512) : Fin 128 := ⟨k.val % 128, by omega⟩

theorem grp_gcol (g : Fin 4) (c : Fin 128) : grp (gcol g c) = g := Fin.ext (show (128 * g.val + c.val) / 128 = g.val by omega)
theorem low_gcol (g : Fin 4) (c : Fin 128) : low (gcol g c) = c := Fin.ext (show (128 * g.val + c.val) % 128 = c.val by omega)
theorem gcol_grp (k : Fin 512) : gcol (grp k) (low k) = k := Fin.ext (show 128 * (k.val / 128) + k.val % 128 = k.val by omega)

/-- The four groups' columns side by side. -/
theorem group_cases (f : Fin 4 → Fin 128 → EReal) (k : ℕ) (hk : k < 512) :
    (if h : k < 128 then f 0 ⟨k, h⟩ else if h : k - 128 < 128 then f 1 ⟨k - 128, h⟩
      else if h : k - 128 - 128 < 128 then f 2 ⟨k - 128 - 128, h⟩ else f 3 ⟨k - 128 - 128 - 128, by omega⟩)
      = f (grp ⟨k, hk⟩) (low ⟨k, hk⟩) := by
  have e : ∀ (g : Fin 4) (d : Fin 128), k / 128 = g.val → k % 128 = d.val → f g d = f (grp ⟨k, hk⟩) (low ⟨k, hk⟩) := fun g d h1 h2 => by
    rw [show grp ⟨k, hk⟩ = g from Fin.ext h1, show low ⟨k, hk⟩ = d from Fin.ext h2]
  split
  · exact e _ _ (by show _ = 0; omega) (by show _ = k; omega)
  split
  · exact e _ _ (by show _ = 1; omega) (by show _ = k - 128; omega)
  split
  · exact e _ _ (by show _ = 2; omega) (by show _ = k - 128 - 128; omega)
  · exact e _ _ (by show _ = 3; omega) (by show _ = k - 128 - 128 - 128; omega)

/-- The row of a token that may lie outside the sequence. -/
def ext {n : ℕ} (f : Fin 8192 → Fin n → ℝ) (i : ℤ) (c : Fin n) : ℝ :=
  if h : 0 ≤ i ∧ i < 8192 then f ⟨i.toNat, by omega⟩ c else 0

theorem ext_of {n : ℕ} (f : Fin 8192 → Fin n → ℝ) (i : ℤ) (s : Fin 8192) (h : i = (s.val : ℤ)) (c : Fin n) : ext f i c = f s c := by
  subst h
  unfold ext
  rw [dif_pos (by omega)]
  rfl

theorem ext_out {n : ℕ} (f : Fin 8192 → Fin n → ℝ) (i : ℤ) (h : i < 0 ∨ 8192 ≤ i) (c : Fin n) : ext f i c = 0 := by
  unfold ext
  rw [dif_neg (by omega)]

/-- The length of a group's averaging window. -/
def win (g : Fin 4) : ℕ := 2 ^ (g.val + 1)

/-- The sum over a group's window ending at a token, and over the one beginning there. -/
def wsum {n : ℕ} (f : Fin 8192 → Fin n → ℝ) (w : ℕ) (s : Fin 8192) (c : Fin n) : ℝ := ∑ i ∈ Finset.range w, ext f (s.val - i) c
def fsum {n : ℕ} (f : Fin 8192 → Fin n → ℝ) (w : ℕ) (s : Fin 8192) (c : Fin n) : ℝ := ∑ i ∈ Finset.range w, ext f (s.val + i) c

/-- How many tokens a window ending at a token has. -/
def cnt (w : ℕ) (s : Fin 8192) : ℝ := ((min (s.val + 1) w : ℕ) : ℝ)

theorem cnt_ne (w : ℕ) (h : 0 < w) (s : Fin 8192) : cnt w s ≠ 0 := by
  unfold cnt
  exact Nat.cast_ne_zero.mpr (by omega)

variable (p : Par) (s : Fin 8192)

/-- The modulated input, and its image under the first weight. -/
def h (j : Fin 1024) : ℝ := p.X s j * (1 + p.Md 1 j) + p.Md 0 j
def z (k : Fin 2048) : ℝ := ∑ i, h p s i * p.Wi i k
def gb (c : Fin 512) : ℝ := z p s (q4 0 c)
def gc (c : Fin 512) : ℝ := z p s (q4 1 c)
def vc (c : Fin 512) : ℝ := z p s (q4 2 c)
def vp (c : Fin 512) : ℝ := z p s (q4 3 c)
def cv (c : Fin 512) : ℝ := gc p s c * vc p s c
/-- The short convolution along the sequence. -/
def conv (c : Fin 512) : ℝ :=
  p.Cw 0 c * ext (cv p) (s.val - 2) c + p.Cw 1 c * ext (cv p) (s.val - 1) c + p.Cw 2 c * cv p s c
/-- The averages along the sequence, less the token's own row. -/
def feat (g : Fin 4) (c : Fin 128) : ℝ := wsum (vp p) (win g) s (gcol g c) / cnt (win g) s - vp p s (gcol g c)
def pw (g : Fin 4) (d : Fin 128) : ℝ := ∑ c, feat p s g c * p.Wp g c d
def pk (k : Fin 512) : ℝ := pw p s (grp k) (low k)
def yc (c : Fin 512) : ℝ := gb p s c * conv p s c
def yp (c : Fin 512) : ℝ := pk p s c * p.Ps c
/-- The two halves side by side. -/
def two (a b : Fin 512 → ℝ) (j : Fin 1024) : ℝ :=
  if h : j.val < 512 then a ⟨j.val, h⟩ else b ⟨j.val - 512, by omega⟩
def ycat (j : Fin 1024) : ℝ := two (yc p s) (yp p s) j
def mix (j : Fin 1024) : ℝ := ∑ i, ycat p s i * p.Wo i j
/-- The residual sum the layer norm reads. -/
def res (j : Fin 1024) : ℝ := alpha * p.X s j + (1 + p.Md 2 j) * mix p s j
def cen (j : Fin 1024) : ℝ := res p s j - mean (res p s)
/-- The variance with its offset. -/
def va : ℝ := mean (fun j => cen p s j * cen p s j) + eps
def rs : ℝ := (Real.sqrt (va p s))⁻¹
def xh (j : Fin 1024) : ℝ := cen p s j * rs p s

theorem va_pos : 0 < va p s := by
  have h : 0 ≤ mean (fun j => cen p s j * cen p s j) := by
    unfold mean
    exact div_nonneg (Finset.sum_nonneg fun j _ => mul_self_nonneg _) (by norm_num)
  unfold va
  exact add_pos_of_nonneg_of_pos h eps_pos

/-- The gradient at the layer norm's input. -/
def q (j : Fin 1024) : ℝ := p.D s j * p.G 0 j
def dr (j : Fin 1024) : ℝ := rs p s * (q p s j - mean (q p s) - xh p s j * mean (fun i => q p s i * xh p s i))
def dmix (j : Fin 1024) : ℝ := (1 + p.Md 2 j) * dr p s j
def dyc (i : Fin 1024) : ℝ := ∑ j, dmix p s j * p.Wo i j
/-- The gradient at the convolution's output, and at its input. -/
def e (c : Fin 512) : ℝ := dyc p s (hf 0 c) * gb p s c
def dcv (c : Fin 512) : ℝ := p.Cw 2 c * e p s c + p.Cw 1 c * ext (e p) (s.val + 1) c + p.Cw 0 c * ext (e p) (s.val + 2) c
/-- The gradient at a group's product, at its averages, and at its window sums. -/
def dpw (g : Fin 4) (c : Fin 128) : ℝ := dyc p s (hf 1 (gcol g c)) * p.Ps (gcol g c)
def dp (g : Fin 4) (c : Fin 128) : ℝ := ∑ d, dpw p s g d * p.Wp g c d
def qq (k : Fin 512) : ℝ := dp p s (grp k) (low k) / cnt (win (grp k)) s
def dvp (k : Fin 512) : ℝ := fsum (qq p) (win (grp k)) s k - dp p s (grp k) (low k)
/-- The gradient at the first weight's image: its four quarters side by side. -/
def four (a b c d : Fin 512 → ℝ) (k : Fin 2048) : ℝ :=
  if h : k.val < 512 then a ⟨k.val, h⟩ else if h : k.val < 1024 then b ⟨k.val - 512, by omega⟩
  else if h : k.val < 1536 then c ⟨k.val - 1024, by omega⟩ else d ⟨k.val - 1536, by omega⟩
def dgb (c : Fin 512) : ℝ := dyc p s (hf 0 c) * conv p s c
def dgc (c : Fin 512) : ℝ := dcv p s c * vc p s c
def dvc (c : Fin 512) : ℝ := dcv p s c * gc p s c
def dz (k : Fin 2048) : ℝ := four (dgb p s) (dgc p s) (dvc p s) (dvp p s) k
def dh (j : Fin 1024) : ℝ := ∑ k, dz p s k * p.Wi j k
/-- The three results of bf16 words side by side. -/
def three (k : Fin 4096) : ℝ :=
  if h : k.val < 1024 then dmix p s ⟨k.val, h⟩ else if h : k.val < 2048 then ycat p s ⟨k.val - 1024, by omega⟩ else dz p s ⟨k.val - 2048, by omega⟩
def dx (j : Fin 1024) : ℝ := alpha * dr p s j + dh p s j * (1 + p.Md 1 j)

/-- What a token adds to the rows of the first sum. -/
def acc (k : Fin 8) (j : Fin 1024) : ℝ :=
  match k with
  | 0 => p.D s j * xh p s j
  | 1 => p.D s j
  | 2 => dh p s j
  | 3 => dh p s j * p.X s j
  | 4 => dr p s j * mix p s j
  | _ => 0
/-- What a token adds to the rows of the second sum. -/
def gcw (k : Fin 8) (c : Fin 512) : ℝ :=
  match k with
  | 0 => e p s c * ext (cv p) (s.val - 2) c
  | 1 => e p s c * ext (cv p) (s.val - 1) c
  | 2 => e p s c * cv p s c
  | 3 => dyc p s (hf 1 c) * pk p s c
  | _ => 0
/-- What a token adds to a group's weight gradient. -/
def gwp (g : Fin 4) (c d : Fin 128) : ℝ := feat p s g c * dpw p s g d

end Cert.Mix

end
-- ==== Proof.MixPay.lean ====
/- What each value the kernel's body computes is, its operands being rows of real matrices: the functions of MixSpec on a block's
   tokens. -/
module

public import proofs.«01_k».proof.Proof.Gen.Kernel2Ideal.Skeleton
public import proofs.«01_k».proof.Proof.MixSpec

@[expose] public section

set_option maxRecDepth 16384

noncomputable section

namespace Cert.Kernel2Ideal.Block

open Cert.Kernel2Ideal Cert.Kernel2Ideal.Gen Cert.Reals Cert.Mix Idealize.ShloMosaic

/-- Token `r` of block `j`. -/
def tok (j : Fin 16) (r : Fin 512) : Fin 8192 := ⟨512 * j.val + r.val, by omega⟩
/-- Token `r` of the sixteen before block `j`; those before the first block are its own first ones. -/
def htok (j : Fin 16) (r : Fin 16) : Fin 8192 := ⟨512 * j.val - 16 + r.val, by omega⟩

/-- A stack of one real matrix. -/
def slab (A : Fin 128 → Fin 128 → ℝ) : S1x128x128.Idx → EReal := fun i => ((A (i 1) (i 2) : ℝ) : EReal)

theorem eq_slab (v : S1x128x128.Idx → EReal) (A : Fin 128 → Fin 128 → ℝ) (h : ∀ a b, v (ix3 0 a b) = ((A a b : ℝ) : EReal)) :
    v = slab A := by
  funext i
  obtain ⟨u, a, b, rfl⟩ : ∃ (u : Fin 1) (a : Fin 128) (b : Fin 128), i = ix3 u a b := ⟨i 0, i 1, i 2, eq_ix3 i⟩
  rw [Subsingleton.elim u 0]
  exact h a b

/-- A float of the smaller of a token's count and a window's length. -/
theorem cnt_word (n w : ℕ) (hn : n < 8192) (hw : w < 8192) :
    FloatOps.sitofp (F := Ideal) .f32 (IntOp.minsi (IntOp.addi (BitVec.ofNat 32 n) 1#32) (BitVec.ofNat 32 w))
      = (((min (n + 1) w : ℕ) : ℝ) : EReal) := by
  have ti : ∀ k : ℕ, k < 16384 → (BitVec.ofNat 32 k).toInt = (k : ℤ) := fun k hk => by
    rw [BitVec.toInt_eq_toNat_of_lt, BitVec.toNat_ofNat, Nat.mod_eq_of_lt (by omega)]
    rw [BitVec.toNat_ofNat, Nat.mod_eq_of_lt (by omega)]; omega
  have e : IntOp.addi (BitVec.ofNat 32 n) 1#32 = BitVec.ofNat 32 (n + 1) := (BitVec.ofNat_add n 1).symm
  rw [e]
  show (((IntOp.minsi (BitVec.ofNat 32 (n + 1)) (BitVec.ofNat 32 w)).toInt : ℝ) : EReal) = _
  have m : (IntOp.minsi (BitVec.ofNat 32 (n + 1)) (BitVec.ofNat 32 w)).toInt = ((min (n + 1) w : ℕ) : ℤ) := by
    unfold IntOp.minsi
    by_cases h : n + 1 < w
    · rw [if_pos, ti _ (by omega), min_eq_left h.le]
      rw [BitVec.slt_iff_toInt_lt, ti _ (by omega), ti _ (by omega)]
      exact_mod_cast h
    · rw [if_neg, ti _ (by omega), min_eq_right (not_lt.mp h)]
      rw [BitVec.slt_iff_toInt_lt, ti _ (by omega), ti _ (by omega)]
      exact_mod_cast h
  rw [m, Int.cast_natCast]

/-- A row of 528 moved back, and forward, around the end. -/
def bk (r : Fin 528) (k : ℕ) : Fin 528 := ⟨(r.val + 528 - k) % 528, by omega⟩
def fw (r : Fin 528) (k : ℕ) : Fin 528 := ⟨(r.val + 528 - (528 - k)) % 528, by omega⟩
/-- The sums of rows that end at a row, and of those that begin there. -/
def Bk (X : Fin 528 → Fin 512 → ℝ) (w : ℕ) (r : Fin 528) (c : Fin 512) : ℝ := ∑ i ∈ Finset.range w, X (bk r i) c
def Fw (X : Fin 528 → Fin 512 → ℝ) (w : ℕ) (r : Fin 528) (c : Fin 512) : ℝ := ∑ i ∈ Finset.range w, X (fw r i) c

theorem Bk_one (X : Fin 528 → Fin 512 → ℝ) (r : Fin 528) (c : Fin 512) : Bk X 1 r c = X r c := by
  unfold Bk
  rw [Finset.sum_range_one, show bk r 0 = r from Fin.ext (by show (r.val + 528 - 0) % 528 = r.val; omega)]
theorem Fw_one (X : Fin 528 → Fin 512 → ℝ) (r : Fin 528) (c : Fin 512) : Fw X 1 r c = X r c := by
  unfold Fw
  rw [Finset.sum_range_one, show fw r 0 = r from Fin.ext (by show (r.val + 528 - (528 - 0)) % 528 = r.val; omega)]
theorem Bk_twice (X : Fin 528 → Fin 512 → ℝ) (w : ℕ) (h : w + w ≤ 528) (r : Fin 528) (c : Fin 512) :
    Bk X w r c + Bk X w (bk r w) c = Bk X (w + w) r c := by
  unfold Bk
  rw [Finset.sum_range_add]
  refine congrArg₂ (· + ·) rfl (Finset.sum_congr rfl fun i hi => ?_)
  have := Finset.mem_range.mp hi
  rw [show bk (bk r w) i = bk r (w + i) from Fin.ext (by show ((r.val + 528 - w) % 528 + 528 - i) % 528 = (r.val + 528 - (w + i)) % 528; omega)]
theorem Fw_twice (X : Fin 528 → Fin 512 → ℝ) (w : ℕ) (h : w + w ≤ 528) (r : Fin 528) (c : Fin 512) :
    Fw X w r c + Fw X w (fw r w) c = Fw X (w + w) r c := by
  unfold Fw
  rw [Finset.sum_range_add]
  refine congrArg₂ (· + ·) rfl (Finset.sum_congr rfl fun i hi => ?_)
  have := Finset.mem_range.mp hi
  rw [show fw (fw r w) i = fw r (w + i) from Fin.ext (by
    show ((r.val + 528 - (528 - w)) % 528 + 528 - (528 - i)) % 528 = (r.val + 528 - (528 - (w + i))) % 528; omega)]

/-- In a block with the rows before it these are sums over the sequence; and in a block with the rows after it. -/
theorem Bk_bef (f : Fin 8192 → Fin 512 → ℝ) (j : Fin 16) (w : ℕ) (hw : w ≤ 17) (r : Fin 512) (c : Fin 512) :
    Bk (fun r c => ext f (512 * (j.val : ℤ) + r.val - 16) c) w ⟨16 + r.val, by omega⟩ c = wsum f w (tok j r) c := by
  unfold Bk wsum
  refine Finset.sum_congr rfl fun i hi => ?_
  have := Finset.mem_range.mp hi
  refine congrArg (fun n => ext f n c) ?_
  show 512 * (j.val : ℤ) + (((16 + r.val + 528 - i) % 528 : ℕ) : ℤ) - 16 = ((512 * j.val + r.val : ℕ) : ℤ) - i
  rw [show (16 + r.val + 528 - i) % 528 = 16 + r.val - i by omega]
  omega
theorem Fw_aft (f : Fin 8192 → Fin 512 → ℝ) (j : Fin 16) (w : ℕ) (hw : w ≤ 16) (r : Fin 512) (c : Fin 512) :
    Fw (fun r c => ext f (512 * (j.val : ℤ) + r.val) c) w ⟨r.val, by omega⟩ c = fsum f w (tok j r) c := by
  unfold Fw fsum
  refine Finset.sum_congr rfl fun i hi => ?_
  have := Finset.mem_range.mp hi
  refine congrArg (fun n => ext f n c) ?_
  show 512 * (j.val : ℤ) + (((r.val + 528 - (528 - i)) % 528 : ℕ) : ℤ) = ((512 * j.val + r.val : ℕ) : ℤ) + i
  rw [show (r.val + 528 - (528 - i)) % 528 = r.val + i by omega]
  omega

variable (p : Par) (j : Fin 16)

abbrev bD : S512x1024.Idx → EReal := up fun r => p.D (tok j r)
abbrev bX : S512x1024.Idx → EReal := up fun r => p.X (tok j r)
abbrev bxh : S512x1024.Idx → EReal := up fun r => xh p (tok j r)
abbrev brs : S512x1.Idx → EReal := col fun r => rs p (tok j r)
abbrev bmix : S512x1024.Idx → EReal := up fun r => mix p (tok j r)
abbrev bz : S512x2048.Idx → EReal := up fun r => z p (tok j r)
abbrev bzh : S16x2048.Idx → EReal := up fun r => z p (htok j r)
abbrev bq : S512x1024.Idx → EReal := up fun r => q p (tok j r)
abbrev bsq : S512x1.Idx → EReal := col fun r => ∑ i, q p (tok j r) i
abbrev bdr : S512x1024.Idx → EReal := up fun r => dr p (tok j r)
abbrev bdmix : S512x1024.Idx → EReal := up fun r => dmix p (tok j r)
abbrev bdyc : S512x1024.Idx → EReal := up fun r => dyc p (tok j r)
abbrev bgb : S512x512.Idx → EReal := up fun r => gb p (tok j r)
abbrev bgc : S512x512.Idx → EReal := up fun r => gc p (tok j r)
abbrev bvc : S512x512.Idx → EReal := up fun r => vc p (tok j r)
abbrev bvp : S512x512.Idx → EReal := up fun r => vp p (tok j r)
abbrev bcv : S512x512.Idx → EReal := up fun r => cv p (tok j r)
/-- The rows of a block with the sixteen before it, and with the sixteen after it. -/
abbrev bef (f : Fin 8192 → Fin 512 → ℝ) : S528x512.Idx → EReal := up fun r c => ext f (512 * (j.val : ℤ) + r.val - 16) c
abbrev aft (f : Fin 8192 → Fin 512 → ℝ) : S528x512.Idx → EReal := up fun r c => ext f (512 * (j.val : ℤ) + r.val) c
abbrev hbef (f : Fin 8192 → Fin 512 → ℝ) : S16x512.Idx → EReal := up fun r c => ext f (512 * (j.val : ℤ) + r.val - 16) c
/-- The block's rows moved along the sequence. -/
abbrev sh (f : Fin 8192 → Fin 512 → ℝ) (k : ℤ) : S512x512.Idx → EReal := up fun r c => ext f ((tok j r).val + k) c
abbrev bw0 : S512x512.Idx → EReal := up fun r c => p.Cw 0 c * ext (cv p) ((tok j r).val - 2) c
abbrev bcv2 : S512x512.Idx → EReal := up fun r c => ext (cv p) ((tok j r).val - 2) c
abbrev bcv1 : S512x512.Idx → EReal := up fun r c => ext (cv p) ((tok j r).val - 1) c
abbrev bconv : S512x512.Idx → EReal := up fun r => conv p (tok j r)
abbrev bdl : S512x512.Idx → EReal := up fun r c => dyc p (tok j r) (hf 0 c)
abbrev be : S512x512.Idx → EReal := up fun r => e p (tok j r)
abbrev bdcv : S512x512.Idx → EReal := up fun r => dcv p (tok j r)
abbrev byc : S512x512.Idx → EReal := up fun r => yc p (tok j r)
abbrev bdgb : S512x512.Idx → EReal := up fun r => dgb p (tok j r)
abbrev bdgc : S512x512.Idx → EReal := up fun r => dgc p (tok j r)
abbrev bdvc : S512x512.Idx → EReal := up fun r => dvc p (tok j r)
abbrev bws (g : Fin 4) : S512x128.Idx → EReal := up fun r c => wsum (vp p) (win g) (tok j r) (gcol g c)
abbrev bfs (g : Fin 4) : S512x128.Idx → EReal := up fun r c => fsum (qq p) (win g) (tok j r) (gcol g c)
abbrev bic (g : Fin 4) : S512x1.Idx → EReal := col fun r => 1 / cnt (win g) (tok j r)
abbrev bfeat (g : Fin 4) : S512x128.Idx → EReal := up fun r => feat p (tok j r) g
abbrev bwp (g : Fin 4) : S128x128.Idx → EReal := up (p.Wp g)
abbrev ps (g : Fin 4) : S1x128.Idx → EReal := row fun c => p.Ps (gcol g c)
abbrev bpw (g : Fin 4) : S512x128.Idx → EReal := up fun r => pw p (tok j r) g
abbrev byp (g : Fin 4) : S512x128.Idx → EReal := up fun r c => pw p (tok j r) g c * p.Ps (gcol g c)
abbrev bdyp (g : Fin 4) : S512x128.Idx → EReal := up fun r c => dyc p (tok j r) (hf 1 (gcol g c))
abbrev bgps (g : Fin 4) : S1x128.Idx → EReal := row fun c => ∑ r, dyc p (tok j r) (hf 1 (gcol g c)) * pw p (tok j r) g c
abbrev bdpw (g : Fin 4) : S512x128.Idx → EReal := up fun r => dpw p (tok j r) g
abbrev bdp (g : Fin 4) : S512x128.Idx → EReal := up fun r => dp p (tok j r) g
abbrev bqq (g : Fin 4) : S512x128.Idx → EReal := up fun r c => qq p (tok j r) (gcol g c)
abbrev bycat : S512x1024.Idx → EReal := up fun r => ycat p (tok j r)
abbrev bdz : S512x2048.Idx → EReal := up fun r => dz p (tok j r)
abbrev bdh : S512x1024.Idx → EReal := up fun r => dh p (tok j r)
abbrev bdhx : S512x1024.Idx → EReal := up fun r i => dh p (tok j r) i * p.X (tok j r) i
abbrev bdx : S512x1024.Idx → EReal := up fun r => dx p (tok j r)
/-- The block's number as the body computes it. -/
abbrev bj : BitVec 32 := BitVec.ofNat 32 j.val

theorem pay10_up (A : Fin 512 → Fin 1024 → ℝ) : k0_pay10 (F := Ideal) (up A) = up A := by
  refine eq_up _ _ fun r c => ?_
  pointwise [k0_pay10, up]

theorem pay11_up (v : Fin 1024 → ℝ) : k0_pay11 (F := Ideal) (bD p j) (bxh p j) (row v) = row fun c => v c + ∑ r, acc p (tok j r) 0 c := by
  refine eq_up _ _ fun r c => ?_
  pointwise [k0_pay11, k0_pay10, up]
  simp only [← EReal.coe_mul, ← EReal.coe_add, ← EReal.coe_sub, ← EReal.coe_one, ← EReal.coe_zero, ← coe_sum, acc]

theorem pay12_up (v : Fin 1024 → ℝ) : k0_pay12 (F := Ideal) (bD p j) (row v) = row fun c => v c + ∑ r, acc p (tok j r) 1 c := by
  refine eq_up _ _ fun r c => ?_
  pointwise [k0_pay12, up]
  simp only [← EReal.coe_mul, ← EReal.coe_add, ← EReal.coe_sub, ← EReal.coe_one, ← EReal.coe_zero, ← coe_sum, acc]

theorem pay13_up : k0_pay13 (F := Ideal) (bD p j) (row (p.G 0)) = bq p j := by
  refine eq_up _ _ fun r c => ?_
  pointwise [k0_pay13, up]
  simp only [← EReal.coe_mul, q]

theorem pay14_up (v : Fin 512 → ℝ) : k0_pay14 (F := Ideal) (col v) = col v := by
  refine eq_up _ _ fun r c => ?_
  pointwise [k0_pay14, up]

theorem pay15_up : k0_pay15 (F := Ideal) (bD p j) (row (p.G 0)) = bsq p j := by
  refine eq_up _ _ fun r c => ?_
  rw [k0_pay15, pay13_up]
  pointwise [up]
  simp only [← coe_sum]

theorem pay16_up : k0_pay16 (F := Ideal) (bxh p j) (bq p j) (brs p j) (bsq p j) = bdr p j := by
  refine eq_up _ _ fun r c => ?_
  pointwise [k0_pay16, up]
  rw [ofBits_1024]
  simp only [← EReal.coe_mul, ← coe_sum, div_real (by norm_num : (1024 : ℝ) ≠ 0), ← EReal.coe_sub, dr, mean]

theorem pay17_up (v : Fin 1024 → ℝ) : k0_pay17 (F := Ideal) (bxh p j) (bq p j) (brs p j) (bsq p j) (row v) (bmix p j)
    = row fun c => v c + ∑ r, acc p (tok j r) 4 c := by
  refine eq_up _ _ fun r c => ?_
  rw [k0_pay17, pay16_up]
  pointwise [up]
  simp only [← EReal.coe_mul, ← EReal.coe_add, ← coe_sum, acc]

theorem pay18_up : k0_pay18 (F := Ideal) (row (p.Md 2)) (bxh p j) (bq p j) (brs p j) (bsq p j) = bdmix p j := by
  refine eq_up _ _ fun r c => ?_
  rw [k0_pay18, pay16_up]
  pointwise [up]
  simp only [← EReal.coe_mul, ← EReal.coe_add, ← EReal.coe_one, dmix]

theorem pay19_up : k0_pay19 (F := Ideal) (row (p.Md 2)) (bxh p j) (bq p j) (brs p j) (bsq p j) (up p.Wo) = bdyc p j := by
  refine eq_up _ _ fun r c => ?_
  rw [k0_pay19, pay18_up]
  pointwise [up]
  simp only [← EReal.coe_mul, ← EReal.coe_add, ← EReal.coe_one, ← EReal.coe_zero, ← coe_sum, dyc]

theorem pay20_up (A : Fin 512 → Fin 2048 → ℝ) : k0_pay20 (F := Ideal) (up A) = up A := by
  refine eq_up _ _ fun r c => ?_
  pointwise [k0_pay20, up]

theorem pay21_up (A : Fin 16 → Fin 2048 → ℝ) : k0_pay21 (F := Ideal) (up A) = up A := by
  refine eq_up _ _ fun r c => ?_
  pointwise [k0_pay21, up]

theorem pay23_up : k0_pay23 (F := Ideal) (bz p j) = bgb p j := by
  refine eq_up _ _ fun r c => ?_
  pointwise [k0_pay23, up]
  unfold gb
  congr 2
  exact Fin.ext (Nat.zero_add _).symm

theorem pay24_up : k0_pay24 (F := Ideal) (bz p j) = bgc p j := by
  refine eq_up _ _ fun r c => ?_
  pointwise [k0_pay24, up]
  simp only [gc, q4]
  rfl

theorem pay25_up : k0_pay25 (F := Ideal) (bz p j) = bvc p j := by
  refine eq_up _ _ fun r c => ?_
  pointwise [k0_pay25, up]
  simp only [vc, q4]
  rfl

theorem pay26_up : k0_pay26 (F := Ideal) (bz p j) = bvp p j := by
  refine eq_up _ _ fun r c => ?_
  pointwise [k0_pay26, up]
  simp only [vp, q4]
  rfl

theorem pay27_up : k0_pay27 (F := Ideal) (bz p j) = bcv p j := by
  refine eq_up _ _ fun r c => ?_
  rw [k0_pay27, pay24_up, pay25_up]
  pointwise [up]
  simp only [← EReal.coe_mul, cv]

theorem pay29_up : k0_pay29 (F := Ideal) (bz p j) = bcv p j := by
  refine eq_up _ _ fun r c => ?_
  rw [k0_pay29, pay27_up]
  pointwise [up]

theorem pay31_up : k0_pay31 (F := Ideal) (bz p j) = bvp p j := by
  refine eq_up _ _ fun r c => ?_
  rw [k0_pay31, pay26_up]
  pointwise [up]

theorem pay22_up : k0_pay22 (F := Ideal) (bj j) (bzh p j) = up fun r c => z p (htok j r) c * (if j = 0 then 0 else 1) := by
  refine eq_up _ _ fun r c => ?_
  pointwise [k0_pay22, up]
  rw [show Scalar.cmpi .sgt (bj j) 0#32 = if j = 0 then 0#1 else 1#1 from (by decide : ∀ j : Fin 16, Scalar.cmpi .sgt (BitVec.ofNat 32 j.val) 0#32 = if j = 0 then 0#1 else 1#1) j]
  by_cases h : j = 0
  · simp [h, Scalar.select]
  · simp [h, Scalar.select]

theorem halo (f : Fin 8192 → Fin 512 → ℝ) (r : Fin 16) (c : Fin 512) :
    f (htok j r) c * (if j = 0 then 0 else 1) = ext f (512 * (j.val : ℤ) + r.val - 16) c := by
  by_cases h : j = 0
  · subst h
    rw [if_pos rfl, mul_zero, ext_out]
    left
    show 512 * (0 : ℤ) + r.val - 16 < 0
    omega
  · have : j.val ≠ 0 := fun h' => h (Fin.ext h')
    rw [if_neg h, mul_one, ext_of f _ (htok j r)]
    show _ = ((512 * j.val - 16 + r.val : ℕ) : ℤ)
    omega

theorem pay28_up : k0_pay28 (F := Ideal) (bj j) (bzh p j) = hbef j (cv p) := by
  refine eq_up _ _ fun r c => ?_
  rw [k0_pay28, pay22_up, ← halo]
  pointwise [up]
  rw [← EReal.coe_mul]
  refine congrArg _ ?_
  unfold cv gc vc
  by_cases h : j = 0
  · simp [h]
  · simp only [h, if_false, mul_one]; rfl

theorem pay30_up : k0_pay30 (F := Ideal) (bj j) (bzh p j) = hbef j (vp p) := by
  refine eq_up _ _ fun r c => ?_
  rw [k0_pay30, pay22_up, ← halo]
  pointwise [up]
  rfl

theorem pay32_up : k0_pay32 (F := Ideal) (bef j (cv p)) = bcv2 p j := by
  refine eq_up _ _ fun r c => ?_
  pointwise [k0_pay32, up]
  refine congrArg (fun n => ((ext (cv p) n c : ℝ) : EReal)) ?_
  show _ = ((512 * j.val + r.val : ℕ) : ℤ) - 2
  omega

theorem pay33_up : k0_pay33 (F := Ideal) (bef j (cv p)) = bcv1 p j := by
  refine eq_up _ _ fun r c => ?_
  pointwise [k0_pay33, up]
  refine congrArg (fun n => ((ext (cv p) n c : ℝ) : EReal)) ?_
  show _ = ((512 * j.val + r.val : ℕ) : ℤ) - 1
  omega

theorem pay34_up : k0_pay34 (F := Ideal) (bef j (cv p)) (row (p.Cw 0)) = bw0 p j := by
  refine eq_up _ _ fun r c => ?_
  rw [k0_pay34, pay32_up]
  pointwise [up]
  simp only [← EReal.coe_mul]

theorem pay35_up : k0_pay35 (F := Ideal) (bcv p j) (bcv1 p j) (row (p.Cw 1)) (row (p.Cw 2)) (bw0 p j) = bconv p j := by
  refine eq_up _ _ fun r c => ?_
  pointwise [k0_pay35, up]
  simp only [← EReal.coe_mul, ← EReal.coe_add, conv]

theorem pay36_up : k0_pay36 (F := Ideal) (bdyc p j) = bdl p j := by
  refine eq_up _ _ fun r c => ?_
  pointwise [k0_pay36, up]
  refine congrArg (fun k => ((dyc p (tok j r) k : ℝ) : EReal)) (Fin.ext ?_)
  exact (Nat.zero_add _).symm

theorem pay37_up : k0_pay37 (F := Ideal) (bdyc p j) (bgb p j) = be p j := by
  refine eq_up _ _ fun r c => ?_
  rw [k0_pay37, pay36_up]
  pointwise [up]
  simp only [← EReal.coe_mul, e]

theorem pay38_up : k0_pay38 (F := Ideal) (bdyc p j) (bgb p j) = be p j := by
  refine eq_up _ _ fun r c => ?_
  rw [k0_pay38, pay37_up]
  pointwise [up]

theorem pay39_up : k0_pay39 (F := Ideal) (bdyc p j) (bgb p j) (row (p.Cw 0)) (row (p.Cw 1)) (row (p.Cw 2)) (aft j (e p)) = bdcv p j := by
  refine eq_up _ _ fun r c => ?_
  rw [k0_pay39, pay37_up]
  pointwise [up]
  simp only [← EReal.coe_mul, ← EReal.coe_add, dcv]
  refine congrArg _ (congrArg₂ (fun a b => p.Cw 2 c * e p (tok j r) c + p.Cw 1 c * ext (e p) a c + p.Cw 0 c * ext (e p) b c) ?_ ?_)
  · show _ = ((512 * j.val + r.val : ℕ) : ℤ) + 1
    omega
  · show _ = ((512 * j.val + r.val : ℕ) : ℤ) + 2
    omega

theorem pay40_up (v : Fin 512 → ℝ) : k0_pay40 (F := Ideal) (bdyc p j) (bgb p j) (bcv2 p j) (row v) = row fun c => v c + ∑ r, gcw p (tok j r) 0 c := by
  refine eq_up _ _ fun r c => ?_
  rw [k0_pay40, pay37_up]
  pointwise [up]
  simp only [← EReal.coe_mul, ← EReal.coe_add, ← coe_sum, gcw]

theorem pay41_up (v : Fin 512 → ℝ) : k0_pay41 (F := Ideal) (bdyc p j) (bgb p j) (bcv1 p j) (row v) = row fun c => v c + ∑ r, gcw p (tok j r) 1 c := by
  refine eq_up _ _ fun r c => ?_
  rw [k0_pay41, pay37_up]
  pointwise [up]
  simp only [← EReal.coe_mul, ← EReal.coe_add, ← coe_sum, gcw]

theorem pay42_up (v : Fin 512 → ℝ) : k0_pay42 (F := Ideal) (bcv p j) (be p j) (row v) = row fun c => v c + ∑ r, gcw p (tok j r) 2 c := by
  refine eq_up _ _ fun r c => ?_
  pointwise [k0_pay42, up]
  simp only [← EReal.coe_mul, ← EReal.coe_add, ← coe_sum, gcw]

theorem pay43_up : k0_pay43 (F := Ideal) (bgb p j) (bconv p j) = byc p j := by
  refine eq_up _ _ fun r c => ?_
  pointwise [k0_pay43, up]
  simp only [← EReal.coe_mul, yc]

theorem pay44_up : k0_pay44 (F := Ideal) (bconv p j) (bdl p j) = bdgb p j := by
  refine eq_up _ _ fun r c => ?_
  pointwise [k0_pay44, up]
  simp only [← EReal.coe_mul, dgb]

theorem pay45_up : k0_pay45 (F := Ideal) (bvc p j) (bdcv p j) = bdgc p j := by
  refine eq_up _ _ fun r c => ?_
  pointwise [k0_pay45, up]
  simp only [← EReal.coe_mul, dgc]

theorem pay46_up : k0_pay46 (F := Ideal) (bgc p j) (bdcv p j) = bdvc p j := by
  refine eq_up _ _ fun r c => ?_
  pointwise [k0_pay46, up]
  simp only [← EReal.coe_mul, dvc]

theorem pay48_up (X : Fin 528 → Fin 512 → ℝ) : k0_pay48 (F := Ideal) (up X) = up (Bk X 2) := by
  refine eq_up _ _ fun r c => ?_
  pointwise [k0_pay48, up]
  rw [← EReal.coe_add, ← Bk_twice X 1 (by norm_num), Bk_one, Bk_one]
  rfl

theorem pay49_up (X : Fin 528 → Fin 512 → ℝ) : k0_pay49 (F := Ideal) (up X) = up fun r c => Bk X 4 r ⟨128 + c.val, by omega⟩ := by
  refine eq_up _ _ fun r c => ?_
  rw [k0_pay49, pay48_up]
  pointwise [up]
  rw [← EReal.coe_add, ← Bk_twice X 2 (by norm_num)]
  rfl

theorem pay51_up (X : Fin 528 → Fin 512 → ℝ) : k0_pay51 (F := Ideal) (up X) = up fun r c => Bk X 8 r ⟨128 + (128 + c.val), by omega⟩ := by
  refine eq_up _ _ fun r c => ?_
  rw [k0_pay51, pay49_up]
  pointwise [up]
  rw [← EReal.coe_add, ← Bk_twice X 4 (by norm_num)]
  rfl

theorem pay50_up : k0_pay50 (F := Ideal) (bef j (vp p)) = bws p j 1 := by
  refine eq_up _ _ fun r c => ?_
  rw [k0_pay50, pay49_up]
  pointwise [up]
  rw [Bk_bef _ _ _ (by norm_num)]
  rfl

theorem pay52_up : k0_pay52 (F := Ideal) (bef j (vp p)) = bws p j 2 := by
  refine eq_up _ _ fun r c => ?_
  rw [k0_pay52, pay51_up]
  pointwise [up]
  rw [Bk_bef _ _ _ (by norm_num)]
  exact congrArg (fun k => ((wsum (vp p) 8 (tok j r) k : ℝ) : EReal)) (Fin.ext (by show 128 + (128 + c.val) = 256 + c.val; omega))

theorem pay53_up : k0_pay53 (F := Ideal) (bef j (vp p)) = bws p j 3 := by
  refine eq_up _ _ fun r c => ?_
  rw [k0_pay53, pay51_up]
  pointwise [up]
  rw [← EReal.coe_add]
  refine (congrArg (fun x : ℝ => (x : EReal)) (Bk_twice _ 8 (by norm_num) ⟨16 + r.val, by omega⟩ _)).trans ?_
  rw [Bk_bef _ _ _ (by norm_num)]
  exact congrArg (fun k => ((wsum (vp p) 16 (tok j r) k : ℝ) : EReal)) (Fin.ext (by show 128 + (128 + (128 + c.val)) = 384 + c.val; omega))

theorem pay47_apply (r : Fin 512) (u : Fin 1) : k0_pay47 (bj j) (ix2 r u) = BitVec.ofNat 32 (tok j r).val := by
  pointwise [k0_pay47]
  show BitVec.ofNat 32 j.val * BitVec.ofNat 32 512 + BitVec.ofNat 32 r.val = _
  rw [← BitVec.ofNat_mul, ← BitVec.ofNat_add, Nat.mul_comm]
  rfl

/-- A window's length over the float of the count. -/
theorem inv_cnt (w : ℕ) (h0 : 0 < w) (hw : w < 8192) (s : Fin 8192) :
    Ideal.div (1 : EReal) (FloatOps.sitofp (F := Ideal) .f32 (IntOp.minsi (IntOp.addi (BitVec.ofNat 32 s.val) 1#32) (BitVec.ofNat 32 w)))
      = ((1 / cnt w s : ℝ) : EReal) := by
  rw [cnt_word s.val w s.isLt hw]
  exact div_real (cnt_ne w h0 s) 1

theorem pay54_up : k0_pay54 (F := Ideal) (bj j) = bic j 0 := by
  refine eq_up _ _ fun r c => ?_
  pointwise [k0_pay54, up]
  rw [pay47_apply]
  exact inv_cnt 2 (by norm_num) (by norm_num) _

theorem pay58_up : k0_pay58 (F := Ideal) (k0_pay56 (bj j)) k0_pay57 = bic j 1 := by
  refine eq_up _ _ fun r c => ?_
  pointwise [k0_pay58, k0_pay56, k0_pay57, up]
  rw [pay47_apply]
  exact inv_cnt 4 (by norm_num) (by norm_num) _

theorem pay60_up : k0_pay60 (F := Ideal) (k0_pay47 (bj j)) = bic j 2 := by
  refine eq_up _ _ fun r c => ?_
  pointwise [k0_pay60, up]
  rw [pay47_apply]
  exact inv_cnt 8 (by norm_num) (by norm_num) _

theorem pay62_up : k0_pay62 (F := Ideal) (k0_pay47 (bj j)) = bic j 3 := by
  refine eq_up _ _ fun r c => ?_
  pointwise [k0_pay62, up]
  rw [pay47_apply]
  exact inv_cnt 16 (by norm_num) (by norm_num) _

theorem feat_eq (g : Fin 4) (s : Fin 8192) (c : Fin 128) (k : Fin 512) (hk : k = gcol g c) :
    wsum (vp p) (win g) s (gcol g c) * (1 / cnt (win g) s) - vp p s k = feat p s g c := by
  rw [hk, mul_one_div]; rfl

theorem pay55_up : k0_pay55 (F := Ideal) (bj j) (bvp p j) (bef j (vp p)) = bfeat p j 0 := by
  refine eq_up _ _ fun r c => ?_
  rw [k0_pay55, pay54_up, pay48_up]
  pointwise [up]
  rw [Bk_bef _ _ _ (by norm_num), ← EReal.coe_mul, ← EReal.coe_sub]
  refine congrArg _ ((congrArg (fun k => wsum (vp p) 2 (tok j r) k * (1 / cnt (win 0) (tok j r)) - vp p (tok j r) k) (Fin.ext ?_)).trans (feat_eq p 0 (tok j r) c _ rfl))
  show c.val = 128 * 0 + c.val
  omega

theorem pay59_up : k0_pay59 (F := Ideal) (bvp p j) (bws p j 1) (k0_pay56 (bj j)) k0_pay57 = bfeat p j 1 := by
  refine eq_up _ _ fun r c => ?_
  rw [k0_pay59, pay58_up]
  pointwise [up]
  rw [← EReal.coe_mul, ← EReal.coe_sub]
  exact congrArg _ (feat_eq p 1 (tok j r) c _ rfl)

theorem pay61_up : k0_pay61 (F := Ideal) (bvp p j) (k0_pay47 (bj j)) (bws p j 2) = bfeat p j 2 := by
  refine eq_up _ _ fun r c => ?_
  rw [k0_pay61, pay60_up]
  pointwise [up]
  rw [← EReal.coe_mul, ← EReal.coe_sub]
  exact congrArg _ (feat_eq p 2 (tok j r) c _ rfl)

theorem pay63_up : k0_pay63 (F := Ideal) (bvp p j) (k0_pay47 (bj j)) (bws p j 3) = bfeat p j 3 := by
  refine eq_up _ _ fun r c => ?_
  rw [k0_pay63, pay62_up]
  pointwise [up]
  rw [← EReal.coe_mul, ← EReal.coe_sub]
  exact congrArg _ (feat_eq p 3 (tok j r) c _ rfl)

theorem pay64_up : k0_pay64 (F := Ideal) (bfeat p j 0) = bfeat p j 0 := by
  refine eq_up _ _ fun r c => ?_
  pointwise [k0_pay64, up]

theorem pay65_up : k0_pay65 (F := Ideal) (slab (p.Wp 0)) = bwp p 0 := by
  refine eq_up _ _ fun r c => ?_
  pointwise [k0_pay65, up, slab]

theorem pay66_up : k0_pay66 (F := Ideal) (bfeat p j 0) (slab (p.Wp 0)) = bpw p j 0 := by
  refine eq_up _ _ fun r c => ?_
  rw [k0_pay66, pay64_up, pay65_up]
  pointwise [up]
  simp only [← EReal.coe_mul, ← EReal.coe_add, ← EReal.coe_zero, ← coe_sum, pw]

theorem pay67_up : k0_pay67 (F := Ideal) (bfeat p j 0) (ps p 0) (slab (p.Wp 0)) = byp p j 0 := by
  refine eq_up _ _ fun r c => ?_
  rw [k0_pay67, pay66_up]
  pointwise [up]
  simp only [← EReal.coe_mul]

theorem pay68_up : k0_pay68 (F := Ideal) (bdyc p j) = bdyp p j 0 := by
  refine eq_up _ _ fun r c => ?_
  pointwise [k0_pay68, up]
  refine congrArg (fun k => ((dyc p (tok j r) k : ℝ) : EReal)) (Fin.ext ?_)
  show 512 + c.val = 512 * 1 + (128 * 0 + c.val)
  omega

theorem pay69_up : k0_pay69 (F := Ideal) (bdyc p j) (bfeat p j 0) (slab (p.Wp 0)) = bgps p j 0 := by
  refine eq_up _ _ fun r c => ?_
  rw [k0_pay69, pay68_up, pay66_up]
  pointwise [up]
  simp only [← EReal.coe_mul, ← coe_sum]

theorem pay70_up : k0_pay70 (F := Ideal) (bdyc p j) (ps p 0) = bdpw p j 0 := by
  refine eq_up _ _ fun r c => ?_
  rw [k0_pay70, pay68_up]
  pointwise [up]
  simp only [← EReal.coe_mul, dpw]

theorem pay71_up (V : Fin 128 → Fin 128 → ℝ) : k0_pay71 (F := Ideal) (bfeat p j 0) (bdpw p j 0) (slab V) = slab fun a b => V a b + ∑ r, gwp p (tok j r) 0 a b := by
  refine eq_slab _ _ fun a b => ?_
  rw [k0_pay71]
  pointwise [up, slab]
  simp only [← EReal.coe_mul, ← EReal.coe_add, ← EReal.coe_zero, ← coe_sum, gwp]

theorem pay72_up : k0_pay72 (F := Ideal) (bwp p 0) (bdpw p j 0) = bdp p j 0 := by
  refine eq_up _ _ fun r c => ?_
  rw [k0_pay72]
  pointwise [up]
  simp only [← EReal.coe_mul, ← EReal.coe_add, ← EReal.coe_zero, ← coe_sum, dp]

theorem pay73_up : k0_pay73 (F := Ideal) (bic j 0) (bwp p 0) (bdpw p j 0) = bqq p j 0 := by
  refine eq_up _ _ fun r c => ?_
  rw [k0_pay73, pay72_up]
  pointwise [up]
  simp only [← EReal.coe_mul, qq, grp_gcol, low_gcol, mul_one_div]

theorem pay74_up : k0_pay74 (F := Ideal) (bfeat p j 1) = bfeat p j 1 := by
  refine eq_up _ _ fun r c => ?_
  pointwise [k0_pay74, up]

theorem pay75_up : k0_pay75 (F := Ideal) (slab (p.Wp 1)) = bwp p 1 := by
  refine eq_up _ _ fun r c => ?_
  pointwise [k0_pay75, up, slab]

theorem pay76_up : k0_pay76 (F := Ideal) (bfeat p j 1) (slab (p.Wp 1)) = bpw p j 1 := by
  refine eq_up _ _ fun r c => ?_
  rw [k0_pay76, pay74_up, pay75_up]
  pointwise [up]
  simp only [← EReal.coe_mul, ← EReal.coe_add, ← EReal.coe_zero, ← coe_sum, pw]

theorem pay77_up : k0_pay77 (F := Ideal) (bfeat p j 1) (ps p 1) (slab (p.Wp 1)) = byp p j 1 := by
  refine eq_up _ _ fun r c => ?_
  rw [k0_pay77, pay76_up]
  pointwise [up]
  simp only [← EReal.coe_mul]

theorem pay78_up : k0_pay78 (F := Ideal) (bdyc p j) = bdyp p j 1 := by
  refine eq_up _ _ fun r c => ?_
  pointwise [k0_pay78, up]
  refine congrArg (fun k => ((dyc p (tok j r) k : ℝ) : EReal)) (Fin.ext ?_)
  show 640 + c.val = 512 * 1 + (128 * 1 + c.val)
  omega

theorem pay79_up : k0_pay79 (F := Ideal) (bdyc p j) (bfeat p j 1) (slab (p.Wp 1)) = bgps p j 1 := by
  refine eq_up _ _ fun r c => ?_
  rw [k0_pay79, pay78_up, pay76_up]
  pointwise [up]
  simp only [← EReal.coe_mul, ← coe_sum]

theorem pay80_up : k0_pay80 (F := Ideal) (bdyc p j) (ps p 1) = bdpw p j 1 := by
  refine eq_up _ _ fun r c => ?_
  rw [k0_pay80, pay78_up]
  pointwise [up]
  simp only [← EReal.coe_mul, dpw]

theorem pay81_up (V : Fin 128 → Fin 128 → ℝ) : k0_pay81 (F := Ideal) (bdyc p j) (bfeat p j 1) (ps p 1) (slab V) = slab fun a b => V a b + ∑ r, gwp p (tok j r) 1 a b := by
  refine eq_slab _ _ fun a b => ?_
  rw [k0_pay81, pay74_up, pay80_up]
  pointwise [up, slab]
  simp only [← EReal.coe_mul, ← EReal.coe_add, ← EReal.coe_zero, ← coe_sum, gwp]

theorem pay82_up : k0_pay82 (F := Ideal) (bwp p 1) (bdpw p j 1) = bdp p j 1 := by
  refine eq_up _ _ fun r c => ?_
  rw [k0_pay82]
  pointwise [up]
  simp only [← EReal.coe_mul, ← EReal.coe_add, ← EReal.coe_zero, ← coe_sum, dp]

theorem pay83_up : k0_pay83 (F := Ideal) (bic j 1) (bwp p 1) (bdpw p j 1) = bqq p j 1 := by
  refine eq_up _ _ fun r c => ?_
  rw [k0_pay83, pay82_up]
  pointwise [up]
  simp only [← EReal.coe_mul, qq, grp_gcol, low_gcol, mul_one_div]

theorem pay84_up : k0_pay84 (F := Ideal) (bfeat p j 2) = bfeat p j 2 := by
  refine eq_up _ _ fun r c => ?_
  pointwise [k0_pay84, up]

theorem pay85_up : k0_pay85 (F := Ideal) (slab (p.Wp 2)) = bwp p 2 := by
  refine eq_up _ _ fun r c => ?_
  pointwise [k0_pay85, up, slab]

theorem pay86_up : k0_pay86 (F := Ideal) (bfeat p j 2) (slab (p.Wp 2)) = bpw p j 2 := by
  refine eq_up _ _ fun r c => ?_
  rw [k0_pay86, pay84_up, pay85_up]
  pointwise [up]
  simp only [← EReal.coe_mul, ← EReal.coe_add, ← EReal.coe_zero, ← coe_sum, pw]

theorem pay87_up : k0_pay87 (F := Ideal) (bfeat p j 2) (ps p 2) (slab (p.Wp 2)) = byp p j 2 := by
  refine eq_up _ _ fun r c => ?_
  rw [k0_pay87, pay86_up]
  pointwise [up]
  simp only [← EReal.coe_mul]

theorem pay88_up : k0_pay88 (F := Ideal) (bdyc p j) = bdyp p j 2 := by
  refine eq_up _ _ fun r c => ?_
  pointwise [k0_pay88, up]
  refine congrArg (fun k => ((dyc p (tok j r) k : ℝ) : EReal)) (Fin.ext ?_)
  show 768 + c.val = 512 * 1 + (128 * 2 + c.val)
  omega

theorem pay89_up : k0_pay89 (F := Ideal) (bdyc p j) (bfeat p j 2) (slab (p.Wp 2)) = bgps p j 2 := by
  refine eq_up _ _ fun r c => ?_
  rw [k0_pay89, pay88_up, pay86_up]
  pointwise [up]
  simp only [← EReal.coe_mul, ← coe_sum]

theorem pay90_up : k0_pay90 (F := Ideal) (bdyc p j) (ps p 2) = bdpw p j 2 := by
  refine eq_up _ _ fun r c => ?_
  rw [k0_pay90, pay88_up]
  pointwise [up]
  simp only [← EReal.coe_mul, dpw]

theorem pay91_up (V : Fin 128 → Fin 128 → ℝ) : k0_pay91 (F := Ideal) (bdyc p j) (bfeat p j 2) (ps p 2) (slab V) = slab fun a b => V a b + ∑ r, gwp p (tok j r) 2 a b := by
  refine eq_slab _ _ fun a b => ?_
  rw [k0_pay91, pay84_up, pay90_up]
  pointwise [up, slab]
  simp only [← EReal.coe_mul, ← EReal.coe_add, ← EReal.coe_zero, ← coe_sum, gwp]

theorem pay92_up : k0_pay92 (F := Ideal) (bdyc p j) (ps p 2) (slab (p.Wp 2)) = bdp p j 2 := by
  refine eq_up _ _ fun r c => ?_
  rw [k0_pay92, pay90_up, pay85_up]
  pointwise [up]
  simp only [← EReal.coe_mul, ← EReal.coe_add, ← EReal.coe_zero, ← coe_sum, dp]

theorem pay93_up : k0_pay93 (F := Ideal) (bdyc p j) (bic j 2) (ps p 2) (slab (p.Wp 2)) = bqq p j 2 := by
  refine eq_up _ _ fun r c => ?_
  rw [k0_pay93, pay92_up]
  pointwise [up]
  simp only [← EReal.coe_mul, qq, grp_gcol, low_gcol, mul_one_div]

theorem pay94_up : k0_pay94 (F := Ideal) (bfeat p j 3) = bfeat p j 3 := by
  refine eq_up _ _ fun r c => ?_
  pointwise [k0_pay94, up]

theorem pay95_up : k0_pay95 (F := Ideal) (slab (p.Wp 3)) = bwp p 3 := by
  refine eq_up _ _ fun r c => ?_
  pointwise [k0_pay95, up, slab]

theorem pay96_up : k0_pay96 (F := Ideal) (bfeat p j 3) (slab (p.Wp 3)) = bpw p j 3 := by
  refine eq_up _ _ fun r c => ?_
  rw [k0_pay96, pay95_up]
  pointwise [up]
  simp only [← EReal.coe_mul, ← EReal.coe_add, ← EReal.coe_zero, ← coe_sum, pw]

theorem pay97_up : k0_pay97 (F := Ideal) (bfeat p j 3) (ps p 3) (slab (p.Wp 3)) = byp p j 3 := by
  refine eq_up _ _ fun r c => ?_
  rw [k0_pay97, pay96_up]
  pointwise [up]
  simp only [← EReal.coe_mul]

theorem pay98_up : k0_pay98 (F := Ideal) (bdyc p j) = bdyp p j 3 := by
  refine eq_up _ _ fun r c => ?_
  pointwise [k0_pay98, up]
  refine congrArg (fun k => ((dyc p (tok j r) k : ℝ) : EReal)) (Fin.ext ?_)
  show 896 + c.val = 512 * 1 + (128 * 3 + c.val)
  omega

theorem pay99_up : k0_pay99 (F := Ideal) (bdyc p j) (bfeat p j 3) (slab (p.Wp 3)) = bgps p j 3 := by
  refine eq_up _ _ fun r c => ?_
  rw [k0_pay99, pay98_up, pay96_up]
  pointwise [up]
  simp only [← EReal.coe_mul, ← coe_sum]

theorem pay100_up : k0_pay100 (F := Ideal) (bdyc p j) (ps p 3) = bdpw p j 3 := by
  refine eq_up _ _ fun r c => ?_
  rw [k0_pay100, pay98_up]
  pointwise [up]
  simp only [← EReal.coe_mul, dpw]

theorem pay101_up (V : Fin 128 → Fin 128 → ℝ) : k0_pay101 (F := Ideal) (bdyc p j) (bfeat p j 3) (ps p 3) (slab V) = slab fun a b => V a b + ∑ r, gwp p (tok j r) 3 a b := by
  refine eq_slab _ _ fun a b => ?_
  rw [k0_pay101, pay100_up]
  pointwise [up, slab]
  simp only [← EReal.coe_mul, ← EReal.coe_add, ← EReal.coe_zero, ← coe_sum, gwp]

theorem pay102_up : k0_pay102 (F := Ideal) (bdyc p j) (ps p 3) (slab (p.Wp 3)) = bdp p j 3 := by
  refine eq_up _ _ fun r c => ?_
  rw [k0_pay102, pay100_up, pay95_up]
  pointwise [up]
  simp only [← EReal.coe_mul, ← EReal.coe_add, ← EReal.coe_zero, ← coe_sum, dp]

theorem pay103_up : k0_pay103 (F := Ideal) (bdyc p j) (bic j 3) (ps p 3) (slab (p.Wp 3)) = bqq p j 3 := by
  refine eq_up _ _ fun r c => ?_
  rw [k0_pay103, pay102_up]
  pointwise [up]
  simp only [← EReal.coe_mul, qq, grp_gcol, low_gcol, mul_one_div]

theorem pay104_up (X : Fin 528 → Fin 512 → ℝ) : k0_pay104 (F := Ideal) (up X) = up (Fw X 2) := by
  refine eq_up _ _ fun r c => ?_
  pointwise [k0_pay104, up]
  rw [← EReal.coe_add, ← Fw_twice X 1 (by norm_num), Fw_one, Fw_one]
  rfl

theorem pay106_up (X : Fin 528 → Fin 512 → ℝ) : k0_pay106 (F := Ideal) (up X) = up fun r c => Fw X 4 r ⟨128 + c.val, by omega⟩ := by
  refine eq_up _ _ fun r c => ?_
  rw [k0_pay106, pay104_up]
  pointwise [up]
  rw [← EReal.coe_add, ← Fw_twice X 2 (by norm_num)]
  rfl

theorem pay108_up (X : Fin 528 → Fin 512 → ℝ) : k0_pay108 (F := Ideal) (up X) = up fun r c => Fw X 4 r ⟨128 + (128 + c.val), by omega⟩ := by
  refine eq_up _ _ fun r c => ?_
  rw [k0_pay108, pay106_up]
  pointwise [up]

theorem pay109_up (X : Fin 528 → Fin 512 → ℝ) : k0_pay109 (F := Ideal) (up X) = up fun r c => Fw X 4 (fw r 4) ⟨128 + (128 + c.val), by omega⟩ := by
  refine eq_up _ _ fun r c => ?_
  rw [k0_pay109, pay108_up]
  pointwise [up]
  rfl

theorem pay105_up : k0_pay105 (F := Ideal) (aft j (qq p)) = bfs p j 0 := by
  refine eq_up _ _ fun r c => ?_
  rw [k0_pay105, pay104_up]
  pointwise [up]
  rw [Fw_aft _ _ _ (by norm_num)]
  exact congrArg (fun k => ((fsum (qq p) 2 (tok j r) k : ℝ) : EReal)) (Fin.ext (by show c.val = 128 * 0 + c.val; omega))

theorem pay107_up : k0_pay107 (F := Ideal) (aft j (qq p)) = bfs p j 1 := by
  refine eq_up _ _ fun r c => ?_
  rw [k0_pay107, pay106_up]
  pointwise [up]
  rw [Fw_aft _ _ _ (by norm_num)]
  rfl

theorem pay110_up (v : Fin 512 → ℝ) : k0_pay110 (F := Ideal) (bgps p j 0) (bgps p j 1) (bgps p j 2) (bgps p j 3) (row v)
    = row fun c => v c + ∑ r, gcw p (tok j r) 3 c := by
  refine eq_up _ _ fun r c => ?_
  pointwise [k0_pay110, up]
  refine (congrArg (fun x : EReal => (v c : EReal) + x) (group_cases (fun g d => ((∑ r, dyc p (tok j r) (hf 1 (gcol g d)) * pw p (tok j r) g d : ℝ) : EReal)) c.val c.isLt)).trans ?_
  rw [← EReal.coe_add]
  simp only [Fin.eta, gcol_grp, gcw, pk]

theorem pay111_up : k0_pay111 (F := Ideal) (byc p j) (byp p j 0) (byp p j 1) (byp p j 2) (byp p j 3) = bycat p j := by
  refine eq_up _ _ fun r c => ?_
  pointwise [k0_pay111, up]
  unfold ycat two
  by_cases h : c.val < 512
  · rw [dif_pos h, dif_pos h]
  · rw [dif_neg h, dif_neg h]
    refine (group_cases (fun g d => ((pw p (tok j r) g d * p.Ps (gcol g d) : ℝ) : EReal)) (c.val - 512) (by omega)).trans ?_
    simp only [gcol_grp, yp, pk]

end Cert.Kernel2Ideal.Block

end
-- ==== Proof.MixPay2.lean ====
/- The last of the values the kernel's body computes, after MixPay: the first weight's side, the sums, and what is kept as it is. -/
module

public import proofs.«01_k».proof.Proof.MixPay

@[expose] public section

set_option maxRecDepth 16384

noncomputable section

namespace Cert.Kernel2Ideal.Block

open Cert.Kernel2Ideal Cert.Kernel2Ideal.Gen Cert.Reals Cert.Mix Idealize.ShloMosaic

variable (p : Par) (j : Fin 16)

/-- The four quarters of a row side by side, as values; the two ways the columns are counted agree. -/
def four' (a b c d : Fin 512 → EReal) (k : Fin 2048) : EReal :=
  if h : k.val < 512 then a ⟨k.val, h⟩ else if h : k.val < 1024 then b ⟨k.val - 512, by omega⟩
  else if h : k.val < 1536 then c ⟨k.val - 1024, by omega⟩ else d ⟨k.val - 1536, by omega⟩

theorem four_coe (a b c d : Fin 512 → ℝ) (k : Fin 2048) :
    four' (fun i => ((a i : ℝ) : EReal)) (fun i => ((b i : ℝ) : EReal)) (fun i => ((c i : ℝ) : EReal)) (fun i => ((d i : ℝ) : EReal)) k
      = ((four a b c d k : ℝ) : EReal) := by
  unfold four' four
  split_ifs <;> rfl

theorem four_cases (a b c d : Fin 512 → EReal) (k : Fin 2048) :
    (if h : k.val < 512 then a ⟨k.val, h⟩ else if h : k.val - 512 < 512 then b ⟨k.val - 512, h⟩
      else if h : k.val - 512 - 512 < 512 then c ⟨k.val - 512 - 512, h⟩ else d ⟨k.val - 512 - 512 - 512, by omega⟩) = four' a b c d k := by
  unfold four'
  by_cases h0 : k.val < 512
  · rw [dif_pos h0, dif_pos h0]
  rw [dif_neg h0, dif_neg h0]
  by_cases h1 : k.val < 1024
  · rw [dif_pos (show k.val - 512 < 512 by omega), dif_pos h1]
  rw [dif_neg (show ¬ k.val - 512 < 512 by omega), dif_neg h1]
  have x2 : ∀ h h', c ⟨k.val - 512 - 512, h⟩ = c ⟨k.val - 1024, h'⟩ := fun h h' => congrArg c (Fin.ext (by show k.val - 512 - 512 = k.val - 1024; omega))
  have x3 : ∀ h h', d ⟨k.val - 512 - 512 - 512, h⟩ = d ⟨k.val - 1536, h'⟩ := fun h h' =>
    congrArg d (Fin.ext (by show k.val - 512 - 512 - 512 = k.val - 1536; omega))
  by_cases h2 : k.val < 1536
  · refine Eq.trans (dif_pos (show k.val - 512 - 512 < 512 by omega)) ?_
    refine Eq.trans ?_ (Eq.symm (dif_pos h2))
    exact x2 _ _
  · refine Eq.trans (dif_neg (show ¬ k.val - 512 - 512 < 512 by omega)) ?_
    refine Eq.trans ?_ (Eq.symm (dif_neg h2))
    exact x3 _ _

theorem pay112_up : k0_pay112 (F := Ideal) (bdgb p j) (bdgc p j) (bdvc p j) (bdp p j 0) (bdp p j 1) (bdp p j 2) (bdp p j 3) (bfs p j 0) (bfs p j 1)
    (k0_pay108 (F := Ideal) (aft j (qq p))) (k0_pay109 (F := Ideal) (aft j (qq p))) = bdz p j := by
  refine eq_up _ _ fun r c => ?_
  rw [k0_pay112, pay108_up, pay109_up]
  pointwise [up]
  have e4 : ∀ (t : Fin 528) (k : Fin 512), Fw (fun r c => ext (qq p) (512 * (j.val : ℤ) + r.val) c) 4 t k
      + Fw (fun r c => ext (qq p) (512 * (j.val : ℤ) + r.val) c) 4 (fw t 4) k
      = Fw (fun r c => ext (qq p) (512 * (j.val : ℤ) + r.val) c) 8 t k := fun t k => Fw_twice _ 4 (by norm_num) t k
  have e8 : ∀ (t : Fin 528) (k : Fin 512), Fw (fun r c => ext (qq p) (512 * (j.val : ℤ) + r.val) c) 8 t k
      + Fw (fun r c => ext (qq p) (512 * (j.val : ℤ) + r.val) c) 8 (fw t 8) k
      = Fw (fun r c => ext (qq p) (512 * (j.val : ℤ) + r.val) c) 16 t k := fun t k => Fw_twice _ 8 (by norm_num) t k
  refine (four_cases (fun k => ((dgb p (tok j r) k : ℝ) : EReal)) (fun k => ((dgc p (tok j r) k : ℝ) : EReal))
    (fun k => ((dvc p (tok j r) k : ℝ) : EReal)) (fun k =>
      if h : k.val < 128 then ((fsum (qq p) (win 0) (tok j r) (gcol 0 ⟨k.val, h⟩) : ℝ) : EReal) - ((dp p (tok j r) 0 ⟨k.val, h⟩ : ℝ) : EReal)
      else if h : k.val - 128 < 128 then
        ((fsum (qq p) (win 1) (tok j r) (gcol 1 ⟨k.val - 128, h⟩) : ℝ) : EReal) - ((dp p (tok j r) 1 ⟨k.val - 128, h⟩ : ℝ) : EReal)
      else if h : k.val - 128 - 128 < 128 then
        ((Fw (fun r c => ext (qq p) (512 * (j.val : ℤ) + r.val) c) 4 ⟨r.val, by omega⟩ ⟨128 + (128 + (k.val - 128 - 128)), by omega⟩ : ℝ) : EReal)
          + ((Fw (fun r c => ext (qq p) (512 * (j.val : ℤ) + r.val) c) 4 (fw ⟨r.val, by omega⟩ 4) ⟨128 + (128 + (k.val - 128 - 128)), by omega⟩ : ℝ) : EReal)
          - ((dp p (tok j r) 2 ⟨k.val - 128 - 128, h⟩ : ℝ) : EReal)
      else
        ((Fw (fun r c => ext (qq p) (512 * (j.val : ℤ) + r.val) c) 4 ⟨r.val, by omega⟩ ⟨128 + (128 + (128 + (k.val - 128 - 128 - 128))), by omega⟩ : ℝ) : EReal)
          + ((Fw (fun r c => ext (qq p) (512 * (j.val : ℤ) + r.val) c) 4 (fw ⟨r.val, by omega⟩ 4) ⟨128 + (128 + (128 + (k.val - 128 - 128 - 128))), by omega⟩ : ℝ) : EReal)
          + (((Fw (fun r c => ext (qq p) (512 * (j.val : ℤ) + r.val) c) 4 (fw ⟨r.val, by omega⟩ 8) ⟨128 + (128 + (128 + (k.val - 128 - 128 - 128))), by omega⟩ : ℝ) : EReal)
            + ((Fw (fun r c => ext (qq p) (512 * (j.val : ℤ) + r.val) c) 4 (fw (fw ⟨r.val, by omega⟩ 8) 4) ⟨128 + (128 + (128 + (k.val - 128 - 128 - 128))), by omega⟩ : ℝ) : EReal))
          - ((dp p (tok j r) 3 ⟨k.val - 128 - 128 - 128, by omega⟩ : ℝ) : EReal)) c).trans ?_
  refine Eq.trans ?_ (four_coe (dgb p (tok j r)) (dgc p (tok j r)) (dvc p (tok j r)) (dvp p (tok j r)) c)
  refine congrArg (fun d => four' _ _ _ d c) (funext fun k => ?_)
  refine Eq.trans ?_ ((group_cases (fun g d => ((fsum (qq p) (win g) (tok j r) (gcol g d) : ℝ) : EReal) - ((dp p (tok j r) g d : ℝ) : EReal))
    k.val k.isLt).trans ?_)
  · by_cases a0 : k.val < 128
    · rw [dif_pos a0, dif_pos a0]
    rw [dif_neg a0, dif_neg a0]
    by_cases a1 : k.val - 128 < 128
    · rw [dif_pos a1, dif_pos a1]
    rw [dif_neg a1, dif_neg a1]
    by_cases a2 : k.val - 128 - 128 < 128
    · refine Eq.trans (dif_pos a2) (Eq.trans ?_ (Eq.symm (dif_pos a2)))
      rw [← EReal.coe_add, e4, Fw_aft _ _ _ (by norm_num)]
      refine congrArg₂ (· - ·) (congrArg (fun k => ((fsum (qq p) 8 (tok j r) k : ℝ) : EReal)) (Fin.ext ?_)) rfl
      show 128 + (128 + (k.val - 128 - 128)) = 128 * 2 + (k.val - 128 - 128)
      omega
    · refine Eq.trans (dif_neg a2) (Eq.trans ?_ (Eq.symm (dif_neg a2)))
      rw [← EReal.coe_add, ← EReal.coe_add, ← EReal.coe_add, e4, e4]
      refine congrArg₂ (· - ·) (congrArg (fun x : ℝ => (x : EReal)) ?_) rfl
      refine (e8 _ _).trans ?_
      rw [Fw_aft _ _ _ (by norm_num)]
      refine congrArg (fun k => fsum (qq p) 16 (tok j r) k) (Fin.ext ?_)
      show 128 + (128 + (128 + (k.val - 128 - 128 - 128))) = 128 * 3 + (k.val - 128 - 128 - 128)
      omega
  · rw [← EReal.coe_sub, gcol_grp]
    rfl

theorem pay113_up : k0_pay113 (F := Ideal) (bdgb p j) (bdgc p j) (bdvc p j) (bdp p j 0) (bdp p j 1) (bdp p j 2) (bdp p j 3) (bfs p j 0) (bfs p j 1)
    (k0_pay108 (F := Ideal) (aft j (qq p))) (k0_pay109 (F := Ideal) (aft j (qq p))) (up p.Wi) = bdh p j := by
  refine eq_up _ _ fun r c => ?_
  rw [k0_pay113, pay112_up]
  pointwise [up]
  simp only [← EReal.coe_mul, ← EReal.coe_add, ← EReal.coe_zero, ← coe_sum, dh]

theorem pay114_up (v : Fin 1024 → ℝ) : k0_pay114 (F := Ideal) (bdgb p j) (bdgc p j) (bdvc p j) (bdp p j 0) (bdp p j 1) (bdp p j 2) (bdp p j 3) (bfs p j 0) (bfs p j 1)
    (k0_pay108 (F := Ideal) (aft j (qq p))) (k0_pay109 (F := Ideal) (aft j (qq p))) (up p.Wi) (row v) = row fun c => v c + ∑ r, acc p (tok j r) 2 c := by
  refine eq_up _ _ fun r c => ?_
  rw [k0_pay114, pay113_up]
  pointwise [up]
  simp only [← EReal.coe_add, ← coe_sum, acc]

theorem pay115_up (v : Fin 1024 → ℝ) : k0_pay115 (F := Ideal) (row v) = row v := by
  refine eq_up _ _ fun r c => ?_
  pointwise [k0_pay115, up]

theorem pay116_up : k0_pay116 (F := Ideal) (bdgb p j) (bdgc p j) (bdvc p j) (bdp p j 0) (bdp p j 1) (bdp p j 2) (bdp p j 3) (bfs p j 0) (bfs p j 1)
    (k0_pay108 (F := Ideal) (aft j (qq p))) (k0_pay109 (F := Ideal) (aft j (qq p))) (up p.Wi) (bX p j) = bdhx p j := by
  refine eq_up _ _ fun r c => ?_
  rw [k0_pay116, pay113_up]
  pointwise [up]
  simp only [← EReal.coe_mul]

theorem pay1_up (v : Fin 1024 → ℝ) : k0_pay1 (F := Ideal) (row v) (bdhx p j) = row fun c => v c + ∑ r, acc p (tok j r) 3 c := by
  refine eq_up _ _ fun r c => ?_
  pointwise [k0_pay1, up]
  simp only [← EReal.coe_add, ← coe_sum, acc]

theorem pay2_up : k0_pay2 (F := Ideal) (row (p.Md 1)) (bdr p j) (bdh p j) = bdx p j := by
  refine eq_up _ _ fun r c => ?_
  pointwise [k0_pay2, up]
  rw [ofBits_alpha]
  simp only [← EReal.coe_mul, ← EReal.coe_add, ← EReal.coe_one, dx]

theorem pay3_up (A : Fin 16 → Fin 512 → ℝ) : k0_pay3 (F := Ideal) (up A) = up A := by
  refine eq_up _ _ fun r c => ?_
  pointwise [k0_pay3, up]

theorem pay4_up (A : Fin 16 → Fin 512 → ℝ) : k0_pay4 (F := Ideal) (up A) = up A := by
  refine eq_up _ _ fun r c => ?_
  pointwise [k0_pay4, up]

theorem pay5_up : k0_pay5 (F := Ideal) = up fun _ _ => 0 := by
  refine eq_up _ _ fun r c => ?_
  pointwise [k0_pay5, up]
  rfl

theorem pay6_up : k0_pay6 (F := Ideal) = up fun _ _ => 0 := by
  refine eq_up _ _ fun r c => ?_
  pointwise [k0_pay6, up]
  rfl

theorem pay7_up : k0_pay7 (F := Ideal) = up3 fun _ _ _ => 0 := by
  funext i
  obtain ⟨u, a, b, rfl⟩ : ∃ (u : Fin 4) (a : Fin 128) (b : Fin 128), i = ix3 u a b := ⟨i 0, i 1, i 2, eq_ix3 i⟩
  pointwise [k0_pay7, up3]
  rfl

theorem pay8_up : k0_pay8 (F := Ideal) = up fun _ _ => 0 := by
  refine eq_up _ _ fun r c => ?_
  pointwise [k0_pay8, up]
  rfl

theorem pay9_up : k0_pay9 (F := Ideal) = up fun _ _ => 0 := by
  refine eq_up _ _ fun r c => ?_
  pointwise [k0_pay9, up]
  rfl

end Cert.Kernel2Ideal.Block

end
-- ==== Proof.MixLoads.lean ====
/- What the mixing kernel's loads read: its operands' boxes, and its two buffers of earlier and later rows after its own stores. -/
module

public import proofs.«01_k».proof.Proof.MixPay2
public import proofs.«01_k».proof.Proof.Stores

@[expose] public section

set_option maxRecDepth 16384

noncomputable section

namespace Cert.Kernel2Ideal.Block

open Cert.Kernel2Ideal Cert.Kernel2Ideal.Gen Cert.Reals Cert.Mix Idealize.ShloMosaic
open Cert.KernelIdeal.Block (hit ld_up ld_up_bf16)

variable (p : Par) (j : Fin 16)

/-- The load of a whole matrix (f32 words; bf16 words). -/
theorem ld_all {n m : ℕ} (X : Fin n → Fin m → ℝ) (inb : ∀ a, (![0, 0] : Fin 2 → ℕ) a + (![n, m] : Fin 2 → ℕ) a ≤ (⟨2, ![n, m]⟩ : Shape).size a) :
    View.ld (Val := Elt Ideal) (S := ⟨2, ![n, m]⟩) (e' := .f32) (up X) (Rect.unit ![0, 0] ![n, m] inb) = up X := by
  rw [ld_up X (by omega) (by omega) inb]; simp only [Nat.zero_add, Fin.eta]
theorem ld_all_bf16 {n m : ℕ} (X : Fin n → Fin m → ℝ) (inb : ∀ a, (![0, 0] : Fin 2 → ℕ) a + (![n, m] : Fin 2 → ℕ) a ≤ (⟨2, ![n, m]⟩ : Shape).size a) :
    View.ld (Val := Elt Ideal) (S := ⟨2, ![n, m]⟩) (e' := .bf16) (up X) (Rect.unit ![0, 0] ![n, m] inb) = up X := ld_all X inb

/-- The load of one row. -/
theorem ld_line {n m : ℕ} (A : Fin n → Fin m → ℝ) (o : Fin n)
    (inb : ∀ a, (![o.val, 0] : Fin 2 → ℕ) a + (![1, m] : Fin 2 → ℕ) a ≤ (⟨2, ![n, m]⟩ : Shape).size a) :
    View.ld (Val := Elt Ideal) (S := ⟨2, ![n, m]⟩) (e' := .f32) (up A) (Rect.unit ![o.val, 0] ![1, m] inb) = row (A o) := by
  rw [ld_up A (by omega) (by omega) inb]
  refine eq_up _ _ fun a b => ?_
  simp only [up_apply, Fin.val_eq_zero, Nat.add_zero, Nat.zero_add, Fin.eta]

theorem ld_md1 (inb) : View.ld (Val := Elt Ideal) (S := S6x1024) (e' := .f32) (up p.Md) (Rect.unit ![1, 0] ![1, 1024] inb) = row (p.Md 1) :=
  ld_line p.Md 1 inb
theorem ld_md2 (inb) : View.ld (Val := Elt Ideal) (S := S6x1024) (e' := .f32) (up p.Md) (Rect.unit ![2, 0] ![1, 1024] inb) = row (p.Md 2) :=
  ld_line p.Md 2 inb
theorem ld_gain (inb) : View.ld (Val := Elt Ideal) (S := S4x1024) (e' := .f32) (up p.G) (Rect.unit ![0, 0] ![1, 1024] inb) = row (p.G 0) :=
  ld_line p.G 0 inb
theorem ld_cw0 (inb) : View.ld (Val := Elt Ideal) (S := S3x512) (e' := .f32) (up p.Cw) (Rect.unit ![0, 0] ![1, 512] inb) = row (p.Cw 0) :=
  ld_line p.Cw 0 inb
theorem ld_cw1 (inb) : View.ld (Val := Elt Ideal) (S := S3x512) (e' := .f32) (up p.Cw) (Rect.unit ![1, 0] ![1, 512] inb) = row (p.Cw 1) :=
  ld_line p.Cw 1 inb
theorem ld_cw2 (inb) : View.ld (Val := Elt Ideal) (S := S3x512) (e' := .f32) (up p.Cw) (Rect.unit ![2, 0] ![1, 512] inb) = row (p.Cw 2) :=
  ld_line p.Cw 2 inb

/-- The load of a group's columns of the row of scales. -/
theorem ld_ps (g : Fin 4) (inb) : View.ld (Val := Elt Ideal) (S := S1x512) (e' := .f32) (row p.Ps) (Rect.unit ![0, 128 * g.val] ![1, 128] inb) = ps p g := by
  rw [ld_up (fun _ : Fin 1 => p.Ps) (by norm_num) (by omega) inb]; rfl
theorem ld_ps0 (inb) : View.ld (Val := Elt Ideal) (S := S1x512) (e' := .f32) (row p.Ps) (Rect.unit ![0, 0] ![1, 128] inb) = ps p 0 := ld_ps p 0 inb
theorem ld_ps1 (inb) : View.ld (Val := Elt Ideal) (S := S1x512) (e' := .f32) (row p.Ps) (Rect.unit ![0, 128] ![1, 128] inb) = ps p 1 := ld_ps p 1 inb
theorem ld_ps2 (inb) : View.ld (Val := Elt Ideal) (S := S1x512) (e' := .f32) (row p.Ps) (Rect.unit ![0, 256] ![1, 128] inb) = ps p 2 := ld_ps p 2 inb
theorem ld_ps3 (inb) : View.ld (Val := Elt Ideal) (S := S1x512) (e' := .f32) (row p.Ps) (Rect.unit ![0, 384] ![1, 128] inb) = ps p 3 := ld_ps p 3 inb

/-- The load of one matrix of a stack. -/
theorem ld_slab (A : Fin 4 → Fin 128 → Fin 128 → ℝ) (g : Fin 4) (inb) :
    View.ld (Val := Elt Ideal) (S := S4x128x128) (e' := .f32) (up3 A) (Rect.unit ![g.val, 0, 0] ![1, 128, 128] inb) = slab (A g) := by
  refine eq_slab _ _ fun a b => ?_
  exact View.ld_unit_apply_of (Val := Elt Ideal) (e := .f32) (up3 A) ![g.val, 0, 0] ![1, 128, 128] inb (ix3 (0 : Fin 1) a b)
    (ix3 g a b) fun x => by fin_cases x <;> simp
theorem ld_slab0 (A : Fin 4 → Fin 128 → Fin 128 → ℝ) (inb) :
    View.ld (Val := Elt Ideal) (S := S4x128x128) (e' := .f32) (up3 A) (Rect.unit ![0, 0, 0] ![1, 128, 128] inb) = slab (A 0) := ld_slab A 0 inb
theorem ld_slab1 (A : Fin 4 → Fin 128 → Fin 128 → ℝ) (inb) :
    View.ld (Val := Elt Ideal) (S := S4x128x128) (e' := .f32) (up3 A) (Rect.unit ![1, 0, 0] ![1, 128, 128] inb) = slab (A 1) := ld_slab A 1 inb
theorem ld_slab2 (A : Fin 4 → Fin 128 → Fin 128 → ℝ) (inb) :
    View.ld (Val := Elt Ideal) (S := S4x128x128) (e' := .f32) (up3 A) (Rect.unit ![2, 0, 0] ![1, 128, 128] inb) = slab (A 2) := ld_slab A 2 inb
theorem ld_slab3 (A : Fin 4 → Fin 128 → Fin 128 → ℝ) (inb) :
    View.ld (Val := Elt Ideal) (S := S4x128x128) (e' := .f32) (up3 A) (Rect.unit ![3, 0, 0] ![1, 128, 128] inb) = slab (A 3) := ld_slab A 3 inb

/-! ## The two buffers -/

/-- A read of a box is known where every element read is. -/
theorem read_box {sig : RefSig} {κ : Kind} {sp : Space} {n m s0 s1 : ℕ} (v : View sig κ sp (⟨2, ![n, m]⟩ : Shape) .f32)
    (f : v.ty.Contents (Elt Ideal)) (o0 o1 : ℕ) (inb) (A : Fin s0 → Fin s1 → ℝ)
    (h : ∀ (r : Fin s0) (c : Fin s1) (a : Fin n) (b : Fin m), a.val = o0 + r.val → b.val = o1 + c.val →
      v.read (Elt Ideal) f (ix2 a b) = ((A r c : ℝ) : EReal)) :
    v.readAt (Elt Ideal) (Rect.unit (s := (⟨2, ![n, m]⟩ : Shape)) ![o0, o1] ![s0, s1] inb).toLoadRect f = up A := by
  have h0 : o0 + s0 ≤ n := inb 0
  have h1 : o1 + s1 ≤ m := inb 1
  refine eq_up _ _ fun r c => ?_
  rw [View.readAt_eq_ld]
  refine (View.ld_unit_apply_of (Val := Elt Ideal) (e := .f32) _ ![o0, o1] ![s0, s1] inb (ix2 r c)
    (ix2 ⟨o0 + r.val, by omega⟩ ⟨o1 + c.val, by omega⟩) fun a => by fin_cases a <;> rfl).trans (h r c _ _ rfl rfl)

section buffers

variable {sig : RefSig} {κ : Kind} {sp : Space} (v : View sig κ sp S528x1024 .f32) (f : v.ty.Contents (Elt Ideal))

/-- An element a store does not reach. -/
theorem miss0 (o0 o1 s0 s1 : ℕ) (inb) (w) (L) (a : Fin 528) (b : Fin 1024) (h : a.val < o0 ∨ o0 + s0 ≤ a.val) :
    v.read (Elt Ideal) (v.writes (Elt Ideal) f (⟨Rect.unit (s := S528x1024) ![o0, o1] ![s0, s1] inb, w⟩ :: L)) (ix2 a b)
      = v.read (Elt Ideal) (v.writes (Elt Ideal) f L) (ix2 a b) :=
  View.read_writes_cons_miss_of_axis v f _ _ (ix2 a b) (0 : Fin 2) o0 s0 rfl rfl rfl h
theorem miss1 (o0 o1 s0 s1 : ℕ) (inb) (w) (L) (a : Fin 528) (b : Fin 1024) (h : b.val < o1 ∨ o1 + s1 ≤ b.val) :
    v.read (Elt Ideal) (v.writes (Elt Ideal) f (⟨Rect.unit (s := S528x1024) ![o0, o1] ![s0, s1] inb, w⟩ :: L)) (ix2 a b)
      = v.read (Elt Ideal) (v.writes (Elt Ideal) f L) (ix2 a b) :=
  View.read_writes_cons_miss_of_axis v f _ _ (ix2 a b) (1 : Fin 2) o1 s1 rfl rfl rfl h

/-- The half of the buffer of earlier rows that begins at a column, when its two stores are the newest to reach it. -/
theorem past_half (F : Fin 8192 → Fin 512 → ℝ) (o : ℕ) (i1 i2) (L) (r : Fin 528) (c : Fin 512) (a : Fin 528) (b : Fin 1024)
    (ha : a.val = r.val) (hb : b.val = o + c.val) :
    v.read (Elt Ideal) (v.writes (Elt Ideal) f
      (⟨Rect.unit (s := S528x1024) ![16, o] ![512, 512] i1, up fun (r : Fin 512) => F (tok j r)⟩
        :: ⟨Rect.unit (s := S528x1024) ![0, o] ![16, 512] i2, hbef j F⟩ :: L)) (ix2 a b)
      = ((ext F (512 * (j.val : ℤ) + r.val - 16) c : ℝ) : EReal) := by
  by_cases h : 16 ≤ r.val
  · rw [hit rfl v f 16 o i1 _ _ a b ⟨r.val - 16, by omega⟩ c (by show a.val = 16 + (r.val - 16); omega) hb, up_apply]
    exact congrArg _ (ext_of F _ _ (by show _ = ((512 * j.val + (r.val - 16) : ℕ) : ℤ); omega) c).symm
  · rw [miss0 v f 16 o 512 512 i1 _ _ a b (by omega), hit rfl v f 0 o i2 _ _ a b ⟨r.val, by omega⟩ c (by show a.val = 0 + r.val; omega) hb]
    show ((ext F _ c : ℝ) : EReal) = _
    rfl

theorem past_left (i1 i2 i3 i4 inb) :
    v.readCov (Val := Elt Ideal)
      [⟨Rect.unit (s := S528x1024) ![16, 512] ![512, 512] i1, bvp p j⟩, ⟨Rect.unit (s := S528x1024) ![0, 512] ![16, 512] i2, hbef j (vp p)⟩,
        ⟨Rect.unit (s := S528x1024) ![16, 0] ![512, 512] i3, bcv p j⟩, ⟨Rect.unit (s := S528x1024) ![0, 0] ![16, 512] i4, hbef j (cv p)⟩]
      (Rect.unit (s := S528x1024) ![0, 0] ![528, 512] inb).toLoadRect = bef j (cv p) := by
  unfold View.readCov
  refine read_box v _ 0 0 inb _ fun r c a b ha hb => ?_
  rw [miss1 v _ 16 512 512 512 i1 _ _ a b (Or.inl (by omega)), miss1 v _ 0 512 16 512 i2 _ _ a b (Or.inl (by omega))]
  exact past_half j v _ (cv p) 0 i3 i4 _ r c a b (by omega) hb

theorem past_right (i1 i2 i3 i4 inb) :
    v.readCov (Val := Elt Ideal)
      [⟨Rect.unit (s := S528x1024) ![16, 512] ![512, 512] i1, bvp p j⟩, ⟨Rect.unit (s := S528x1024) ![0, 512] ![16, 512] i2, hbef j (vp p)⟩,
        ⟨Rect.unit (s := S528x1024) ![16, 0] ![512, 512] i3, bcv p j⟩, ⟨Rect.unit (s := S528x1024) ![0, 0] ![16, 512] i4, hbef j (cv p)⟩]
      (Rect.unit (s := S528x1024) ![0, 512] ![528, 512] inb).toLoadRect = bef j (vp p) := by
  unfold View.readCov
  refine read_box v _ 0 512 inb _ fun r c a b ha hb => ?_
  exact past_half j v _ (vp p) 512 i1 i2 _ r c a b (by omega) hb

/-- The rows from a block's first on, of the convolution's gradient and of the averages' gradient side by side. -/
def nb (r : Fin 528) (c : Fin 1024) : ℝ :=
  if h : c.val < 512 then ext (e p) (512 * (j.val : ℤ) + r.val) ⟨c.val, h⟩ else ext (qq p) (512 * (j.val : ℤ) + r.val) ⟨c.val - 512, by omega⟩

theorem nb_left (r : Fin 528) (c : Fin 512) (b : Fin 1024) (hb : b.val = c.val) : nb p j r b = ext (e p) (512 * (j.val : ℤ) + r.val) c := by
  unfold nb
  exact (dif_pos (by omega)).trans (congrArg _ (Fin.ext hb))
theorem nb_right (r : Fin 528) (c : Fin 512) (b : Fin 1024) (hb : b.val = 512 + c.val) :
    nb p j r b = ext (qq p) (512 * (j.val : ℤ) + r.val) c := by
  unfold nb
  exact (dif_neg (by omega)).trans (congrArg _ (Fin.ext (by show b.val - 512 = c.val; omega)))

/-- What a block leaves in that buffer: its own rows, and its first sixteen again below them. -/
def kept (r : Fin 528) : Fin 1024 → ℝ := nb p j (if r.val < 512 then r else ⟨r.val - 512, by omega⟩)

/-- The later rows a block finds: those the block after it left. -/
theorem kept_tail (k : Fin 16) (hk : k.val = j.val + 1) (r : Fin 528) (h : 512 ≤ r.val) (c : Fin 1024) : kept p k r c = nb p j r c := by
  unfold kept nb
  rw [if_neg (by omega)]
  have e : (512 * (k.val : ℤ) + ((r.val - 512 : ℕ) : ℤ)) = 512 * (j.val : ℤ) + r.val := by omega
  show (if h : c.val < 512 then ext _ (512 * (k.val : ℤ) + ((r.val - 512 : ℕ) : ℤ)) _ else ext _ (512 * (k.val : ℤ) + ((r.val - 512 : ℕ) : ℤ)) _) = _
  rw [e]

/-- After the last block there are none. -/
theorem nb_last (h : j.val = 15) (r : Fin 528) (hr : 512 ≤ r.val) (c : Fin 1024) : nb p j r c = 0 := by
  unfold nb
  split <;> exact ext_out _ _ (Or.inr (by omega)) _

/-- The buffer's own rows after the body's stores, and the rows below them if they hold the later ones. -/
theorem next_left (L) (hT : ∀ (r : Fin 528) (c : Fin 1024), 512 ≤ r.val →
      v.read (Elt Ideal) (v.writes (Elt Ideal) f L) (ix2 r c) = ((nb p j r c : ℝ) : EReal)) (i0)
    (a : Fin 528) (b : Fin 1024) (hb : b.val < 512 ∨ 512 ≤ a.val) :
    v.read (Elt Ideal) (v.writes (Elt Ideal) f (⟨Rect.unit (s := S528x1024) ![0, 0] ![512, 512] i0, be p j⟩ :: L)) (ix2 a b) = ((nb p j a b : ℝ) : EReal) := by
  by_cases h : a.val < 512
  · rw [hit rfl v f 0 0 i0 _ _ a b ⟨a.val, h⟩ ⟨b.val, by omega⟩ (by show _ = 0 + a.val; omega) (by show _ = 0 + b.val; omega)]
    refine congrArg (fun x : ℝ => (x : EReal)) ?_
    show e p (tok j ⟨a.val, h⟩) ⟨b.val, by omega⟩ = _
    rw [nb_left p j a ⟨b.val, by omega⟩ b rfl]
    exact (ext_of (e p) _ (tok j ⟨a.val, h⟩) (by show _ = ((512 * j.val + a.val : ℕ) : ℤ); omega) _).symm
  · rw [miss0 v f 0 0 512 512 i0 _ _ a b (by omega)]
    exact hT a b (by omega)

theorem next_group (g : Fin 4) (L) (i0) (a : Fin 528) (b : Fin 1024) (ha : a.val < 512) (h0 : 512 + 128 * g.val ≤ b.val) (h1 : b.val < 512 + 128 * g.val + 128) :
    v.read (Elt Ideal) (v.writes (Elt Ideal) f (⟨Rect.unit (s := S528x1024) ![0, 512 + 128 * g.val] ![512, 128] i0, bqq p j g⟩ :: L)) (ix2 a b)
      = ((nb p j a b : ℝ) : EReal) := by
  rw [hit rfl v f 0 (512 + 128 * g.val) i0 _ _ a b ⟨a.val, ha⟩ ⟨b.val - (512 + 128 * g.val), by omega⟩ (by show _ = 0 + a.val; omega)
    (by show _ = 512 + 128 * g.val + (b.val - (512 + 128 * g.val)); omega)]
  refine congrArg (fun x : ℝ => (x : EReal)) ?_
  show qq p (tok j ⟨a.val, ha⟩) (gcol g ⟨b.val - (512 + 128 * g.val), by omega⟩) = _
  rw [nb_right p j a (gcol g ⟨b.val - (512 + 128 * g.val), by omega⟩) b (by show _ = 512 + (128 * g.val + (b.val - (512 + 128 * g.val))); omega)]
  exact (ext_of (qq p) _ (tok j ⟨a.val, ha⟩) (by show _ = ((512 * j.val + a.val : ℕ) : ℤ); omega) _).symm

/-- The stores of a block's own rows. -/
abbrev own (i0 : ∀ a, (![0, 0] : Fin 2 → ℕ) a + (![512, 512] : Fin 2 → ℕ) a ≤ S528x1024.size a) (i1 : ∀ a, (![0, 512] : Fin 2 → ℕ) a + (![512, 128] : Fin 2 → ℕ) a ≤ S528x1024.size a) (i2 : ∀ a, (![0, 640] : Fin 2 → ℕ) a + (![512, 128] : Fin 2 → ℕ) a ≤ S528x1024.size a) (i3 : ∀ a, (![0, 768] : Fin 2 → ℕ) a + (![512, 128] : Fin 2 → ℕ) a ≤ S528x1024.size a) (i4 : ∀ a, (![0, 896] : Fin 2 → ℕ) a + (![512, 128] : Fin 2 → ℕ) a ≤ S528x1024.size a)
    (L : List (View.Piece (Elt Ideal) S528x1024 .f32)) : List (View.Piece (Elt Ideal) S528x1024 .f32) :=
  ⟨Rect.unit (s := S528x1024) ![0, 896] ![512, 128] i4, bqq p j 3⟩ :: ⟨Rect.unit (s := S528x1024) ![0, 768] ![512, 128] i3, bqq p j 2⟩
    :: ⟨Rect.unit (s := S528x1024) ![0, 640] ![512, 128] i2, bqq p j 1⟩ :: ⟨Rect.unit (s := S528x1024) ![0, 512] ![512, 128] i1, bqq p j 0⟩
    :: ⟨Rect.unit (s := S528x1024) ![0, 0] ![512, 512] i0, be p j⟩ :: L

theorem own_top (i0 i1 i2 i3 i4) (L) (a : Fin 528) (b : Fin 1024) (ha : a.val < 512) :
    v.read (Elt Ideal) (v.writes (Elt Ideal) f (own p j i0 i1 i2 i3 i4 L)) (ix2 a b) = ((nb p j a b : ℝ) : EReal) := by
  by_cases h3 : 896 ≤ b.val
  · exact next_group p j v f 3 _ i4 a b ha h3 (by show _ < 1024; omega)
  rw [miss1 v f 0 896 512 128 i4 _ _ a b (Or.inl (by omega))]
  by_cases h2 : 768 ≤ b.val
  · exact next_group p j v f 2 _ i3 a b ha h2 (by show _ < 896; omega)
  rw [miss1 v f 0 768 512 128 i3 _ _ a b (Or.inl (by omega))]
  by_cases h1 : 640 ≤ b.val
  · exact next_group p j v f 1 _ i2 a b ha h1 (by show _ < 768; omega)
  rw [miss1 v f 0 640 512 128 i2 _ _ a b (Or.inl (by omega))]
  by_cases h0 : 512 ≤ b.val
  · exact next_group p j v f 0 _ i1 a b ha h0 (by show _ < 640; omega)
  rw [miss1 v f 0 512 512 128 i1 _ _ a b (Or.inl (by omega)),
    hit rfl v f 0 0 i0 _ _ a b ⟨a.val, ha⟩ ⟨b.val, by omega⟩ (by show _ = 0 + a.val; omega) (by show _ = 0 + b.val; omega)]
  refine congrArg (fun x : ℝ => (x : EReal)) ?_
  show e p (tok j ⟨a.val, ha⟩) ⟨b.val, by omega⟩ = _
  rw [nb_left p j a ⟨b.val, by omega⟩ b rfl]
  exact (ext_of (e p) _ (tok j ⟨a.val, ha⟩) (by show _ = ((512 * j.val + a.val : ℕ) : ℤ); omega) _).symm

theorem own_tail (i0 i1 i2 i3 i4) (L) (a : Fin 528) (b : Fin 1024) (ha : 512 ≤ a.val) :
    v.read (Elt Ideal) (v.writes (Elt Ideal) f (own p j i0 i1 i2 i3 i4 L)) (ix2 a b) = v.read (Elt Ideal) (v.writes (Elt Ideal) f L) (ix2 a b) := by
  rw [miss0 v f 0 896 512 128 i4 _ _ a b (Or.inr (by omega)), miss0 v f 0 768 512 128 i3 _ _ a b (Or.inr (by omega)),
    miss0 v f 0 640 512 128 i2 _ _ a b (Or.inr (by omega)), miss0 v f 0 512 512 128 i1 _ _ a b (Or.inr (by omega)),
    miss0 v f 0 0 512 512 i0 _ _ a b (Or.inr (by omega))]

/-- The reads of that buffer: the left half after its store, the right half after all five, the first sixteen rows of each. -/
theorem next_e (L) (hT : ∀ (r : Fin 528) (c : Fin 1024), 512 ≤ r.val →
      v.read (Elt Ideal) (v.writes (Elt Ideal) f L) (ix2 r c) = ((nb p j r c : ℝ) : EReal)) (i0 inb) :
    v.readAt (Elt Ideal) (Rect.unit (s := S528x1024) ![0, 0] ![528, 512] inb).toLoadRect
      (v.writes (Elt Ideal) f (⟨Rect.unit (s := S528x1024) ![0, 0] ![512, 512] i0, be p j⟩ :: L)) = aft j (e p) :=
  read_box v _ 0 0 inb _ fun r c a b ha hb => by
    obtain rfl : a = r := Fin.ext (by omega)
    rw [next_left p j v f L hT i0 a b (Or.inl (by omega)), nb_left p j a c b (by omega)]

theorem next_q (L) (hT : ∀ (r : Fin 528) (c : Fin 1024), 512 ≤ r.val →
      v.read (Elt Ideal) (v.writes (Elt Ideal) f L) (ix2 r c) = ((nb p j r c : ℝ) : EReal)) (i0 i1 i2 i3 i4 inb) :
    v.readAt (Elt Ideal) (Rect.unit (s := S528x1024) ![0, 512] ![528, 512] inb).toLoadRect
      (v.writes (Elt Ideal) f (own p j i0 i1 i2 i3 i4 L)) = aft j (qq p) :=
  read_box v _ 0 512 inb _ fun r c a b ha hb => by
    obtain rfl : a = r := Fin.ext (by omega)
    rw [← nb_right p j a c b hb]
    by_cases h : a.val < 512
    · exact own_top p j v f i0 i1 i2 i3 i4 L a b h
    · exact (own_tail p j v f i0 i1 i2 i3 i4 L a b (by omega)).trans (hT a b (by omega))

/-- The first sixteen rows of each half. -/
abbrev topE : S16x512.Idx → EReal := up fun r c => nb p j ⟨r.val, by omega⟩ ⟨c.val, by omega⟩
abbrev topQ : S16x512.Idx → EReal := up fun r c => nb p j ⟨r.val, by omega⟩ ⟨512 + c.val, by omega⟩

theorem pay3_top (A : Fin 16 → Fin 512 → ℝ) : k0_pay3 (F := Ideal) (up A) = up A := by
  refine eq_up _ _ fun r c => ?_
  pointwise [k0_pay3, up]
theorem pay4_top (A : Fin 16 → Fin 512 → ℝ) : k0_pay4 (F := Ideal) (up A) = up A := by
  refine eq_up _ _ fun r c => ?_
  pointwise [k0_pay4, up]

theorem top_e (i0 i1 i2 i3 i4 inb) (L) :
    v.readAt (Elt Ideal) (Rect.unit (s := S528x1024) ![0, 0] ![16, 512] inb).toLoadRect (v.writes (Elt Ideal) f (own p j i0 i1 i2 i3 i4 L)) = topE p j :=
  read_box v _ 0 0 inb _ fun r c a b ha hb => by
    have e1 : (⟨r.val, by omega⟩ : Fin 528) = a := Fin.ext (by show r.val = _; omega)
    have e2 : (⟨c.val, by omega⟩ : Fin 1024) = b := Fin.ext (by show c.val = _; omega)
    rw [e1, e2]
    exact own_top p j v f i0 i1 i2 i3 i4 L _ _ (by omega)

theorem top_q (i0 i1 i2 i3 i4 i5 inb) (L) :
    v.readAt (Elt Ideal) (Rect.unit (s := S528x1024) ![0, 512] ![16, 512] inb).toLoadRect
      (v.writes (Elt Ideal) f (⟨Rect.unit (s := S528x1024) ![512, 0] ![16, 512] i5, topE p j⟩ :: own p j i0 i1 i2 i3 i4 L)) = topQ p j :=
  read_box v _ 0 512 inb _ fun r c a b ha hb => by
    have e1 : (⟨r.val, by omega⟩ : Fin 528) = a := Fin.ext (by show r.val = _; omega)
    have e2 : (⟨512 + c.val, by omega⟩ : Fin 1024) = b := Fin.ext (by show 512 + c.val = _; omega)
    rw [e1, e2, miss0 v f 512 0 16 512 i5 _ _ a b (Or.inl (by omega))]
    exact own_top p j v f i0 i1 i2 i3 i4 L _ _ (by omega)

/-- What the body leaves in it. -/
theorem next_kept (i0 i1 i2 i3 i4 i5 i6) (L) :
    v.read (Elt Ideal) (v.writes (Elt Ideal) f (⟨Rect.unit (s := S528x1024) ![512, 512] ![16, 512] i6, topQ p j⟩
      :: ⟨Rect.unit (s := S528x1024) ![512, 0] ![16, 512] i5, topE p j⟩ :: own p j i0 i1 i2 i3 i4 L)) = up (kept p j) := by
  refine eq_up _ _ fun a b => ?_
  by_cases h : a.val < 512
  · rw [miss0 v f 512 512 16 512 i6 _ _ a b (by omega), miss0 v f 512 0 16 512 i5 _ _ a b (by omega), own_top p j v f i0 i1 i2 i3 i4 L a b h]
    unfold kept; rw [if_pos h]
  · have e : kept p j a b = nb p j ⟨a.val - 512, by omega⟩ b := by unfold kept; rw [if_neg h]
    rw [e]
    by_cases hb : 512 ≤ b.val
    · rw [hit rfl v f 512 512 i6 _ _ a b ⟨a.val - 512, by omega⟩ ⟨b.val - 512, by omega⟩ (by show _ = 512 + (a.val - 512); omega)
        (by show _ = 512 + (b.val - 512); omega)]
      exact congrArg (fun k => ((nb p j ⟨a.val - 512, by omega⟩ k : ℝ) : EReal)) (Fin.ext (by show 512 + (b.val - 512) = b.val; omega))
    · rw [miss1 v f 512 512 16 512 i6 _ _ a b (by omega),
        hit rfl v f 512 0 i5 _ _ a b ⟨a.val - 512, by omega⟩ ⟨b.val, by omega⟩ (by show _ = 512 + (a.val - 512); omega)
        (by show _ = 0 + b.val; omega)]
      exact congrArg (fun k => ((nb p j ⟨a.val - 512, by omega⟩ k : ℝ) : EReal)) (Fin.ext rfl)

/-- The two stores of zeros before the last block's body hold its later rows. -/
theorem zero_tail (h : j.val = 15) (i7 i8) (r : Fin 528) (c : Fin 1024) (hr : 512 ≤ r.val) :
    v.read (Elt Ideal) (v.writes (Elt Ideal) f
      [⟨Rect.unit (s := S528x1024) ![512, 512] ![16, 512] i8, up fun (_ : Fin 16) (_ : Fin 512) => (0 : ℝ)⟩,
        ⟨Rect.unit (s := S528x1024) ![512, 0] ![16, 512] i7, up fun (_ : Fin 16) (_ : Fin 512) => (0 : ℝ)⟩]) (ix2 r c) = ((nb p j r c : ℝ) : EReal) := by
  rw [nb_last p j h r hr c]
  by_cases hc : 512 ≤ c.val
  · rw [hit rfl v f 512 512 i8 _ _ r c ⟨r.val - 512, by omega⟩ ⟨c.val - 512, by omega⟩ (by show _ = 512 + (r.val - 512); omega)
      (by show _ = 512 + (c.val - 512); omega), up_apply]
  · rw [miss1 v f 512 512 16 512 i8 _ _ r c (by omega),
      hit rfl v f 512 0 i7 _ _ r c ⟨r.val - 512, by omega⟩ ⟨c.val, by omega⟩ (by show _ = 512 + (r.val - 512); omega)
      (by show _ = 0 + c.val; omega), up_apply]

end buffers

end Cert.Kernel2Ideal.Block

end
-- ==== Proof.MixRows.lean ====
/- The accumulators of the mixing kernel after its stores of single rows, and of single matrices of a stack. -/
module

public import proofs.«01_k».proof.Proof.MixLoads

@[expose] public section

set_option maxRecDepth 16384

noncomputable section

namespace Cert.Kernel2Ideal.Block

open Cert.Kernel2Ideal Cert.Kernel2Ideal.Gen Cert.Reals Cert.Mix Idealize.ShloMosaic
open Cert.KernelIdeal.Block (hit)

section rows

variable {sig : RefSig} {κ : Kind} {sp : Space} {n m : ℕ} (v : View sig κ sp (⟨2, ![n, m]⟩ : Shape) .f32)

/-- A store of one row replaces that row. -/
theorem put (f : v.ty.Contents (Elt Ideal)) (V : Fin n → Fin m → ℝ) (L) (hL : v.read (Elt Ideal) (v.writes (Elt Ideal) f L) = up V)
    (o : Fin n) (w : Fin m → ℝ) (inb) :
    v.read (Elt Ideal) (v.writes (Elt Ideal) f (⟨Rect.unit (s := (⟨2, ![n, m]⟩ : Shape)) ![o.val, 0] ![1, m] inb, row w⟩ :: L))
      = up (Function.update V o w) := by
  refine eq_up _ _ fun a b => ?_
  by_cases h : a = o
  · subst h
    rw [hit rfl v f a.val 0 inb _ _ a b 0 b (by simp) (by omega), Function.update_self]; rfl
  · have hv : a.val ≠ o.val := fun e => h (Fin.ext e)
    rw [View.read_writes_cons_miss_of_axis v f _ _ (ix2 a b) (0 : Fin 2) o.val 1 rfl rfl rfl (by show a.val < o.val ∨ o.val + 1 ≤ a.val; omega),
      hL, Function.update_of_ne h]
    rfl

/-- A row read back after another row's store; a row read back after a store of zeros alone. -/
theorem line_skip (o o' : ℕ) (inb inb') (w : Fin m → ℝ) (L : List (View.Piece (Elt Ideal) (⟨2, ![n, m]⟩ : Shape) .f32)) (h : o + 1 ≤ o' ∨ o' + 1 ≤ o) :
    v.readCov (⟨Rect.unit (s := (⟨2, ![n, m]⟩ : Shape)) ![o, 0] ![1, m] inb, row w⟩ :: L) (Rect.unit (s := (⟨2, ![n, m]⟩ : Shape)) ![o', 0] ![1, m] inb').toLoadRect
      = v.readCov L (Rect.unit (s := (⟨2, ![n, m]⟩ : Shape)) ![o', 0] ![1, m] inb').toLoadRect :=
  View.readCov_cons_of_disjoint v _ L _ (Rect.unit_disjoint (s := (⟨2, ![n, m]⟩ : Shape)) (inb := inb) (inb' := inb') 0 h)

theorem line_zero (o : ℕ) (inb inb') :
    v.readCov (Val := Elt Ideal) [⟨Rect.unit (s := (⟨2, ![n, m]⟩ : Shape)) ![0, 0] ![n, m] inb, up fun (_ : Fin n) (_ : Fin m) => (0 : ℝ)⟩]
      (Rect.unit (s := (⟨2, ![n, m]⟩ : Shape)) ![o, 0] ![1, m] inb').toLoadRect = row fun _ => 0 := by
  unfold View.readCov
  refine read_box v _ o 0 inb' _ fun r c a b ha hb => ?_
  rw [hit rfl v _ 0 0 inb _ _ a b a b (by omega) (by omega)]
  rfl

end rows

/-- The sums a block adds, over what was there. -/
def added {n m : ℕ} (V : Fin n → Fin m → ℝ) (A : Fin 8192 → Fin n → Fin m → ℝ) (j : Fin 16) (k : Fin n) (c : Fin m) : ℝ := V k c + ∑ r, A (tok j r) k c

variable (p : Par) (j : Fin 16)

theorem acc_written {sig : RefSig} {κ : Kind} {sp : Space} (v : View sig κ sp S8x1024 .f32) (f : v.ty.Contents (Elt Ideal))
    (V : Fin 8 → Fin 1024 → ℝ) (L) (hL : v.read (Elt Ideal) (v.writes (Elt Ideal) f L) = up V) (i0 i1 i2 i3 i4) :
    v.read (Elt Ideal) (v.writes (Elt Ideal) f
      (⟨Rect.unit (s := S8x1024) ![3, 0] ![1, 1024] i3, row fun c => V 3 c + ∑ r, acc p (tok j r) 3 c⟩
        :: ⟨Rect.unit (s := S8x1024) ![2, 0] ![1, 1024] i2, row fun c => V 2 c + ∑ r, acc p (tok j r) 2 c⟩
        :: ⟨Rect.unit (s := S8x1024) ![4, 0] ![1, 1024] i4, row fun c => V 4 c + ∑ r, acc p (tok j r) 4 c⟩
        :: ⟨Rect.unit (s := S8x1024) ![1, 0] ![1, 1024] i1, row fun c => V 1 c + ∑ r, acc p (tok j r) 1 c⟩
        :: ⟨Rect.unit (s := S8x1024) ![0, 0] ![1, 1024] i0, row fun c => V 0 c + ∑ r, acc p (tok j r) 0 c⟩ :: L)) = up (added V (acc p) j) := by
  refine (put v f _ _ (put v f _ _ (put v f _ _ (put v f _ _ (put v f V L hL 0 _ i0) 1 _ i1) 4 _ i4) 2 _ i2) 3 _ i3).trans (congrArg up ?_)
  funext k c
  have e5 : ∀ r, acc p (tok j r) 5 c = 0 := fun _ => rfl
  have e6 : ∀ r, acc p (tok j r) 6 c = 0 := fun _ => rfl
  have e7 : ∀ r, acc p (tok j r) 7 c = 0 := fun _ => rfl
  fin_cases k <;> simp [Function.update, added, e5, e6, e7]

theorem gcw_written {sig : RefSig} {κ : Kind} {sp : Space} (v : View sig κ sp S8x512 .f32) (f : v.ty.Contents (Elt Ideal))
    (V : Fin 8 → Fin 512 → ℝ) (L) (hL : v.read (Elt Ideal) (v.writes (Elt Ideal) f L) = up V) (i0 i1 i2 i3) :
    v.read (Elt Ideal) (v.writes (Elt Ideal) f
      (⟨Rect.unit (s := S8x512) ![3, 0] ![1, 512] i3, row fun c => V 3 c + ∑ r, gcw p (tok j r) 3 c⟩
        :: ⟨Rect.unit (s := S8x512) ![2, 0] ![1, 512] i2, row fun c => V 2 c + ∑ r, gcw p (tok j r) 2 c⟩
        :: ⟨Rect.unit (s := S8x512) ![1, 0] ![1, 512] i1, row fun c => V 1 c + ∑ r, gcw p (tok j r) 1 c⟩
        :: ⟨Rect.unit (s := S8x512) ![0, 0] ![1, 512] i0, row fun c => V 0 c + ∑ r, gcw p (tok j r) 0 c⟩ :: L)) = up (added V (gcw p) j) := by
  refine (put v f _ _ (put v f _ _ (put v f _ _ (put v f V L hL 0 _ i0) 1 _ i1) 2 _ i2) 3 _ i3).trans (congrArg up ?_)
  funext k c
  have e4 : ∀ r, gcw p (tok j r) 4 c = 0 := fun _ => rfl
  have e5 : ∀ r, gcw p (tok j r) 5 c = 0 := fun _ => rfl
  have e6 : ∀ r, gcw p (tok j r) 6 c = 0 := fun _ => rfl
  have e7 : ∀ r, gcw p (tok j r) 7 c = 0 := fun _ => rfl
  fin_cases k <;> simp [Function.update, added, e4, e5, e6, e7]

section slabs

variable {sig : RefSig} {κ : Kind} {sp : Space} (v : View sig κ sp S4x128x128 .f32)

theorem eq_up3 {l n m : ℕ} (x : (⟨3, ![l, n, m]⟩ : Shape).Idx → EReal) (A : Fin l → Fin n → Fin m → ℝ)
    (h : ∀ g a b, x (ix3 g a b) = ((A g a b : ℝ) : EReal)) : x = up3 A := by
  funext i
  obtain ⟨g, a, b, rfl⟩ : ∃ (g : Fin l) (a : Fin n) (b : Fin m), i = ix3 g a b := ⟨i 0, i 1, i 2, eq_ix3 i⟩
  exact h g a b

theorem slab_skip (o o' : ℕ) (inb inb') (A : Fin 128 → Fin 128 → ℝ) (L : List (View.Piece (Elt Ideal) S4x128x128 .f32)) (h : o + 1 ≤ o' ∨ o' + 1 ≤ o) :
    v.readCov (⟨Rect.unit (s := S4x128x128) ![o, 0, 0] ![1, 128, 128] inb, slab A⟩ :: L) (Rect.unit (s := S4x128x128) ![o', 0, 0] ![1, 128, 128] inb').toLoadRect
      = v.readCov L (Rect.unit (s := S4x128x128) ![o', 0, 0] ![1, 128, 128] inb').toLoadRect :=
  View.readCov_cons_of_disjoint v _ L _ (Rect.unit_disjoint (s := S4x128x128) (inb := inb) (inb' := inb') 0 h)

theorem slab_zero (o : ℕ) (inb inb') :
    v.readCov (Val := Elt Ideal) [⟨Rect.unit (s := S4x128x128) ![0, 0, 0] ![4, 128, 128] inb, up3 fun (_ : Fin 4) (_ : Fin 128) (_ : Fin 128) => (0 : ℝ)⟩]
      (Rect.unit (s := S4x128x128) ![o, 0, 0] ![1, 128, 128] inb').toLoadRect = slab fun _ _ => 0 := by
  rw [View.readCov_eq_canon']
  funext y
  rw [View.canon_unit_zero (S := S4x128x128) (by decide) inb]
  rfl

theorem slab_hit (f : v.ty.Contents (Elt Ideal)) (L) (g : Fin 4) (A : Fin 128 → Fin 128 → ℝ) (inb) (a b : Fin 128) :
    v.read (Elt Ideal) (v.writes (Elt Ideal) f (⟨Rect.unit (s := S4x128x128) ![g.val, 0, 0] ![1, 128, 128] inb, slab A⟩ :: L)) (ix3 g a b)
      = ((A a b : ℝ) : EReal) := by
  rw [View.read_writes_cons_hit_of_coords v f (Rect.unit (s := S4x128x128) ![g.val, 0, 0] ![1, 128, 128] inb) _ L (ix3 (0 : Fin 1) a b) (ix3 g a b)
    fun x => by
      fin_cases x
      · show g.val = g.val + 1 * 0; omega
      · show a.val = 0 + 1 * a.val; omega
      · show b.val = 0 + 1 * b.val; omega]
  rfl

theorem slab_miss (f : v.ty.Contents (Elt Ideal)) (L) (g k : Fin 4) (h : k ≠ g) (A : Fin 128 → Fin 128 → ℝ) (inb) (a b : Fin 128) :
    v.read (Elt Ideal) (v.writes (Elt Ideal) f (⟨Rect.unit (s := S4x128x128) ![g.val, 0, 0] ![1, 128, 128] inb, slab A⟩ :: L)) (ix3 k a b)
      = v.read (Elt Ideal) (v.writes (Elt Ideal) f L) (ix3 k a b) := by
  have hv : k.val ≠ g.val := fun e => h (Fin.ext e)
  exact View.read_writes_cons_miss_of_axis v f _ _ (ix3 k a b) (0 : Fin 3) g.val 1 rfl rfl rfl (by show k.val < g.val ∨ g.val + 1 ≤ k.val; omega)

/-- Stores of all four matrices leave the stack of them. -/
theorem gwp_written (f : v.ty.Contents (Elt Ideal)) (R : Fin 4 → Fin 128 → Fin 128 → ℝ) (L) (i0 i1 i2 i3) :
    v.read (Elt Ideal) (v.writes (Elt Ideal) f
      (⟨Rect.unit (s := S4x128x128) ![3, 0, 0] ![1, 128, 128] i3, slab (R 3)⟩ :: ⟨Rect.unit (s := S4x128x128) ![2, 0, 0] ![1, 128, 128] i2, slab (R 2)⟩
        :: ⟨Rect.unit (s := S4x128x128) ![1, 0, 0] ![1, 128, 128] i1, slab (R 1)⟩ :: ⟨Rect.unit (s := S4x128x128) ![0, 0, 0] ![1, 128, 128] i0, slab (R 0)⟩ :: L))
      = up3 R := by
  refine eq_up3 _ _ fun k a b => ?_
  by_cases h3 : k = 3
  · subst h3; exact slab_hit v f _ 3 _ i3 a b
  refine (slab_miss v f _ 3 k h3 _ i3 a b).trans ?_
  by_cases h2 : k = 2
  · subst h2; exact slab_hit v f _ 2 _ i2 a b
  refine (slab_miss v f _ 2 k h2 _ i2 a b).trans ?_
  by_cases h1 : k = 1
  · subst h1; exact slab_hit v f _ 1 _ i1 a b
  refine (slab_miss v f _ 1 k h1 _ i1 a b).trans ?_
  obtain rfl : k = 0 := by omega
  exact slab_hit v f _ 0 _ i0 a b

end slabs

end Cert.Kernel2Ideal.Block

end
-- ==== Proof.MixRun.lean ====
/- What the body of the mixing kernel stores, its operands being real matrices. -/
module

public import proofs.«01_k».proof.Proof.Gen.Kernel2Ideal.Frame.RunA
public import proofs.«01_k».proof.Proof.Gen.Kernel2Ideal.Frame.RunB
public import proofs.«01_k».proof.Proof.MixRows
public import Idealize.ShloMosaic.Lib.VecWindow

@[expose] public section

set_option maxRecDepth 16384

noncomputable section

namespace Cert.Kernel2Ideal.Block

open Cert.Kernel2Ideal Cert.Kernel2Ideal.Gen Cert.Reals Cert.Mix Idealize.ShloMosaic Idealize.ShloMosaic.TcCoe

section reads
variable (p : Par) (j : Fin 16) {sig : RefSig} {κ : Kind} {sp : Space} (v : View sig κ sp S528x1024 .f32)

theorem first_e (h : j.val = 15) (i0 i7 i8 inb) :
    v.readCov (Val := Elt Ideal) [⟨Rect.unit (s := S528x1024) ![0, 0] ![512, 512] i0, be p j⟩,
        ⟨Rect.unit (s := S528x1024) ![512, 512] ![16, 512] i8, up fun (_ : Fin 16) (_ : Fin 512) => (0 : ℝ)⟩,
        ⟨Rect.unit (s := S528x1024) ![512, 0] ![16, 512] i7, up fun (_ : Fin 16) (_ : Fin 512) => (0 : ℝ)⟩]
      (Rect.unit (s := S528x1024) ![0, 0] ![528, 512] inb).toLoadRect = aft j (e p) :=
  next_e p j v _ _ (zero_tail p j v _ h i7 i8) i0 inb

theorem first_q (h : j.val = 15) (i0 i1 i2 i3 i4 i7 i8 inb) :
    v.readCov (own p j i0 i1 i2 i3 i4 [
        ⟨Rect.unit (s := S528x1024) ![512, 512] ![16, 512] i8, up fun (_ : Fin 16) (_ : Fin 512) => (0 : ℝ)⟩,
        ⟨Rect.unit (s := S528x1024) ![512, 0] ![16, 512] i7, up fun (_ : Fin 16) (_ : Fin 512) => (0 : ℝ)⟩])
      (Rect.unit (s := S528x1024) ![0, 512] ![528, 512] inb).toLoadRect = aft j (qq p) :=
  next_q p j v _ _ (zero_tail p j v _ h i7 i8) i0 i1 i2 i3 i4 inb

theorem cov_e (i0 i1 i2 i3 i4 inb) (L) :
    v.readCov (own p j i0 i1 i2 i3 i4 L) (Rect.unit (s := S528x1024) ![0, 0] ![16, 512] inb).toLoadRect = topE p j :=
  top_e p j v _ i0 i1 i2 i3 i4 inb L

theorem cov_q (i0 i1 i2 i3 i4 i5 inb) (L) :
    v.readCov (⟨Rect.unit (s := S528x1024) ![512, 0] ![16, 512] i5, topE p j⟩ :: own p j i0 i1 i2 i3 i4 L)
      (Rect.unit (s := S528x1024) ![0, 512] ![16, 512] inb).toLoadRect = topQ p j :=
  top_q p j v _ i0 i1 i2 i3 i4 i5 inb L
end reads

section rest
variable (p : Par) (j k : Fin 16) {sig : RefSig} {κ : Kind} {sp : Space} (m : Memref sig κ sp S528x1024 .f32) (hm : m.IsWhole)

theorem rest_tail (hk : k.val = j.val + 1) (r : Fin 528) (c : Fin 1024) (h : 512 ≤ r.val) :
    m.view.read (Elt Ideal) (m.view.writes (Elt Ideal) (hm.unread (up (kept p k))) []) (ix2 r c) = ((nb p j r c : ℝ) : EReal) :=
  (congrFun (hm.read_unread (Val := Elt Ideal) (up (kept p k))) (ix2 r c)).trans (congrArg (fun x : ℝ => (x : EReal)) (kept_tail p j k hk r h c))

theorem rest_e (hk : k.val = j.val + 1) (i0 inb) :
    View.ld (Val := Elt Ideal) (m.view.read (Elt Ideal) (m.view.writes (Elt Ideal) (hm.unread (up (kept p k)))
        [⟨Rect.unit (s := S528x1024) ![0, 0] ![512, 512] i0, be p j⟩]))
      (Rect.unit (s := S528x1024) ![0, 0] ![528, 512] inb) = aft j (e p) :=
  next_e p j m.view _ _ (rest_tail p j k m hm hk) i0 inb

theorem rest_q (hk : k.val = j.val + 1) (i0 i1 i2 i3 i4 inb) :
    View.ld (Val := Elt Ideal) (m.view.read (Elt Ideal) (m.view.writes (Elt Ideal) (hm.unread (up (kept p k))) (own p j i0 i1 i2 i3 i4 [])))
      (Rect.unit (s := S528x1024) ![0, 512] ![528, 512] inb) = aft j (qq p) :=
  next_q p j m.view _ _ (rest_tail p j k m hm hk) i0 i1 i2 i3 i4 inb
end rest

theorem ld_acc0 (U : Fin 8 → Fin 1024 → ℝ) (inb) : View.ld (Val := Elt Ideal) (S := S8x1024) (e' := .f32) (up U) (Rect.unit ![0, 0] ![1, 1024] inb) = row (U 0) :=
  ld_line U 0 inb
theorem ld_acc1 (U : Fin 8 → Fin 1024 → ℝ) (inb) : View.ld (Val := Elt Ideal) (S := S8x1024) (e' := .f32) (up U) (Rect.unit ![1, 0] ![1, 1024] inb) = row (U 1) :=
  ld_line U 1 inb
theorem ld_acc2 (U : Fin 8 → Fin 1024 → ℝ) (inb) : View.ld (Val := Elt Ideal) (S := S8x1024) (e' := .f32) (up U) (Rect.unit ![2, 0] ![1, 1024] inb) = row (U 2) :=
  ld_line U 2 inb
theorem ld_acc3 (U : Fin 8 → Fin 1024 → ℝ) (inb) : View.ld (Val := Elt Ideal) (S := S8x1024) (e' := .f32) (up U) (Rect.unit ![3, 0] ![1, 1024] inb) = row (U 3) :=
  ld_line U 3 inb
theorem ld_acc4 (U : Fin 8 → Fin 1024 → ℝ) (inb) : View.ld (Val := Elt Ideal) (S := S8x1024) (e' := .f32) (up U) (Rect.unit ![4, 0] ![1, 1024] inb) = row (U 4) :=
  ld_line U 4 inb
theorem ld_gcw0 (V : Fin 8 → Fin 512 → ℝ) (inb) : View.ld (Val := Elt Ideal) (S := S8x512) (e' := .f32) (up V) (Rect.unit ![0, 0] ![1, 512] inb) = row (V 0) :=
  ld_line V 0 inb
theorem ld_gcw1 (V : Fin 8 → Fin 512 → ℝ) (inb) : View.ld (Val := Elt Ideal) (S := S8x512) (e' := .f32) (up V) (Rect.unit ![1, 0] ![1, 512] inb) = row (V 1) :=
  ld_line V 1 inb
theorem ld_gcw2 (V : Fin 8 → Fin 512 → ℝ) (inb) : View.ld (Val := Elt Ideal) (S := S8x512) (e' := .f32) (up V) (Rect.unit ![2, 0] ![1, 512] inb) = row (V 2) :=
  ld_line V 2 inb
theorem ld_gcw3 (V : Fin 8 → Fin 512 → ℝ) (inb) : View.ld (Val := Elt Ideal) (S := S8x512) (e' := .f32) (up V) (Rect.unit ![3, 0] ![1, 512] inb) = row (V 3) :=
  ld_line V 3 inb

variable (p : Par) (j : Fin 16)
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .bf16) (harg6 : arg6.IsWhole) (arg7 : Memref sig .tc .vmem S16x2048 .bf16) (harg7 : arg7.IsWhole) (arg8 : Memref sig .tc .vmem S6x1024 .f32) (harg8 : arg8.IsWhole) (arg9 : Memref sig .tc .vmem S4x1024 .f32) (harg9 : arg9.IsWhole) (arg10 : Memref sig .tc .vmem S1024x1024 .bf16) (harg10 : arg10.IsWhole) (arg11 : Memref sig .tc .vmem S1024x2048 .bf16) (harg11 : arg11.IsWhole) (arg12 : Memref sig .tc .vmem S3x512 .f32) (harg12 : arg12.IsWhole) (arg13 : Memref sig .tc .vmem S4x128x128 .f32) (harg13 : arg13.IsWhole) (arg14 : Memref sig .tc .vmem S1x512 .f32) (harg14 : arg14.IsWhole) (arg15 : Memref sig .tc .vmem S512x1024 .f32) (harg15 : arg15.IsWhole) (arg16 : Memref sig .tc .vmem S512x4096 .bf16) (harg16 : arg16.IsWhole) (arg17 : Memref sig .tc .vmem S8x1024 .f32) (harg17 : arg17.IsWhole) (arg18 : Memref sig .tc .vmem S8x512 .f32) (harg18 : arg18.IsWhole) (arg19 : Memref sig .tc .vmem S4x128x128 .f32) (harg19 : arg19.IsWhole) (arg20 : Memref sig .tc .vmem S528x1024 .f32) (harg20 : arg20.IsWhole) (arg21 : Memref sig .tc .vmem S528x1024 .f32) (harg21 : arg21.IsWhole)

/-- What the body stores at a point of the first kind. -/
theorem run_A (hc0 : cond0_0 i) (hv : Scalar.subi 15#32 (BitVec.ofNat 32 (i 0).val) = bj j) (hj : j.val = 15) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (bD p j) (bxh p j) (brs p j) (bX p j) (bmix p j) (bz p j) (bzh p j) (up p.Md) (up p.G) (up p.Wo) (up p.Wi) (up p.Cw) (up3 p.Wp) (row p.Ps)).1 = [⟨Rect.unit (s := S512x1024) ![0, 0] ![512, 1024] inb_S512x1024_S512x1024_0_0, bdx p j⟩] ∧
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (bD p j) (bxh p j) (brs p j) (bX p j) (bmix p j) (bz p j) (bzh p j) (up p.Md) (up p.G) (up p.Wo) (up p.Wi) (up p.Cw) (up3 p.Wp) (row p.Ps)).2.1 = [⟨Rect.unit (s := S512x4096) ![0, 2048] ![512, 2048] inb_S512x4096_S512x2048_0_2048, bdz p j⟩,
        ⟨Rect.unit (s := S512x4096) ![0, 1024] ![512, 1024] inb_S512x4096_S512x1024_0_1024, bycat p j⟩,
        ⟨Rect.unit (s := S512x4096) ![0, 0] ![512, 1024] inb_S512x4096_S512x1024_0_0, bdmix p j⟩] ∧
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (bD p j) (bxh p j) (brs p j) (bX p j) (bmix p j) (bz p j) (bzh p j) (up p.Md) (up p.G) (up p.Wo) (up p.Wi) (up p.Cw) (up3 p.Wp) (row p.Ps)).2.2.1 = [⟨Rect.unit (s := S8x1024) ![3, 0] ![1, 1024] inb_S8x1024_S1x1024_3_0, row fun c => (0 : ℝ) + ∑ r, acc p (tok j r) 3 c⟩,
        ⟨Rect.unit (s := S8x1024) ![2, 0] ![1, 1024] inb_S8x1024_S1x1024_2_0, row fun c => (0 : ℝ) + ∑ r, acc p (tok j r) 2 c⟩,
        ⟨Rect.unit (s := S8x1024) ![4, 0] ![1, 1024] inb_S8x1024_S1x1024_4_0, row fun c => (0 : ℝ) + ∑ r, acc p (tok j r) 4 c⟩,
        ⟨Rect.unit (s := S8x1024) ![1, 0] ![1, 1024] inb_S8x1024_S1x1024_1_0, row fun c => (0 : ℝ) + ∑ r, acc p (tok j r) 1 c⟩,
        ⟨Rect.unit (s := S8x1024) ![0, 0] ![1, 1024] inb_S8x1024_S1x1024_0_0, row fun c => (0 : ℝ) + ∑ r, acc p (tok j r) 0 c⟩,
        ⟨Rect.unit (s := S8x1024) ![0, 0] ![8, 1024] inb_S8x1024_S8x1024_0_0, up fun (_ : Fin 8) (_ : Fin 1024) => (0 : ℝ)⟩] ∧
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (bD p j) (bxh p j) (brs p j) (bX p j) (bmix p j) (bz p j) (bzh p j) (up p.Md) (up p.G) (up p.Wo) (up p.Wi) (up p.Cw) (up3 p.Wp) (row p.Ps)).2.2.2.1 = [⟨Rect.unit (s := S8x512) ![3, 0] ![1, 512] inb_S8x512_S1x512_3_0, row fun c => (0 : ℝ) + ∑ r, gcw p (tok j r) 3 c⟩,
        ⟨Rect.unit (s := S8x512) ![2, 0] ![1, 512] inb_S8x512_S1x512_2_0, row fun c => (0 : ℝ) + ∑ r, gcw p (tok j r) 2 c⟩,
        ⟨Rect.unit (s := S8x512) ![1, 0] ![1, 512] inb_S8x512_S1x512_1_0, row fun c => (0 : ℝ) + ∑ r, gcw p (tok j r) 1 c⟩,
        ⟨Rect.unit (s := S8x512) ![0, 0] ![1, 512] inb_S8x512_S1x512_0_0, row fun c => (0 : ℝ) + ∑ r, gcw p (tok j r) 0 c⟩,
        ⟨Rect.unit (s := S8x512) ![0, 0] ![8, 512] inb_S8x512_S8x512_0_0, up fun (_ : Fin 8) (_ : Fin 512) => (0 : ℝ)⟩] ∧
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (bD p j) (bxh p j) (brs p j) (bX p j) (bmix p j) (bz p j) (bzh p j) (up p.Md) (up p.G) (up p.Wo) (up p.Wi) (up p.Cw) (up3 p.Wp) (row p.Ps)).2.2.2.2.1 = [⟨Rect.unit (s := S4x128x128) ![3, 0, 0] ![1, 128, 128] inb_S4x128x128_S1x128x128_3_0_0, slab fun a b => (0 : ℝ) + ∑ r, gwp p (tok j r) 3 a b⟩,
        ⟨Rect.unit (s := S4x128x128) ![2, 0, 0] ![1, 128, 128] inb_S4x128x128_S1x128x128_2_0_0, slab fun a b => (0 : ℝ) + ∑ r, gwp p (tok j r) 2 a b⟩,
        ⟨Rect.unit (s := S4x128x128) ![1, 0, 0] ![1, 128, 128] inb_S4x128x128_S1x128x128_1_0_0, slab fun a b => (0 : ℝ) + ∑ r, gwp p (tok j r) 1 a b⟩,
        ⟨Rect.unit (s := S4x128x128) ![0, 0, 0] ![1, 128, 128] inb_S4x128x128_S1x128x128_0_0_0, slab fun a b => (0 : ℝ) + ∑ r, gwp p (tok j r) 0 a b⟩,
        ⟨Rect.unit (s := S4x128x128) ![0, 0, 0] ![4, 128, 128] inb_S4x128x128_S4x128x128_0_0_0, up3 fun (_ : Fin 4) (_ : Fin 128) (_ : Fin 128) => (0 : ℝ)⟩] ∧
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (bD p j) (bxh p j) (brs p j) (bX p j) (bmix p j) (bz p j) (bzh p j) (up p.Md) (up p.G) (up p.Wo) (up p.Wi) (up p.Cw) (up3 p.Wp) (row p.Ps)).2.2.2.2.2.1 = [⟨Rect.unit (s := S528x1024) ![512, 512] ![16, 512] inb_S528x1024_S16x512_512_512, topQ p j⟩,
        ⟨Rect.unit (s := S528x1024) ![512, 0] ![16, 512] inb_S528x1024_S16x512_512_0, topE p j⟩,
        ⟨Rect.unit (s := S528x1024) ![0, 896] ![512, 128] inb_S528x1024_S512x128_0_896, bqq p j 3⟩,
        ⟨Rect.unit (s := S528x1024) ![0, 768] ![512, 128] inb_S528x1024_S512x128_0_768, bqq p j 2⟩,
        ⟨Rect.unit (s := S528x1024) ![0, 640] ![512, 128] inb_S528x1024_S512x128_0_640, bqq p j 1⟩,
        ⟨Rect.unit (s := S528x1024) ![0, 512] ![512, 128] inb_S528x1024_S512x128_0_512, bqq p j 0⟩,
        ⟨Rect.unit (s := S528x1024) ![0, 0] ![512, 512] inb_S528x1024_S512x512_0_0, be p j⟩,
        ⟨Rect.unit (s := S528x1024) ![512, 512] ![16, 512] inb_S528x1024_S16x512_512_512, up fun (_ : Fin 16) (_ : Fin 512) => (0 : ℝ)⟩,
        ⟨Rect.unit (s := S528x1024) ![512, 0] ![16, 512] inb_S528x1024_S16x512_512_0, up fun (_ : Fin 16) (_ : Fin 512) => (0 : ℝ)⟩] := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread,
    ld_all, ld_all_bf16, ld_md1, ld_md2, ld_gain, ld_cw0, ld_cw1, ld_cw2, ld_ps0, ld_ps1, ld_ps2, ld_ps3, ld_slab0, ld_slab1, ld_slab2, ld_slab3, hv,
    past_left, past_right,
    pay1_up, pay2_up, pay3_up, pay4_up, pay5_up, pay6_up, pay7_up, pay8_up, pay9_up, pay10_up, pay11_up, pay12_up, pay13_up, pay14_up, pay15_up, pay16_up, pay17_up, pay18_up, pay19_up, pay20_up, pay21_up, pay22_up, pay23_up, pay24_up, pay25_up, pay26_up, pay27_up, pay28_up, pay29_up, pay30_up, pay31_up, pay32_up, pay33_up, pay34_up, pay35_up, pay36_up, pay37_up, pay38_up, pay39_up, pay40_up, pay41_up, pay42_up, pay43_up, pay44_up, pay45_up, pay46_up, pay50_up, pay52_up, pay53_up, pay54_up, pay55_up, pay58_up, pay59_up, pay60_up, pay61_up, pay62_up, pay63_up, pay64_up, pay65_up, pay66_up, pay67_up, pay68_up, pay69_up, pay70_up, pay71_up, pay72_up, pay73_up, pay74_up, pay75_up, pay76_up, pay77_up, pay78_up, pay79_up, pay80_up, pay81_up, pay82_up, pay83_up, pay84_up, pay85_up, pay86_up, pay87_up, pay88_up, pay89_up, pay90_up, pay91_up, pay92_up, pay93_up, pay94_up, pay95_up, pay96_up, pay97_up, pay98_up, pay99_up, pay100_up, pay101_up, pay102_up, pay103_up, pay105_up, pay107_up, pay110_up, pay111_up, pay112_up, pay113_up, pay114_up, pay115_up, pay116_up,
    cov_e, cov_q, pay3_top, pay4_top, line_skip, slab_skip, true_or, or_true, Nat.reduceAdd, Nat.reduceLeDiff, and_self, first_e p j _ hj, first_q p j _ hj, line_zero, slab_zero]

/-- What the body stores at a point of the later kind. -/
theorem run_B (k : Fin 16) (U : Fin 8 → Fin 1024 → ℝ) (V : Fin 8 → Fin 512 → ℝ) (W : Fin 4 → Fin 128 → Fin 128 → ℝ) (hc0 : ¬cond0_0 i) (hv : Scalar.subi 15#32 (BitVec.ofNat 32 (i 0).val) = bj j) (hk : k.val = j.val + 1) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (bD p j) (bxh p j) (brs p j) (bX p j) (bmix p j) (bz p j) (bzh p j) (up p.Md) (up p.G) (up p.Wo) (up p.Wi) (up p.Cw) (up3 p.Wp) (row p.Ps) (up U) (up V) (up3 W) (up (kept p k))).1 = [⟨Rect.unit (s := S512x1024) ![0, 0] ![512, 1024] inb_S512x1024_S512x1024_0_0, bdx p j⟩] ∧
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (bD p j) (bxh p j) (brs p j) (bX p j) (bmix p j) (bz p j) (bzh p j) (up p.Md) (up p.G) (up p.Wo) (up p.Wi) (up p.Cw) (up3 p.Wp) (row p.Ps) (up U) (up V) (up3 W) (up (kept p k))).2.1 = [⟨Rect.unit (s := S512x4096) ![0, 2048] ![512, 2048] inb_S512x4096_S512x2048_0_2048, bdz p j⟩,
        ⟨Rect.unit (s := S512x4096) ![0, 1024] ![512, 1024] inb_S512x4096_S512x1024_0_1024, bycat p j⟩,
        ⟨Rect.unit (s := S512x4096) ![0, 0] ![512, 1024] inb_S512x4096_S512x1024_0_0, bdmix p j⟩] ∧
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (bD p j) (bxh p j) (brs p j) (bX p j) (bmix p j) (bz p j) (bzh p j) (up p.Md) (up p.G) (up p.Wo) (up p.Wi) (up p.Cw) (up3 p.Wp) (row p.Ps) (up U) (up V) (up3 W) (up (kept p k))).2.2.1 = [⟨Rect.unit (s := S8x1024) ![3, 0] ![1, 1024] inb_S8x1024_S1x1024_3_0, row fun c => U 3 c + ∑ r, acc p (tok j r) 3 c⟩,
        ⟨Rect.unit (s := S8x1024) ![2, 0] ![1, 1024] inb_S8x1024_S1x1024_2_0, row fun c => U 2 c + ∑ r, acc p (tok j r) 2 c⟩,
        ⟨Rect.unit (s := S8x1024) ![4, 0] ![1, 1024] inb_S8x1024_S1x1024_4_0, row fun c => U 4 c + ∑ r, acc p (tok j r) 4 c⟩,
        ⟨Rect.unit (s := S8x1024) ![1, 0] ![1, 1024] inb_S8x1024_S1x1024_1_0, row fun c => U 1 c + ∑ r, acc p (tok j r) 1 c⟩,
        ⟨Rect.unit (s := S8x1024) ![0, 0] ![1, 1024] inb_S8x1024_S1x1024_0_0, row fun c => U 0 c + ∑ r, acc p (tok j r) 0 c⟩] ∧
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (bD p j) (bxh p j) (brs p j) (bX p j) (bmix p j) (bz p j) (bzh p j) (up p.Md) (up p.G) (up p.Wo) (up p.Wi) (up p.Cw) (up3 p.Wp) (row p.Ps) (up U) (up V) (up3 W) (up (kept p k))).2.2.2.1 = [⟨Rect.unit (s := S8x512) ![3, 0] ![1, 512] inb_S8x512_S1x512_3_0, row fun c => V 3 c + ∑ r, gcw p (tok j r) 3 c⟩,
        ⟨Rect.unit (s := S8x512) ![2, 0] ![1, 512] inb_S8x512_S1x512_2_0, row fun c => V 2 c + ∑ r, gcw p (tok j r) 2 c⟩,
        ⟨Rect.unit (s := S8x512) ![1, 0] ![1, 512] inb_S8x512_S1x512_1_0, row fun c => V 1 c + ∑ r, gcw p (tok j r) 1 c⟩,
        ⟨Rect.unit (s := S8x512) ![0, 0] ![1, 512] inb_S8x512_S1x512_0_0, row fun c => V 0 c + ∑ r, gcw p (tok j r) 0 c⟩] ∧
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (bD p j) (bxh p j) (brs p j) (bX p j) (bmix p j) (bz p j) (bzh p j) (up p.Md) (up p.G) (up p.Wo) (up p.Wi) (up p.Cw) (up3 p.Wp) (row p.Ps) (up U) (up V) (up3 W) (up (kept p k))).2.2.2.2.1 = [⟨Rect.unit (s := S4x128x128) ![3, 0, 0] ![1, 128, 128] inb_S4x128x128_S1x128x128_3_0_0, slab fun a b => W 3 a b + ∑ r, gwp p (tok j r) 3 a b⟩,
        ⟨Rect.unit (s := S4x128x128) ![2, 0, 0] ![1, 128, 128] inb_S4x128x128_S1x128x128_2_0_0, slab fun a b => W 2 a b + ∑ r, gwp p (tok j r) 2 a b⟩,
        ⟨Rect.unit (s := S4x128x128) ![1, 0, 0] ![1, 128, 128] inb_S4x128x128_S1x128x128_1_0_0, slab fun a b => W 1 a b + ∑ r, gwp p (tok j r) 1 a b⟩,
        ⟨Rect.unit (s := S4x128x128) ![0, 0, 0] ![1, 128, 128] inb_S4x128x128_S1x128x128_0_0_0, slab fun a b => W 0 a b + ∑ r, gwp p (tok j r) 0 a b⟩] ∧
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (bD p j) (bxh p j) (brs p j) (bX p j) (bmix p j) (bz p j) (bzh p j) (up p.Md) (up p.G) (up p.Wo) (up p.Wi) (up p.Cw) (up3 p.Wp) (row p.Ps) (up U) (up V) (up3 W) (up (kept p k))).2.2.2.2.2.1 = [⟨Rect.unit (s := S528x1024) ![512, 512] ![16, 512] inb_S528x1024_S16x512_512_512, topQ p j⟩,
        ⟨Rect.unit (s := S528x1024) ![512, 0] ![16, 512] inb_S528x1024_S16x512_512_0, topE p j⟩,
        ⟨Rect.unit (s := S528x1024) ![0, 896] ![512, 128] inb_S528x1024_S512x128_0_896, bqq p j 3⟩,
        ⟨Rect.unit (s := S528x1024) ![0, 768] ![512, 128] inb_S528x1024_S512x128_0_768, bqq p j 2⟩,
        ⟨Rect.unit (s := S528x1024) ![0, 640] ![512, 128] inb_S528x1024_S512x128_0_640, bqq p j 1⟩,
        ⟨Rect.unit (s := S528x1024) ![0, 512] ![512, 128] inb_S528x1024_S512x128_0_512, bqq p j 0⟩,
        ⟨Rect.unit (s := S528x1024) ![0, 0] ![512, 512] inb_S528x1024_S512x512_0_0, be p j⟩] := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread,
    ld_all, ld_all_bf16, ld_md1, ld_md2, ld_gain, ld_cw0, ld_cw1, ld_cw2, ld_ps0, ld_ps1, ld_ps2, ld_ps3, ld_slab0, ld_slab1, ld_slab2, ld_slab3, hv,
    past_left, past_right,
    pay1_up, pay2_up, pay3_up, pay4_up, pay5_up, pay6_up, pay7_up, pay8_up, pay9_up, pay10_up, pay11_up, pay12_up, pay13_up, pay14_up, pay15_up, pay16_up, pay17_up, pay18_up, pay19_up, pay20_up, pay21_up, pay22_up, pay23_up, pay24_up, pay25_up, pay26_up, pay27_up, pay28_up, pay29_up, pay30_up, pay31_up, pay32_up, pay33_up, pay34_up, pay35_up, pay36_up, pay37_up, pay38_up, pay39_up, pay40_up, pay41_up, pay42_up, pay43_up, pay44_up, pay45_up, pay46_up, pay50_up, pay52_up, pay53_up, pay54_up, pay55_up, pay58_up, pay59_up, pay60_up, pay61_up, pay62_up, pay63_up, pay64_up, pay65_up, pay66_up, pay67_up, pay68_up, pay69_up, pay70_up, pay71_up, pay72_up, pay73_up, pay74_up, pay75_up, pay76_up, pay77_up, pay78_up, pay79_up, pay80_up, pay81_up, pay82_up, pay83_up, pay84_up, pay85_up, pay86_up, pay87_up, pay88_up, pay89_up, pay90_up, pay91_up, pay92_up, pay93_up, pay94_up, pay95_up, pay96_up, pay97_up, pay98_up, pay99_up, pay100_up, pay101_up, pay102_up, pay103_up, pay105_up, pay107_up, pay110_up, pay111_up, pay112_up, pay113_up, pay114_up, pay115_up, pay116_up,
    cov_e, cov_q, pay3_top, pay4_top, line_skip, slab_skip, true_or, or_true, Nat.reduceAdd, Nat.reduceLeDiff, and_self, rest_e p j k _ _ hk, rest_q p j k _ _ hk, harg17.read_unread, harg18.read_unread, harg19.read_unread, ld_acc0 U, ld_acc1 U, ld_acc2 U, ld_acc3 U, ld_acc4 U, ld_gcw0 V, ld_gcw1 V, ld_gcw2 V, ld_gcw3 V, ld_slab0 W, ld_slab1 W, ld_slab2 W, ld_slab3 W]

end Cert.Kernel2Ideal.Block

end
-- ==== Proof.MixBlock.lean ====
/- What the body of the mixing kernel leaves in each output block, and in the scratch it carries. -/
module

public import proofs.«01_k».proof.Proof.Gen.Kernel2Ideal.Frame
public import proofs.«01_k».proof.Proof.MixRun
public import Idealize.ShloMosaic.Lib.VecWindow

@[expose] public section

set_option maxRecDepth 16384

noncomputable section

namespace Cert.Kernel2Ideal.Block

open Cert.Kernel2Ideal Cert.Kernel2Ideal.Gen Cert.Reals Cert.Mix Idealize.ShloMosaic Idealize.ShloMosaic.TcCoe

/-- The block of the three results of bf16 words. -/
abbrev bthree (p : Par) (j : Fin 16) : S512x4096.Idx → EReal := up fun r => three p (tok j r)

/-- The three stores of columns hold the three results side by side. -/
theorem three_written (p : Par) (j : Fin 16) {sig : RefSig} {κ : Kind} {sp : Space} (v : View sig κ sp S512x4096 .bf16) (f : v.ty.Contents (Elt Ideal)) (i0 i1 i2) :
    v.read (Elt Ideal) (v.writes (Elt Ideal) f [⟨Rect.unit (s := S512x4096) ![0, 2048] ![512, 2048] i0, bdz p j⟩,
      ⟨Rect.unit (s := S512x4096) ![0, 1024] ![512, 1024] i1, bycat p j⟩, ⟨Rect.unit (s := S512x4096) ![0, 0] ![512, 1024] i2, bdmix p j⟩])
      = bthree p j := by
  have skip : ∀ (o s : ℕ) (inb) (w) (L) (a : Fin 512) (b : Fin 4096), b.val < o ∨ o + s ≤ b.val →
      v.read (Elt Ideal) (v.writes (Elt Ideal) f (⟨Rect.unit (s := S512x4096) ![0, o] ![512, s] inb, w⟩ :: L)) (ix2 a b)
        = v.read (Elt Ideal) (v.writes (Elt Ideal) f L) (ix2 a b) := fun o s inb w L a b h =>
    View.read_writes_cons_miss_of_axis v f _ _ (ix2 a b) (1 : Fin 2) o s rfl rfl rfl h
  refine eq_up _ _ fun a b => ?_
  by_cases h1 : b.val < 1024
  · have e : three p (tok j a) b = dmix p (tok j a) ⟨b.val, h1⟩ := by unfold three; rw [dif_pos h1]
    rw [skip 2048 2048 i0 _ _ a b (by omega), skip 1024 1024 i1 _ _ a b (by omega),
      Cert.KernelIdeal.Block.hit rfl v f 0 0 i2 _ _ a b a ⟨b.val, h1⟩ (by omega) (by show _ = 0 + b.val; omega), e]
    rfl
  · by_cases h2 : b.val < 2048
    · have e : three p (tok j a) b = ycat p (tok j a) ⟨b.val - 1024, by omega⟩ := by unfold three; rw [dif_neg h1, dif_pos h2]
      rw [skip 2048 2048 i0 _ _ a b (by omega),
        Cert.KernelIdeal.Block.hit rfl v f 0 1024 i1 _ _ a b a ⟨b.val - 1024, by omega⟩ (by omega) (by show _ = 1024 + (b.val - 1024); omega), e]
      rfl
    · have e : three p (tok j a) b = dz p (tok j a) ⟨b.val - 2048, by omega⟩ := by unfold three; rw [dif_neg h1, dif_neg h2]
      rw [Cert.KernelIdeal.Block.hit rfl v f 0 2048 i0 _ _ a b a ⟨b.val - 2048, by omega⟩ (by omega) (by show _ = 2048 + (b.val - 2048); omega), e]
      rfl

variable (p : Par) (j : Fin 16)
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .bf16) (harg6 : arg6.IsWhole) (arg7 : Memref sig .tc .vmem S16x2048 .bf16) (harg7 : arg7.IsWhole) (arg8 : Memref sig .tc .vmem S6x1024 .f32) (harg8 : arg8.IsWhole) (arg9 : Memref sig .tc .vmem S4x1024 .f32) (harg9 : arg9.IsWhole) (arg10 : Memref sig .tc .vmem S1024x1024 .bf16) (harg10 : arg10.IsWhole) (arg11 : Memref sig .tc .vmem S1024x2048 .bf16) (harg11 : arg11.IsWhole) (arg12 : Memref sig .tc .vmem S3x512 .f32) (harg12 : arg12.IsWhole) (arg13 : Memref sig .tc .vmem S4x128x128 .f32) (harg13 : arg13.IsWhole) (arg14 : Memref sig .tc .vmem S1x512 .f32) (harg14 : arg14.IsWhole) (arg15 : Memref sig .tc .vmem S512x1024 .f32) (harg15 : arg15.IsWhole) (arg16 : Memref sig .tc .vmem S512x4096 .bf16) (harg16 : arg16.IsWhole) (arg17 : Memref sig .tc .vmem S8x1024 .f32) (harg17 : arg17.IsWhole) (arg18 : Memref sig .tc .vmem S8x512 .f32) (harg18 : arg18.IsWhole) (arg19 : Memref sig .tc .vmem S4x128x128 .f32) (harg19 : arg19.IsWhole) (arg20 : Memref sig .tc .vmem S528x1024 .f32) (harg20 : arg20.IsWhole) (arg21 : Memref sig .tc .vmem S528x1024 .f32) (harg21 : arg21.IsWhole)

/-- The blocks the body leaves at a point of the first kind. -/
theorem left_A (hc0 : cond0_0 i) (hv : Scalar.subi 15#32 (BitVec.ofNat 32 (i 0).val) = bj j) (hj : j.val = 15) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (bD p j) (bxh p j) (brs p j) (bX p j) (bmix p j) (bz p j) (bzh p j) (up p.Md) (up p.G) (up p.Wo) (up p.Wi) (up p.Cw) (up3 p.Wp) (row p.Ps) = bdx p j ∧
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (bD p j) (bxh p j) (brs p j) (bX p j) (bmix p j) (bz p j) (bzh p j) (up p.Md) (up p.G) (up p.Wo) (up p.Wi) (up p.Cw) (up3 p.Wp) (row p.Ps) = bthree p j ∧
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (bD p j) (bxh p j) (brs p j) (bX p j) (bmix p j) (bz p j) (bzh p j) (up p.Md) (up p.G) (up p.Wo) (up p.Wi) (up p.Cw) (up3 p.Wp) (row p.Ps) = up (added (fun _ _ => 0) (acc p) j) ∧
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (bD p j) (bxh p j) (brs p j) (bX p j) (bmix p j) (bz p j) (bzh p j) (up p.Md) (up p.G) (up p.Wo) (up p.Wi) (up p.Cw) (up3 p.Wp) (row p.Ps) = up (added (fun _ _ => 0) (gcw p) j) ∧
    out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (bD p j) (bxh p j) (brs p j) (bX p j) (bmix p j) (bz p j) (bzh p j) (up p.Md) (up p.G) (up p.Wo) (up p.Wi) (up p.Cw) (up3 p.Wp) (row p.Ps) = up3 (fun g a b => 0 + ∑ r, gwp p (tok j r) g a b) ∧
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (bD p j) (bxh p j) (brs p j) (bX p j) (bmix p j) (bz p j) (bzh p j) (up p.Md) (up p.G) (up p.Wo) (up p.Wi) (up p.Cw) (up3 p.Wp) (row p.Ps) = up (kept p j) := by
  obtain ⟨h0, h1, h2, h3, h4, h5⟩ := run_A p j c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hv hj
  refine ⟨?_, ?_, ?_, ?_, ?_, ?_⟩
  · unfold out0_A_14
    rw [h0]
    rw [View.read_writes_junk_eq_canon]
    exact View.canon_unit_zero (by decide) _ _
  · unfold out0_A_15
    rw [h1]
    exact three_written p j _ _ _ _ _
  · unfold out0_A_16
    rw [h2]
    exact acc_written p j _ _ (fun _ _ => 0) _ (View.read_writes_full _ _ _ _ _) _ _ _ _ _
  · unfold out0_A_17
    rw [h3]
    exact gcw_written p j _ _ (fun _ _ => 0) _ (View.read_writes_full _ _ _ _ _) _ _ _ _
  · unfold out0_A_18
    rw [h4]
    exact gwp_written _ _ (fun g a b => 0 + ∑ r, gwp p (tok j r) g a b) _ _ _ _ _
  · unfold sout0_A_1
    rw [h5]
    exact next_kept p j _ _ _ _ _ _ _ _ _ _

/-- The blocks the body leaves at a point of the later kind. -/
theorem left_B (k : Fin 16) (U : Fin 8 → Fin 1024 → ℝ) (V : Fin 8 → Fin 512 → ℝ) (W : Fin 4 → Fin 128 → Fin 128 → ℝ) (hc0 : ¬cond0_0 i) (hv : Scalar.subi 15#32 (BitVec.ofNat 32 (i 0).val) = bj j) (hk : k.val = j.val + 1) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (bD p j) (bxh p j) (brs p j) (bX p j) (bmix p j) (bz p j) (bzh p j) (up p.Md) (up p.G) (up p.Wo) (up p.Wi) (up p.Cw) (up3 p.Wp) (row p.Ps) (up U) (up V) (up3 W) (up (kept p k)) = bdx p j ∧
    out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (bD p j) (bxh p j) (brs p j) (bX p j) (bmix p j) (bz p j) (bzh p j) (up p.Md) (up p.G) (up p.Wo) (up p.Wi) (up p.Cw) (up3 p.Wp) (row p.Ps) (up U) (up V) (up3 W) (up (kept p k)) = bthree p j ∧
    out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (bD p j) (bxh p j) (brs p j) (bX p j) (bmix p j) (bz p j) (bzh p j) (up p.Md) (up p.G) (up p.Wo) (up p.Wi) (up p.Cw) (up3 p.Wp) (row p.Ps) (up U) (up V) (up3 W) (up (kept p k)) = up (added U (acc p) j) ∧
    out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (bD p j) (bxh p j) (brs p j) (bX p j) (bmix p j) (bz p j) (bzh p j) (up p.Md) (up p.G) (up p.Wo) (up p.Wi) (up p.Cw) (up3 p.Wp) (row p.Ps) (up U) (up V) (up3 W) (up (kept p k)) = up (added V (gcw p) j) ∧
    out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (bD p j) (bxh p j) (brs p j) (bX p j) (bmix p j) (bz p j) (bzh p j) (up p.Md) (up p.G) (up p.Wo) (up p.Wi) (up p.Cw) (up3 p.Wp) (row p.Ps) (up U) (up V) (up3 W) (up (kept p k)) = up3 (fun g a b => W g a b + ∑ r, gwp p (tok j r) g a b) ∧
    sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (bD p j) (bxh p j) (brs p j) (bX p j) (bmix p j) (bz p j) (bzh p j) (up p.Md) (up p.G) (up p.Wo) (up p.Wi) (up p.Cw) (up3 p.Wp) (row p.Ps) (up U) (up V) (up3 W) (up (kept p k)) = up (kept p j) := by
  obtain ⟨h0, h1, h2, h3, h4, h5⟩ := run_B p j c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k U V W hc0 hv hk
  refine ⟨?_, ?_, ?_, ?_, ?_, ?_⟩
  · unfold out0_B_14
    rw [h0]
    rw [View.read_writes_junk_eq_canon]
    exact View.canon_unit_zero (by decide) _ _
  · unfold out0_B_15
    rw [h1]
    exact three_written p j _ _ _ _ _
  · unfold out0_B_16
    rw [h2]
    exact acc_written p j _ _ U [] (harg17.read_unread _) _ _ _ _ _
  · unfold out0_B_17
    rw [h3]
    exact gcw_written p j _ _ V [] (harg18.read_unread _) _ _ _ _
  · unfold out0_B_18
    rw [h4]
    exact gwp_written _ _ (fun g a b => W g a b + ∑ r, gwp p (tok j r) g a b) _ _ _ _ _
  · unfold sout0_B_1
    rw [h5]
    exact next_kept p j _ _ _ _ _ _ _ _ _ _

end Cert.Kernel2Ideal.Block

end
-- ==== Proof.Scan.lean ====
/- Running sums along the sequence: what the reference's cumulative sums compute, and the differences of them that are window sums. -/
module

public import Idealize.ShloMosaic.Lib.Routing.OpsOne
public import proofs.«01_k».proof.Proof.MixSpec

@[expose] public section

set_option maxRecDepth 16384

noncomputable section

namespace Cert.Mix

open Cert.Reals Idealize.ShloMosaic

/-- A left fold that adds a term at each step is the start plus the list's sum. -/
theorem foldl_terms {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- The sum over windows of an array's whole height that begin `L` rows before a row: the rows outside the array are zero. -/
theorem scan_rows {N n : ℕ} (x : (Routing.shape2 N n).Idx → EReal) (L H : ℕ) (init : Routing.shape0.Idx → EReal) (hi : ∀ i, init i = 0)
    (h : (Routing.shape2 N n).ReduceWindows (![N, 1] : Fin 2 → ℕ) ![1, 1] ![L, 0] ![H, 0] (Routing.shape2 N n)) (hu : 0 < Routing.shape0.numel)
    (s : Fin N) (c : Fin n) :
    Host.reduceWindow (· + ·) ![N, 1] ![1, 1] ![L, 0] ![H, 0] x init h hu (ix2 s c)
      = ∑ i ∈ Finset.range N, if g : L ≤ s.val + i ∧ s.val + i - L < N then x (ix2 ⟨s.val + i - L, g.2⟩ c) else 0 := by
  have hc := c.isLt
  unfold Host.reduceWindow
  refine (foldl_terms _ _ _).trans ?_
  rw [hi, zero_add, ← Fin.sum_univ_def, ← Fin.sum_univ_eq_sum_range (fun i : ℕ =>
    if g : L ≤ s.val + i ∧ s.val + i - L < N then x (ix2 ⟨s.val + i - L, g.2⟩ c) else 0) N]
  refine Fintype.sum_equiv (finCongr (Routing.numel_col N)) _ _ fun m => ?_
  have hw0 : ((Routing.shape2 N 1).rowMajor.symm m 0).val = m.val := by rw [Routing.symm_col]; rfl
  have hw1 : ((Routing.shape2 N 1).rowMajor.symm m 1).val = 0 := by rw [Routing.symm_col]; rfl
  dsimp only
  split
  · next hin =>
    have h0 := hin 0
    change L ≤ s.val * 1 + ((Routing.shape2 N 1).rowMajor.symm m 0).val ∧ s.val * 1 + ((Routing.shape2 N 1).rowMajor.symm m 0).val - L < N at h0
    rw [hw0] at h0
    rw [dif_pos (by show L ≤ s.val + m.val ∧ s.val + m.val - L < N; omega)]
    refine congrArg x (funext fun a => Fin.ext ?_)
    match a with
    | ⟨0, _⟩ =>
      show s.val * 1 + ((Routing.shape2 N 1).rowMajor.symm m 0).val - L = s.val + m.val - L
      rw [hw0, Nat.mul_one]
    | ⟨1, _⟩ =>
      show c.val * 1 + ((Routing.shape2 N 1).rowMajor.symm m 1).val - 0 = c.val
      rw [hw1]; omega
  · next hin =>
    rw [dif_neg]
    intro hcon
    change L ≤ s.val + m.val ∧ s.val + m.val - L < N at hcon
    refine hin fun a => ?_
    match a with
    | ⟨0, _⟩ =>
      show L ≤ s.val * 1 + ((Routing.shape2 N 1).rowMajor.symm m 0).val ∧ s.val * 1 + ((Routing.shape2 N 1).rowMajor.symm m 0).val - L < N
      rw [hw0]; omega
    | ⟨1, _⟩ =>
      show 0 ≤ c.val * 1 + ((Routing.shape2 N 1).rowMajor.symm m 1).val ∧ c.val * 1 + ((Routing.shape2 N 1).rowMajor.symm m 1).val - 0 < n
      rw [hw1]; omega

/-- The same sum over the sequence, its rows real. -/
theorem scan_up {n : ℕ} (A : Fin 8192 → Fin n → ℝ) (L H : ℕ) (init : Routing.shape0.Idx → EReal) (hi : ∀ i, init i = 0)
    (h : (Routing.shape2 8192 n).ReduceWindows (![8192, 1] : Fin 2 → ℕ) ![1, 1] ![L, 0] ![H, 0] (Routing.shape2 8192 n)) (hu : 0 < Routing.shape0.numel) :
    Host.reduceWindow (· + ·) ![8192, 1] ![1, 1] ![L, 0] ![H, 0] (up A) init h hu
      = up fun s c => ∑ i ∈ Finset.range 8192, ext A (s.val + i - L) c := by
  refine eq_up _ _ fun s c => ?_
  rw [scan_rows (up A) L H init hi h hu s c, coe_sum]
  refine Finset.sum_congr rfl fun i _ => ?_
  split
  · next g => rw [ext_of A _ ⟨s.val + i - L, g.2⟩ (by push_cast [Nat.cast_sub g.1]; omega), up_apply]
  · next g => rw [ext_out A _ (by omega), EReal.coe_zero]

/-- The host's windowed sum is the windowed reduction by addition. -/
theorem window_add {s t u : Shape} (w st lo hi : Fin s.rank → ℕ) (x : s.Idx → EReal) (init : u.Idx → EReal)
    (h : s.ReduceWindows w st lo hi t) (hu : 0 < u.numel) :
    Host.reduceWindowAdd (F := Ideal) (φ := .f32) w st lo hi x init h hu
      = Host.reduceWindow (· + ·) w st lo hi x (fun _ : Routing.shape0.Idx => init (Shape.Idx.first hu)) h (by decide) := rfl

theorem scan_add {n : ℕ} (A : Fin 8192 → Fin n → ℝ) (L H : ℕ) (init : Routing.shape0.Idx → EReal) (hi : ∀ i, init i = 0)
    (h : (Routing.shape2 8192 n).ReduceWindows (![8192, 1] : Fin 2 → ℕ) ![1, 1] ![L, 0] ![H, 0] (Routing.shape2 8192 n)) (hu : 0 < Routing.shape0.numel) :
    Host.reduceWindowAdd (F := Ideal) (φ := .f32) ![8192, 1] ![1, 1] ![L, 0] ![H, 0] (up A) init h hu
      = up fun s c => ∑ i ∈ Finset.range 8192, ext A (s.val + i - L) c := by
  rw [window_add]
  exact scan_up A L H (fun _ => init (Shape.Idx.first hu)) (fun _ => hi _) h _

/-- A sum of 8192 terms less the sum begun `w` terms later is the first `w` terms, if those past the end are zero. -/
theorem tele (F : ℕ → ℝ) (w : ℕ) (hw : w ≤ 8192) (h0 : ∀ i < w, F (8192 + i) = 0) :
    ∑ i ∈ Finset.range 8192, F i - ∑ i ∈ Finset.range 8192, F (w + i) = ∑ i ∈ Finset.range w, F i := by
  have e1 : ∑ i ∈ Finset.range 8192, F i = ∑ i ∈ Finset.range w, F i + ∑ i ∈ Finset.range (8192 - w), F (w + i) := by
    rw [← Finset.sum_range_add, Nat.add_sub_cancel' hw]
  have e2 : ∑ i ∈ Finset.range 8192, F (w + i) = ∑ i ∈ Finset.range (8192 - w), F (w + i) + ∑ i ∈ Finset.range w, F (w + (8192 - w + i)) := by
    rw [← Finset.sum_range_add (fun i => F (w + i)), Nat.sub_add_cancel hw]
  have e3 : ∑ i ∈ Finset.range w, F (w + (8192 - w + i)) = 0 :=
    Finset.sum_eq_zero fun i hi => by
      rw [show w + (8192 - w + i) = 8192 + i by omega]
      exact h0 i (Finset.mem_range.mp hi)
  rw [e1, e2, e3]
  ring

/-- The running sum up to a token. -/
def pre {n : ℕ} (f : Fin 8192 → Fin n → ℝ) (s : Fin 8192) (c : Fin n) : ℝ := ∑ i ∈ Finset.range 8192, ext f (s.val + i - (8191 : ℕ)) c
/-- The running sum from a token on. -/
def suf {n : ℕ} (f : Fin 8192 → Fin n → ℝ) (s : Fin 8192) (c : Fin n) : ℝ := ∑ i ∈ Finset.range 8192, ext f (s.val + i - (0 : ℕ)) c

theorem pre_eq {n : ℕ} (f : Fin 8192 → Fin n → ℝ) (s : Fin 8192) (c : Fin n) : pre f s c = ∑ i ∈ Finset.range 8192, ext f (s.val - (i : ℕ)) c := by
  unfold pre
  rw [← Finset.sum_range_reflect]
  refine Finset.sum_congr rfl fun i hi => ?_
  have := Finset.mem_range.mp hi
  congr 1
  push_cast [show 8192 - 1 - i = 8191 - i by omega]
  omega

/-- The difference of two running sums is a window's sum. -/
theorem wsum_pre {n : ℕ} (f : Fin 8192 → Fin n → ℝ) (w : ℕ) (hw : w ≤ 8192) (s : Fin 8192) (c : Fin n) :
    wsum f w s c = pre f s c - (if h : s.val < w then 0 else pre f ⟨s.val - w, by omega⟩ c) := by
  have e : (if h : s.val < w then 0 else pre f ⟨s.val - w, by omega⟩ c) = ∑ i ∈ Finset.range 8192, ext f (s.val - ((w + i : ℕ) : ℤ)) c := by
    split
    · next h =>
      exact (Finset.sum_eq_zero fun i _ => ext_out _ _ (Or.inl (by push_cast; omega)) _).symm
    · next h =>
      rw [pre_eq]
      refine Finset.sum_congr rfl fun i _ => ?_
      congr 1
      push_cast [Nat.cast_sub (not_lt.mp h)]
      omega
  rw [e, pre_eq]
  exact (tele (fun i => ext f (s.val - (i : ℕ)) c) w hw fun i _ => ext_out _ _ (Or.inl (by push_cast; omega)) _).symm

/-- The running sum from a token on of the differences is a window's sum. -/
theorem fsum_suf {n : ℕ} (f d : Fin 8192 → Fin n → ℝ) (w : ℕ) (hw : w ≤ 8192) (c : Fin n)
    (hd : ∀ s : Fin 8192, d s c = f s c - (if h : s.val + w < 8192 then f ⟨s.val + w, h⟩ c else 0)) (s : Fin 8192) :
    suf d s c = fsum f w s c := by
  have e : ∀ i : ℕ, ext d (s.val + i - (0 : ℕ)) c = ext f (s.val + (i : ℕ)) c - ext f (s.val + ((w + i : ℕ) : ℤ)) c := fun i => by
    by_cases h : s.val + i < 8192
    · rw [ext_of d _ ⟨s.val + i, h⟩ (by push_cast; omega), hd, ext_of f (s.val + (i : ℕ)) ⟨s.val + i, h⟩ (by push_cast; omega)]
      refine congrArg₂ (fun a b : ℝ => a - b) rfl ?_
      split
      · next h' => exact (ext_of f _ ⟨s.val + i + w, h'⟩ (by push_cast; omega) c).symm
      · next h' => exact (ext_out f _ (Or.inr (by push_cast at h' ⊢; omega)) c).symm
    · rw [ext_out d _ (Or.inr (by push_cast; omega)), ext_out f _ (Or.inr (by push_cast; omega)), ext_out f _ (Or.inr (by push_cast; omega)), sub_zero]
  unfold suf fsum
  rw [Finset.sum_congr rfl fun i _ => e i, Finset.sum_sub_distrib]
  exact tele (fun i => ext f (s.val + (i : ℕ)) c) w hw fun i _ => ext_out _ _ (Or.inr (by push_cast; omega)) _

end Cert.Mix

end
-- ==== Proof.RefMix.lean ====
/- What the reference's forward stages compute, its arguments being real: the mixing sub-layer's functions, token by token. -/
module

public import proofs.«01_k».proof.Proof.Gen.Reference2Ideal.Read
public import proofs.«01_k».proof.Proof.Scan

@[expose] public section

set_option maxRecDepth 16384

noncomputable section

namespace Cert.Reference2Ideal.Stages

open Cert.Reference2Ideal Cert.Reference2Ideal.Gen Cert.Reference2Ideal.Read Cert.Reals Cert.Mix Idealize.ShloMosaic

variable (p : Par)

theorem ofBits_win0 : Ideal.ofBits .f32 0x40000000#32 = (((win 0 : ℕ) : ℝ) : EReal) := by
  rw [ofBits_two]; norm_num [win]
theorem ofBits_win1 : Ideal.ofBits .f32 0x40800000#32 = (((win 1 : ℕ) : ℝ) : EReal) := by
  simp [Ideal.ofBits, Ideal.ieee, win, -EReal.coe_mul]; norm_num
theorem ofBits_win2 : Ideal.ofBits .f32 0x41000000#32 = (((win 2 : ℕ) : ℝ) : EReal) := by
  simp [Ideal.ofBits, Ideal.ieee, win, -EReal.coe_mul]; norm_num
theorem ofBits_win3 : Ideal.ofBits .f32 0x41800000#32 = (((win 3 : ℕ) : ℝ) : EReal) := by
  simp [Ideal.ofBits, Ideal.ieee, win, -EReal.coe_mul]; norm_num

theorem cnt_coe (w : ℕ) (s : Fin 8192) : min ((((s.val + 1 : ℕ) : ℝ)) : EReal) (((w : ℕ) : ℝ) : EReal) = ((cnt w s : ℝ) : EReal) := by
  rw [← coe_min]
  unfold cnt
  rw [Nat.cast_min]

/-- A difference of two running sums is the sum over a window. -/
theorem win_up (g : Fin 4) (s : Fin 8192) (c : Fin 128) (k : Fin 512) (hk : k.val = 128 * g.val + c.val) :
    ((pre (vp p) s k : ℝ) : EReal) - (if h : s.val < win g then 0 else ((pre (vp p) ⟨s.val - win g, by omega⟩ k : ℝ) : EReal))
      = ((wsum (vp p) (win g) s (gcol g c) : ℝ) : EReal) := by
  rw [show gcol g c = k from Fin.ext hk.symm, wsum_pre _ _ (by fin_cases g <;> decide)]
  split
  · rw [sub_zero, sub_zero]
  · rw [← EReal.coe_sub]

theorem v8_up : val_main_v8 (F := Ideal) (up p.X) (up p.Md) = up (h p) := by
  refine eq_up _ _ fun s c => ?_
  rw [val_main_v8, val_main_v6]
  pointwise [val_main_v7, val_main_v5, val_main_v4, val_main_v3, val_main_v1, val_main_v0, val_main_cst, up]
  simp only [← EReal.coe_mul, ← EReal.coe_add, ← EReal.coe_sub, ← EReal.coe_neg, ← EReal.coe_one, ← EReal.coe_zero, ← coe_sum, h]

theorem v9_up : val_main_v9 (F := Ideal) (up p.X) (up p.Md) (up p.Wi) = up (z p) := by
  refine eq_up _ _ fun s c => ?_
  rw [val_main_v9, v8_up p]
  pointwise [up]
  simp only [← EReal.coe_mul, ← EReal.coe_add, ← EReal.coe_sub, ← EReal.coe_neg, ← EReal.coe_one, ← EReal.coe_zero, ← coe_sum, z]

theorem v10_up : val_main_v10 (F := Ideal) (up p.X) (up p.Md) (up p.Wi) = up (gb p) := by
  refine eq_up _ _ fun s c => ?_
  rw [val_main_v10, v9_up p]
  pointwise [up]
  exact congrArg (fun k => ((z p s k : ℝ) : EReal)) (Fin.ext (by show c.val = 512 * 0 + c.val; omega))

theorem v11_up : val_main_v11 (F := Ideal) (up p.X) (up p.Md) (up p.Wi) = up (gc p) := by
  refine eq_up _ _ fun s c => ?_
  rw [val_main_v11, v9_up p]
  pointwise [up]
  exact congrArg (fun k => ((z p s k : ℝ) : EReal)) (Fin.ext (by show 512 + c.val = 512 * 1 + c.val; omega))

theorem v12_up : val_main_v12 (F := Ideal) (up p.X) (up p.Md) (up p.Wi) = up (vc p) := by
  refine eq_up _ _ fun s c => ?_
  rw [val_main_v12, v9_up p]
  pointwise [up]
  exact congrArg (fun k => ((z p s k : ℝ) : EReal)) (Fin.ext (by show 1024 + c.val = 512 * 2 + c.val; omega))

theorem v13_up : val_main_v13 (F := Ideal) (up p.X) (up p.Md) (up p.Wi) = up (vp p) := by
  refine eq_up _ _ fun s c => ?_
  rw [val_main_v13, v9_up p]
  pointwise [up]
  exact congrArg (fun k => ((z p s k : ℝ) : EReal)) (Fin.ext (by show 1536 + c.val = 512 * 3 + c.val; omega))

theorem v14_up : val_main_v14 (F := Ideal) (up p.X) (up p.Md) (up p.Wi) = up (cv p) := by
  refine eq_up _ _ fun s c => ?_
  rw [val_main_v14, v11_up p, v12_up p]
  pointwise [up]
  simp only [← EReal.coe_mul, ← EReal.coe_add, ← EReal.coe_sub, ← EReal.coe_neg, ← EReal.coe_one, ← EReal.coe_zero, ← coe_sum, cv]

theorem v16_up : val_main_v16 (F := Ideal) (up p.X) (up p.Md) (up p.Wi) = up fun (t : Fin 8194) c => ext (cv p) ((t.val : ℤ) - 2) c := by
  refine eq_up _ _ fun s c => ?_
  rw [val_main_v16, v14_up p]
  pointwise [val_main_v15, val_main_cst_0, up]
  by_cases h : s.val < 2
  · rw [dif_pos h, ext_out _ _ (by omega), EReal.coe_zero]
  · rw [dif_neg h, ext_of _ _ ⟨s.val - 2, by omega⟩ (by show (s.val : ℤ) - 2 = ((s.val - 2 : ℕ) : ℤ); omega)]

theorem v18_up : val_main_v18 (F := Ideal) (up p.X) (up p.Md) (up p.Wi) = up fun s c => ext (cv p) ((s.val : ℤ) - 2) c := by
  refine eq_up _ _ fun s c => ?_
  rw [val_main_v18, v16_up p]
  pointwise [up]

theorem v24_up : val_main_v24 (F := Ideal) (up p.X) (up p.Md) (up p.Wi) = up fun s c => ext (cv p) ((s.val : ℤ) - 1) c := by
  refine eq_up _ _ fun s c => ?_
  rw [val_main_v24, v16_up p]
  pointwise [up]
  exact congrArg (fun i => ((ext (cv p) i c : ℝ) : EReal)) (by push_cast; omega)

theorem v31_up : val_main_v31 (F := Ideal) (up p.X) (up p.Md) (up p.Wi) = up (cv p) := by
  refine eq_up _ _ fun s c => ?_
  rw [val_main_v31, v16_up p]
  pointwise [up]
  rw [ext_of (cv p) _ s (by push_cast; omega)]

theorem v37_up : val_main_v37 (F := Ideal) (up p.X) (up p.Md) (up p.Wi) (up p.Cw) = up (conv p) := by
  refine eq_up _ _ fun s c => ?_
  rw [val_main_v37, val_main_v30, val_main_v23, val_main_v29, val_main_v36, v18_up p, v24_up p, v31_up p]
  pointwise [val_main_v22, val_main_v21, val_main_v20, val_main_v19, val_main_v28, val_main_v27, val_main_v26, val_main_v25, val_main_v35, val_main_v34, val_main_v33, val_main_v32, up]
  simp only [← EReal.coe_mul, ← EReal.coe_add, ← EReal.coe_sub, ← EReal.coe_neg, ← EReal.coe_one, ← EReal.coe_zero, ← coe_sum]
  rw [EReal.coe_eq_coe_iff]
  unfold conv
  ring

theorem v38_up : val_main_v38 (F := Ideal) (up p.X) (up p.Md) (up p.Wi) (up p.Cw) = up (yc p) := by
  refine eq_up _ _ fun s c => ?_
  rw [val_main_v38, v10_up p, v37_up p]
  pointwise [up]
  simp only [← EReal.coe_mul, ← EReal.coe_add, ← EReal.coe_sub, ← EReal.coe_neg, ← EReal.coe_one, ← EReal.coe_zero, ← coe_sum, yc]

theorem v39_up : val_main_v39 (F := Ideal) (up p.X) (up p.Md) (up p.Wi) = up (pre (vp p)) := by
  rw [val_main_v39, v13_up p]
  refine Eq.trans (scan_add (vp p) 8191 0 (val_main_call0_call0_v0 (F := Ideal)) (fun i => ?_) _ _) ?_
  · pointwise [val_main_call0_call0_v0, val_main_call0_call0_cst]
  · unfold pre
    rfl

theorem v43_up : val_main_v43 (F := Ideal) = col fun s => ((s.val + 1 : ℕ) : ℝ) := by
  refine eq_up _ _ fun s c => ?_
  pointwise [val_main_v43, val_main_v42, val_main_v41, val_main_v40, val_main_cst_2, up]
  rw [show FloatOps.sitofp (F := Ideal) .f32 (BitVec.ofNat 32 s.val) = ((((s.val : ℤ) : ℝ)) : EReal) from
    congrArg (fun n : ℤ => ((n : ℝ) : EReal)) (by
      rw [BitVec.toInt_eq_toNat_of_lt, BitVec.toNat_ofNat, Nat.mod_eq_of_lt (by omega)]
      rw [BitVec.toNat_ofNat, Nat.mod_eq_of_lt (by omega)]; omega),
    ← EReal.coe_one, ← EReal.coe_add, EReal.coe_eq_coe_iff]
  push_cast
  ring

theorem v52_up : val_main_v52 (F := Ideal) = col fun s => cnt (win 0) s := by
  refine eq_up _ _ fun s c => ?_
  rw [val_main_v52, v43_up]
  pointwise [val_main_v51, val_main_cst_5, up]
  rw [ofBits_win0]
  exact cnt_coe (win 0) s

theorem v50_up : val_main_v50 (F := Ideal) (up p.X) (up p.Md) (up p.Wi) = up fun s c => wsum (vp p) (win 0) s (gcol 0 c) := by
  refine eq_up _ _ fun s c => ?_
  rw [val_main_v50, val_main_v49, val_main_v48, val_main_v46, val_main_v45, v39_up p]
  pointwise [val_main_v44, val_main_cst_3, up]
  exact win_up p 0 s c _ (by show c.val = 128 * 0 + c.val; omega)

theorem v56_up : val_main_v56 (F := Ideal) (up p.X) (up p.Md) (up p.Wi) = up fun s => feat p s 0 := by
  refine eq_up _ _ fun s c => ?_
  rw [val_main_v56, val_main_v54, val_main_v53, val_main_v55, v50_up p, v52_up, v13_up p]
  pointwise [up]
  rw [div_real (cnt_ne _ (by decide) s), ← EReal.coe_sub]
  exact congrArg (fun k => ((wsum (vp p) (win 0) s (gcol 0 c) / cnt (win 0) s - vp p s k : ℝ) : EReal)) (Fin.ext (by show c.val = 128 * 0 + c.val; omega))

theorem v58_up : val_main_v58 (F := Ideal) (up3 p.Wp) = up (p.Wp 0) := by
  refine eq_up _ _ fun s c => ?_
  rw [val_main_v58, val_main_v57]
  pointwise [up3, up]

theorem v59_up : val_main_v59 (F := Ideal) (up p.X) (up p.Md) (up p.Wi) (up3 p.Wp) = up fun s => pw p s 0 := by
  refine eq_up _ _ fun s c => ?_
  rw [val_main_v59, v56_up p, v58_up p]
  pointwise [up]
  simp only [← EReal.coe_mul, ← EReal.coe_add, ← EReal.coe_sub, ← EReal.coe_neg, ← EReal.coe_one, ← EReal.coe_zero, ← coe_sum, pw]

theorem v68_up : val_main_v68 (F := Ideal)  = col fun s => cnt (win 1) s := by
  refine eq_up _ _ fun s c => ?_
  rw [val_main_v68, v43_up]
  pointwise [val_main_v67, val_main_cst_8, up]
  rw [ofBits_win1]
  exact cnt_coe (win 1) s

theorem v66_up : val_main_v66 (F := Ideal) (up p.X) (up p.Md) (up p.Wi) = up fun s c => wsum (vp p) (win 1) s (gcol 1 c) := by
  refine eq_up _ _ fun s c => ?_
  rw [val_main_v66, val_main_v65, val_main_v64, val_main_v62, val_main_v61, v39_up p]
  pointwise [val_main_v60, val_main_cst_6, up]
  exact win_up p 1 s c _ (by show 128 + c.val = 128 * 1 + c.val; omega)

theorem v72_up : val_main_v72 (F := Ideal) (up p.X) (up p.Md) (up p.Wi) = up fun s => feat p s 1 := by
  refine eq_up _ _ fun s c => ?_
  rw [val_main_v72, val_main_v70, val_main_v69, val_main_v71, v66_up p, v68_up, v13_up p]
  pointwise [up]
  rw [div_real (cnt_ne _ (by decide) s), ← EReal.coe_sub]
  exact congrArg (fun k => ((wsum (vp p) (win 1) s (gcol 1 c) / cnt (win 1) s - vp p s k : ℝ) : EReal)) (Fin.ext (by show 128 + c.val = 128 * 1 + c.val; omega))

theorem v74_up : val_main_v74 (F := Ideal) (up3 p.Wp) = up (p.Wp 1) := by
  refine eq_up _ _ fun s c => ?_
  rw [val_main_v74, val_main_v73]
  pointwise [up3, up]

theorem v75_up : val_main_v75 (F := Ideal) (up p.X) (up p.Md) (up p.Wi) (up3 p.Wp) = up fun s => pw p s 1 := by
  refine eq_up _ _ fun s c => ?_
  rw [val_main_v75, v72_up p, v74_up p]
  pointwise [up]
  simp only [← EReal.coe_mul, ← EReal.coe_add, ← EReal.coe_sub, ← EReal.coe_neg, ← EReal.coe_one, ← EReal.coe_zero, ← coe_sum, pw]

theorem v84_up : val_main_v84 (F := Ideal)  = col fun s => cnt (win 2) s := by
  refine eq_up _ _ fun s c => ?_
  rw [val_main_v84, v43_up]
  pointwise [val_main_v83, val_main_cst_11, up]
  rw [ofBits_win2]
  exact cnt_coe (win 2) s

theorem v82_up : val_main_v82 (F := Ideal) (up p.X) (up p.Md) (up p.Wi) = up fun s c => wsum (vp p) (win 2) s (gcol 2 c) := by
  refine eq_up _ _ fun s c => ?_
  rw [val_main_v82, val_main_v81, val_main_v80, val_main_v78, val_main_v77, v39_up p]
  pointwise [val_main_v76, val_main_cst_9, up]
  exact win_up p 2 s c _ (by show 256 + c.val = 128 * 2 + c.val; omega)

theorem v88_up : val_main_v88 (F := Ideal) (up p.X) (up p.Md) (up p.Wi) = up fun s => feat p s 2 := by
  refine eq_up _ _ fun s c => ?_
  rw [val_main_v88, val_main_v86, val_main_v85, val_main_v87, v82_up p, v84_up, v13_up p]
  pointwise [up]
  rw [div_real (cnt_ne _ (by decide) s), ← EReal.coe_sub]
  exact congrArg (fun k => ((wsum (vp p) (win 2) s (gcol 2 c) / cnt (win 2) s - vp p s k : ℝ) : EReal)) (Fin.ext (by show 256 + c.val = 128 * 2 + c.val; omega))

theorem v90_up : val_main_v90 (F := Ideal) (up3 p.Wp) = up (p.Wp 2) := by
  refine eq_up _ _ fun s c => ?_
  rw [val_main_v90, val_main_v89]
  pointwise [up3, up]

theorem v91_up : val_main_v91 (F := Ideal) (up p.X) (up p.Md) (up p.Wi) (up3 p.Wp) = up fun s => pw p s 2 := by
  refine eq_up _ _ fun s c => ?_
  rw [val_main_v91, v88_up p, v90_up p]
  pointwise [up]
  simp only [← EReal.coe_mul, ← EReal.coe_add, ← EReal.coe_sub, ← EReal.coe_neg, ← EReal.coe_one, ← EReal.coe_zero, ← coe_sum, pw]

theorem v100_up : val_main_v100 (F := Ideal)  = col fun s => cnt (win 3) s := by
  refine eq_up _ _ fun s c => ?_
  rw [val_main_v100, v43_up]
  pointwise [val_main_v99, val_main_cst_14, up]
  rw [ofBits_win3]
  exact cnt_coe (win 3) s

theorem v98_up : val_main_v98 (F := Ideal) (up p.X) (up p.Md) (up p.Wi) = up fun s c => wsum (vp p) (win 3) s (gcol 3 c) := by
  refine eq_up _ _ fun s c => ?_
  rw [val_main_v98, val_main_v97, val_main_v96, val_main_v94, val_main_v93, v39_up p]
  pointwise [val_main_v92, val_main_cst_12, up]
  exact win_up p 3 s c _ (by show 384 + c.val = 128 * 3 + c.val; omega)

theorem v104_up : val_main_v104 (F := Ideal) (up p.X) (up p.Md) (up p.Wi) = up fun s => feat p s 3 := by
  refine eq_up _ _ fun s c => ?_
  rw [val_main_v104, val_main_v102, val_main_v101, val_main_v103, v98_up p, v100_up, v13_up p]
  pointwise [up]
  rw [div_real (cnt_ne _ (by decide) s), ← EReal.coe_sub]
  exact congrArg (fun k => ((wsum (vp p) (win 3) s (gcol 3 c) / cnt (win 3) s - vp p s k : ℝ) : EReal)) (Fin.ext (by show 384 + c.val = 128 * 3 + c.val; omega))

theorem v106_up : val_main_v106 (F := Ideal) (up3 p.Wp) = up (p.Wp 3) := by
  refine eq_up _ _ fun s c => ?_
  rw [val_main_v106, val_main_v105]
  pointwise [up3, up]

theorem v107_up : val_main_v107 (F := Ideal) (up p.X) (up p.Md) (up p.Wi) (up3 p.Wp) = up fun s => pw p s 3 := by
  refine eq_up _ _ fun s c => ?_
  rw [val_main_v107, v104_up p, v106_up p]
  pointwise [up]
  simp only [← EReal.coe_mul, ← EReal.coe_add, ← EReal.coe_sub, ← EReal.coe_neg, ← EReal.coe_one, ← EReal.coe_zero, ← coe_sum, pw]

theorem v108_up : val_main_v108 (F := Ideal) (up p.X) (up p.Md) (up p.Wi) (up3 p.Wp) = up (pk p) := by
  refine eq_up _ _ fun s c => ?_
  rw [val_main_v108, v59_up p, v75_up p, v91_up p, v107_up p]
  pointwise [up]
  exact group_cases (fun g d => ((pw p s g d : ℝ) : EReal)) c.val c.isLt

theorem v110_up : val_main_v110 (F := Ideal) (up p.X) (up p.Md) (up p.Wi) (up3 p.Wp) (row p.Ps) = up (yp p) := by
  refine eq_up _ _ fun s c => ?_
  rw [val_main_v110, v108_up p]
  pointwise [val_main_v109, up]
  simp only [← EReal.coe_mul, ← EReal.coe_add, ← EReal.coe_sub, ← EReal.coe_neg, ← EReal.coe_one, ← EReal.coe_zero, ← coe_sum, yp]

theorem v111_up : val_main_v111 (F := Ideal) (up p.X) (up p.Md) (up p.Wi) (up p.Cw) (up3 p.Wp) (row p.Ps) = up (ycat p) := by
  refine eq_up _ _ fun s c => ?_
  rw [val_main_v111, v38_up p, v110_up p]
  pointwise [up]
  unfold ycat two
  split <;> rfl

theorem v112_up : val_main_v112 (F := Ideal) (up p.X) (up p.Md) (up p.Wi) (up p.Cw) (up3 p.Wp) (row p.Ps) (up p.Wo) = up (mix p) := by
  refine eq_up _ _ fun s c => ?_
  rw [val_main_v112, v111_up p]
  pointwise [up]
  simp only [← EReal.coe_mul, ← EReal.coe_add, ← EReal.coe_sub, ← EReal.coe_neg, ← EReal.coe_one, ← EReal.coe_zero, ← coe_sum, mix]

end Cert.Reference2Ideal.Stages

end
-- ==== Proof.RefMix2.lean ====
/- What the reference's backward stages compute, from the layer norm to the averages' gradient. -/
module

public import proofs.«01_k».proof.Proof.RefMix

@[expose] public section

set_option maxRecDepth 16384

noncomputable section

namespace Cert.Reference2Ideal.Stages

open Cert.Reference2Ideal Cert.Reference2Ideal.Gen Cert.Reference2Ideal.Read Cert.Reals Cert.Mix Idealize.ShloMosaic

variable (p : Par)

/-- A row less its mean sums to zero. -/
theorem sum_cen (s : Fin 8192) : ∑ j, cen p s j = 0 := by
  simp only [cen, mean, Finset.sum_sub_distrib, Finset.sum_const, Finset.card_univ, Fintype.card_fin, nsmul_eq_mul]
  push_cast
  ring

/-- The inverse root's square is the inverse of the variance with its offset. -/
theorem rs_sq (s : Fin 8192) : rs p s * rs p s * va p s = 1 := by
  have hv := va_pos p s
  have hs : Real.sqrt (va p s) ≠ 0 := (Real.sqrt_pos.mpr hv).ne'
  have h := Real.mul_self_sqrt hv.le
  unfold rs
  field_simp
  rw [pow_two, h]

/-- The gradient through the variance, as differentiating it gives it. -/
def dvar (s : Fin 8192) (j : Fin 1024) : ℝ :=
  (∑ i, cen p s i * q p s i) * (-(1 / 2) * (rs p s / va p s)) / 1024 * (2 * cen p s j)

/-- The layer norm's gradient as differentiating its two means and its variance gives it is the centred form. -/
theorem dr_vjp (s : Fin 8192) (j : Fin 1024) :
    q p s j * rs p s + dvar p s j + ((∑ i, -(q p s i * rs p s)) + ∑ i, -(dvar p s i)) / 1024 = dr p s j := by
  have hv : va p s ≠ 0 := (va_pos p s).ne'
  have e1 : ∑ i, -(q p s i * rs p s) = -((∑ i, q p s i) * rs p s) := by rw [Finset.sum_neg_distrib, Finset.sum_mul]
  have e2 : ∑ i, -(dvar p s i) = 0 := by
    unfold dvar
    rw [Finset.sum_neg_distrib, ← Finset.mul_sum, ← Finset.mul_sum, sum_cen]; ring
  have e3 : ∑ i, q p s i * xh p s i = (∑ i, cen p s i * q p s i) * rs p s := by
    rw [Finset.sum_mul]; exact Finset.sum_congr rfl fun i _ => by unfold xh; ring
  have e4 : rs p s / va p s = rs p s * (rs p s * rs p s) := by
    rw [div_eq_iff hv, mul_assoc, rs_sq, mul_one]
  rw [e1, e2]
  unfold dvar dr
  rw [e4]
  simp only [mean, e3]
  unfold xh
  ring

theorem v119_up : val_main_v119 (F := Ideal) (up p.X) (up p.Md) (up p.Wi) (up p.Cw) (up3 p.Wp) (row p.Ps) (up p.Wo) = up (res p) := by
  refine eq_up _ _ fun s c => ?_
  rw [val_main_v119, val_main_v114, val_main_v118, v112_up p]
  pointwise [val_main_v113, val_main_v115, val_main_v116, val_main_v117, val_main_v2, val_main_cst_15, val_main_cst_16, up]
  rw [ofBits_alpha]
  simp only [← EReal.coe_mul, ← EReal.coe_add, ← EReal.coe_sub, ← EReal.coe_neg, ← EReal.coe_one, ← EReal.coe_zero, ← coe_sum, res]

theorem v123_up : val_main_v123 (F := Ideal) (up p.X) (up p.Md) (up p.Wi) (up p.Cw) (up3 p.Wp) (row p.Ps) (up p.Wo) = col fun s => mean (res p s) := by
  refine eq_up _ _ fun s c => ?_
  rw [val_main_v123, val_main_v121, val_main_v120, v119_up p]
  pointwise [val_main_v122, val_main_cst_17, val_main_cst_18, up]
  rw [ofBits_1024, ← coe_sum, div_real (by norm_num)]
  rfl

theorem v125_up : val_main_v125 (F := Ideal) (up p.X) (up p.Md) (up p.Wi) (up p.Cw) (up3 p.Wp) (row p.Ps) (up p.Wo) = up (cen p) := by
  refine eq_up _ _ fun s c => ?_
  rw [val_main_v125, val_main_v124, v119_up p, v123_up p]
  pointwise [up]
  simp only [← EReal.coe_mul, ← EReal.coe_add, ← EReal.coe_sub, ← EReal.coe_neg, ← EReal.coe_one, ← EReal.coe_zero, ← coe_sum, cen]

theorem v134_up : val_main_v134 (F := Ideal) (up p.X) (up p.Md) (up p.Wi) (up p.Cw) (up3 p.Wp) (row p.Ps) (up p.Wo) = up (cen p) := by
  refine eq_up _ _ fun s c => ?_
  rw [val_main_v134, val_main_v133, v119_up p, v123_up p]
  pointwise [up]
  simp only [← EReal.coe_mul, ← EReal.coe_add, ← EReal.coe_sub, ← EReal.coe_neg, ← EReal.coe_one, ← EReal.coe_zero, ← coe_sum, cen]

theorem v136_up : val_main_v136 (F := Ideal) (up p.X) (up p.Md) (up p.Wi) (up p.Cw) (up3 p.Wp) (row p.Ps) (up p.Wo) = col fun s => va p s := by
  refine eq_up _ _ fun s c => ?_
  rw [val_main_v136, val_main_v132, val_main_v130, val_main_v129, val_main_v126, v125_up p]
  pointwise [val_main_v135, val_main_v131, val_main_cst_20, val_main_cst_21, val_main_cst_22, up]
  simp only [← EReal.coe_mul, ← coe_sum]
  rw [ofBits_1024, ofBits_eps, div_real (by norm_num)]
  simp only [← EReal.coe_mul, ← EReal.coe_add, ← EReal.coe_sub, ← EReal.coe_neg, ← EReal.coe_one, ← EReal.coe_zero, ← coe_sum, va, mean]

theorem v137_up : val_main_v137 (F := Ideal) (up p.X) (up p.Md) (up p.Wi) (up p.Cw) (up3 p.Wp) (row p.Ps) (up p.Wo) = col fun s => rs p s := by
  refine eq_up _ _ fun s c => ?_
  rw [val_main_v137, v136_up p]
  pointwise [up]
  rw [rsqrt_real (va_pos _ _)]
  rfl

theorem v140_up : val_main_v140 (F := Ideal) (up p.X) (up p.Md) (up p.Wi) (up p.Cw) (up3 p.Wp) (row p.Ps) (up p.Wo) = col fun s => -(1 / 2) * (rs p s / va p s) := by
  refine eq_up _ _ fun s c => ?_
  rw [val_main_v140, val_main_v138, v136_up p, v137_up p]
  pointwise [val_main_v139, val_main_cst_23, up]
  rw [ofBits_neg_half, div_real (va_pos _ _).ne']
  simp only [← EReal.coe_mul, ← EReal.coe_add, ← EReal.coe_sub, ← EReal.coe_neg, ← EReal.coe_one, ← EReal.coe_zero, ← coe_sum]

theorem v142_up : val_main_v142 (F := Ideal) (up p.X) (up p.Md) (up p.Wi) (up p.Cw) (up3 p.Wp) (row p.Ps) (up p.Wo) = up (xh p) := by
  refine eq_up _ _ fun s c => ?_
  rw [val_main_v142, val_main_v141, v134_up p, v137_up p]
  pointwise [up]
  simp only [← EReal.coe_mul, ← EReal.coe_add, ← EReal.coe_sub, ← EReal.coe_neg, ← EReal.coe_one, ← EReal.coe_zero, ← coe_sum, xh]

theorem v149_up : val_main_v149 (F := Ideal) (up p.D) = row fun j => ∑ s, acc p s 1 j := by
  refine eq_up _ _ fun s c => ?_
  rw [val_main_v149, val_main_v148]
  pointwise [val_main_cst_24, up]
  simp only [← EReal.coe_mul, ← EReal.coe_add, ← EReal.coe_sub, ← EReal.coe_neg, ← EReal.coe_one, ← EReal.coe_zero, ← coe_sum, acc]

theorem v152_up : val_main_v152 (F := Ideal) (up p.D) (up p.X) (up p.Md) (up p.Wi) (up p.Cw) (up3 p.Wp) (row p.Ps) (up p.Wo) = row fun j => ∑ s, acc p s 0 j := by
  refine eq_up _ _ fun s c => ?_
  rw [val_main_v152, val_main_v151, val_main_v150, v142_up p]
  pointwise [val_main_v147, val_main_cst_25, up]
  simp only [← EReal.coe_mul, ← EReal.coe_add, ← EReal.coe_sub, ← EReal.coe_neg, ← EReal.coe_one, ← EReal.coe_zero, ← coe_sum, acc]
  rw [EReal.coe_eq_coe_iff]
  exact Finset.sum_congr rfl fun _ _ => by ring

theorem v154_up : val_main_v154 (F := Ideal) (up p.D) (row (p.G 0)) = up (q p) := by
  refine eq_up _ _ fun s c => ?_
  rw [val_main_v154]
  pointwise [val_main_v153, val_main_v147, up]
  simp only [← EReal.coe_mul, ← EReal.coe_add, ← EReal.coe_sub, ← EReal.coe_neg, ← EReal.coe_one, ← EReal.coe_zero, ← coe_sum, q]

theorem v159_up : val_main_v159 (F := Ideal) (up p.D) (up p.X) (up p.Md) (row (p.G 0)) (up p.Wi) (up p.Cw) (up3 p.Wp) (row p.Ps) (up p.Wo) = up fun s j => q p s j * rs p s := by
  refine eq_up _ _ fun s c => ?_
  rw [val_main_v159, val_main_v158, v154_up p, v137_up p]
  pointwise [up]
  simp only [← EReal.coe_mul, ← EReal.coe_add, ← EReal.coe_sub, ← EReal.coe_neg, ← EReal.coe_one, ← EReal.coe_zero, ← coe_sum]

theorem v168_up : val_main_v168 (F := Ideal) (up p.D) (up p.X) (up p.Md) (row (p.G 0)) (up p.Wi) (up p.Cw) (up3 p.Wp) (row p.Ps) (up p.Wo) = up (dvar p) := by
  refine eq_up _ _ fun s c => ?_
  rw [val_main_v168, val_main_v167, val_main_v166, val_main_v165, val_main_v160, val_main_v157, val_main_v156, val_main_v155, val_main_v128, v134_up p, v154_up p, v140_up p, v125_up p]
  pointwise [val_main_v164, val_main_v127, val_main_cst_19, val_main_cst_26, val_main_cst_28, val_main_cst_29, up]
  simp only [Finset.univ_unique, Finset.sum_singleton, ← EReal.coe_mul, ← coe_sum]
  rw [ofBits_1024, ofBits_two, div_real (by norm_num)]
  simp only [← EReal.coe_mul, ← EReal.coe_add, ← EReal.coe_sub, ← EReal.coe_neg, ← EReal.coe_one, ← EReal.coe_zero, ← coe_sum, dvar]

theorem v178_up : val_main_v178 (F := Ideal) (up p.D) (up p.X) (up p.Md) (row (p.G 0)) (up p.Wi) (up p.Cw) (up3 p.Wp) (row p.Ps) (up p.Wo) = up (dr p) := by
  refine eq_up _ _ fun s c => ?_
  rw [val_main_v178, val_main_v172, val_main_v177, val_main_v176, val_main_v175, val_main_v173, val_main_v171, val_main_v170, val_main_v169, val_main_v163, val_main_v162, val_main_v161, v168_up p, v159_up p]
  pointwise [val_main_v174, val_main_cst_27, val_main_cst_30, val_main_cst_31, val_main_cst_32, up]
  simp only [Finset.univ_unique, Finset.sum_singleton, ← EReal.coe_neg, ← EReal.coe_add, ← coe_sum]
  rw [ofBits_1024, div_real (by norm_num), ← EReal.coe_add, EReal.coe_eq_coe_iff]
  exact dr_vjp _ _ _

theorem v180_up : val_main_v180 (F := Ideal) (up p.D) (up p.X) (up p.Md) (row (p.G 0)) (up p.Wi) (up p.Cw) (up3 p.Wp) (row p.Ps) (up p.Wo) = up (dmix p) := by
  refine eq_up _ _ fun s c => ?_
  rw [val_main_v180, v178_up p]
  pointwise [val_main_v179, val_main_v116, val_main_v115, val_main_v2, val_main_cst_16, up]
  simp only [← EReal.coe_mul, ← EReal.coe_add, ← EReal.coe_sub, ← EReal.coe_neg, ← EReal.coe_one, ← EReal.coe_zero, ← coe_sum, dmix]

theorem v183_up : val_main_v183 (F := Ideal) (up p.D) (up p.X) (up p.Md) (row (p.G 0)) (up p.Wi) (up p.Cw) (up3 p.Wp) (row p.Ps) (up p.Wo) = row fun j => ∑ s, acc p s 4 j := by
  refine eq_up _ _ fun s c => ?_
  rw [val_main_v183, val_main_v182, val_main_v181, v178_up p, v112_up p]
  pointwise [val_main_cst_33, up]
  simp only [← EReal.coe_mul, ← EReal.coe_add, ← EReal.coe_sub, ← EReal.coe_neg, ← EReal.coe_one, ← EReal.coe_zero, ← coe_sum, acc]

theorem v185_up : val_main_v185 (F := Ideal) (up p.D) (up p.X) (up p.Md) (row (p.G 0)) (up p.Wi) (up p.Cw) (up3 p.Wp) (row p.Ps) (up p.Wo) = up fun s j => alpha * dr p s j := by
  refine eq_up _ _ fun s c => ?_
  rw [val_main_v185, v178_up p]
  pointwise [val_main_v184, val_main_cst_34, up]
  rw [ofBits_alpha]
  simp only [← EReal.coe_mul, ← EReal.coe_add, ← EReal.coe_sub, ← EReal.coe_neg, ← EReal.coe_one, ← EReal.coe_zero, ← coe_sum]

theorem v186_up : val_main_v186 (F := Ideal) (up p.D) (up p.X) (up p.Md) (row (p.G 0)) (up p.Wi) (up p.Cw) (up3 p.Wp) (row p.Ps) (up p.Wo) = up (dyc p) := by
  refine eq_up _ _ fun s c => ?_
  rw [val_main_v186, v180_up p]
  pointwise [up]
  simp only [← EReal.coe_mul, ← EReal.coe_add, ← EReal.coe_sub, ← EReal.coe_neg, ← EReal.coe_one, ← EReal.coe_zero, ← coe_sum, dyc]

theorem v187_up : val_main_v187 (F := Ideal) (up p.D) (up p.X) (up p.Md) (row (p.G 0)) (up p.Wi) (up p.Cw) (up3 p.Wp) (row p.Ps) (up p.Wo) = up fun s c => dyc p s (hf 0 c) := by
  refine eq_up _ _ fun s c => ?_
  rw [val_main_v187, v186_up p]
  pointwise [up]
  exact congrArg (fun k => ((dyc p s k : ℝ) : EReal)) (Fin.ext (by show c.val = 512 * 0 + c.val; omega))

theorem v188_up : val_main_v188 (F := Ideal) (up p.D) (up p.X) (up p.Md) (row (p.G 0)) (up p.Wi) (up p.Cw) (up3 p.Wp) (row p.Ps) (up p.Wo) = up fun s c => dyc p s (hf 1 c) := by
  refine eq_up _ _ fun s c => ?_
  rw [val_main_v188, v186_up p]
  pointwise [up]
  exact congrArg (fun k => ((dyc p s k : ℝ) : EReal)) (Fin.ext (by show 512 + c.val = 512 * 1 + c.val; omega))

theorem v191_up : val_main_v191 (F := Ideal) (up p.D) (up p.X) (up p.Md) (row (p.G 0)) (up p.Wi) (up p.Cw) (up3 p.Wp) (row p.Ps) (up p.Wo) = row fun c => ∑ s, gcw p s 3 c := by
  refine eq_up _ _ fun s c => ?_
  rw [val_main_v191, val_main_v190, val_main_v189, v108_up p, v188_up p]
  pointwise [val_main_cst_35, up]
  simp only [← EReal.coe_mul, ← EReal.coe_add, ← EReal.coe_sub, ← EReal.coe_neg, ← EReal.coe_one, ← EReal.coe_zero, ← coe_sum, gcw]
  rw [EReal.coe_eq_coe_iff]
  exact Finset.sum_congr rfl fun _ _ => by ring

theorem v193_up : val_main_v193 (F := Ideal) (up p.D) (up p.X) (up p.Md) (row (p.G 0)) (up p.Wi) (up p.Cw) (up3 p.Wp) (row p.Ps) (up p.Wo) = up fun s c => dyc p s (hf 1 c) * p.Ps c := by
  refine eq_up _ _ fun s c => ?_
  rw [val_main_v193, val_main_v192, v188_up p]
  pointwise [up]
  simp only [← EReal.coe_mul, ← EReal.coe_add, ← EReal.coe_sub, ← EReal.coe_neg, ← EReal.coe_one, ← EReal.coe_zero, ← coe_sum]

theorem v194_up : val_main_v194 (F := Ideal) (up p.D) (up p.X) (up p.Md) (row (p.G 0)) (up p.Wi) (up p.Cw) (up3 p.Wp) (row p.Ps) (up p.Wo) = up fun s c => dpw p s 0 c := by
  refine eq_up _ _ fun s c => ?_
  rw [val_main_v194, v193_up p]
  pointwise [up]
  exact congrArg (fun k => ((dyc p s (hf 1 k) * p.Ps k : ℝ) : EReal)) (Fin.ext (by show c.val = 128 * 0 + c.val; omega))

theorem v195_up : val_main_v195 (F := Ideal) (up p.D) (up p.X) (up p.Md) (row (p.G 0)) (up p.Wi) (up p.Cw) (up3 p.Wp) (row p.Ps) (up p.Wo) = up fun s c => dpw p s 1 c := by
  refine eq_up _ _ fun s c => ?_
  rw [val_main_v195, v193_up p]
  pointwise [up]
  exact congrArg (fun k => ((dyc p s (hf 1 k) * p.Ps k : ℝ) : EReal)) (Fin.ext (by show 128 + c.val = 128 * 1 + c.val; omega))

theorem v196_up : val_main_v196 (F := Ideal) (up p.D) (up p.X) (up p.Md) (row (p.G 0)) (up p.Wi) (up p.Cw) (up3 p.Wp) (row p.Ps) (up p.Wo) = up fun s c => dpw p s 2 c := by
  refine eq_up _ _ fun s c => ?_
  rw [val_main_v196, v193_up p]
  pointwise [up]
  exact congrArg (fun k => ((dyc p s (hf 1 k) * p.Ps k : ℝ) : EReal)) (Fin.ext (by show 256 + c.val = 128 * 2 + c.val; omega))

theorem v197_up : val_main_v197 (F := Ideal) (up p.D) (up p.X) (up p.Md) (row (p.G 0)) (up p.Wi) (up p.Cw) (up3 p.Wp) (row p.Ps) (up p.Wo) = up fun s c => dpw p s 3 c := by
  refine eq_up _ _ fun s c => ?_
  rw [val_main_v197, v193_up p]
  pointwise [up]
  exact congrArg (fun k => ((dyc p s (hf 1 k) * p.Ps k : ℝ) : EReal)) (Fin.ext (by show 384 + c.val = 128 * 3 + c.val; omega))

theorem v199_up : val_main_v199 (F := Ideal) (up p.D) (up p.X) (up p.Md) (row (p.G 0)) (up p.Wi) (up p.Cw) (up3 p.Wp) (row p.Ps) (up p.Wo) = up fun a b => ∑ s, gwp p s 3 a b := by
  refine eq_up _ _ fun s c => ?_
  rw [val_main_v199, val_main_v198, v197_up p, v104_up p]
  pointwise [up]
  simp only [← EReal.coe_mul, ← EReal.coe_add, ← EReal.coe_sub, ← EReal.coe_neg, ← EReal.coe_one, ← EReal.coe_zero, ← coe_sum, gwp]
  rw [EReal.coe_eq_coe_iff]
  exact Finset.sum_congr rfl fun _ _ => by ring

theorem v200_up : val_main_v200 (F := Ideal) (up p.D) (up p.X) (up p.Md) (row (p.G 0)) (up p.Wi) (up p.Cw) (up3 p.Wp) (row p.Ps) (up p.Wo) = up fun s c => dp p s 3 c := by
  refine eq_up _ _ fun s c => ?_
  rw [val_main_v200, v197_up p, v106_up p]
  pointwise [up]
  simp only [← EReal.coe_mul, ← EReal.coe_add, ← EReal.coe_sub, ← EReal.coe_neg, ← EReal.coe_one, ← EReal.coe_zero, ← coe_sum, dp]

theorem v203_up : val_main_v203 (F := Ideal) (up p.D) (up p.X) (up p.Md) (row (p.G 0)) (up p.Wi) (up p.Cw) (up3 p.Wp) (row p.Ps) (up p.Wo) = up fun s c => -dp p s 3 c := by
  refine eq_up _ _ fun s c => ?_
  rw [val_main_v203, v200_up p]
  pointwise [up]
  simp only [← EReal.coe_mul, ← EReal.coe_add, ← EReal.coe_sub, ← EReal.coe_neg, ← EReal.coe_one, ← EReal.coe_zero, ← coe_sum]

theorem v206_up : val_main_v206 (F := Ideal) (up p.D) (up p.X) (up p.Md) (row (p.G 0)) (up p.Wi) (up p.Cw) (up3 p.Wp) (row p.Ps) (up p.Wo) = up fun s c => dp p s 3 c / cnt (win 3) s := by
  refine eq_up _ _ fun s c => ?_
  rw [val_main_v206, val_main_v205, v200_up p, v100_up]
  pointwise [up]
  rw [div_real (cnt_ne _ (by decide) s)]

theorem v207_up : val_main_v207 (F := Ideal) (up p.D) (up p.X) (up p.Md) (row (p.G 0)) (up p.Wi) (up p.Cw) (up3 p.Wp) (row p.Ps) (up p.Wo) = up fun s c => -(dp p s 3 c / cnt (win 3) s) := by
  refine eq_up _ _ fun s c => ?_
  rw [val_main_v207, v206_up p]
  pointwise [up]
  simp only [← EReal.coe_mul, ← EReal.coe_add, ← EReal.coe_sub, ← EReal.coe_neg, ← EReal.coe_one, ← EReal.coe_zero, ← coe_sum]

theorem v215_up : val_main_v215 (F := Ideal) (up p.D) (up p.X) (up p.Md) (row (p.G 0)) (up p.Wi) (up p.Cw) (up3 p.Wp) (row p.Ps) (up p.Wo) = up fun a b => ∑ s, gwp p s 2 a b := by
  refine eq_up _ _ fun s c => ?_
  rw [val_main_v215, val_main_v214, v196_up p, v88_up p]
  pointwise [up]
  simp only [← EReal.coe_mul, ← EReal.coe_add, ← EReal.coe_sub, ← EReal.coe_neg, ← EReal.coe_one, ← EReal.coe_zero, ← coe_sum, gwp]
  rw [EReal.coe_eq_coe_iff]
  exact Finset.sum_congr rfl fun _ _ => by ring

theorem v216_up : val_main_v216 (F := Ideal) (up p.D) (up p.X) (up p.Md) (row (p.G 0)) (up p.Wi) (up p.Cw) (up3 p.Wp) (row p.Ps) (up p.Wo) = up fun s c => dp p s 2 c := by
  refine eq_up _ _ fun s c => ?_
  rw [val_main_v216, v196_up p, v90_up p]
  pointwise [up]
  simp only [← EReal.coe_mul, ← EReal.coe_add, ← EReal.coe_sub, ← EReal.coe_neg, ← EReal.coe_one, ← EReal.coe_zero, ← coe_sum, dp]

theorem v220_up : val_main_v220 (F := Ideal) (up p.D) (up p.X) (up p.Md) (row (p.G 0)) (up p.Wi) (up p.Cw) (up3 p.Wp) (row p.Ps) (up p.Wo) = up fun s c => -dp p s 2 c := by
  refine eq_up _ _ fun s c => ?_
  rw [val_main_v220, v216_up p]
  pointwise [up]
  simp only [← EReal.coe_mul, ← EReal.coe_add, ← EReal.coe_sub, ← EReal.coe_neg, ← EReal.coe_one, ← EReal.coe_zero, ← coe_sum]

theorem v224_up : val_main_v224 (F := Ideal) (up p.D) (up p.X) (up p.Md) (row (p.G 0)) (up p.Wi) (up p.Cw) (up3 p.Wp) (row p.Ps) (up p.Wo) = up fun s c => dp p s 2 c / cnt (win 2) s := by
  refine eq_up _ _ fun s c => ?_
  rw [val_main_v224, val_main_v223, v216_up p, v84_up]
  pointwise [up]
  rw [div_real (cnt_ne _ (by decide) s)]

theorem v225_up : val_main_v225 (F := Ideal) (up p.D) (up p.X) (up p.Md) (row (p.G 0)) (up p.Wi) (up p.Cw) (up3 p.Wp) (row p.Ps) (up p.Wo) = up fun s c => -(dp p s 2 c / cnt (win 2) s) := by
  refine eq_up _ _ fun s c => ?_
  rw [val_main_v225, v224_up p]
  pointwise [up]
  simp only [← EReal.coe_mul, ← EReal.coe_add, ← EReal.coe_sub, ← EReal.coe_neg, ← EReal.coe_one, ← EReal.coe_zero, ← coe_sum]

theorem v234_up : val_main_v234 (F := Ideal) (up p.D) (up p.X) (up p.Md) (row (p.G 0)) (up p.Wi) (up p.Cw) (up3 p.Wp) (row p.Ps) (up p.Wo) = up fun a b => ∑ s, gwp p s 1 a b := by
  refine eq_up _ _ fun s c => ?_
  rw [val_main_v234, val_main_v233, v195_up p, v72_up p]
  pointwise [up]
  simp only [← EReal.coe_mul, ← EReal.coe_add, ← EReal.coe_sub, ← EReal.coe_neg, ← EReal.coe_one, ← EReal.coe_zero, ← coe_sum, gwp]
  rw [EReal.coe_eq_coe_iff]
  exact Finset.sum_congr rfl fun _ _ => by ring

theorem v235_up : val_main_v235 (F := Ideal) (up p.D) (up p.X) (up p.Md) (row (p.G 0)) (up p.Wi) (up p.Cw) (up3 p.Wp) (row p.Ps) (up p.Wo) = up fun s c => dp p s 1 c := by
  refine eq_up _ _ fun s c => ?_
  rw [val_main_v235, v195_up p, v74_up p]
  pointwise [up]
  simp only [← EReal.coe_mul, ← EReal.coe_add, ← EReal.coe_sub, ← EReal.coe_neg, ← EReal.coe_one, ← EReal.coe_zero, ← coe_sum, dp]

theorem v239_up : val_main_v239 (F := Ideal) (up p.D) (up p.X) (up p.Md) (row (p.G 0)) (up p.Wi) (up p.Cw) (up3 p.Wp) (row p.Ps) (up p.Wo) = up fun s c => -dp p s 1 c := by
  refine eq_up _ _ fun s c => ?_
  rw [val_main_v239, v235_up p]
  pointwise [up]
  simp only [← EReal.coe_mul, ← EReal.coe_add, ← EReal.coe_sub, ← EReal.coe_neg, ← EReal.coe_one, ← EReal.coe_zero, ← coe_sum]

theorem v243_up : val_main_v243 (F := Ideal) (up p.D) (up p.X) (up p.Md) (row (p.G 0)) (up p.Wi) (up p.Cw) (up3 p.Wp) (row p.Ps) (up p.Wo) = up fun s c => dp p s 1 c / cnt (win 1) s := by
  refine eq_up _ _ fun s c => ?_
  rw [val_main_v243, val_main_v242, v235_up p, v68_up]
  pointwise [up]
  rw [div_real (cnt_ne _ (by decide) s)]

theorem v244_up : val_main_v244 (F := Ideal) (up p.D) (up p.X) (up p.Md) (row (p.G 0)) (up p.Wi) (up p.Cw) (up3 p.Wp) (row p.Ps) (up p.Wo) = up fun s c => -(dp p s 1 c / cnt (win 1) s) := by
  refine eq_up _ _ fun s c => ?_
  rw [val_main_v244, v243_up p]
  pointwise [up]
  simp only [← EReal.coe_mul, ← EReal.coe_add, ← EReal.coe_sub, ← EReal.coe_neg, ← EReal.coe_one, ← EReal.coe_zero, ← coe_sum]

theorem v253_up : val_main_v253 (F := Ideal) (up p.D) (up p.X) (up p.Md) (row (p.G 0)) (up p.Wi) (up p.Cw) (up3 p.Wp) (row p.Ps) (up p.Wo) = up fun a b => ∑ s, gwp p s 0 a b := by
  refine eq_up _ _ fun s c => ?_
  rw [val_main_v253, val_main_v252, v194_up p, v56_up p]
  pointwise [up]
  simp only [← EReal.coe_mul, ← EReal.coe_add, ← EReal.coe_sub, ← EReal.coe_neg, ← EReal.coe_one, ← EReal.coe_zero, ← coe_sum, gwp]
  rw [EReal.coe_eq_coe_iff]
  exact Finset.sum_congr rfl fun _ _ => by ring

theorem v254_up : val_main_v254 (F := Ideal) (up p.D) (up p.X) (up p.Md) (row (p.G 0)) (up p.Wi) (up p.Cw) (up3 p.Wp) (row p.Ps) (up p.Wo) = up fun s c => dp p s 0 c := by
  refine eq_up _ _ fun s c => ?_
  rw [val_main_v254, v194_up p, v58_up p]
  pointwise [up]
  simp only [← EReal.coe_mul, ← EReal.coe_add, ← EReal.coe_sub, ← EReal.coe_neg, ← EReal.coe_one, ← EReal.coe_zero, ← coe_sum, dp]

theorem v258_up : val_main_v258 (F := Ideal) (up p.D) (up p.X) (up p.Md) (row (p.G 0)) (up p.Wi) (up p.Cw) (up3 p.Wp) (row p.Ps) (up p.Wo) = up fun s c => -dp p s 0 c := by
  refine eq_up _ _ fun s c => ?_
  rw [val_main_v258, v254_up p]
  pointwise [up]
  simp only [← EReal.coe_mul, ← EReal.coe_add, ← EReal.coe_sub, ← EReal.coe_neg, ← EReal.coe_one, ← EReal.coe_zero, ← coe_sum]

theorem v262_up : val_main_v262 (F := Ideal) (up p.D) (up p.X) (up p.Md) (row (p.G 0)) (up p.Wi) (up p.Cw) (up3 p.Wp) (row p.Ps) (up p.Wo) = up fun s c => dp p s 0 c / cnt (win 0) s := by
  refine eq_up _ _ fun s c => ?_
  rw [val_main_v262, val_main_v261, v254_up p, v52_up]
  pointwise [up]
  rw [div_real (cnt_ne _ (by decide) s)]

theorem v263_up : val_main_v263 (F := Ideal) (up p.D) (up p.X) (up p.Md) (row (p.G 0)) (up p.Wi) (up p.Cw) (up3 p.Wp) (row p.Ps) (up p.Wo) = up fun s c => -(dp p s 0 c / cnt (win 0) s) := by
  refine eq_up _ _ fun s c => ?_
  rw [val_main_v263, v262_up p]
  pointwise [up]
  simp only [← EReal.coe_mul, ← EReal.coe_add, ← EReal.coe_sub, ← EReal.coe_neg, ← EReal.coe_one, ← EReal.coe_zero, ← coe_sum]

end Cert.Reference2Ideal.Stages

end
-- ==== Proof.MixPrep.lean ====
/- What the host's operations leave in the arrays they prepare for the mixing kernel: the reference's own stages. -/
module

public import proofs.«01_k».proof.Proof.Gen.Kernel2Ideal.Frame.Runs
public import proofs.«01_k».proof.Proof.RefMix2
public import proofs.«01_k».proof.Proof.MixLoads
public import Idealize.ShloMosaic.Lib.StableHlo.RunRead
public import Idealize.ShloMosaic.Lib.Claim

@[expose] public section

set_option maxRecDepth 16384

noncomputable section

namespace Cert.Kernel2Ideal.Arrays

open Cert.Kernel2Ideal Cert.Kernel2Ideal.Gen Cert.Kernel2Ideal.Block Cert.Reals Cert.Mix
open Idealize.ShloMosaic Idealize.SL.Sem Idealize.ShloMosaic.TcCoe
open Cert.Reference2Ideal.Read (val_main_v111 val_main_v108 val_main_v110 val_main_v46 val_main_v59 val_main_v62 val_main_v75 val_main_v78 val_main_v91 val_main_v94 val_main_v107 val_main_v8 val_main_v9 val_main_v13 val_main_v38 val_main_v39 val_main_v112 val_main_v137 val_main_v142)

variable (W : Valuation τ sig (Elt Ideal))

variable {W} (h12 : W (Proc.devRef .tc main_v12) = val_main_v13 (F := Ideal) (W (Proc.devRef .tc main_arg1)) (W (Proc.devRef .tc main_arg2)) (W (Proc.devRef .tc main_arg7))) (h36 : W (Proc.devRef .tc main_v36) = val_main_v38 (F := Ideal) (W (Proc.devRef .tc main_arg1)) (W (Proc.devRef .tc main_arg2)) (W (Proc.devRef .tc main_arg7)) (W (Proc.devRef .tc main_arg8))) (h37 : W (Proc.devRef .tc main_v37) = val_main_v39 (F := Ideal) (W (Proc.devRef .tc main_arg1)) (W (Proc.devRef .tc main_arg2)) (W (Proc.devRef .tc main_arg7)))

section
include h12 h37

theorem c44 : concatenate S8194x128 0 [⟨S2x128, StableHlo.upto hostOps0_2 W 8 (Proc.devRef .tc main_v42)⟩, ⟨S8192x128, StableHlo.upto hostOps0_2 W 8 (Proc.devRef .tc main_v43)⟩] concatenates_S2x128_S8192x128_S8194x128_d0
    = val_main_v46 (F := Ideal) (W (Proc.devRef .tc main_arg1)) (W (Proc.devRef .tc main_arg2)) (W (Proc.devRef .tc main_arg7)) := by
  refine congrArg₂ (fun a b => concatenate S8194x128 0 [⟨S2x128, a⟩, ⟨S8192x128, b⟩] concatenates_S2x128_S8192x128_S8194x128_d0) ?_ ?_
  · after_reads_simp
    rfl
  · after_reads_simp
    rw [h37]
    rfl

theorem u56 : StableHlo.upto hostOps0_2 W 73 (Proc.devRef .tc main_v56) = val_main_v59 (F := Ideal) (W (Proc.devRef .tc main_arg1)) (W (Proc.devRef .tc main_arg2)) (W (Proc.devRef .tc main_arg7)) (W (Proc.devRef .tc main_arg9)) := by
  after_reads_simp
  rw [c44 h12 h37, h37, h12]
  rfl

theorem c59 : concatenate S8196x128 0 [⟨S4x128, StableHlo.upto hostOps0_2 W 25 (Proc.devRef .tc main_v57)⟩, ⟨S8192x128, StableHlo.upto hostOps0_2 W 25 (Proc.devRef .tc main_v58)⟩] concatenates_S4x128_S8192x128_S8196x128_d0
    = val_main_v62 (F := Ideal) (W (Proc.devRef .tc main_arg1)) (W (Proc.devRef .tc main_arg2)) (W (Proc.devRef .tc main_arg7)) := by
  refine congrArg₂ (fun a b => concatenate S8196x128 0 [⟨S4x128, a⟩, ⟨S8192x128, b⟩] concatenates_S4x128_S8192x128_S8196x128_d0) ?_ ?_
  · after_reads_simp
    rfl
  · after_reads_simp
    rw [h37]
    rfl

theorem u71 : StableHlo.upto hostOps0_2 W 73 (Proc.devRef .tc main_v71) = val_main_v75 (F := Ideal) (W (Proc.devRef .tc main_arg1)) (W (Proc.devRef .tc main_arg2)) (W (Proc.devRef .tc main_arg7)) (W (Proc.devRef .tc main_arg9)) := by
  after_reads_simp
  rw [c59 h12 h37, h37, h12]
  rfl

theorem c74 : concatenate S8200x128 0 [⟨S8x128, StableHlo.upto hostOps0_2 W 42 (Proc.devRef .tc main_v72)⟩, ⟨S8192x128, StableHlo.upto hostOps0_2 W 42 (Proc.devRef .tc main_v73)⟩] concatenates_S8x128_S8192x128_S8200x128_d0
    = val_main_v78 (F := Ideal) (W (Proc.devRef .tc main_arg1)) (W (Proc.devRef .tc main_arg2)) (W (Proc.devRef .tc main_arg7)) := by
  refine congrArg₂ (fun a b => concatenate S8200x128 0 [⟨S8x128, a⟩, ⟨S8192x128, b⟩] concatenates_S8x128_S8192x128_S8200x128_d0) ?_ ?_
  · after_reads_simp
    rfl
  · after_reads_simp
    rw [h37]
    rfl

theorem u86 : StableHlo.upto hostOps0_2 W 73 (Proc.devRef .tc main_v86) = val_main_v91 (F := Ideal) (W (Proc.devRef .tc main_arg1)) (W (Proc.devRef .tc main_arg2)) (W (Proc.devRef .tc main_arg7)) (W (Proc.devRef .tc main_arg9)) := by
  after_reads_simp
  rw [c74 h12 h37, h37, h12]
  rfl

theorem c89 : concatenate S8208x128 0 [⟨S16x128, StableHlo.upto hostOps0_2 W 59 (Proc.devRef .tc main_v87)⟩, ⟨S8192x128, StableHlo.upto hostOps0_2 W 59 (Proc.devRef .tc main_v88)⟩] concatenates_S16x128_S8192x128_S8208x128_d0
    = val_main_v94 (F := Ideal) (W (Proc.devRef .tc main_arg1)) (W (Proc.devRef .tc main_arg2)) (W (Proc.devRef .tc main_arg7)) := by
  refine congrArg₂ (fun a b => concatenate S8208x128 0 [⟨S16x128, a⟩, ⟨S8192x128, b⟩] concatenates_S16x128_S8192x128_S8208x128_d0) ?_ ?_
  · after_reads_simp
    rfl
  · after_reads_simp
    rw [h37]
    rfl

theorem u101 : StableHlo.upto hostOps0_2 W 73 (Proc.devRef .tc main_v101) = val_main_v107 (F := Ideal) (W (Proc.devRef .tc main_arg1)) (W (Proc.devRef .tc main_arg2)) (W (Proc.devRef .tc main_arg7)) (W (Proc.devRef .tc main_arg9)) := by
  after_reads_simp
  rw [c89 h12 h37, h37, h12]
  rfl

theorem c102 : concatenate S8192x512 1 [⟨S8192x128, StableHlo.upto hostOps0_2 W 73 (Proc.devRef .tc main_v56)⟩, ⟨S8192x128, StableHlo.upto hostOps0_2 W 73 (Proc.devRef .tc main_v71)⟩, ⟨S8192x128, StableHlo.upto hostOps0_2 W 73 (Proc.devRef .tc main_v86)⟩, ⟨S8192x128, StableHlo.upto hostOps0_2 W 73 (Proc.devRef .tc main_v101)⟩] concatenates_S8192x128_S8192x128_S8192x128_S8192x128_S8192x512_d1
    = val_main_v108 (F := Ideal) (W (Proc.devRef .tc main_arg1)) (W (Proc.devRef .tc main_arg2)) (W (Proc.devRef .tc main_arg7)) (W (Proc.devRef .tc main_arg9)) := by
  rw [u56 h12 h37, u71 h12 h37, u86 h12 h37, u101 h12 h37]
  rfl

theorem u104 : StableHlo.upto hostOps0_2 W 76 (Proc.devRef .tc main_v104) = val_main_v110 (F := Ideal) (W (Proc.devRef .tc main_arg1)) (W (Proc.devRef .tc main_arg2)) (W (Proc.devRef .tc main_arg7)) (W (Proc.devRef .tc main_arg9)) (W (Proc.devRef .tc main_arg10)) := by
  after_reads_simp
  exact congrArg (fun t : FVec Ideal S8192x512 .f32 => mulf t (broadcastInDim S8192x512 ![0, 1] bcast_S1x512_S8192x512_0_1 (W (Proc.devRef .tc main_arg10)))) (c102 h12 h37)

end

include h12 h36 h37

theorem c105 : concatenate S8192x1024 1 [⟨S8192x512, StableHlo.upto hostOps0_2 W 76 (Proc.devRef .tc main_v36)⟩, ⟨S8192x512, StableHlo.upto hostOps0_2 W 76 (Proc.devRef .tc main_v104)⟩] concatenates_S8192x512_S8192x512_S8192x1024_d1
    = val_main_v111 (F := Ideal) (W (Proc.devRef .tc main_arg1)) (W (Proc.devRef .tc main_arg2)) (W (Proc.devRef .tc main_arg7)) (W (Proc.devRef .tc main_arg8)) (W (Proc.devRef .tc main_arg9)) (W (Proc.devRef .tc main_arg10)) := by
  refine congrArg₂ (fun a b => concatenate S8192x1024 1 [⟨S8192x512, a⟩, ⟨S8192x512, b⟩] concatenates_S8192x512_S8192x512_S8192x1024_d1) ?_ (u104 h12 h37)
  after_reads_simp
  exact h36

theorem s2_v106 : StableHlo.after hostOps0_2 W (Proc.devRef .tc main_v106) = val_main_v112 (F := Ideal) (W (Proc.devRef .tc main_arg1)) (W (Proc.devRef .tc main_arg2)) (W (Proc.devRef .tc main_arg7)) (W (Proc.devRef .tc main_arg8)) (W (Proc.devRef .tc main_arg9)) (W (Proc.devRef .tc main_arg10)) (W (Proc.devRef .tc main_arg11)) := by
  after_reads_simp
  rw [c105 h12 h36 h37]
  rfl

theorem s2_v128 : StableHlo.after hostOps0_2 W (Proc.devRef .tc main_v128) = val_main_v137 (F := Ideal) (W (Proc.devRef .tc main_arg1)) (W (Proc.devRef .tc main_arg2)) (W (Proc.devRef .tc main_arg7)) (W (Proc.devRef .tc main_arg8)) (W (Proc.devRef .tc main_arg9)) (W (Proc.devRef .tc main_arg10)) (W (Proc.devRef .tc main_arg11)) := by
  after_reads_simp
  rw [c105 h12 h36 h37]
  rfl

theorem s2_v133 : StableHlo.after hostOps0_2 W (Proc.devRef .tc main_v133) = val_main_v142 (F := Ideal) (W (Proc.devRef .tc main_arg1)) (W (Proc.devRef .tc main_arg2)) (W (Proc.devRef .tc main_arg7)) (W (Proc.devRef .tc main_arg8)) (W (Proc.devRef .tc main_arg9)) (W (Proc.devRef .tc main_arg10)) (W (Proc.devRef .tc main_arg11)) := by
  after_reads_simp
  rw [c105 h12 h36 h37]
  rfl

omit h12 h36 h37 in
theorem after_app (a b : List (HloOp τ sig (Elt Ideal))) : StableHlo.after (a ++ b) W = StableHlo.after b (StableHlo.after a W) := by
  induction a generalizing W with
  | nil => rfl
  | cons x l ih => exact ih

omit h12 h36 h37

variable (m : (ℓ : Loc nD τ sig) → Buf (Elt Ideal) ℓ) (c : Dev nD)

/-- The host's arrays before its last group of operations. -/
def st : Valuation τ sig (Elt Ideal) := StableHlo.after hostOps0_1 (StableHlo.after hostOps0 (fun b => m (c, b)))

theorem V_st (b : Ref sig .tc) : V m c b = StableHlo.after hostOps0_2 (st m c) (Proc.devRef .tc b) := by
  show StableHlo.after (hostOps0 ++ (hostOps0_1 ++ (hostOps0_2 ++ []))) (fun b => m (c, b)) (Proc.devRef .tc b) = _
  rw [after_app, after_app, List.append_nil]
  rfl

theorem st_arg1 : st m c (Proc.devRef .tc main_arg1) = m ((c : Thread nD τ).loc main_arg1) := by
  unfold st
  after_reads_simp

theorem st_arg2 : st m c (Proc.devRef .tc main_arg2) = m ((c : Thread nD τ).loc main_arg2) := by
  unfold st
  after_reads_simp

theorem st_arg7 : st m c (Proc.devRef .tc main_arg7) = m ((c : Thread nD τ).loc main_arg7) := by
  unfold st
  after_reads_simp

theorem st_arg8 : st m c (Proc.devRef .tc main_arg8) = m ((c : Thread nD τ).loc main_arg8) := by
  unfold st
  after_reads_simp

theorem st_arg9 : st m c (Proc.devRef .tc main_arg9) = m ((c : Thread nD τ).loc main_arg9) := by
  unfold st
  after_reads_simp

theorem st_arg10 : st m c (Proc.devRef .tc main_arg10) = m ((c : Thread nD τ).loc main_arg10) := by
  unfold st
  after_reads_simp

theorem st_arg11 : st m c (Proc.devRef .tc main_arg11) = m ((c : Thread nD τ).loc main_arg11) := by
  unfold st
  after_reads_simp

theorem st_v12 : st m c (Proc.devRef .tc main_v12) = val_main_v13 (F := Ideal) (st m c (Proc.devRef .tc main_arg1)) (st m c (Proc.devRef .tc main_arg2)) (st m c (Proc.devRef .tc main_arg7)) := by
  unfold st
  after_reads_simp
  rfl

theorem st_v36 : st m c (Proc.devRef .tc main_v36) = val_main_v38 (F := Ideal) (st m c (Proc.devRef .tc main_arg1)) (st m c (Proc.devRef .tc main_arg2)) (st m c (Proc.devRef .tc main_arg7)) (st m c (Proc.devRef .tc main_arg8)) := by
  unfold st
  after_reads_simp
  rfl

theorem st_v37 : st m c (Proc.devRef .tc main_v37) = val_main_v39 (F := Ideal) (st m c (Proc.devRef .tc main_arg1)) (st m c (Proc.devRef .tc main_arg2)) (st m c (Proc.devRef .tc main_arg7)) := by
  unfold st
  after_reads_simp
  rfl

theorem V_v106 : V m c main_v106 = val_main_v112 (F := Ideal) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) := by
  rw [V_st, s2_v106 (st_v12 m c) (st_v36 m c) (st_v37 m c), st_arg1, st_arg2, st_arg7, st_arg8, st_arg9, st_arg10, st_arg11]

theorem V_v128 : V m c main_v128 = val_main_v137 (F := Ideal) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) := by
  rw [V_st, s2_v128 (st_v12 m c) (st_v36 m c) (st_v37 m c), st_arg1, st_arg2, st_arg7, st_arg8, st_arg9, st_arg10, st_arg11]

theorem V_v133 : V m c main_v133 = val_main_v142 (F := Ideal) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) := by
  rw [V_st, s2_v133 (st_v12 m c) (st_v36 m c) (st_v37 m c), st_arg1, st_arg2, st_arg7, st_arg8, st_arg9, st_arg10, st_arg11]

end Cert.Kernel2Ideal.Arrays

end
-- ==== Proof.MixHost.lean ====
/- The arrays the host prepares for the mixing kernel, its arguments being real. -/
module

public import proofs.«01_k».proof.Proof.MixPrep
public import proofs.«01_k».proof.Proof.RefMix2
public import proofs.«01_k».proof.Proof.MixLoads
public import Idealize.ShloMosaic.Lib.Claim

@[expose] public section

set_option maxRecDepth 16384

noncomputable section

namespace Cert.Kernel2Ideal.Arrays

open Cert.Kernel2Ideal Cert.Kernel2Ideal.Gen Cert.Kernel2Ideal.Block Cert.Reals Cert.Mix
open Idealize.ShloMosaic Idealize.ShloMosaic.TcCoe

variable (m : (ℓ : Loc nD τ sig) → Buf (Elt Ideal) ℓ) (c : Dev nD) (p : Par)

/-- The twelve arguments are these real arrays. -/
structure Holds : Prop where
  a0 : m ((c : Thread nD τ).loc main_arg0) = up p.D
  a1 : m ((c : Thread nD τ).loc main_arg1) = up p.X
  a2 : m ((c : Thread nD τ).loc main_arg2) = up p.Md
  a3 : m ((c : Thread nD τ).loc main_arg3) = row (p.G 0)
  a4 : m ((c : Thread nD τ).loc main_arg4) = row (p.G 1)
  a5 : m ((c : Thread nD τ).loc main_arg5) = row (p.G 2)
  a6 : m ((c : Thread nD τ).loc main_arg6) = row (p.G 3)
  a7 : m ((c : Thread nD τ).loc main_arg7) = up p.Wi
  a8 : m ((c : Thread nD τ).loc main_arg8) = up p.Cw
  a9 : m ((c : Thread nD τ).loc main_arg9) = up3 p.Wp
  a10 : m ((c : Thread nD τ).loc main_arg10) = row p.Ps
  a11 : m ((c : Thread nD τ).loc main_arg11) = up p.Wo

variable {m c p} (H : Holds m c p)
include H

theorem host_mix : V m c main_v106 = (up (mix p) : S8192x1024.Idx → EReal) := by
  rw [← Cert.Reference2Ideal.Stages.v112_up p, ← H.a1, ← H.a2, ← H.a7, ← H.a8, ← H.a9, ← H.a10, ← H.a11]
  exact V_v106 m c

theorem host_xh : V m c main_v133 = (up (xh p) : S8192x1024.Idx → EReal) := by
  rw [← Cert.Reference2Ideal.Stages.v142_up p, ← H.a1, ← H.a2, ← H.a7, ← H.a8, ← H.a9, ← H.a10, ← H.a11]
  exact V_v133 m c

theorem host_rs : V m c main_v128 = (col (fun s => rs p s) : S8192x1.Idx → EReal) := by
  rw [← Cert.Reference2Ideal.Stages.v137_up p, ← H.a1, ← H.a2, ← H.a7, ← H.a8, ← H.a9, ← H.a10, ← H.a11]
  exact V_v128 m c

theorem host_z : V m c main_v134 = (up (z p) : S8192x2048.Idx → EReal) := by
  rw [← Cert.Reference2Ideal.Stages.v9_up p, ← H.a1, ← H.a2, ← H.a7]
  entry_read
  rfl

theorem host_wo : V m c main_v135 = (up p.Wo : S1024x1024.Idx → EReal) := by
  rw [← H.a11]
  entry_read
  rfl

theorem host_wi : V m c main_v136 = (up p.Wi : S1024x2048.Idx → EReal) := by
  rw [← H.a7]
  entry_read
  rfl

theorem host_rows : V m c main_v129 = (up p.G : S4x1024.Idx → EReal) := by
  entry_read
  show concatenate S4x1024 0 [⟨S1x1024, m ((c : Thread nD τ).loc main_arg3)⟩, ⟨S1x1024, m ((c : Thread nD τ).loc main_arg4)⟩,
    ⟨S1x1024, m ((c : Thread nD τ).loc main_arg5)⟩, ⟨S1x1024, m ((c : Thread nD τ).loc main_arg6)⟩] concatenates_S1x1024_S1x1024_S1x1024_S1x1024_S4x1024_d0 = _
  rw [H.a3, H.a4, H.a5, H.a6]
  refine eq_up _ _ fun k j => ?_
  fin_cases k <;> pointwise [up] <;> rfl

end Cert.Kernel2Ideal.Arrays

end
-- ==== Proof.MixArray.lean ====
/- What the mixing kernel's five result arrays hold, its arguments being real: the sub-layer's gradients at each token, and the sums
   over the tokens. The grid visits the blocks of tokens from the last to the first. -/
module

public import proofs.«01_k».proof.Proof.Gen.Kernel2Ideal.Value
public import proofs.«01_k».proof.Proof.MixBlock
public import proofs.«01_k».proof.Proof.MixHost
public import Idealize.ShloMosaic.Lib.Pipeline.ValueKit

@[expose] public section

set_option maxRecDepth 16384

noncomputable section

namespace Cert.Kernel2Ideal.Arrays

open Cert.Kernel2Ideal Cert.Kernel2Ideal.Gen Cert.Kernel2Ideal.Block Cert.Reals Cert.Mix
open Idealize.ShloMosaic Idealize.ShloMosaic.TcCoe Idealize.ShloMosaic.Pipeline

/-- The block of tokens a point handles. -/
def jt (t : Fin cfg0.N) : Fin 16 := ⟨15 - t.val, by omega⟩

theorem idxb : ∀ t : Fin cfg0.N, win0_0.index t = ![15 - t.val, 0] ∧ win0_1.index t = ![15 - t.val, 0] ∧ win0_2.index t = ![15 - t.val, 0]
    ∧ win0_3.index t = ![15 - t.val, 0] ∧ win0_4.index t = ![15 - t.val, 0] ∧ win0_5.index t = ![15 - t.val, 0]
    ∧ win0_6.index t = ![(15 - t.val) * 32 - 1, 0] :=
  (by decide +kernel : ∀ t : Fin grid0.N, _)
theorem idxw : ∀ t : Fin cfg0.N, win0_7.index t = ![0, 0] ∧ win0_8.index t = ![0, 0] ∧ win0_9.index t = ![0, 0] ∧ win0_10.index t = ![0, 0]
    ∧ win0_11.index t = ![0, 0] ∧ win0_12.index t = ![0, 0, 0] ∧ win0_13.index t = ![0, 0] :=
  (by decide +kernel : ∀ t : Fin grid0.N, _)
theorem idxo : ∀ t : Fin cfg0.N, win0_14.index t = ![15 - t.val, 0] ∧ win0_15.index t = ![15 - t.val, 0]
    ∧ win0_16.index t = ![0, 0] ∧ win0_17.index t = ![0, 0] ∧ win0_18.index t = ![0, 0, 0] :=
  (by decide +kernel : ∀ t : Fin grid0.N, _)
theorem hv : ∀ t : Fin cfg0.N, Scalar.subi 15#32 (BitVec.ofNat 32 (grid0.coords t 0).val) = bj (jt t) :=
  (by decide +kernel : ∀ t : Fin grid0.N, Scalar.subi 15#32 (BitVec.ofNat 32 (grid0.coords t 0).val) = BitVec.ofNat 32 (15 - t.val))

theorem last (t : Fin cfg0.N) (h : t.val % 16 = 15) : t.val = 15 := by
  have := lt_of_lt_of_eq t.isLt (show cfg0.N = 16 from N_0)
  omega

/-- A function's sum over the tokens of the first points. -/
def sums (f : Fin 8192 → ℝ) (n : ℕ) : ℝ := ∑ s : Fin 8192, if 8192 ≤ s.val + 512 * n then f s else 0

theorem sums_zero (f : Fin 8192 → ℝ) : sums f 0 = 0 :=
  Finset.sum_eq_zero fun s _ => if_neg (by have := s.isLt; omega)

/-- After the sixteen points the sums are over every token. -/
theorem sums_all (f : Fin 8192 → ℝ) : sums f (15 + 1) = ∑ s, f s :=
  Finset.sum_congr rfl fun s _ => if_pos (by omega)

theorem tok_val (j : Fin 16) (r : Fin 512) : (tok j r).val = 512 * j.val + r.val := rfl

theorem tok_inj (j : Fin 16) : Function.Injective (tok j) := fun a b h => by
  have := congrArg Fin.val h
  rw [tok_val, tok_val] at this
  exact Fin.ext (by omega)

/-- One point more: the sum over its tokens is added. -/
theorem sums_step (f : Fin 8192 → ℝ) (t : Fin cfg0.N) : sums f (t.val + 1) = sums f t.val + ∑ r, f (tok (jt t) r) := by
  have ht := lt_of_lt_of_eq t.isLt (show cfg0.N = 16 from N_0)
  have hj : (jt t).val = 15 - t.val := rfl
  have e : ∑ r, f (tok (jt t) r) = ∑ s ∈ Finset.univ.map ⟨tok (jt t), tok_inj _⟩, f s := by
    rw [Finset.sum_map]; rfl
  have e2 : Finset.univ.map ⟨tok (jt t), tok_inj _⟩
      = Finset.univ.filter fun s : Fin 8192 => 8192 ≤ s.val + 512 * (t.val + 1) ∧ s.val + 512 * t.val < 8192 := by
    ext s
    simp only [Finset.mem_map, Finset.mem_univ, true_and, Function.Embedding.coeFn_mk, Finset.mem_filter]
    constructor
    · rintro ⟨r, rfl⟩
      have := tok_val (jt t) r
      have := r.isLt
      omega
    · intro h
      exact ⟨⟨s.val - 512 * (15 - t.val), by omega⟩, Fin.ext (by rw [tok_val, hj]; dsimp only; omega)⟩
  rw [e, e2, Finset.sum_filter]
  unfold sums
  rw [← Finset.sum_add_distrib]
  refine Finset.sum_congr rfl fun s _ => ?_
  by_cases h1 : 8192 ≤ s.val + 512 * t.val
  · rw [if_pos (by omega), if_pos h1, if_neg (by omega), add_zero]
  · by_cases h2 : 8192 ≤ s.val + 512 * (t.val + 1)
    · rw [if_pos h2, if_neg h1, if_pos ⟨h2, by omega⟩, zero_add]
    · rw [if_neg h2, if_neg h1, if_neg (by omega), add_zero]

variable (m : (ℓ : Loc nD τ sig) → Buf (Elt Ideal) ℓ) (c : Dev nD) (p : Par)

/-- The blocks a point leaves: two of functions of its tokens, three of sums, and the rows kept for the next point. -/
abbrev Left (j : Fin 16) (U : Fin 8 → Fin 1024 → ℝ) (V : Fin 8 → Fin 512 → ℝ) (W : Fin 4 → Fin 128 → Fin 128 → ℝ) :
    Vec Ideal S512x1024 .f32 × Vec Ideal S512x4096 .bf16
      × Vec Ideal S8x1024 .f32 × Vec Ideal S8x512 .f32 × Vec Ideal S4x128x128 .f32 × Vec Ideal S528x1024 .f32 :=
  (bdx p j, bthree p j, up U, up V, up3 W, up (kept p j))

variable {m c p} (H : Holds m c p) (t : Fin cfg0.N)
include H

theorem host_D : V m c main_arg0 = (up p.D : S8192x1024.Idx → EReal) := by
  rw [← H.a0]
  entry_read
  rfl

theorem host_X : V m c main_arg1 = (up p.X : S8192x1024.Idx → EReal) := by
  rw [← H.a1]
  entry_read
  rfl

theorem host_Md : V m c main_arg2 = (up p.Md : S6x1024.Idx → EReal) := by
  rw [← H.a2]
  entry_read
  rfl

theorem host_cw : V m c main_arg8 = (up p.Cw : S3x512.Idx → EReal) := by
  rw [← H.a8]
  entry_read
  rfl

theorem host_ps : V m c main_arg10 = (row p.Ps : S1x512.Idx → EReal) := by
  rw [← H.a10]
  entry_read
  rfl

theorem host_wp : V m c main_arg9 = (up3 p.Wp : S4x128x128.Idx → EReal) := by
  rw [← H.a9]
  entry_read
  rfl

theorem ib0 : iblk m c 0 t = (bD p (jt t) : S512x1024.Idx → EReal) := by
  have e : iblk m c 0 t = fun i => V m c main_arg0 (ix2 (tok (jt t) (i 0)) (i 1)) := by
    funext i
    show V m c main_arg0 _ = V m c main_arg0 _
    generalize V m c main_arg0 = y
    blk_ext [(idxb t).1, tok, jt]
  rw [e, host_D H]
  rfl

theorem ib1 : iblk m c 1 t = (bxh p (jt t) : S512x1024.Idx → EReal) := by
  have e : iblk m c 1 t = fun i => V m c main_v133 (ix2 (tok (jt t) (i 0)) (i 1)) := by
    funext i
    show V m c main_v133 _ = V m c main_v133 _
    generalize V m c main_v133 = y
    blk_ext [(idxb t).2.1, tok, jt]
  rw [e, host_xh H]
  rfl

theorem ib2 : iblk m c 2 t = (brs p (jt t) : S512x1.Idx → EReal) := by
  have e : iblk m c 2 t = fun i => V m c main_v128 (ix2 (tok (jt t) (i 0)) (i 1)) := by
    funext i
    show V m c main_v128 _ = V m c main_v128 _
    generalize V m c main_v128 = y
    blk_ext [(idxb t).2.2.1, tok, jt]
  rw [e, host_rs H]
  rfl

theorem ib3 : iblk m c 3 t = (bX p (jt t) : S512x1024.Idx → EReal) := by
  have e : iblk m c 3 t = fun i => V m c main_arg1 (ix2 (tok (jt t) (i 0)) (i 1)) := by
    funext i
    show V m c main_arg1 _ = V m c main_arg1 _
    generalize V m c main_arg1 = y
    blk_ext [(idxb t).2.2.2.1, tok, jt]
  rw [e, host_X H]
  rfl

theorem ib4 : iblk m c 4 t = (bmix p (jt t) : S512x1024.Idx → EReal) := by
  have e : iblk m c 4 t = fun i => V m c main_v106 (ix2 (tok (jt t) (i 0)) (i 1)) := by
    funext i
    show V m c main_v106 _ = V m c main_v106 _
    generalize V m c main_v106 = y
    blk_ext [(idxb t).2.2.2.2.1, tok, jt]
  rw [e, host_mix H]
  rfl

theorem ib5 : iblk m c 5 t = (bz p (jt t) : S512x2048.Idx → EReal) := by
  have e : iblk m c 5 t = fun i => V m c main_v134 (ix2 (tok (jt t) (i 0)) (i 1)) := by
    funext i
    show V m c main_v134 _ = V m c main_v134 _
    generalize V m c main_v134 = y
    blk_ext [(idxb t).2.2.2.2.2.1, tok, jt]
  rw [e, host_z H]
  rfl

theorem ib6 : iblk m c 6 t = (bzh p (jt t) : S16x2048.Idx → EReal) := by
  have e : iblk m c 6 t = fun i => V m c main_v134 (ix2 (htok (jt t) (i 0)) (i 1)) := by
    funext i
    show V m c main_v134 _ = V m c main_v134 _
    generalize V m c main_v134 = y
    blk_ext [(idxb t).2.2.2.2.2.2, htok, jt]
  rw [e, host_z H]
  rfl

theorem ib7 : iblk m c 7 t = (up p.Md : S6x1024.Idx → EReal) := by
  rw [← host_Md H]
  funext i
  show V m c main_arg2 _ = V m c main_arg2 _
  generalize V m c main_arg2 = y
  blk_ext [(idxw t).1]

theorem ib8 : iblk m c 8 t = (up p.G : S4x1024.Idx → EReal) := by
  rw [← host_rows H]
  funext i
  show V m c main_v129 _ = V m c main_v129 _
  generalize V m c main_v129 = y
  blk_ext [(idxw t).2.1]

theorem ib9 : iblk m c 9 t = (up p.Wo : S1024x1024.Idx → EReal) := by
  rw [← host_wo H]
  funext i
  show V m c main_v135 _ = V m c main_v135 _
  generalize V m c main_v135 = y
  blk_ext [(idxw t).2.2.1]

theorem ib10 : iblk m c 10 t = (up p.Wi : S1024x2048.Idx → EReal) := by
  rw [← host_wi H]
  funext i
  show V m c main_v136 _ = V m c main_v136 _
  generalize V m c main_v136 = y
  blk_ext [(idxw t).2.2.2.1]

theorem ib11 : iblk m c 11 t = (up p.Cw : S3x512.Idx → EReal) := by
  rw [← host_cw H]
  funext i
  show V m c main_arg8 _ = V m c main_arg8 _
  generalize V m c main_arg8 = y
  blk_ext [(idxw t).2.2.2.2.1]

theorem ib12 : iblk m c 12 t = (up3 p.Wp : S4x128x128.Idx → EReal) := by
  rw [← host_wp H]
  funext i
  show V m c main_arg9 _ = V m c main_arg9 _
  generalize V m c main_arg9 = y
  blk_ext [(idxw t).2.2.2.2.2.1]

theorem ib13 : iblk m c 13 t = (row p.Ps : S1x512.Idx → EReal) := by
  rw [← host_ps H]
  funext i
  show V m c main_arg10 _ = V m c main_arg10 _
  generalize V m c main_arg10 = y
  blk_ext [(idxw t).2.2.2.2.2.2]

theorem outs_A (h0 : t.val % 16 = 0) :
    outsAt0 m c t.val t.isLt = Left p (jt t) (fun k c => 0 + ∑ r, acc p (tok (jt t) r) k c) (fun k c => 0 + ∑ r, gcw p (tok (jt t) r) k c)
      (fun g a b => 0 + ∑ r, gwp p (tok (jt t) r) g a b) := by
  obtain ⟨h14, h15, h16, h17, h18, hs⟩ := left_A p (jt t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) ((hcond0_0 t).mpr h0) (hv t) (by show 15 - t.val = 15; have := lt_of_lt_of_eq t.isLt (show cfg0.N = 16 from N_0); omega)
  rw [outsAt0_A m c t h0, ib0 H t, ib1 H t, ib2 H t, ib3 H t, ib4 H t, ib5 H t, ib6 H t, ib7 H t, ib8 H t, ib9 H t, ib10 H t, ib11 H t, ib12 H t, ib13 H t, h14, h15, h16, h17, h18, hs]
  rfl

theorem outs_B (h0 : ¬t.val % 16 = 0) (k : Fin 16) (U : Fin 8 → Fin 1024 → ℝ) (V : Fin 8 → Fin 512 → ℝ) (W : Fin 4 → Fin 128 → Fin 128 → ℝ)
    (hk : k.val = (jt t).val + 1) (hL : outsAt0 m c (t.val - 1) (Nat.lt_of_le_of_lt (Nat.sub_le _ _) t.isLt) = Left p k U V W) :
    outsAt0 m c t.val t.isLt = Left p (jt t) (fun k c => U k c + ∑ r, acc p (tok (jt t) r) k c) (fun k c => V k c + ∑ r, gcw p (tok (jt t) r) k c)
      (fun g a b => W g a b + ∑ r, gwp p (tok (jt t) r) g a b) := by
  obtain ⟨h14, h15, h16, h17, h18, hs⟩ := left_B p (jt t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) k U V W (fun h => h0 ((hcond0_0 t).mp h)) (hv t) hk
  rw [outsAt0_B m c t h0, hL, ib0 H t, ib1 H t, ib2 H t, ib3 H t, ib4 H t, ib5 H t, ib6 H t, ib7 H t, ib8 H t, ib9 H t, ib10 H t, ib11 H t, ib12 H t, ib13 H t, h14, h15, h16, h17, h18, hs]
  rfl

/-- Every point leaves its tokens' blocks, the sums over all the tokens up to its own, and its first rows for the next point. -/
theorem outs (n : ℕ) : ∀ hn : n < cfg0.N, outsAt0 m c n hn = Left p (jt ⟨n, hn⟩) (fun k c => sums (fun s => acc p s k c) (n + 1))
    (fun k c => sums (fun s => gcw p s k c) (n + 1)) (fun g a b => sums (fun s => gwp p s g a b) (n + 1)) := by
  have st : ∀ (n : ℕ) (hn : n < cfg0.N) (f : Fin 8192 → ℝ), sums f n + ∑ r, f (tok (jt ⟨n, hn⟩) r) = sums f (n + 1) :=
    fun n hn f => (sums_step f ⟨n, hn⟩).symm
  induction n with
  | zero =>
    intro hn
    refine (outs_A H ⟨0, hn⟩ rfl).trans ?_
    have z : ∀ f : Fin 8192 → ℝ, 0 + ∑ r, f (tok (jt ⟨0, hn⟩) r) = sums f (0 + 1) := fun f => by rw [← st 0 hn f, sums_zero]
    exact congrArg₂ (fun U y => (bdx p _, bthree p _, up U, y)) (funext fun k => funext fun c => z fun s => acc p s k c)
      (congrArg₂ (fun V y => (up V, y)) (funext fun k => funext fun c => z fun s => gcw p s k c)
        (congrArg (fun W => (up3 W, up (kept p _))) (funext fun g => funext fun a => funext fun b => z fun s => gwp p s g a b)))
  | succ n ih =>
    intro hn
    have h16 := lt_of_lt_of_eq hn (show cfg0.N = 16 from N_0)
    refine (outs_B H ⟨n + 1, hn⟩ (show ¬(n + 1) % 16 = 0 by omega) _ _ _ _ (show 15 - n = 15 - (n + 1) + 1 by omega)
      (ih (Nat.lt_of_succ_lt hn))).trans ?_
    exact congrArg₂ (fun U y => (bdx p _, bthree p _, up U, y)) (funext fun k => funext fun c => st _ hn fun s => acc p s k c)
      (congrArg₂ (fun V y => (up V, y)) (funext fun k => funext fun c => st _ hn fun s => gcw p s k c)
        (congrArg (fun W => (up3 W, up (kept p _))) (funext fun g => funext fun a => funext fun b => st _ hn fun s => gwp p s g a b)))

theorem arr14 : (dats m 0 c).arrAt 14 cfg0.N = (up fun s => dx p s : S8192x1024.Idx → EReal) := by
  refine (dats m 0 c).arrAt_eq_of_covers 14 _ (by decide +kernel) fun t _ y => ?_
  blk_simp
  rw [after0_14, outs H]
  have e : (win0_14.blk t).view.emb y = (ix2 (tok (jt t) (y 0)) (y 1) : S8192x1024.Idx) := by
    blk_ext [(idxo t).1, tok, jt]
  exact (congrArg (up fun s => dx p s : S8192x1024.Idx → EReal) e).symm

theorem arr15 : (dats m 0 c).arrAt 15 cfg0.N = (up fun s => three p s : S8192x4096.Idx → EReal) := by
  refine (dats m 0 c).arrAt_eq_of_covers 15 _ (by decide +kernel) fun t _ y => ?_
  blk_simp
  rw [after0_15, outs H]
  have e : (win0_15.blk t).view.emb y = (ix2 (tok (jt t) (y 0)) (y 1) : S8192x4096.Idx) := by
    blk_ext [(idxo t).2.1, tok, jt]
  exact (congrArg (up fun s => three p s : S8192x4096.Idx → EReal) e).symm

theorem arr16 : (dats m 0 c).arrAt 16 cfg0.N = (up fun k c => ∑ s, acc p s k c : S8x1024.Idx → EReal) := by
  refine (dats m 0 c).arrAt_eq_of_covers 16 _ (by decide +kernel) fun t hf y => ?_
  have h15 := last t ((flush0_16 t).mp hf)
  blk_simp
  rw [after0_16, outs H]
  have e : (win0_16.blk t).view.emb y = (ix2 (y 0) (y 1) : S8x1024.Idx) := by
    blk_ext [(idxo t).2.2.1]
  have e2 : (fun k c => sums (fun s => acc p s k c) (t.val + 1)) = fun k c => ∑ s, acc p s k c := by
    funext k c; rw [h15]; exact sums_all _
  refine (congrFun (congrArg up e2) _).trans ?_
  exact (congrArg (up fun k c => ∑ s, acc p s k c : S8x1024.Idx → EReal) e).symm

theorem arr17 : (dats m 0 c).arrAt 17 cfg0.N = (up fun k c => ∑ s, gcw p s k c : S8x512.Idx → EReal) := by
  refine (dats m 0 c).arrAt_eq_of_covers 17 _ (by decide +kernel) fun t hf y => ?_
  have h15 := last t ((flush0_17 t).mp hf)
  blk_simp
  rw [after0_17, outs H]
  have e : (win0_17.blk t).view.emb y = (ix2 (y 0) (y 1) : S8x512.Idx) := by
    blk_ext [(idxo t).2.2.2.1]
  have e2 : (fun k c => sums (fun s => gcw p s k c) (t.val + 1)) = fun k c => ∑ s, gcw p s k c := by
    funext k c; rw [h15]; exact sums_all _
  refine (congrFun (congrArg up e2) _).trans ?_
  exact (congrArg (up fun k c => ∑ s, gcw p s k c : S8x512.Idx → EReal) e).symm

theorem arr18 : (dats m 0 c).arrAt 18 cfg0.N = (up3 fun g a b => ∑ s, gwp p s g a b : S4x128x128.Idx → EReal) := by
  refine (dats m 0 c).arrAt_eq_of_covers 18 _ (by decide +kernel) fun t hf y => ?_
  have h15 := last t ((flush0_18 t).mp hf)
  blk_simp
  rw [after0_18, outs H]
  have e : (win0_18.blk t).view.emb y = (ix3 (y 0) (y 1) (y 2) : S4x128x128.Idx) := by
    blk_ext [(idxo t).2.2.2.2]
  have e2 : (fun g a b => sums (fun s => gwp p s g a b) (t.val + 1)) = fun g a b => ∑ s, gwp p s g a b := by
    funext g a b; rw [h15]; exact sums_all _
  refine (congrFun (congrArg up3 e2) _).trans ?_
  exact (congrArg (up3 fun g a b => ∑ s, gwp p s g a b : S4x128x128.Idx → EReal) e).symm

end Cert.Kernel2Ideal.Arrays

end
-- ==== Proof.RefMix3.lean ====
/- What the reference's backward stages compute after the averages' gradient: padded pieces added up, and the results. -/
module

public import Idealize.ShloMosaic.Lib.KernelVsHost
public import proofs.«01_k».proof.Proof.RefMix2

@[expose] public section

set_option maxRecDepth 16384

noncomputable section

namespace Cert.Reference2Ideal.Stages

open Cert.Reference2Ideal Cert.Reference2Ideal.Gen Cert.Reference2Ideal.Read Cert.Reals Cert.Mix Idealize.ShloMosaic

variable (p : Par)

/-- A piece of a larger array, zero outside it. -/
def pc {n m N M : ℕ} (A : Fin n → Fin m → ℝ) (l0 l1 : ℕ) (s : Fin N) (k : Fin M) : ℝ :=
  if g : (l0 ≤ s.val ∧ s.val - l0 < n) ∧ (l1 ≤ k.val ∧ k.val - l1 < m) then A ⟨s.val - l0, g.1.2⟩ ⟨k.val - l1, g.2.2⟩ else 0

theorem pc_hit {n m N M : ℕ} (A : Fin n → Fin m → ℝ) (l0 l1 : ℕ) (s : Fin N) (k : Fin M) (a : Fin n) (b : Fin m)
    (ha : s.val = l0 + a.val) (hb : k.val = l1 + b.val) : pc A l0 l1 s k = A a b := by
  unfold pc
  rw [dif_pos (by omega)]
  exact congrArg₂ A (Fin.ext (by show s.val - l0 = a.val; omega)) (Fin.ext (by show k.val - l1 = b.val; omega))

theorem pc_miss {n m N M : ℕ} (A : Fin n → Fin m → ℝ) (l0 l1 : ℕ) (s : Fin N) (k : Fin M)
    (h : s.val < l0 ∨ l0 + n ≤ s.val ∨ k.val < l1 ∨ l1 + m ≤ k.val) : pc A l0 l1 s k = 0 := by
  unfold pc
  rw [dif_neg (by omega)]

/-- A padded array is its piece of the larger one. -/
theorem pad_up {n m N M : ℕ} (A : Fin n → Fin m → ℝ) (l0 l1 h0 h1 : ℕ) (v : Routing.shape0.Idx → EReal) (hv : ∀ i, v i = 0)
    (h : (⟨2, ![n, m]⟩ : Shape).Pads ![l0, l1] ![h0, h1] ![0, 0] ⟨2, ![N, M]⟩) (hu : 0 < Routing.shape0.numel) :
    pad ⟨2, ![N, M]⟩ ![l0, l1] ![h0, h1] ![0, 0] (up A) v h hu = up (pc A l0 l1) := by
  refine eq_up _ _ fun s k => ?_
  by_cases g0 : l0 ≤ s.val ∧ s.val - l0 < n
  · by_cases g1 : l1 ≤ k.val ∧ k.val - l1 < m
    · rw [pc_hit A l0 l1 s k ⟨s.val - l0, g0.2⟩ ⟨k.val - l1, g1.2⟩ (by show s.val = l0 + (s.val - l0); omega) (by show k.val = l1 + (k.val - l1); omega)]
      exact pad_apply_of_inside _ _ _ (up A) v h hu (ix2 s k) (ix2 ⟨s.val - l0, g0.2⟩ ⟨k.val - l1, g1.2⟩) fun a => match a with
        | ⟨0, _⟩ => by show s.val = l0 + (s.val - l0) * (0 + 1); omega
        | ⟨1, _⟩ => by show k.val = l1 + (k.val - l1) * (0 + 1); omega
    · rw [pc_miss A l0 l1 s k (by omega), EReal.coe_zero]
      refine (pad_apply_of_not_inside _ _ _ (up A) v h hu (ix2 s k) 1 ?_).trans (hv _)
      rintro ⟨x, -, y⟩
      change l1 ≤ k.val at x
      change (k.val - l1) / (0 + 1) < m at y
      rw [Nat.zero_add, Nat.div_one] at y
      exact g1 ⟨x, y⟩
  · rw [pc_miss A l0 l1 s k (by omega), EReal.coe_zero]
    refine (pad_apply_of_not_inside _ _ _ (up A) v h hu (ix2 s k) 0 ?_).trans (hv _)
    rintro ⟨x, -, y⟩
    change l0 ≤ s.val at x
    change (s.val - l0) / (0 + 1) < n at y
    rw [Nat.zero_add, Nat.div_one] at y
    exact g0 ⟨x, y⟩

/-- A matrix padded into a stack is that matrix at its place. -/
theorem pad_up3 {n m M : ℕ} (A : Fin n → Fin m → ℝ) (l h0 : ℕ) (v : Routing.shape0.Idx → EReal) (hv : ∀ i, v i = 0)
    (h : (⟨3, ![1, n, m]⟩ : Shape).Pads ![l, 0, 0] ![h0, 0, 0] ![0, 0, 0] ⟨3, ![M, n, m]⟩) (hu : 0 < Routing.shape0.numel) :
    pad ⟨3, ![M, n, m]⟩ ![l, 0, 0] ![h0, 0, 0] ![0, 0, 0] (up3 fun _ : Fin 1 => A) v h hu
      = up3 fun t a b => if t.val = l then A a b else 0 := by
  funext i
  obtain ⟨t, a, b, rfl⟩ : ∃ (t : Fin M) (a : Fin n) (b : Fin m), i = ix3 t a b := ⟨i 0, i 1, i 2, eq_ix3 i⟩
  show _ = (((if t.val = l then A a b else 0 : ℝ)) : EReal)
  by_cases g : t.val = l
  · rw [if_pos g]
    exact pad_apply_of_inside _ _ _ (up3 fun _ : Fin 1 => A) v h hu (ix3 t a b) (ix3 0 a b) fun x => match x with
      | ⟨0, _⟩ => by show t.val = l + 0 * (0 + 1); omega
      | ⟨1, _⟩ => by show a.val = 0 + a.val * (0 + 1); omega
      | ⟨2, _⟩ => by show b.val = 0 + b.val * (0 + 1); omega
  · rw [if_neg g, EReal.coe_zero]
    refine (pad_apply_of_not_inside _ _ _ (up3 fun _ : Fin 1 => A) v h hu (ix3 t a b) 0 ?_).trans (hv _)
    rintro ⟨x, -, y⟩
    change l ≤ t.val at x
    change (t.val - l) / (0 + 1) < 1 at y
    rw [Nat.zero_add, Nat.div_one] at y
    omega

/-- Four pieces side by side, added: at a column the piece that has it. -/
theorem pc_four {N m M : ℕ} (A : Fin 4 → Fin N → Fin m → ℝ) (l1 l2 l3 : ℕ) (e1 : l1 = m) (e2 : l2 = 2 * m) (e3 : l3 = 3 * m)
    (s : Fin N) (k : Fin M) (g : Fin 4) (c : Fin m) (hk : k.val = g.val * m + c.val) :
    pc (A 3) 0 l3 s k + pc (A 2) 0 l2 s k + pc (A 1) 0 l1 s k + pc (A 0) 0 0 s k = A g s c := by
  have hc := c.isLt
  have hit : ∀ (i : Fin 4) (l : ℕ), k.val = l + c.val → pc (A i) 0 l s k = A i s c := fun i l h => pc_hit _ _ _ _ _ s c (by omega) h
  have miss : ∀ (i : Fin 4) (l : ℕ), k.val < l ∨ l + m ≤ k.val → pc (A i) 0 l s k = 0 := fun i l h => pc_miss _ _ _ _ _ (by omega)
  match g with
  | 0 => rw [hit 0 0 (by change k.val = 0 * m + c.val at hk; omega), miss 1 l1 (by change k.val = 0 * m + c.val at hk; omega), miss 2 l2 (by change k.val = 0 * m + c.val at hk; omega), miss 3 l3 (by change k.val = 0 * m + c.val at hk; omega)]; ring
  | 1 => rw [miss 0 0 (by change k.val = 1 * m + c.val at hk; omega), hit 1 l1 (by change k.val = 1 * m + c.val at hk; omega), miss 2 l2 (by change k.val = 1 * m + c.val at hk; omega), miss 3 l3 (by change k.val = 1 * m + c.val at hk; omega)]; ring
  | 2 => rw [miss 0 0 (by change k.val = 2 * m + c.val at hk; omega), miss 1 l1 (by change k.val = 2 * m + c.val at hk; omega), hit 2 l2 (by change k.val = 2 * m + c.val at hk; omega), miss 3 l3 (by change k.val = 2 * m + c.val at hk; omega)]; ring
  | 3 => rw [miss 0 0 (by change k.val = 3 * m + c.val at hk; omega), miss 1 l1 (by change k.val = 3 * m + c.val at hk; omega), miss 2 l2 (by change k.val = 3 * m + c.val at hk; omega), hit 3 l3 (by change k.val = 3 * m + c.val at hk; omega)]; ring

theorem pc_groups (A : Fin 4 → Fin 8192 → Fin 128 → ℝ) (s : Fin 8192) (k : Fin 512) :
    pc (A 3) 0 384 s k + pc (A 2) 0 256 s k + pc (A 1) 0 128 s k + pc (A 0) 0 0 s k = A (grp k) s (low k) :=
  pc_four A 128 256 384 (by norm_num) (by norm_num) (by norm_num) s k (grp k) (low k) (by show k.val = k.val / 128 * 128 + k.val % 128; omega)

theorem pc_quarters (a b c d : Fin 8192 → Fin 512 → ℝ) (s : Fin 8192) (k : Fin 2048) :
    pc d 0 1536 s k + pc c 0 1024 s k + pc b 0 512 s k + pc a 0 0 s k = four (a s) (b s) (c s) (d s) k := by
  have e := fun g c' => pc_four (![a, b, c, d] : Fin 4 → Fin 8192 → Fin 512 → ℝ) 512 1024 1536 (by norm_num) (by norm_num) (by norm_num) s k g c'
  change ∀ (g : Fin 4) (c' : Fin 512), _ → pc d 0 1536 s k + pc c 0 1024 s k + pc b 0 512 s k + pc a 0 0 s k = _ at e
  unfold four
  by_cases h0 : k.val < 512
  · rw [dif_pos h0]
    exact e 0 ⟨k.val, h0⟩ (by show k.val = 0 * 512 + k.val; omega)
  rw [dif_neg h0]
  by_cases h1 : k.val < 1024
  · rw [dif_pos h1]
    exact e 1 ⟨k.val - 512, by omega⟩ (by show k.val = 1 * 512 + (k.val - 512); omega)
  rw [dif_neg h1]
  by_cases h2 : k.val < 1536
  · rw [dif_pos h2]
    exact e 2 ⟨k.val - 1024, by omega⟩ (by show k.val = 2 * 512 + (k.val - 1024); omega)
  · rw [dif_neg h2]
    exact e 3 ⟨k.val - 1536, by omega⟩ (by show k.val = 3 * 512 + (k.val - 1536); omega)

/-- A padded product along the sequence is the product at the token moved. -/
theorem pc_ext {n : ℕ} (f : Fin 8192 → Fin n → ℝ) (w : Fin n → ℝ) (l : ℕ) (t : Fin 8194) (c : Fin n) :
    pc (fun s c => f s c * w c) l 0 t c = ext f ((t.val : ℤ) - l) c * w c := by
  by_cases h : l ≤ t.val ∧ t.val - l < 8192
  · rw [pc_hit _ l 0 t c ⟨t.val - l, h.2⟩ c (by show t.val = l + (t.val - l); omega) (by omega),
      ext_of f _ ⟨t.val - l, h.2⟩ (by show (t.val : ℤ) - l = ((t.val - l : ℕ) : ℤ); omega)]
  · rw [pc_miss _ l 0 t c (by omega), ext_out f _ (by omega), zero_mul]

/-- A group's negated quotients moved back by its window, zero past the end. -/
def shg (g : Fin 4) (s : Fin 8192) (c : Fin 128) : ℝ :=
  if h : s.val + win g < 8192 then -(dp p ⟨s.val + win g, h⟩ g c / cnt (win g) ⟨s.val + win g, h⟩) else 0

theorem pc_shg (g : Fin 4) (N : ℕ) (t : Fin N) (s : Fin 8192) (c : Fin 128) (ht : t.val = win g + s.val) :
    pc (fun s c => -(dp p s g c / cnt (win g) s)) 0 0 t c = shg p g s c := by
  unfold shg
  split
  · next h => exact pc_hit _ 0 0 t c ⟨s.val + win g, h⟩ c (by show t.val = 0 + (s.val + win g); omega) (by omega)
  · next h => exact pc_miss _ 0 0 t c (by omega)

/-- The quotients less those a window later. -/
def dif (s : Fin 8192) (k : Fin 512) : ℝ :=
  qq p s k - (if h : s.val + win (grp k) < 8192 then qq p ⟨s.val + win (grp k), h⟩ k else 0)

theorem dif_eq (s : Fin 8192) (k : Fin 512) : dp p s (grp k) (low k) / cnt (win (grp k)) s + shg p (grp k) s (low k) = dif p s k := by
  unfold dif shg qq
  split
  · ring
  · ring

theorem v201_up : val_main_v201 (F := Ideal) (up p.D) (up p.X) (up p.Md) (row (p.G 0)) (up p.Wi) (up p.Cw) (up3 p.Wp) (row p.Ps) (up p.Wo) = up3 fun (_ : Fin 1) a b => ∑ s, gwp p s 3 a b := by
  funext i
  obtain ⟨t, a, b, rfl⟩ : ∃ (t : Fin 1) (a : Fin 128) (b : Fin 128), i = ix3 t a b := ⟨i 0, i 1, i 2, eq_ix3 i⟩
  rw [val_main_v201, v199_up p]
  pointwise [up, up3]

theorem v202_up : val_main_v202 (F := Ideal) (up p.D) (up p.X) (up p.Md) (row (p.G 0)) (up p.Wi) (up p.Cw) (up3 p.Wp) (row p.Ps) (up p.Wo) = up3 fun (t : Fin 4) a b => if t.val = 3 then ∑ s, gwp p s 3 a b else 0 := by
  rw [val_main_v202, v201_up p]
  exact pad_up3 _ 3 0 (val_main_cst_36 (F := Ideal)) (fun i => by pointwise [val_main_cst_36]) _ _

theorem v204_up : val_main_v204 (F := Ideal) (up p.D) (up p.X) (up p.Md) (row (p.G 0)) (up p.Wi) (up p.Cw) (up3 p.Wp) (row p.Ps) (up p.Wo) = up (pc (fun s c => -dp p s 3 c) 0 384) := by
  rw [val_main_v204, v203_up p]
  exact pad_up _ 0 384 0 0 (val_main_cst_37 (F := Ideal)) (fun i => by pointwise [val_main_cst_37]) _ _

theorem v208_up : val_main_v208 (F := Ideal) (up p.D) (up p.X) (up p.Md) (row (p.G 0)) (up p.Wi) (up p.Cw) (up3 p.Wp) (row p.Ps) (up p.Wo) = up (pc (fun s c => dp p s 3 c / cnt (win 3) s) 0 384) := by
  rw [val_main_v208, v206_up p]
  exact pad_up _ 0 384 0 0 (val_main_cst_38 (F := Ideal)) (fun i => by pointwise [val_main_cst_38]) _ _

theorem v209_up : val_main_v209 (F := Ideal) (up p.D) (up p.X) (up p.Md) (row (p.G 0)) (up p.Wi) (up p.Cw) (up3 p.Wp) (row p.Ps) (up p.Wo) = up (pc (fun s c => -(dp p s 3 c / cnt (win 3) s)) 0 0) := by
  rw [val_main_v209, v207_up p]
  exact pad_up _ 0 0 16 0 (val_main_cst_39 (F := Ideal)) (fun i => by pointwise [val_main_cst_39]) _ _

theorem v211_up : val_main_v211 (F := Ideal) (up p.D) (up p.X) (up p.Md) (row (p.G 0)) (up p.Wi) (up p.Cw) (up3 p.Wp) (row p.Ps) (up p.Wo) = up (shg p 3) := by
  refine eq_up _ _ fun s c => ?_
  rw [val_main_v211, v209_up p]
  pointwise [up]
  exact congrArg (fun x : ℝ => (x : EReal)) (pc_shg p 3 8208 _ s c rfl)

theorem v212_up : val_main_v212 (F := Ideal) (up p.D) (up p.X) (up p.Md) (row (p.G 0)) (up p.Wi) (up p.Cw) (up3 p.Wp) (row p.Ps) (up p.Wo) = up (pc (shg p 3) 0 384) := by
  rw [val_main_v212, v211_up p]
  exact pad_up _ 0 384 0 0 (val_main_cst_40 (F := Ideal)) (fun i => by pointwise [val_main_cst_40]) _ _

theorem v217_up : val_main_v217 (F := Ideal) (up p.D) (up p.X) (up p.Md) (row (p.G 0)) (up p.Wi) (up p.Cw) (up3 p.Wp) (row p.Ps) (up p.Wo) = up3 fun (_ : Fin 1) a b => ∑ s, gwp p s 2 a b := by
  funext i
  obtain ⟨t, a, b, rfl⟩ : ∃ (t : Fin 1) (a : Fin 128) (b : Fin 128), i = ix3 t a b := ⟨i 0, i 1, i 2, eq_ix3 i⟩
  rw [val_main_v217, v215_up p]
  pointwise [up, up3]

theorem v218_up : val_main_v218 (F := Ideal) (up p.D) (up p.X) (up p.Md) (row (p.G 0)) (up p.Wi) (up p.Cw) (up3 p.Wp) (row p.Ps) (up p.Wo) = up3 fun (t : Fin 4) a b => if t.val = 2 then ∑ s, gwp p s 2 a b else 0 := by
  rw [val_main_v218, v217_up p]
  exact pad_up3 _ 2 1 (val_main_cst_41 (F := Ideal)) (fun i => by pointwise [val_main_cst_41]) _ _

theorem v221_up : val_main_v221 (F := Ideal) (up p.D) (up p.X) (up p.Md) (row (p.G 0)) (up p.Wi) (up p.Cw) (up3 p.Wp) (row p.Ps) (up p.Wo) = up (pc (fun s c => -dp p s 2 c) 0 256) := by
  rw [val_main_v221, v220_up p]
  exact pad_up _ 0 256 0 128 (val_main_cst_42 (F := Ideal)) (fun i => by pointwise [val_main_cst_42]) _ _

theorem v226_up : val_main_v226 (F := Ideal) (up p.D) (up p.X) (up p.Md) (row (p.G 0)) (up p.Wi) (up p.Cw) (up3 p.Wp) (row p.Ps) (up p.Wo) = up (pc (fun s c => dp p s 2 c / cnt (win 2) s) 0 256) := by
  rw [val_main_v226, v224_up p]
  exact pad_up _ 0 256 0 128 (val_main_cst_43 (F := Ideal)) (fun i => by pointwise [val_main_cst_43]) _ _

theorem v228_up : val_main_v228 (F := Ideal) (up p.D) (up p.X) (up p.Md) (row (p.G 0)) (up p.Wi) (up p.Cw) (up3 p.Wp) (row p.Ps) (up p.Wo) = up (pc (fun s c => -(dp p s 2 c / cnt (win 2) s)) 0 0) := by
  rw [val_main_v228, v225_up p]
  exact pad_up _ 0 0 8 0 (val_main_cst_44 (F := Ideal)) (fun i => by pointwise [val_main_cst_44]) _ _

theorem v230_up : val_main_v230 (F := Ideal) (up p.D) (up p.X) (up p.Md) (row (p.G 0)) (up p.Wi) (up p.Cw) (up3 p.Wp) (row p.Ps) (up p.Wo) = up (shg p 2) := by
  refine eq_up _ _ fun s c => ?_
  rw [val_main_v230, v228_up p]
  pointwise [up]
  exact congrArg (fun x : ℝ => (x : EReal)) (pc_shg p 2 8200 _ s c rfl)

theorem v231_up : val_main_v231 (F := Ideal) (up p.D) (up p.X) (up p.Md) (row (p.G 0)) (up p.Wi) (up p.Cw) (up3 p.Wp) (row p.Ps) (up p.Wo) = up (pc (shg p 2) 0 256) := by
  rw [val_main_v231, v230_up p]
  exact pad_up _ 0 256 0 128 (val_main_cst_45 (F := Ideal)) (fun i => by pointwise [val_main_cst_45]) _ _

theorem v236_up : val_main_v236 (F := Ideal) (up p.D) (up p.X) (up p.Md) (row (p.G 0)) (up p.Wi) (up p.Cw) (up3 p.Wp) (row p.Ps) (up p.Wo) = up3 fun (_ : Fin 1) a b => ∑ s, gwp p s 1 a b := by
  funext i
  obtain ⟨t, a, b, rfl⟩ : ∃ (t : Fin 1) (a : Fin 128) (b : Fin 128), i = ix3 t a b := ⟨i 0, i 1, i 2, eq_ix3 i⟩
  rw [val_main_v236, v234_up p]
  pointwise [up, up3]

theorem v237_up : val_main_v237 (F := Ideal) (up p.D) (up p.X) (up p.Md) (row (p.G 0)) (up p.Wi) (up p.Cw) (up3 p.Wp) (row p.Ps) (up p.Wo) = up3 fun (t : Fin 4) a b => if t.val = 1 then ∑ s, gwp p s 1 a b else 0 := by
  rw [val_main_v237, v236_up p]
  exact pad_up3 _ 1 2 (val_main_cst_46 (F := Ideal)) (fun i => by pointwise [val_main_cst_46]) _ _

theorem v240_up : val_main_v240 (F := Ideal) (up p.D) (up p.X) (up p.Md) (row (p.G 0)) (up p.Wi) (up p.Cw) (up3 p.Wp) (row p.Ps) (up p.Wo) = up (pc (fun s c => -dp p s 1 c) 0 128) := by
  rw [val_main_v240, v239_up p]
  exact pad_up _ 0 128 0 256 (val_main_cst_47 (F := Ideal)) (fun i => by pointwise [val_main_cst_47]) _ _

theorem v245_up : val_main_v245 (F := Ideal) (up p.D) (up p.X) (up p.Md) (row (p.G 0)) (up p.Wi) (up p.Cw) (up3 p.Wp) (row p.Ps) (up p.Wo) = up (pc (fun s c => dp p s 1 c / cnt (win 1) s) 0 128) := by
  rw [val_main_v245, v243_up p]
  exact pad_up _ 0 128 0 256 (val_main_cst_48 (F := Ideal)) (fun i => by pointwise [val_main_cst_48]) _ _

theorem v247_up : val_main_v247 (F := Ideal) (up p.D) (up p.X) (up p.Md) (row (p.G 0)) (up p.Wi) (up p.Cw) (up3 p.Wp) (row p.Ps) (up p.Wo) = up (pc (fun s c => -(dp p s 1 c / cnt (win 1) s)) 0 0) := by
  rw [val_main_v247, v244_up p]
  exact pad_up _ 0 0 4 0 (val_main_cst_49 (F := Ideal)) (fun i => by pointwise [val_main_cst_49]) _ _

theorem v249_up : val_main_v249 (F := Ideal) (up p.D) (up p.X) (up p.Md) (row (p.G 0)) (up p.Wi) (up p.Cw) (up3 p.Wp) (row p.Ps) (up p.Wo) = up (shg p 1) := by
  refine eq_up _ _ fun s c => ?_
  rw [val_main_v249, v247_up p]
  pointwise [up]
  exact congrArg (fun x : ℝ => (x : EReal)) (pc_shg p 1 8196 _ s c rfl)

theorem v250_up : val_main_v250 (F := Ideal) (up p.D) (up p.X) (up p.Md) (row (p.G 0)) (up p.Wi) (up p.Cw) (up3 p.Wp) (row p.Ps) (up p.Wo) = up (pc (shg p 1) 0 128) := by
  rw [val_main_v250, v249_up p]
  exact pad_up _ 0 128 0 256 (val_main_cst_50 (F := Ideal)) (fun i => by pointwise [val_main_cst_50]) _ _

theorem v255_up : val_main_v255 (F := Ideal) (up p.D) (up p.X) (up p.Md) (row (p.G 0)) (up p.Wi) (up p.Cw) (up3 p.Wp) (row p.Ps) (up p.Wo) = up3 fun (_ : Fin 1) a b => ∑ s, gwp p s 0 a b := by
  funext i
  obtain ⟨t, a, b, rfl⟩ : ∃ (t : Fin 1) (a : Fin 128) (b : Fin 128), i = ix3 t a b := ⟨i 0, i 1, i 2, eq_ix3 i⟩
  rw [val_main_v255, v253_up p]
  pointwise [up, up3]

theorem v256_up : val_main_v256 (F := Ideal) (up p.D) (up p.X) (up p.Md) (row (p.G 0)) (up p.Wi) (up p.Cw) (up3 p.Wp) (row p.Ps) (up p.Wo) = up3 fun (t : Fin 4) a b => if t.val = 0 then ∑ s, gwp p s 0 a b else 0 := by
  rw [val_main_v256, v255_up p]
  exact pad_up3 _ 0 3 (val_main_cst_51 (F := Ideal)) (fun i => by pointwise [val_main_cst_51]) _ _

theorem v259_up : val_main_v259 (F := Ideal) (up p.D) (up p.X) (up p.Md) (row (p.G 0)) (up p.Wi) (up p.Cw) (up3 p.Wp) (row p.Ps) (up p.Wo) = up (pc (fun s c => -dp p s 0 c) 0 0) := by
  rw [val_main_v259, v258_up p]
  exact pad_up _ 0 0 0 384 (val_main_cst_52 (F := Ideal)) (fun i => by pointwise [val_main_cst_52]) _ _

theorem v264_up : val_main_v264 (F := Ideal) (up p.D) (up p.X) (up p.Md) (row (p.G 0)) (up p.Wi) (up p.Cw) (up3 p.Wp) (row p.Ps) (up p.Wo) = up (pc (fun s c => dp p s 0 c / cnt (win 0) s) 0 0) := by
  rw [val_main_v264, v262_up p]
  exact pad_up _ 0 0 0 384 (val_main_cst_53 (F := Ideal)) (fun i => by pointwise [val_main_cst_53]) _ _

theorem v266_up : val_main_v266 (F := Ideal) (up p.D) (up p.X) (up p.Md) (row (p.G 0)) (up p.Wi) (up p.Cw) (up3 p.Wp) (row p.Ps) (up p.Wo) = up (pc (fun s c => -(dp p s 0 c / cnt (win 0) s)) 0 0) := by
  rw [val_main_v266, v263_up p]
  exact pad_up _ 0 0 2 0 (val_main_cst_54 (F := Ideal)) (fun i => by pointwise [val_main_cst_54]) _ _

theorem v268_up : val_main_v268 (F := Ideal) (up p.D) (up p.X) (up p.Md) (row (p.G 0)) (up p.Wi) (up p.Cw) (up3 p.Wp) (row p.Ps) (up p.Wo) = up (shg p 0) := by
  refine eq_up _ _ fun s c => ?_
  rw [val_main_v268, v266_up p]
  pointwise [up]
  exact congrArg (fun x : ℝ => (x : EReal)) (pc_shg p 0 8194 _ s c rfl)

theorem v269_up : val_main_v269 (F := Ideal) (up p.D) (up p.X) (up p.Md) (row (p.G 0)) (up p.Wi) (up p.Cw) (up3 p.Wp) (row p.Ps) (up p.Wo) = up (pc (shg p 0) 0 0) := by
  rw [val_main_v269, v268_up p]
  exact pad_up _ 0 0 0 384 (val_main_cst_55 (F := Ideal)) (fun i => by pointwise [val_main_cst_55]) _ _

theorem v257_up : val_main_v257 (F := Ideal) (up p.D) (up p.X) (up p.Md) (row (p.G 0)) (up p.Wi) (up p.Cw) (up3 p.Wp) (row p.Ps) (up p.Wo) = up3 fun g a b => ∑ s, gwp p s g a b := by
  funext i
  obtain ⟨t, a, b, rfl⟩ : ∃ (t : Fin 4) (a : Fin 128) (b : Fin 128), i = ix3 t a b := ⟨i 0, i 1, i 2, eq_ix3 i⟩
  rw [val_main_v257, val_main_v238, val_main_v219, v202_up p, v218_up p, v237_up p, v256_up p]
  pointwise [up3]
  fin_cases t <;> simp

theorem v260_up : val_main_v260 (F := Ideal) (up p.D) (up p.X) (up p.Md) (row (p.G 0)) (up p.Wi) (up p.Cw) (up3 p.Wp) (row p.Ps) (up p.Wo) = up fun s k => -dp p s (grp k) (low k) := by
  refine eq_up _ _ fun s c => ?_
  rw [val_main_v260, val_main_v241, val_main_v222, v204_up p, v221_up p, v240_up p, v259_up p]
  pointwise [up]
  rw [← EReal.coe_add, ← EReal.coe_add, ← EReal.coe_add]
  exact congrArg (fun x : ℝ => (x : EReal)) (pc_groups (fun g s c => -dp p s g c) s c)

theorem v270_up : val_main_v270 (F := Ideal) (up p.D) (up p.X) (up p.Md) (row (p.G 0)) (up p.Wi) (up p.Cw) (up3 p.Wp) (row p.Ps) (up p.Wo) = up (dif p) := by
  refine eq_up _ _ fun s c => ?_
  rw [val_main_v270, val_main_v265, val_main_v251, val_main_v246, val_main_v232, val_main_v227, val_main_v213, v208_up p, v212_up p, v226_up p, v231_up p, v245_up p, v250_up p, v264_up p, v269_up p]
  pointwise [up]
  simp only [← EReal.coe_add]
  refine congrArg (fun x : ℝ => (x : EReal)) ?_
  refine Eq.trans ?_ (dif_eq p s c)
  rw [← pc_groups (fun g s c => dp p s g c / cnt (win g) s) s c, ← pc_groups (shg p) s c]
  ring

theorem v271_up : val_main_v271 (F := Ideal) (up p.D) (up p.X) (up p.Md) (row (p.G 0)) (up p.Wi) (up p.Cw) (up3 p.Wp) (row p.Ps) (up p.Wo) = up fun s k => fsum (qq p) (win (grp k)) s k := by
  rw [val_main_v271, v270_up p]
  refine Eq.trans (scan_add (dif p) 0 8191 (val_main_call1_call0_v0 (F := Ideal)) (fun i => ?_) _ _) ?_
  · pointwise [val_main_call1_call0_v0, val_main_call1_call0_cst]
  · refine congrArg up (funext fun s => funext fun k => ?_)
    exact fsum_suf (qq p) (dif p) (win (grp k)) (by generalize grp k = g; fin_cases g <;> decide) k (fun s => rfl) s

theorem v272_up : val_main_v272 (F := Ideal) (up p.D) (up p.X) (up p.Md) (row (p.G 0)) (up p.Wi) (up p.Cw) (up3 p.Wp) (row p.Ps) (up p.Wo) = up (dvp p) := by
  refine eq_up _ _ fun s c => ?_
  rw [val_main_v272, v260_up p, v271_up p]
  pointwise [up]
  rw [← EReal.coe_add, EReal.coe_eq_coe_iff]
  unfold dvp
  ring

theorem v273_up : val_main_v273 (F := Ideal) (up p.D) (up p.X) (up p.Md) (row (p.G 0)) (up p.Wi) (up p.Cw) (up3 p.Wp) (row p.Ps) (up p.Wo) = up (e p) := by
  refine eq_up _ _ fun s c => ?_
  rw [val_main_v273, v10_up p, v187_up p]
  pointwise [up]
  rw [← EReal.coe_mul, EReal.coe_eq_coe_iff]
  unfold e
  ring

theorem v274_up : val_main_v274 (F := Ideal) (up p.D) (up p.X) (up p.Md) (row (p.G 0)) (up p.Wi) (up p.Cw) (up3 p.Wp) (row p.Ps) (up p.Wo) = up (dgb p) := by
  refine eq_up _ _ fun s c => ?_
  rw [val_main_v274, v187_up p, v37_up p]
  pointwise [up]
  simp only [← EReal.coe_mul, ← EReal.coe_add, ← EReal.coe_sub, ← EReal.coe_neg, ← EReal.coe_one, ← EReal.coe_zero, ← coe_sum, dgb]

theorem v277_up : val_main_v277 (F := Ideal) (up p.D) (up p.X) (up p.Md) (row (p.G 0)) (up p.Wi) (up p.Cw) (up3 p.Wp) (row p.Ps) (up p.Wo) = row fun c => ∑ s, gcw p s 2 c := by
  refine eq_up _ _ fun s c => ?_
  rw [val_main_v277, val_main_v276, val_main_v275, v31_up p, v273_up p]
  pointwise [val_main_cst_56, up]
  simp only [← EReal.coe_mul, ← EReal.coe_add, ← EReal.coe_sub, ← EReal.coe_neg, ← EReal.coe_one, ← EReal.coe_zero, ← coe_sum, gcw]
  rw [EReal.coe_eq_coe_iff]
  exact Finset.sum_congr rfl fun _ _ => by ring

theorem v281_up : val_main_v281 (F := Ideal) (up p.D) (up p.X) (up p.Md) (row (p.G 0)) (up p.Wi) (up p.Cw) (up3 p.Wp) (row p.Ps) (up p.Wo) = row fun c => ∑ s, gcw p s 2 c := by
  refine eq_up _ _ fun s c => ?_
  rw [val_main_v281, val_main_v280, v277_up p]
  pointwise [val_main_cst_57, up]
  simp only [Finset.univ_unique, Finset.sum_singleton, zero_add]

theorem v282_up : val_main_v282 (F := Ideal) (up p.D) (up p.X) (up p.Md) (row (p.G 0)) (up p.Wi) (up p.Cw) (up3 p.Wp) (row p.Ps) (up p.Wo) = up (pc (fun (_ : Fin 1) c => ∑ s, gcw p s 2 c) 2 0) := by
  rw [val_main_v282, v281_up p]
  exact pad_up _ 2 0 0 0 (val_main_cst_58 (F := Ideal)) (fun i => by pointwise [val_main_cst_58]) _ _

theorem v279_up : val_main_v279 (F := Ideal) (up p.D) (up p.X) (up p.Md) (row (p.G 0)) (up p.Wi) (up p.Cw) (up3 p.Wp) (row p.Ps) (up p.Wo) = up fun s c => e p s c * p.Cw 2 c := by
  refine eq_up _ _ fun s c => ?_
  rw [val_main_v279, v273_up p]
  pointwise [val_main_v278, val_main_v34, val_main_v33, val_main_v32, up]
  simp only [← EReal.coe_mul, ← EReal.coe_add, ← EReal.coe_sub, ← EReal.coe_neg, ← EReal.coe_one, ← EReal.coe_zero, ← coe_sum]

theorem v283_up : val_main_v283 (F := Ideal) (up p.D) (up p.X) (up p.Md) (row (p.G 0)) (up p.Wi) (up p.Cw) (up3 p.Wp) (row p.Ps) (up p.Wo) = up (pc (fun s c => e p s c * p.Cw 2 c) 2 0) := by
  rw [val_main_v283, v279_up p]
  exact pad_up _ 2 0 0 0 (val_main_cst_59 (F := Ideal)) (fun i => by pointwise [val_main_cst_59]) _ _

theorem v286_up : val_main_v286 (F := Ideal) (up p.D) (up p.X) (up p.Md) (row (p.G 0)) (up p.Wi) (up p.Cw) (up3 p.Wp) (row p.Ps) (up p.Wo) = row fun c => ∑ s, gcw p s 1 c := by
  refine eq_up _ _ fun s c => ?_
  rw [val_main_v286, val_main_v285, val_main_v284, v24_up p, v273_up p]
  pointwise [val_main_cst_60, up]
  simp only [← EReal.coe_mul, ← EReal.coe_add, ← EReal.coe_sub, ← EReal.coe_neg, ← EReal.coe_one, ← EReal.coe_zero, ← coe_sum, gcw]
  rw [EReal.coe_eq_coe_iff]
  exact Finset.sum_congr rfl fun _ _ => by ring

theorem v290_up : val_main_v290 (F := Ideal) (up p.D) (up p.X) (up p.Md) (row (p.G 0)) (up p.Wi) (up p.Cw) (up3 p.Wp) (row p.Ps) (up p.Wo) = row fun c => ∑ s, gcw p s 1 c := by
  refine eq_up _ _ fun s c => ?_
  rw [val_main_v290, val_main_v289, v286_up p]
  pointwise [val_main_cst_61, up]
  simp only [Finset.univ_unique, Finset.sum_singleton, zero_add]

theorem v291_up : val_main_v291 (F := Ideal) (up p.D) (up p.X) (up p.Md) (row (p.G 0)) (up p.Wi) (up p.Cw) (up3 p.Wp) (row p.Ps) (up p.Wo) = up (pc (fun (_ : Fin 1) c => ∑ s, gcw p s 1 c) 1 0) := by
  rw [val_main_v291, v290_up p]
  exact pad_up _ 1 0 1 0 (val_main_cst_62 (F := Ideal)) (fun i => by pointwise [val_main_cst_62]) _ _

theorem v288_up : val_main_v288 (F := Ideal) (up p.D) (up p.X) (up p.Md) (row (p.G 0)) (up p.Wi) (up p.Cw) (up3 p.Wp) (row p.Ps) (up p.Wo) = up fun s c => e p s c * p.Cw 1 c := by
  refine eq_up _ _ fun s c => ?_
  rw [val_main_v288, v273_up p]
  pointwise [val_main_v287, val_main_v27, val_main_v26, val_main_v25, up]
  simp only [← EReal.coe_mul, ← EReal.coe_add, ← EReal.coe_sub, ← EReal.coe_neg, ← EReal.coe_one, ← EReal.coe_zero, ← coe_sum]

theorem v293_up : val_main_v293 (F := Ideal) (up p.D) (up p.X) (up p.Md) (row (p.G 0)) (up p.Wi) (up p.Cw) (up3 p.Wp) (row p.Ps) (up p.Wo) = up (pc (fun s c => e p s c * p.Cw 1 c) 1 0) := by
  rw [val_main_v293, v288_up p]
  exact pad_up _ 1 0 1 0 (val_main_cst_63 (F := Ideal)) (fun i => by pointwise [val_main_cst_63]) _ _

theorem v297_up : val_main_v297 (F := Ideal) (up p.D) (up p.X) (up p.Md) (row (p.G 0)) (up p.Wi) (up p.Cw) (up3 p.Wp) (row p.Ps) (up p.Wo) = row fun c => ∑ s, gcw p s 0 c := by
  refine eq_up _ _ fun s c => ?_
  rw [val_main_v297, val_main_v296, val_main_v295, v18_up p, v273_up p]
  pointwise [val_main_cst_64, up]
  simp only [← EReal.coe_mul, ← EReal.coe_add, ← EReal.coe_sub, ← EReal.coe_neg, ← EReal.coe_one, ← EReal.coe_zero, ← coe_sum, gcw]
  rw [EReal.coe_eq_coe_iff]
  exact Finset.sum_congr rfl fun _ _ => by ring

theorem v301_up : val_main_v301 (F := Ideal) (up p.D) (up p.X) (up p.Md) (row (p.G 0)) (up p.Wi) (up p.Cw) (up3 p.Wp) (row p.Ps) (up p.Wo) = row fun c => ∑ s, gcw p s 0 c := by
  refine eq_up _ _ fun s c => ?_
  rw [val_main_v301, val_main_v300, v297_up p]
  pointwise [val_main_cst_65, up]
  simp only [Finset.univ_unique, Finset.sum_singleton, zero_add]

theorem v302_up : val_main_v302 (F := Ideal) (up p.D) (up p.X) (up p.Md) (row (p.G 0)) (up p.Wi) (up p.Cw) (up3 p.Wp) (row p.Ps) (up p.Wo) = up (pc (fun (_ : Fin 1) c => ∑ s, gcw p s 0 c) 0 0) := by
  rw [val_main_v302, v301_up p]
  exact pad_up _ 0 0 2 0 (val_main_cst_66 (F := Ideal)) (fun i => by pointwise [val_main_cst_66]) _ _

theorem v299_up : val_main_v299 (F := Ideal) (up p.D) (up p.X) (up p.Md) (row (p.G 0)) (up p.Wi) (up p.Cw) (up3 p.Wp) (row p.Ps) (up p.Wo) = up fun s c => e p s c * p.Cw 0 c := by
  refine eq_up _ _ fun s c => ?_
  rw [val_main_v299, v273_up p]
  pointwise [val_main_v298, val_main_v21, val_main_v20, val_main_v19, up]
  simp only [← EReal.coe_mul, ← EReal.coe_add, ← EReal.coe_sub, ← EReal.coe_neg, ← EReal.coe_one, ← EReal.coe_zero, ← coe_sum]

theorem v304_up : val_main_v304 (F := Ideal) (up p.D) (up p.X) (up p.Md) (row (p.G 0)) (up p.Wi) (up p.Cw) (up3 p.Wp) (row p.Ps) (up p.Wo) = up (pc (fun s c => e p s c * p.Cw 0 c) 0 0) := by
  rw [val_main_v304, v299_up p]
  exact pad_up _ 0 0 2 0 (val_main_cst_67 (F := Ideal)) (fun i => by pointwise [val_main_cst_67]) _ _

theorem v307_up : val_main_v307 (F := Ideal) (up p.D) (up p.X) (up p.Md) (row (p.G 0)) (up p.Wi) (up p.Cw) (up3 p.Wp) (row p.Ps) (up p.Wo) = up (dcv p) := by
  refine eq_up _ _ fun s c => ?_
  rw [val_main_v307, val_main_v305, val_main_v294, v283_up p, v293_up p, v304_up p]
  pointwise [up]
  simp only [← EReal.coe_add]
  refine congrArg (fun x : ℝ => (x : EReal)) ?_
  rw [pc_ext (e p) (p.Cw 2), pc_ext (e p) (p.Cw 1), pc_ext (e p) (p.Cw 0), ext_of (e p) _ s (by push_cast; omega)]
  unfold dcv
  rw [show (((2 + s.val : ℕ) : ℤ) - (1 : ℕ)) = (s.val : ℤ) + 1 by omega, show (((2 + s.val : ℕ) : ℤ) - (0 : ℕ)) = (s.val : ℤ) + 2 by omega]
  ring

theorem v308_up : val_main_v308 (F := Ideal) (up p.D) (up p.X) (up p.Md) (row (p.G 0)) (up p.Wi) (up p.Cw) (up3 p.Wp) (row p.Ps) (up p.Wo) = up (dvc p) := by
  refine eq_up _ _ fun s c => ?_
  rw [val_main_v308, v11_up p, v307_up p]
  pointwise [up]
  rw [← EReal.coe_mul, EReal.coe_eq_coe_iff]
  unfold dvc
  ring

theorem v309_up : val_main_v309 (F := Ideal) (up p.D) (up p.X) (up p.Md) (row (p.G 0)) (up p.Wi) (up p.Cw) (up3 p.Wp) (row p.Ps) (up p.Wo) = up (dgc p) := by
  refine eq_up _ _ fun s c => ?_
  rw [val_main_v309, v12_up p, v307_up p]
  pointwise [up]
  simp only [← EReal.coe_mul, ← EReal.coe_add, ← EReal.coe_sub, ← EReal.coe_neg, ← EReal.coe_one, ← EReal.coe_zero, ← coe_sum, dgc]

theorem v310_up : val_main_v310 (F := Ideal) (up p.D) (up p.X) (up p.Md) (row (p.G 0)) (up p.Wi) (up p.Cw) (up3 p.Wp) (row p.Ps) (up p.Wo) = up (pc (dvp p) 0 1536) := by
  rw [val_main_v310, v272_up p]
  exact pad_up _ 0 1536 0 0 (val_main_cst_68 (F := Ideal)) (fun i => by pointwise [val_main_cst_68]) _ _

theorem v311_up : val_main_v311 (F := Ideal) (up p.D) (up p.X) (up p.Md) (row (p.G 0)) (up p.Wi) (up p.Cw) (up3 p.Wp) (row p.Ps) (up p.Wo) = up (pc (dvc p) 0 1024) := by
  rw [val_main_v311, v308_up p]
  exact pad_up _ 0 1024 0 512 (val_main_cst_69 (F := Ideal)) (fun i => by pointwise [val_main_cst_69]) _ _

theorem v313_up : val_main_v313 (F := Ideal) (up p.D) (up p.X) (up p.Md) (row (p.G 0)) (up p.Wi) (up p.Cw) (up3 p.Wp) (row p.Ps) (up p.Wo) = up (pc (dgc p) 0 512) := by
  rw [val_main_v313, v309_up p]
  exact pad_up _ 0 512 0 1024 (val_main_cst_70 (F := Ideal)) (fun i => by pointwise [val_main_cst_70]) _ _

theorem v315_up : val_main_v315 (F := Ideal) (up p.D) (up p.X) (up p.Md) (row (p.G 0)) (up p.Wi) (up p.Cw) (up3 p.Wp) (row p.Ps) (up p.Wo) = up (pc (dgb p) 0 0) := by
  rw [val_main_v315, v274_up p]
  exact pad_up _ 0 0 0 1536 (val_main_cst_71 (F := Ideal)) (fun i => by pointwise [val_main_cst_71]) _ _

theorem v316_up : val_main_v316 (F := Ideal) (up p.D) (up p.X) (up p.Md) (row (p.G 0)) (up p.Wi) (up p.Cw) (up3 p.Wp) (row p.Ps) (up p.Wo) = up (dz p) := by
  refine eq_up _ _ fun s c => ?_
  rw [val_main_v316, val_main_v314, val_main_v312, v310_up p, v311_up p, v313_up p, v315_up p]
  pointwise [up]
  rw [← EReal.coe_add, ← EReal.coe_add, ← EReal.coe_add]
  exact congrArg (fun x : ℝ => (x : EReal)) (pc_quarters (dgb p) (dgc p) (dvc p) (dvp p) s c)

theorem v317_up : val_main_v317 (F := Ideal) (up p.D) (up p.X) (up p.Md) (row (p.G 0)) (up p.Wi) (up p.Cw) (up3 p.Wp) (row p.Ps) (up p.Wo) = up (dh p) := by
  refine eq_up _ _ fun s c => ?_
  rw [val_main_v317, v316_up p]
  pointwise [up]
  simp only [← EReal.coe_mul, ← EReal.coe_add, ← EReal.coe_sub, ← EReal.coe_neg, ← EReal.coe_one, ← EReal.coe_zero, ← coe_sum, dh]

theorem v319_up : val_main_v319 (F := Ideal) (up p.D) (up p.X) (up p.Md) (row (p.G 0)) (up p.Wi) (up p.Cw) (up3 p.Wp) (row p.Ps) (up p.Wo) = row fun j => ∑ s, acc p s 2 j := by
  refine eq_up _ _ fun s c => ?_
  rw [val_main_v319, val_main_v318, v317_up p]
  pointwise [val_main_cst_72, up]
  simp only [← EReal.coe_mul, ← EReal.coe_add, ← EReal.coe_sub, ← EReal.coe_neg, ← EReal.coe_one, ← EReal.coe_zero, ← coe_sum, acc]

theorem v322_up : val_main_v322 (F := Ideal) (up p.D) (up p.X) (up p.Md) (row (p.G 0)) (up p.Wi) (up p.Cw) (up3 p.Wp) (row p.Ps) (up p.Wo) = row fun j => ∑ s, acc p s 3 j := by
  refine eq_up _ _ fun s c => ?_
  rw [val_main_v322, val_main_v321, val_main_v320, v317_up p]
  pointwise [val_main_cst_73, up]
  simp only [← EReal.coe_mul, ← EReal.coe_add, ← EReal.coe_sub, ← EReal.coe_neg, ← EReal.coe_one, ← EReal.coe_zero, ← coe_sum, acc]
  rw [EReal.coe_eq_coe_iff]
  exact Finset.sum_congr rfl fun _ _ => by ring

theorem v326_up : val_main_v326 (F := Ideal) (up p.D) (up p.X) (up p.Md) (row (p.G 0)) (up p.Wi) (up p.Cw) (up3 p.Wp) (row p.Ps) (up p.Wo) = up fun k j => ∑ s, acc p s k j := by
  refine eq_up _ _ fun s c => ?_
  rw [val_main_v326, v152_up p, v149_up p, v319_up p, v322_up p, v183_up p]
  fin_cases s <;> pointwise [val_main_v325, val_main_cst_74, up] <;> simp [acc]

theorem v303_up : val_main_v303 (F := Ideal) (up p.D) (up p.X) (up p.Md) (row (p.G 0)) (up p.Wi) (up p.Cw) (up3 p.Wp) (row p.Ps) (up p.Wo) = up fun (k : Fin 3) c => ∑ s, gcw p s ⟨k.val, by omega⟩ c := by
  refine eq_up _ _ fun s c => ?_
  rw [val_main_v303, val_main_v292, v282_up p, v291_up p, v302_up p]
  pointwise [up]
  simp only [← EReal.coe_add]
  refine congrArg (fun x : ℝ => (x : EReal)) ?_
  fin_cases s <;> simp [pc]

theorem v328_up : val_main_v328 (F := Ideal) (up p.D) (up p.X) (up p.Md) (row (p.G 0)) (up p.Wi) (up p.Cw) (up3 p.Wp) (row p.Ps) (up p.Wo) = up fun k j => ∑ s, gcw p s k j := by
  refine eq_up _ _ fun s c => ?_
  rw [val_main_v328, v303_up p, v191_up p]
  fin_cases s <;> pointwise [val_main_v327, val_main_cst_75, up] <;> simp [gcw]

theorem v329_up : val_main_v329 (F := Ideal) (up p.D) (up p.X) (up p.Md) (row (p.G 0)) (up p.Wi) (up p.Cw) (up3 p.Wp) (row p.Ps) (up p.Wo) = up (dx p) := by
  refine eq_up _ _ fun s c => ?_
  rw [val_main_v329, val_main_v324, v185_up p, v317_up p]
  pointwise [val_main_v323, val_main_v4, val_main_v3, val_main_v1, val_main_cst, up]
  simp only [← EReal.coe_mul, ← EReal.coe_add, ← EReal.coe_sub, ← EReal.coe_neg, ← EReal.coe_one, ← EReal.coe_zero, ← coe_sum, dx]

theorem v330_up : val_main_v330 (F := Ideal) (up p.D) (up p.X) (up p.Md) (row (p.G 0)) (up p.Wi) (up p.Cw) (up3 p.Wp) (row p.Ps) (up p.Wo) = up (dmix p) := by
  rw [val_main_v330, v180_up p]
  rfl

theorem v331_up : val_main_v331 (F := Ideal) (up p.X) (up p.Md) (up p.Wi) (up p.Cw) (up3 p.Wp) (row p.Ps) = up (ycat p) := by
  rw [val_main_v331, v111_up p]
  rfl

theorem v332_up : val_main_v332 (F := Ideal) (up p.D) (up p.X) (up p.Md) (row (p.G 0)) (up p.Wi) (up p.Cw) (up3 p.Wp) (row p.Ps) (up p.Wo) = up (dz p) := by
  rw [val_main_v332, v316_up p]
  rfl

theorem v333_up : val_main_v333 (F := Ideal) (up p.D) (up p.X) (up p.Md) (row (p.G 0)) (up p.Wi) (up p.Cw) (up3 p.Wp) (row p.Ps) (up p.Wo) = up (three p) := by
  refine eq_up _ _ fun s c => ?_
  rw [val_main_v333, v330_up p, v331_up p, v332_up p]
  pointwise [up]
  unfold three
  split
  · rfl
  · split
    · rw [dif_pos (show c.val < 2048 by omega)]
    · rw [dif_neg (show ¬c.val < 2048 by omega)]
      exact congrArg (fun k => ((dz p s k : ℝ) : EReal)) (Fin.ext (by show c.val - 1024 - 1024 = c.val - 2048; omega))

end Cert.Reference2Ideal.Stages

end
-- ==== Proof.MixFinite.lean ====
/- The mixing call's precondition read back: every element of every argument is a real number. -/
module

public import proofs.«01_k».proof.Proof.Gen.Pre_finite2
public import proofs.«01_k».proof.Proof.Finite
public import proofs.«01_k».proof.Proof.MixSpec

@[expose] public section

set_option maxRecDepth 16384

noncomputable section

namespace Cert.Pre_finite2.Real

open Cert.Pre_finite2 Cert.Pre_finite2.Gen Cert.Reals Cert.Mix Idealize.ShloMosaic Cert.Pre_finite.Real

/-- A stack of matrices whose comparison with infinity is all ones is a stack of real matrices. -/
theorem up3_of_all {l n k : ℕ} (x : FVec Ideal ⟨3, ![l, n, k]⟩ .f32) (hb : S_.BroadcastsInDim ⟨3, ![l, n, k]⟩ ![])
    (h : (⟨3, ![l, n, k]⟩ : Shape).ReducesTo [0, 1, 2] S_)
    (e : Host.reduce IntOp.andi (cmpf .olt (Host.absf x) (broadcastInDim _ ![] hb (constant S_ .f32 0x7F800000#32)))
      (constantI S_ 1 1#1) h h_S_ (fun a => a.elim0) = 1#1) :
    ∃ A : Fin l → Fin n → Fin k → ℝ, x = up3 A := by
  have key : ∀ i, ∃ r : ℝ, x i = (r : EReal) := fun i => by
    have := Host.reduce_andi_all _ _ h h_S_ _ e i
    refine real_of_lt _ ?_
    revert this
    pointwise []
    rw [ofBits_inf]
    intro hh
    exact of_decide_eq_true (by revert hh; cases decide (FloatOps.absf (F := Ideal) (φ := .f32) (x i) < ⊤) <;> simp)
  choose f hf using key
  refine ⟨fun g a b => f (ix3 g a b), funext fun i => ?_⟩
  obtain ⟨g, a, b, rfl⟩ : ∃ (g : Fin l) (a : Fin n) (b : Fin k), i = ix3 g a b := ⟨i 0, i 1, i 2, eq_ix3 i⟩
  exact hf _

theorem and_one (a b : IVec S_ 1) (i : S_.Idx) : andi a b i = 1#1 ↔ a i = 1#1 ∧ b i = 1#1 := IntOp.andi_eq_one

/-- Under the precondition the twelve arguments are real. -/
theorem args_real (x0 x1 : FVec Ideal S8192x1024 .f32) (x2 : FVec Ideal S6x1024 .f32) (x3 x4 x5 x6 : FVec Ideal S1x1024 .f32)
    (x7 : FVec Ideal S1024x2048 .f32) (x8 : FVec Ideal S3x512 .f32) (x9 : FVec Ideal S4x128x128 .f32) (x10 : FVec Ideal S1x512 .f32)
    (x11 : FVec Ideal S1024x1024 .f32) (h : fn (F := Ideal) x0 x1 x2 x3 x4 x5 x6 x7 x8 x9 x10 x11 = fun _ => 1#1) :
    ((∃ A, x0 = up A) ∧ (∃ A, x1 = up A) ∧ (∃ A, x2 = up A) ∧ (∃ A, x3 = up A) ∧ (∃ A, x4 = up A) ∧ (∃ A, x5 = up A))
      ∧ (∃ A, x6 = up A) ∧ (∃ A, x7 = up A) ∧ (∃ A, x8 = up A) ∧ (∃ A, x9 = up3 A) ∧ (∃ A, x10 = up A) ∧ ∃ A, x11 = up A := by
  have e := congrFun h (fun a => a.elim0)
  unfold fn fn_part1 fn_part2 fn_part3 at e
  simp only [and_one] at e
  obtain ⟨⟨⟨⟨⟨⟨⟨⟨⟨⟨⟨⟨-, e0⟩, e1⟩, e2⟩, e3⟩, e4⟩, e5⟩, e6⟩, e7⟩, e8⟩, e9⟩, e10⟩, e11⟩ := e
  exact ⟨⟨up_of_all _ _ _ e0, up_of_all _ _ _ e1, up_of_all _ _ _ e2, up_of_all _ _ _ e3, up_of_all _ _ _ e4, up_of_all _ _ _ e5⟩,
    up_of_all _ _ _ e6, up_of_all _ _ _ e7, up_of_all _ _ _ e8, up3_of_all _ _ _ e9, up_of_all _ _ _ e10, up_of_all _ _ _ e11⟩

end Cert.Pre_finite2.Real

end
-- ==== Proof.MixClaim.lean ====
/- The claims of the mixing sub-layer's call: the runs of its kernel and of its reference, and that they leave the same arrays. -/
module

public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.MixArray
public import proofs.«01_k».proof.Proof.RefMix3
public import proofs.«01_k».proof.Proof.MixFinite
public import Idealize.ShloMosaic.Lib.Claim

@[expose] public section

set_option maxRecDepth 16384

noncomputable section

namespace Cert.MixClaim

open Idealize.ShloMosaic Idealize.ShloMosaic.TcCoe Idealize.SL.Sem Cert.Reals Cert.Mix

theorem frame_p : Cert.quiescent_Kernel2 (hKernel2 := Cert.Kernel2.Gen.facts) := fun m g _ => Cert.Kernel2.Gen.frame m g

theorem frame_pi : Cert.quiescent_Kernel2Ideal (hKernel2Ideal := Cert.Kernel2Ideal.Gen.facts) := fun m g _ => Cert.Kernel2Ideal.Gen.frame m g

/-- The reference declares no semaphore, and its run leaves the arguments. -/
theorem frame_ri : Cert.quiescent_Reference2Ideal (hReference2Ideal := Cert.Reference2Ideal.Gen.facts) := fun m g _ =>
  (θ_run _ _ _).mono (fun r h => ⟨fun c => (h c).2.2.2.2.2, sem_eq_zero_of_no_sems (by decide) r.2⟩)
    (Cert.Reference2Ideal.Value.run m g)

/-- A matrix of one row is that row. -/
theorem up_row {n : ℕ} (A : Fin 1 → Fin n → ℝ) : (up A : (⟨2, ![1, n]⟩ : Shape).Idx → EReal) = row (A 0) := by
  have e : A = fun _ => A 0 := funext fun i => by rw [Subsingleton.elim i 0]
  exact congrArg up e

open Cert.Kernel2Ideal Cert.Kernel2Ideal.Gen in
/-- The precondition gives real arguments. -/
theorem holds (m : (ℓ : Loc nD τ sig) → Buf (Elt Ideal) ℓ) (c : Dev nD)
    (hpre : Cert.Pre_Kernel2Ideal_finite2 (hPre_finite2 := Cert.Pre_finite2.Gen.facts) m) : ∃ p, Cert.Kernel2Ideal.Arrays.Holds m c p := by
  obtain ⟨⟨⟨D, h0⟩, ⟨X, h1⟩, ⟨Md, h2⟩, ⟨A3, h3⟩, ⟨A4, h4⟩, ⟨A5, h5⟩⟩, ⟨A6, h6⟩, ⟨Wi, h7⟩, ⟨Cw, h8⟩, ⟨Wp, h9⟩, ⟨Ps, h10⟩, ⟨Wo, h11⟩⟩ :=
    Cert.Pre_finite2.Real.args_real _ _ _ _ _ _ _ _ _ _ _ _ (hpre c)
  exact ⟨⟨D, X, Md, ![A3 0, A4 0, A5 0, A6 0], Wi, Cw, Wp, Ps 0, Wo⟩, h0, h1, h2, h3.trans (up_row A3), h4.trans (up_row A4),
    h5.trans (up_row A5), h6.trans (up_row A6), h7, h8, h9, h10.trans (up_row Ps), h11⟩

theorem algebraic : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  pair_intro
  · run_from Cert.Kernel2Ideal.Value.run_blocks m g
  · refine (θ_run _ _ _).mono (fun r h c => ?_) (Cert.Reference2Ideal.Value.run m' g')
    obtain ⟨p, H⟩ := holds m c hpre
    obtain ⟨g0, g1, g2, g3, g4, g5, g6, g7, g8, g9, g10, g11⟩ := hagree c
    have l0 : StableHlo.launchContents m' c (Proc.devRef .tc Cert.Reference2Ideal.main_arg0) = up p.D := g0.trans H.a0
    have l1 : StableHlo.launchContents m' c (Proc.devRef .tc Cert.Reference2Ideal.main_arg1) = up p.X := g1.trans H.a1
    have l2 : StableHlo.launchContents m' c (Proc.devRef .tc Cert.Reference2Ideal.main_arg2) = up p.Md := g2.trans H.a2
    have l3 : StableHlo.launchContents m' c (Proc.devRef .tc Cert.Reference2Ideal.main_arg3) = row (p.G 0) := g3.trans H.a3
    have l7 : StableHlo.launchContents m' c (Proc.devRef .tc Cert.Reference2Ideal.main_arg7) = up p.Wi := g7.trans H.a7
    have l8 : StableHlo.launchContents m' c (Proc.devRef .tc Cert.Reference2Ideal.main_arg8) = up p.Cw := g8.trans H.a8
    have l9 : StableHlo.launchContents m' c (Proc.devRef .tc Cert.Reference2Ideal.main_arg9) = up3 p.Wp := g9.trans H.a9
    have l10 : StableHlo.launchContents m' c (Proc.devRef .tc Cert.Reference2Ideal.main_arg10) = row p.Ps := g10.trans H.a10
    have l11 : StableHlo.launchContents m' c (Proc.devRef .tc Cert.Reference2Ideal.main_arg11) = up p.Wo := g11.trans H.a11
    obtain ⟨r0, r1, r2, r3, r4, k⟩ := h c
    refine ⟨r0.trans ?_, r1.trans ?_, r2.trans ?_, r3.trans ?_, r4.trans ?_, k⟩
    · refine (Cert.Reference2Ideal.Read.val_main_v329_eq (StableHlo.launchContents m' c)).trans ?_
      rw [l0, l1, l2, l3, l7, l8, l9, l10, l11]
      exact (Cert.Reference2Ideal.Stages.v329_up p).trans (Cert.Kernel2Ideal.Arrays.arr14 H).symm
    · refine (Cert.Reference2Ideal.Read.val_main_v333_eq (StableHlo.launchContents m' c)).trans ?_
      rw [l0, l1, l2, l3, l7, l8, l9, l10, l11]
      exact (Cert.Reference2Ideal.Stages.v333_up p).trans (Cert.Kernel2Ideal.Arrays.arr15 H).symm
    · refine (Cert.Reference2Ideal.Read.val_main_v326_eq (StableHlo.launchContents m' c)).trans ?_
      rw [l0, l1, l2, l3, l7, l8, l9, l10, l11]
      exact (Cert.Reference2Ideal.Stages.v326_up p).trans (Cert.Kernel2Ideal.Arrays.arr16 H).symm
    · refine (Cert.Reference2Ideal.Read.val_main_v328_eq (StableHlo.launchContents m' c)).trans ?_
      rw [l0, l1, l2, l3, l7, l8, l9, l10, l11]
      exact (Cert.Reference2Ideal.Stages.v328_up p).trans (Cert.Kernel2Ideal.Arrays.arr17 H).symm
    · refine (Cert.Reference2Ideal.Read.val_main_v257_eq (StableHlo.launchContents m' c)).trans ?_
      rw [l0, l1, l2, l3, l7, l8, l9, l10, l11]
      exact (Cert.Reference2Ideal.Stages.v257_up p).trans (Cert.Kernel2Ideal.Arrays.arr18 H).symm

end Cert.MixClaim

end
-- ==== Proof.AdamSpec.lean ====
/- One AdamW step of one entry over the extended reals, and the arrays it is read from. -/
module

public import Idealize.ShloMosaic.Lib.VecWindow
public import Idealize.ShloMosaic.Lib.Pipeline.Value
public import Idealize.ShloMosaic.PureOps.Ideal.Laws
public import Idealize.ShloMosaic.Lib.Pipeline.ValueKit
public import Idealize.ShloMosaic.Lib.Pipeline.ValueKit.Tiles

@[expose] public section

set_option maxRecDepth 16384

noncomputable section

namespace Cert.AdamSpec

open Idealize.ShloMosaic Idealize.ShloMosaic.TcCoe

/-- A float32 literal. -/
def lit (b : BitVec 32) : EReal := Ideal.ofBits .f32 b

/-- The first and the second moment after a gradient `g`, and the weight's step from them. -/
def mom (g m : EReal) : EReal := lit 0x3F666666#32 * m + lit 0x3DCCCCCD#32 * g
def sqm (g v : EReal) : EReal := lit 0x3F7FBE77#32 * v + lit 0x3A83126F#32 * (g * g)
def step (w m v : EReal) : EReal :=
  lit 0xBA83126F#32 * (Ideal.div (Ideal.div m (lit 0x3F26BD02#32)) (Ideal.sqrt (Ideal.div v (lit 0x3C231ACC#32)) + lit 0x322BCC77#32)
    + lit 0x3C23D70A#32 * w)

/-- The gradient: the sum of the four parts that the exchange delivered. -/
def tot (p : Fin 4 → EReal) : EReal := ∑ q, p q

theorem tot_eq (p : Fin 4 → EReal) : tot p = p 0 + p 1 + p 2 + p 3 := Fin.sum_univ_four p

variable {n k : ℕ}

/-- Four matrices, and one, as arrays. -/
def a4 (P : Fin 4 → Fin n → Fin k → EReal) : (⟨3, ![4, n, k]⟩ : Shape).Idx → EReal := fun i => P (i 0) (i 1) (i 2)
def a1 (A : Fin n → Fin k → EReal) : (⟨3, ![1, n, k]⟩ : Shape).Idx → EReal := fun i => A (i 1) (i 2)

theorem eq_a4 (v : (⟨3, ![4, n, k]⟩ : Shape).Idx → EReal) (P : Fin 4 → Fin n → Fin k → EReal) (h : ∀ q a b, v (ix3 q a b) = P q a b) : v = a4 P := by
  funext i
  obtain ⟨q, a, b, rfl⟩ : ∃ (q : Fin 4) (a : Fin n) (b : Fin k), i = ix3 q a b := ⟨i 0, i 1, i 2, eq_ix3 i⟩
  exact h q a b

theorem eq_a1 (v : (⟨3, ![1, n, k]⟩ : Shape).Idx → EReal) (A : Fin n → Fin k → EReal) (h : ∀ a b, v (ix3 0 a b) = A a b) : v = a1 A := by
  funext i
  obtain ⟨u, a, b, rfl⟩ : ∃ (u : Fin 1) (a : Fin n) (b : Fin k), i = ix3 u a b := ⟨i 0, i 1, i 2, eq_ix3 i⟩
  rw [Fin.fin_one_eq_zero u]
  exact h a b

/-- A load of one of the four matrices, and of the whole of one. -/
theorem ld4 (P : Fin 4 → Fin n → Fin k → EReal) (q : Fin 4)
    (inb : ∀ a, (![q.val, 0, 0] : Fin 3 → ℕ) a + (![1, n, k] : Fin 3 → ℕ) a ≤ (⟨3, ![4, n, k]⟩ : Shape).size a) :
    View.ld (Val := Elt Ideal) (S := ⟨3, ![4, n, k]⟩) (e' := .bf16) (a4 P) (Rect.unit ![q.val, 0, 0] ![1, n, k] inb) = a1 (P q) := by
  refine eq_a1 _ _ fun a b => ?_
  exact View.ld_unit_apply_of (Val := Elt Ideal) (e := .bf16) (a4 P) ![q.val, 0, 0] ![1, n, k] inb (ix3 (0 : Fin 1) a b)
    (ix3 q a b) fun x => by fin_cases x <;> simp

theorem ld1 (A : Fin n → Fin k → EReal) (inb) :
    View.ld (Val := Elt Ideal) (S := ⟨3, ![1, n, k]⟩) (e' := .f32) (a1 A) (Rect.unit ![0, 0, 0] ![1, n, k] inb) = a1 A :=
  View.ld_unit_zero (S := ⟨3, ![1, n, k]⟩) (by ext x; fin_cases x <;> rfl) inb _

/-- A matrix as an array, and the reshapes between the two forms. -/
def a2 (A : Fin n → Fin k → EReal) : (⟨2, ![n, k]⟩ : Shape).Idx → EReal := fun i => A (i 0) (i 1)

theorem sc_in (A : Fin n → Fin k → EReal) (h : (⟨3, ![1, n, k]⟩ : Shape).ShapeCasts ⟨2, ![n, k]⟩) : shapeCast ⟨2, ![n, k]⟩ (a1 A) h = a2 A :=
  funext fun i => shapeCast_dropUnit_apply ![n, k] (a1 A) h i

theorem sc_out (A : Fin n → Fin k → EReal) (h : (⟨2, ![n, k]⟩ : Shape).ShapeCasts ⟨3, ![1, n, k]⟩) : shapeCast ⟨3, ![1, n, k]⟩ (a2 A) h = a1 A :=
  funext fun i => shapeCast_addUnit_apply ![n, k] (a2 A) h i

section Kernel

variable (P : Fin 4 → Fin n → Fin k → EReal) (W M V G : Fin n → Fin k → EReal) (hb : FTy.bf16.bits < FTy.f32.bits)
  (h : (⟨3, ![1, n, k]⟩ : Shape).ShapeCasts ⟨2, ![n, k]⟩) (h' : (⟨2, ![n, k]⟩ : Shape).ShapeCasts ⟨3, ![1, n, k]⟩)

/-- The kernel's gradient of a block of rows. -/
def kTot (v0 v1 v2 v3 : FVec Ideal ⟨3, ![1, n, k]⟩ .bf16) : FVec Ideal ⟨2, ![n, k]⟩ .f32 :=
  addf (addf (addf (extf .f32 (shapeCast ⟨2, ![n, k]⟩ v0 h) hb) (extf .f32 (shapeCast ⟨2, ![n, k]⟩ v1 h) hb))
    (extf .f32 (shapeCast ⟨2, ![n, k]⟩ v2 h) hb)) (extf .f32 (shapeCast ⟨2, ![n, k]⟩ v3 h) hb)

/-- A literal in every entry. -/
def kLit (b : BitVec 32) : FVec Ideal ⟨2, ![n, k]⟩ .f32 := broadcast ⟨2, ![n, k]⟩ (Scalar.ofBits (F := Ideal) .f32 b)

/-- The kernel's moments and step from a gradient. -/
def kMom (g : FVec Ideal ⟨2, ![n, k]⟩ .f32) (v : FVec Ideal ⟨3, ![1, n, k]⟩ .f32) : FVec Ideal ⟨2, ![n, k]⟩ .f32 :=
  addf (mulf (kLit 0x3F666666#32) (shapeCast ⟨2, ![n, k]⟩ v h)) (mulf (kLit 0x3DCCCCCD#32) g)
def kSqm (g : FVec Ideal ⟨2, ![n, k]⟩ .f32) (v : FVec Ideal ⟨3, ![1, n, k]⟩ .f32) : FVec Ideal ⟨2, ![n, k]⟩ .f32 :=
  addf (mulf (kLit 0x3F7FBE77#32) (shapeCast ⟨2, ![n, k]⟩ v h)) (mulf (kLit 0x3A83126F#32) (mulf g g))
def kStep (w : FVec Ideal ⟨3, ![1, n, k]⟩ .f32) (m v : FVec Ideal ⟨2, ![n, k]⟩ .f32) : FVec Ideal ⟨2, ![n, k]⟩ .f32 :=
  mulf (kLit 0xBA83126F#32) (addf (divf (divf m (kLit 0x3F26BD02#32)) (addf (sqrt (divf v (kLit 0x3C231ACC#32))) (kLit 0x322BCC77#32)))
    (mulf (kLit 0x3C23D70A#32) (shapeCast ⟨2, ![n, k]⟩ w h)))

theorem kTot_eq : kTot hb h (a1 (P 0)) (a1 (P 1)) (a1 (P 2)) (a1 (P 3)) = a2 fun a b => tot fun q => P q a b := by
  unfold kTot
  simp only [sc_in]
  exact funext fun i => (tot_eq fun q => P q (i 0) (i 1)).symm

theorem kMom_eq : kMom h (a2 G) (a1 M) = a2 fun a b => mom (G a b) (M a b) := by
  unfold kMom
  rw [sc_in]
  rfl

theorem kSqm_eq : kSqm h (a2 G) (a1 V) = a2 fun a b => sqm (G a b) (V a b) := by
  unfold kSqm
  rw [sc_in]
  rfl

theorem kStep_eq : kStep h (a1 W) (a2 M) (a2 V) = a2 fun a b => step (W a b) (M a b) (V a b) := by
  unfold kStep
  rw [sc_in]
  rfl

/-- What the four stores of a block hold. -/
theorem pay_grad : shapeCast ⟨3, ![1, n, k]⟩ (kTot hb h (a1 (P 0)) (a1 (P 1)) (a1 (P 2)) (a1 (P 3))) h' = a1 fun a b => tot fun q => P q a b := by
  rw [kTot_eq, sc_out]

theorem pay_mom : shapeCast ⟨3, ![1, n, k]⟩ (kMom h (kTot hb h (a1 (P 0)) (a1 (P 1)) (a1 (P 2)) (a1 (P 3))) (a1 M)) h'
    = a1 fun a b => mom (tot fun q => P q a b) (M a b) := by
  rw [kTot_eq, kMom_eq, sc_out]

theorem pay_sqm : shapeCast ⟨3, ![1, n, k]⟩ (kSqm h (kTot hb h (a1 (P 0)) (a1 (P 1)) (a1 (P 2)) (a1 (P 3))) (a1 V)) h'
    = a1 fun a b => sqm (tot fun q => P q a b) (V a b) := by
  rw [kTot_eq, kSqm_eq, sc_out]

theorem pay_step : shapeCast ⟨3, ![1, n, k]⟩ (kStep h (a1 W) (kMom h (kTot hb h (a1 (P 0)) (a1 (P 1)) (a1 (P 2)) (a1 (P 3))) (a1 M))
      (kSqm h (kTot hb h (a1 (P 0)) (a1 (P 1)) (a1 (P 2)) (a1 (P 3))) (a1 V))) h'
    = a1 fun a b => step (W a b) (mom (tot fun q => P q a b) (M a b)) (sqm (tot fun q => P q a b) (V a b)) := by
  rw [kTot_eq, kMom_eq, kSqm_eq, kStep_eq, sc_out]

end Kernel

section Ref

variable (P : Fin 4 → Fin n → Fin k → EReal) (W M V G : Fin n → Fin k → EReal) (hb : FTy.bf16.bits < FTy.f32.bits)

/-- The sum over the parts, and a literal in every entry. -/
def rTot (p : FVec Ideal ⟨3, ![4, n, k]⟩ .bf16) (hs : 0 < (⟨0, ![]⟩ : Shape).numel) (hr : (⟨3, ![4, n, k]⟩ : Shape).ReducesTo [0] ⟨2, ![n, k]⟩)
    (hc : (⟨2, ![n, k]⟩ : Shape).BroadcastsInDim ⟨3, ![1, n, k]⟩ (![1, 2] : Fin 2 → Fin 3)) : FVec Ideal ⟨3, ![1, n, k]⟩ .f32 :=
  broadcastInDim ⟨3, ![1, n, k]⟩ ![1, 2] hc (Host.reduceAdd (extf .f32 p hb) (constant ⟨0, ![]⟩ .f32 0x00000000#32) hr hs)

variable (hl : (⟨0, ![]⟩ : Shape).BroadcastsInDim ⟨3, ![1, n, k]⟩ (![] : Fin 0 → Fin 3))

def rLit (b : BitVec 32) : FVec Ideal ⟨3, ![1, n, k]⟩ .f32 := broadcastInDim ⟨3, ![1, n, k]⟩ ![] hl (constant ⟨0, ![]⟩ .f32 b)

/-- The reference's moments and step from a gradient. -/
def rMom (g m : FVec Ideal ⟨3, ![1, n, k]⟩ .f32) : FVec Ideal ⟨3, ![1, n, k]⟩ .f32 :=
  addf (mulf (rLit hl 0x3F666666#32) m) (mulf (rLit hl 0x3DCCCCCD#32) g)
def rSqm (g v : FVec Ideal ⟨3, ![1, n, k]⟩ .f32) : FVec Ideal ⟨3, ![1, n, k]⟩ .f32 :=
  addf (mulf (rLit hl 0x3F7FBE77#32) v) (mulf (rLit hl 0x3A83126F#32) (mulf g g))
def rStep (w m v : FVec Ideal ⟨3, ![1, n, k]⟩ .f32) : FVec Ideal ⟨3, ![1, n, k]⟩ .f32 :=
  mulf (rLit hl 0xBA83126F#32) (addf (Host.divf (Host.divf m (rLit hl 0x3F26BD02#32))
    (addf (Host.sqrt (Host.divf v (rLit hl 0x3C231ACC#32))) (rLit hl 0x322BCC77#32))) (mulf (rLit hl 0x3C23D70A#32) w))

theorem rTot_eq (hs hr hc) (hR : (⟨3, ![4, n, k]⟩ : Shape).Reduces [0] ⟨2, ![n, k]⟩) :
    rTot hb (a4 P) hs hr hc = a1 fun a b => tot fun q => P q a b := by
  refine eq_a1 _ _ fun a b => ?_
  refine (broadcastInDim_apply _ hc _ (ix3 0 a b) (ix2 a b) fun x => ?_).trans ?_
  · have ha := a.isLt
    have hb := b.isLt
    fin_cases x
    · show a.val = if n = 1 then 0 else a.val
      split <;> omega
    · show b.val = if k = 1 then 0 else b.val
      split <;> omega
  · simp only [Host.reduceAdd, Ideal.hostReduceAdd_def]
    rw [Ideal.hostReduceAdd_single hr hR]
    refine (congrArg (· + _) Ideal.ofBits_zero_f32).trans ((zero_add _).trans ?_)
    exact Finset.sum_congr rfl fun q _ => congrArg (a4 P)
      (funext fun x => Fin.ext (by match x with | ⟨0, _⟩ => rfl | ⟨1, _⟩ => rfl | ⟨2, _⟩ => rfl) : hR.lift (ix2 a b) q = ix3 q a b)

theorem rMom_eq : rMom hl (a1 G) (a1 M) = a1 fun a b => mom (G a b) (M a b) := rfl
theorem rSqm_eq : rSqm hl (a1 G) (a1 V) = a1 fun a b => sqm (G a b) (V a b) := rfl
theorem rStep_eq : rStep hl (a1 W) (a1 M) (a1 V) = a1 fun a b => step (W a b) (M a b) (V a b) := rfl

variable (hs : 0 < (⟨0, ![]⟩ : Shape).numel) (hr : (⟨3, ![4, n, k]⟩ : Shape).ReducesTo [0] ⟨2, ![n, k]⟩)
  (hc : (⟨2, ![n, k]⟩ : Shape).BroadcastsInDim ⟨3, ![1, n, k]⟩ (![1, 2] : Fin 2 → Fin 3)) (hR : (⟨3, ![4, n, k]⟩ : Shape).Reduces [0] ⟨2, ![n, k]⟩)

include hR

theorem ref_mom : rMom hl (rTot hb (a4 P) hs hr hc) (a1 M) = a1 fun a b => mom (tot fun q => P q a b) (M a b) := by
  rw [rTot_eq P hb hs hr hc hR, rMom_eq]

theorem ref_sqm : rSqm hl (rTot hb (a4 P) hs hr hc) (a1 V) = a1 fun a b => sqm (tot fun q => P q a b) (V a b) := by
  rw [rTot_eq P hb hs hr hc hR, rSqm_eq]

theorem ref_step : rStep hl (a1 W) (rMom hl (rTot hb (a4 P) hs hr hc) (a1 M)) (rSqm hl (rTot hb (a4 P) hs hr hc) (a1 V))
    = a1 fun a b => step (W a b) (mom (tot fun q => P q a b) (M a b)) (sqm (tot fun q => P q a b) (V a b)) := by
  rw [ref_mom P M hb hl hs hr hc hR, ref_sqm P V hb hl hs hr hc hR, rStep_eq]

end Ref

end Cert.AdamSpec

end
-- ==== Proof.Adam4Claim.lean ====
/- The claims of the MLP output weight's update: what its kernel's arrays hold, and that its reference leaves the same. -/
module

public import proofs.«01_k».proof.Defs
public import proofs.«01_k».proof.Proof.Gen.Kernel4.Frame
public import proofs.«01_k».proof.Proof.Gen.Kernel4Ideal.Value
public import proofs.«01_k».proof.Proof.Gen.Reference4Ideal
public import proofs.«01_k».proof.Proof.Gen.Reference4Ideal.Run
public import proofs.«01_k».proof.Proof.AdamSpec
public import Idealize.ShloMosaic.Lib.Pipeline.ValueKit
public import Idealize.ShloMosaic.Lib.Claim

@[expose] public section

set_option maxRecDepth 16384

noncomputable section

namespace Cert.Adam4

open Idealize.ShloMosaic Idealize.ShloMosaic.TcCoe Idealize.SL.Sem Idealize.ShloMosaic.Pipeline Cert.AdamSpec

theorem frame_p : Cert.quiescent_Kernel4 (hKernel4 := Cert.Kernel4.Gen.facts) := fun m g _ => Cert.Kernel4.Gen.frame m g

theorem frame_pi : Cert.quiescent_Kernel4Ideal (hKernel4Ideal := Cert.Kernel4Ideal.Gen.facts) := fun m g _ => Cert.Kernel4Ideal.Gen.frame m g

/-- The reference declares no semaphore, and its run leaves the arguments. -/
theorem frame_ri : Cert.quiescent_Reference4Ideal (hReference4Ideal := Cert.Reference4Ideal.Gen.facts) := fun m g _ =>
  (θ_run _ _ _).mono (fun r h => ⟨fun c => (h c).2.2.2.2, sem_eq_zero_of_no_sems (by decide) r.2⟩) (Cert.Reference4Ideal.Value.run m g)

section Block

open Cert.Kernel4Ideal Cert.Kernel4Ideal.Gen

variable (P : Fin 4 → Fin 128 → Fin 1024 → EReal) (W M V : Fin 128 → Fin 1024 → EReal)

/-- The loads of the four parts of a point's rows, and of a whole block. -/
theorem ld_0 : View.ld (Val := Elt Ideal) (e' := .bf16) (a4 P) r0_0 = a1 (P 0) := ld4 P 0 _
theorem ld_1 : View.ld (Val := Elt Ideal) (e' := .bf16) (a4 P) r0_1 = a1 (P 1) := ld4 P 1 _
theorem ld_2 : View.ld (Val := Elt Ideal) (e' := .bf16) (a4 P) r0_2 = a1 (P 2) := ld4 P 2 _
theorem ld_3 : View.ld (Val := Elt Ideal) (e' := .bf16) (a4 P) r0_3 = a1 (P 3) := ld4 P 3 _
theorem ld_4 : View.ld (Val := Elt Ideal) (e' := .f32) (a1 W) r0_4 = a1 W := ld1 W _

/-- What a point writes: the gradient, the step and the two moments of its rows. -/
theorem out4 : out0_4 (F := Ideal) (a4 P) (a1 W) (a1 M) (a1 V) = a1 fun a b => tot fun q => P q a b := by
  unfold_out out0_4
  refine (View.canon_unit_zero (by decide) _ _).trans ?_
  rw [ld_0, ld_1, ld_2, ld_3]
  exact pay_grad P _ _ _

theorem out5 : out0_5 (F := Ideal) (a4 P) (a1 W) (a1 M) (a1 V)
    = a1 fun a b => step (W a b) (mom (tot fun q => P q a b) (M a b)) (sqm (tot fun q => P q a b) (V a b)) := by
  unfold_out out0_5
  refine (View.canon_unit_zero (by decide) _ _).trans ?_
  rw [ld_0, ld_1, ld_2, ld_3, ld_4, ld_4, ld_4]
  exact pay_step P W M V _ _ _

theorem out6 : out0_6 (F := Ideal) (a4 P) (a1 W) (a1 M) (a1 V) = a1 fun a b => mom (tot fun q => P q a b) (M a b) := by
  unfold_out out0_6
  refine (View.canon_unit_zero (by decide) _ _).trans ?_
  rw [ld_0, ld_1, ld_2, ld_3, ld_4]
  exact pay_mom P M _ _ _

theorem out7 : out0_7 (F := Ideal) (a4 P) (a1 W) (a1 M) (a1 V) = a1 fun a b => sqm (tot fun q => P q a b) (V a b) := by
  unfold_out out0_7
  refine (View.canon_unit_zero (by decide) _ _).trans ?_
  rw [ld_0, ld_1, ld_2, ld_3, ld_4]
  exact pay_sqm P V _ _ _

end Block

section Array

open Cert.Kernel4Ideal Cert.Kernel4Ideal.Gen

variable (m : (ℓ : Loc nD τ sig) → Buf (Elt Ideal) ℓ) (c : Dev nD) (t : Fin cfg0.N)

/-- The delivered parts, the weight and its moments. -/
def parts (q : Fin 4) (i : Fin 512) (j : Fin 1024) : EReal := m ((c : Thread nD τ).loc main_arg0) (ix3 q i j)
def wt (i : Fin 512) (j : Fin 1024) : EReal := m ((c : Thread nD τ).loc main_arg1) (ix3 0 i j)
def m1 (i : Fin 512) (j : Fin 1024) : EReal := m ((c : Thread nD τ).loc main_arg2) (ix3 0 i j)
def m2 (i : Fin 512) (j : Fin 1024) : EReal := m ((c : Thread nD τ).loc main_arg3) (ix3 0 i j)

/-- Row `i` of a point's block. -/
def row (i : Fin 128) : Fin 512 := ⟨t.val * 128 + i.val, by have := lt_of_lt_of_eq t.isLt (show cfg0.N = 4 from N_0); omega⟩

theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] :=
  (by decide +kernel : ∀ t : Fin grid0.N, _)

theorem iblk0 : iblk m c 0 t = (a4 fun q i j => parts m c q (row t i) j : S4x128x1024.Idx → EReal) := by
  refine eq_a4 _ _ fun q a b => ?_
  show _ = m ((c : Thread nD τ).loc main_arg0) (ix3 q (row t a) b)
  blk_ext! [iblk, V, (idx t).1, row]

theorem iblk1 : iblk m c 1 t = (a1 fun i j => wt m c (row t i) j : S1x128x1024.Idx → EReal) := by
  refine eq_a1 _ _ fun a b => ?_
  show _ = m ((c : Thread nD τ).loc main_arg1) (ix3 0 (row t a) b)
  blk_ext! [iblk, V, (idx t).2.1, row]

theorem iblk2 : iblk m c 2 t = (a1 fun i j => m1 m c (row t i) j : S1x128x1024.Idx → EReal) := by
  refine eq_a1 _ _ fun a b => ?_
  show _ = m ((c : Thread nD τ).loc main_arg2) (ix3 0 (row t a) b)
  blk_ext! [iblk, V, (idx t).2.2.1, row]

theorem iblk3 : iblk m c 3 t = (a1 fun i j => m2 m c (row t i) j : S1x128x1024.Idx → EReal) := by
  refine eq_a1 _ _ fun a b => ?_
  show _ = m ((c : Thread nD τ).loc main_arg3) (ix3 0 (row t a) b)
  blk_ext! [iblk, V, (idx t).2.2.2.1, row]

/-- The gradient, the new moments and the step. -/
def grad (i : Fin 512) (j : Fin 1024) : EReal := tot fun q => parts m c q i j
def newM (i : Fin 512) (j : Fin 1024) : EReal := mom (grad m c i j) (m1 m c i j)
def newV (i : Fin 512) (j : Fin 1024) : EReal := sqm (grad m c i j) (m2 m c i j)
def delta (i : Fin 512) (j : Fin 1024) : EReal := step (wt m c i j) (newM m c i j) (newV m c i j)

theorem arr4 : (dats m 0 c).arrAt 4 cfg0.N = (a1 (grad m c) : S1x512x1024.Idx → EReal) := by
  refine (dats m 0 c).arrAt_eq_of_covers 4 _ (by decide +kernel) fun t _ y => ?_
  blk_simp
  rw [after0_4, iblk0, iblk1, iblk2, iblk3, out4]
  have e : (win0_4.blk t).view.emb y = (ix3 0 (row t (y 1)) (y 2) : S1x512x1024.Idx) := by
    blk_ext [(idx t).2.2.2.2.1, row]
  exact (congrArg (a1 (grad m c) : S1x512x1024.Idx → EReal) e).symm

theorem arr5 : (dats m 0 c).arrAt 5 cfg0.N = (a1 (delta m c) : S1x512x1024.Idx → EReal) := by
  refine (dats m 0 c).arrAt_eq_of_covers 5 _ (by decide +kernel) fun t _ y => ?_
  blk_simp
  rw [after0_5, iblk0, iblk1, iblk2, iblk3, out5]
  have e : (win0_5.blk t).view.emb y = (ix3 0 (row t (y 1)) (y 2) : S1x512x1024.Idx) := by
    blk_ext [(idx t).2.2.2.2.2.1, row]
  exact (congrArg (a1 (delta m c) : S1x512x1024.Idx → EReal) e).symm

theorem arr6 : (dats m 0 c).arrAt 6 cfg0.N = (a1 (newM m c) : S1x512x1024.Idx → EReal) := by
  refine (dats m 0 c).arrAt_eq_of_covers 6 _ (by decide +kernel) fun t _ y => ?_
  blk_simp
  rw [after0_6, iblk0, iblk1, iblk2, iblk3, out6]
  have e : (win0_6.blk t).view.emb y = (ix3 0 (row t (y 1)) (y 2) : S1x512x1024.Idx) := by
    blk_ext [(idx t).2.2.2.2.2.2.1, row]
  exact (congrArg (a1 (newM m c) : S1x512x1024.Idx → EReal) e).symm

theorem arr7 : (dats m 0 c).arrAt 7 cfg0.N = (a1 (newV m c) : S1x512x1024.Idx → EReal) := by
  refine (dats m 0 c).arrAt_eq_of_covers 7 _ (by decide +kernel) fun t _ y => ?_
  blk_simp
  rw [after0_7, iblk0, iblk1, iblk2, iblk3, out7]
  have e : (win0_7.blk t).view.emb y = (ix3 0 (row t (y 1)) (y 2) : S1x512x1024.Idx) := by
    blk_ext [(idx t).2.2.2.2.2.2.2, row]
  exact (congrArg (a1 (newV m c) : S1x512x1024.Idx → EReal) e).symm

end Array

theorem algebraic : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · refine (θ_run _ _ _).mono (fun r h c => ?_) (Cert.Reference4Ideal.Value.run m' g')
    obtain ⟨g0, g1, g2, g3⟩ := hagree c
    obtain ⟨r0, r1, r2, r3, k⟩ := h c
    have e0 := g0.trans (eq_a4 _ (parts m c) fun _ _ _ => rfl)
    have e1 := g1.trans (eq_a1 _ (wt m c) fun _ _ => rfl)
    have e2 := g2.trans (eq_a1 _ (m1 m c) fun _ _ => rfl)
    have e3 := g3.trans (eq_a1 _ (m2 m c) fun _ _ => rfl)
    refine ⟨r0.trans ?_, r1.trans ?_, r2.trans ?_, r3.trans ?_, k⟩
    · rw [e0]
      exact (rTot_eq _ _ _ _ _ (by decide)).trans (arr4 m c).symm
    · rw [e0, e1, e2, e3]
      exact (ref_step _ _ _ _ _ _ _ _ _ (by decide)).trans (arr5 m c).symm
    · rw [e0, e2]
      exact (ref_mom _ _ _ _ _ _ _ (by decide)).trans (arr6 m c).symm
    · rw [e0, e3]
      exact (ref_sqm _ _ _ _ _ _ _ (by decide)).trans (arr7 m c).symm

end Cert.Adam4

end
-- ==== Proof.Adam5Claim.lean ====
/- The claims of the MLP input weight's update: what its kernel's arrays hold, and that its reference leaves the same. -/
module

public import proofs.«01_k».proof.Defs
public import proofs.«01_k».proof.Proof.Gen.Kernel5.Frame
public import proofs.«01_k».proof.Proof.Gen.Kernel5Ideal.Value
public import proofs.«01_k».proof.Proof.Gen.Reference5Ideal
public import proofs.«01_k».proof.Proof.Gen.Reference5Ideal.Run
public import proofs.«01_k».proof.Proof.AdamSpec
public import Idealize.ShloMosaic.Lib.Pipeline.ValueKit
public import Idealize.ShloMosaic.Lib.Claim

@[expose] public section

set_option maxRecDepth 16384

noncomputable section

namespace Cert.Adam5

open Idealize.ShloMosaic Idealize.ShloMosaic.TcCoe Idealize.SL.Sem Idealize.ShloMosaic.Pipeline Cert.AdamSpec

theorem frame_p : Cert.quiescent_Kernel5 (hKernel5 := Cert.Kernel5.Gen.facts) := fun m g _ => Cert.Kernel5.Gen.frame m g

theorem frame_pi : Cert.quiescent_Kernel5Ideal (hKernel5Ideal := Cert.Kernel5Ideal.Gen.facts) := fun m g _ => Cert.Kernel5Ideal.Gen.frame m g

/-- The reference declares no semaphore, and its run leaves the arguments. -/
theorem frame_ri : Cert.quiescent_Reference5Ideal (hReference5Ideal := Cert.Reference5Ideal.Gen.facts) := fun m g _ =>
  (θ_run _ _ _).mono (fun r h => ⟨fun c => (h c).2.2.2.2, sem_eq_zero_of_no_sems (by decide) r.2⟩) (Cert.Reference5Ideal.Value.run m g)

section Block

open Cert.Kernel5Ideal Cert.Kernel5Ideal.Gen

variable (P : Fin 4 → Fin 256 → Fin 512 → EReal) (W M V : Fin 256 → Fin 512 → EReal)

/-- The loads of the four parts of a point's rows, and of a whole block. -/
theorem ld_0 : View.ld (Val := Elt Ideal) (e' := .bf16) (a4 P) r0_0 = a1 (P 0) := ld4 P 0 _
theorem ld_1 : View.ld (Val := Elt Ideal) (e' := .bf16) (a4 P) r0_1 = a1 (P 1) := ld4 P 1 _
theorem ld_2 : View.ld (Val := Elt Ideal) (e' := .bf16) (a4 P) r0_2 = a1 (P 2) := ld4 P 2 _
theorem ld_3 : View.ld (Val := Elt Ideal) (e' := .bf16) (a4 P) r0_3 = a1 (P 3) := ld4 P 3 _
theorem ld_4 : View.ld (Val := Elt Ideal) (e' := .f32) (a1 W) r0_4 = a1 W := ld1 W _

/-- What a point writes: the gradient, the step and the two moments of its rows. -/
theorem out4 : out0_4 (F := Ideal) (a4 P) (a1 W) (a1 M) (a1 V) = a1 fun a b => tot fun q => P q a b := by
  unfold_out out0_4
  refine (View.canon_unit_zero (by decide) _ _).trans ?_
  rw [ld_0, ld_1, ld_2, ld_3]
  exact pay_grad P _ _ _

theorem out5 : out0_5 (F := Ideal) (a4 P) (a1 W) (a1 M) (a1 V)
    = a1 fun a b => step (W a b) (mom (tot fun q => P q a b) (M a b)) (sqm (tot fun q => P q a b) (V a b)) := by
  unfold_out out0_5
  refine (View.canon_unit_zero (by decide) _ _).trans ?_
  rw [ld_0, ld_1, ld_2, ld_3, ld_4, ld_4, ld_4]
  exact pay_step P W M V _ _ _

theorem out6 : out0_6 (F := Ideal) (a4 P) (a1 W) (a1 M) (a1 V) = a1 fun a b => mom (tot fun q => P q a b) (M a b) := by
  unfold_out out0_6
  refine (View.canon_unit_zero (by decide) _ _).trans ?_
  rw [ld_0, ld_1, ld_2, ld_3, ld_4]
  exact pay_mom P M _ _ _

theorem out7 : out0_7 (F := Ideal) (a4 P) (a1 W) (a1 M) (a1 V) = a1 fun a b => sqm (tot fun q => P q a b) (V a b) := by
  unfold_out out0_7
  refine (View.canon_unit_zero (by decide) _ _).trans ?_
  rw [ld_0, ld_1, ld_2, ld_3, ld_4]
  exact pay_sqm P V _ _ _

end Block

section Array

open Cert.Kernel5Ideal Cert.Kernel5Ideal.Gen

variable (m : (ℓ : Loc nD τ sig) → Buf (Elt Ideal) ℓ) (c : Dev nD) (t : Fin cfg0.N)

/-- The delivered parts, the weight and its moments. -/
def parts (q : Fin 4) (i : Fin 1024) (j : Fin 512) : EReal := m ((c : Thread nD τ).loc main_arg0) (ix3 q i j)
def wt (i : Fin 1024) (j : Fin 512) : EReal := m ((c : Thread nD τ).loc main_arg1) (ix3 0 i j)
def m1 (i : Fin 1024) (j : Fin 512) : EReal := m ((c : Thread nD τ).loc main_arg2) (ix3 0 i j)
def m2 (i : Fin 1024) (j : Fin 512) : EReal := m ((c : Thread nD τ).loc main_arg3) (ix3 0 i j)

/-- Row `i` of a point's block. -/
def row (i : Fin 256) : Fin 1024 := ⟨t.val * 256 + i.val, by have := lt_of_lt_of_eq t.isLt (show cfg0.N = 4 from N_0); omega⟩

theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] :=
  (by decide +kernel : ∀ t : Fin grid0.N, _)

theorem iblk0 : iblk m c 0 t = (a4 fun q i j => parts m c q (row t i) j : S4x256x512.Idx → EReal) := by
  refine eq_a4 _ _ fun q a b => ?_
  show _ = m ((c : Thread nD τ).loc main_arg0) (ix3 q (row t a) b)
  blk_ext! [iblk, V, (idx t).1, row]

theorem iblk1 : iblk m c 1 t = (a1 fun i j => wt m c (row t i) j : S1x256x512.Idx → EReal) := by
  refine eq_a1 _ _ fun a b => ?_
  show _ = m ((c : Thread nD τ).loc main_arg1) (ix3 0 (row t a) b)
  blk_ext! [iblk, V, (idx t).2.1, row]

theorem iblk2 : iblk m c 2 t = (a1 fun i j => m1 m c (row t i) j : S1x256x512.Idx → EReal) := by
  refine eq_a1 _ _ fun a b => ?_
  show _ = m ((c : Thread nD τ).loc main_arg2) (ix3 0 (row t a) b)
  blk_ext! [iblk, V, (idx t).2.2.1, row]

theorem iblk3 : iblk m c 3 t = (a1 fun i j => m2 m c (row t i) j : S1x256x512.Idx → EReal) := by
  refine eq_a1 _ _ fun a b => ?_
  show _ = m ((c : Thread nD τ).loc main_arg3) (ix3 0 (row t a) b)
  blk_ext! [iblk, V, (idx t).2.2.2.1, row]

/-- The gradient, the new moments and the step. -/
def grad (i : Fin 1024) (j : Fin 512) : EReal := tot fun q => parts m c q i j
def newM (i : Fin 1024) (j : Fin 512) : EReal := mom (grad m c i j) (m1 m c i j)
def newV (i : Fin 1024) (j : Fin 512) : EReal := sqm (grad m c i j) (m2 m c i j)
def delta (i : Fin 1024) (j : Fin 512) : EReal := step (wt m c i j) (newM m c i j) (newV m c i j)

theorem arr4 : (dats m 0 c).arrAt 4 cfg0.N = (a1 (grad m c) : S1x1024x512.Idx → EReal) := by
  refine (dats m 0 c).arrAt_eq_of_covers 4 _ (by decide +kernel) fun t _ y => ?_
  blk_simp
  rw [after0_4, iblk0, iblk1, iblk2, iblk3, out4]
  have e : (win0_4.blk t).view.emb y = (ix3 0 (row t (y 1)) (y 2) : S1x1024x512.Idx) := by
    blk_ext [(idx t).2.2.2.2.1, row]
  exact (congrArg (a1 (grad m c) : S1x1024x512.Idx → EReal) e).symm

theorem arr5 : (dats m 0 c).arrAt 5 cfg0.N = (a1 (delta m c) : S1x1024x512.Idx → EReal) := by
  refine (dats m 0 c).arrAt_eq_of_covers 5 _ (by decide +kernel) fun t _ y => ?_
  blk_simp
  rw [after0_5, iblk0, iblk1, iblk2, iblk3, out5]
  have e : (win0_5.blk t).view.emb y = (ix3 0 (row t (y 1)) (y 2) : S1x1024x512.Idx) := by
    blk_ext [(idx t).2.2.2.2.2.1, row]
  exact (congrArg (a1 (delta m c) : S1x1024x512.Idx → EReal) e).symm

theorem arr6 : (dats m 0 c).arrAt 6 cfg0.N = (a1 (newM m c) : S1x1024x512.Idx → EReal) := by
  refine (dats m 0 c).arrAt_eq_of_covers 6 _ (by decide +kernel) fun t _ y => ?_
  blk_simp
  rw [after0_6, iblk0, iblk1, iblk2, iblk3, out6]
  have e : (win0_6.blk t).view.emb y = (ix3 0 (row t (y 1)) (y 2) : S1x1024x512.Idx) := by
    blk_ext [(idx t).2.2.2.2.2.2.1, row]
  exact (congrArg (a1 (newM m c) : S1x1024x512.Idx → EReal) e).symm

theorem arr7 : (dats m 0 c).arrAt 7 cfg0.N = (a1 (newV m c) : S1x1024x512.Idx → EReal) := by
  refine (dats m 0 c).arrAt_eq_of_covers 7 _ (by decide +kernel) fun t _ y => ?_
  blk_simp
  rw [after0_7, iblk0, iblk1, iblk2, iblk3, out7]
  have e : (win0_7.blk t).view.emb y = (ix3 0 (row t (y 1)) (y 2) : S1x1024x512.Idx) := by
    blk_ext [(idx t).2.2.2.2.2.2.2, row]
  exact (congrArg (a1 (newV m c) : S1x1024x512.Idx → EReal) e).symm

end Array

theorem algebraic : Cert.algebraic_Kernel5Ideal_Reference5Ideal (hKernel5Ideal := Cert.Kernel5Ideal.Gen.facts)
    (hReference5Ideal := Cert.Reference5Ideal.Gen.facts) := by
  pair_intro
  · run_from Cert.Kernel5Ideal.Value.run_blocks m g
  · refine (θ_run _ _ _).mono (fun r h c => ?_) (Cert.Reference5Ideal.Value.run m' g')
    obtain ⟨g0, g1, g2, g3⟩ := hagree c
    obtain ⟨r0, r1, r2, r3, k⟩ := h c
    have e0 := g0.trans (eq_a4 _ (parts m c) fun _ _ _ => rfl)
    have e1 := g1.trans (eq_a1 _ (wt m c) fun _ _ => rfl)
    have e2 := g2.trans (eq_a1 _ (m1 m c) fun _ _ => rfl)
    have e3 := g3.trans (eq_a1 _ (m2 m c) fun _ _ => rfl)
    refine ⟨r0.trans ?_, r1.trans ?_, r2.trans ?_, r3.trans ?_, k⟩
    · rw [e0]
      exact (rTot_eq _ _ _ _ _ (by decide)).trans (arr4 m c).symm
    · rw [e0, e1, e2, e3]
      exact (ref_step _ _ _ _ _ _ _ _ _ (by decide)).trans (arr5 m c).symm
    · rw [e0, e2]
      exact (ref_mom _ _ _ _ _ _ _ (by decide)).trans (arr6 m c).symm
    · rw [e0, e3]
      exact (ref_sqm _ _ _ _ _ _ _ (by decide)).trans (arr7 m c).symm

end Cert.Adam5

end
-- ==== Proof.Adam6Claim.lean ====
/- The claims of the input projection's update: what its kernel's arrays hold, and that its reference leaves the same. -/
module

public import proofs.«01_k».proof.Defs
public import proofs.«01_k».proof.Proof.Gen.Kernel6.Frame
public import proofs.«01_k».proof.Proof.Gen.Kernel6Ideal.Value
public import proofs.«01_k».proof.Proof.Gen.Reference6Ideal
public import proofs.«01_k».proof.Proof.Gen.Reference6Ideal.Run
public import proofs.«01_k».proof.Proof.AdamSpec
public import Idealize.ShloMosaic.Lib.Pipeline.ValueKit
public import Idealize.ShloMosaic.Lib.Claim

@[expose] public section

set_option maxRecDepth 16384

noncomputable section

namespace Cert.Adam6

open Idealize.ShloMosaic Idealize.ShloMosaic.TcCoe Idealize.SL.Sem Idealize.ShloMosaic.Pipeline Cert.AdamSpec

theorem frame_p : Cert.quiescent_Kernel6 (hKernel6 := Cert.Kernel6.Gen.facts) := fun m g _ => Cert.Kernel6.Gen.frame m g

theorem frame_pi : Cert.quiescent_Kernel6Ideal (hKernel6Ideal := Cert.Kernel6Ideal.Gen.facts) := fun m g _ => Cert.Kernel6Ideal.Gen.frame m g

/-- The reference declares no semaphore, and its run leaves the arguments. -/
theorem frame_ri : Cert.quiescent_Reference6Ideal (hReference6Ideal := Cert.Reference6Ideal.Gen.facts) := fun m g _ =>
  (θ_run _ _ _).mono (fun r h => ⟨fun c => (h c).2.2.2.2, sem_eq_zero_of_no_sems (by decide) r.2⟩) (Cert.Reference6Ideal.Value.run m g)

section Block

open Cert.Kernel6Ideal Cert.Kernel6Ideal.Gen

variable (P : Fin 4 → Fin 512 → Fin 256 → EReal) (W M V : Fin 512 → Fin 256 → EReal)

/-- The loads of the four parts of a point's rows, and of a whole block. -/
theorem ld_0 : View.ld (Val := Elt Ideal) (e' := .bf16) (a4 P) r0_0 = a1 (P 0) := ld4 P 0 _
theorem ld_1 : View.ld (Val := Elt Ideal) (e' := .bf16) (a4 P) r0_1 = a1 (P 1) := ld4 P 1 _
theorem ld_2 : View.ld (Val := Elt Ideal) (e' := .bf16) (a4 P) r0_2 = a1 (P 2) := ld4 P 2 _
theorem ld_3 : View.ld (Val := Elt Ideal) (e' := .bf16) (a4 P) r0_3 = a1 (P 3) := ld4 P 3 _
theorem ld_4 : View.ld (Val := Elt Ideal) (e' := .f32) (a1 W) r0_4 = a1 W := ld1 W _

/-- What a point writes: the gradient, the step and the two moments of its rows. -/
theorem out4 : out0_4 (F := Ideal) (a4 P) (a1 W) (a1 M) (a1 V) = a1 fun a b => tot fun q => P q a b := by
  unfold_out out0_4
  refine (View.canon_unit_zero (by decide) _ _).trans ?_
  rw [ld_0, ld_1, ld_2, ld_3]
  exact pay_grad P _ _ _

theorem out5 : out0_5 (F := Ideal) (a4 P) (a1 W) (a1 M) (a1 V)
    = a1 fun a b => step (W a b) (mom (tot fun q => P q a b) (M a b)) (sqm (tot fun q => P q a b) (V a b)) := by
  unfold_out out0_5
  refine (View.canon_unit_zero (by decide) _ _).trans ?_
  rw [ld_0, ld_1, ld_2, ld_3, ld_4, ld_4, ld_4]
  exact pay_step P W M V _ _ _

theorem out6 : out0_6 (F := Ideal) (a4 P) (a1 W) (a1 M) (a1 V) = a1 fun a b => mom (tot fun q => P q a b) (M a b) := by
  unfold_out out0_6
  refine (View.canon_unit_zero (by decide) _ _).trans ?_
  rw [ld_0, ld_1, ld_2, ld_3, ld_4]
  exact pay_mom P M _ _ _

theorem out7 : out0_7 (F := Ideal) (a4 P) (a1 W) (a1 M) (a1 V) = a1 fun a b => sqm (tot fun q => P q a b) (V a b) := by
  unfold_out out0_7
  refine (View.canon_unit_zero (by decide) _ _).trans ?_
  rw [ld_0, ld_1, ld_2, ld_3, ld_4]
  exact pay_sqm P V _ _ _

end Block

section Array

open Cert.Kernel6Ideal Cert.Kernel6Ideal.Gen

variable (m : (ℓ : Loc nD τ sig) → Buf (Elt Ideal) ℓ) (c : Dev nD) (t : Fin cfg0.N)

/-- The delivered parts, the weight and its moments. -/
def parts (q : Fin 4) (i : Fin 1024) (j : Fin 256) : EReal := m ((c : Thread nD τ).loc main_arg0) (ix3 q i j)
def wt (i : Fin 1024) (j : Fin 256) : EReal := m ((c : Thread nD τ).loc main_arg1) (ix3 0 i j)
def m1 (i : Fin 1024) (j : Fin 256) : EReal := m ((c : Thread nD τ).loc main_arg2) (ix3 0 i j)
def m2 (i : Fin 1024) (j : Fin 256) : EReal := m ((c : Thread nD τ).loc main_arg3) (ix3 0 i j)

/-- Row `i` of a point's block. -/
def row (i : Fin 512) : Fin 1024 := ⟨t.val * 512 + i.val, by have := lt_of_lt_of_eq t.isLt (show cfg0.N = 2 from N_0); omega⟩

theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] :=
  (by decide +kernel : ∀ t : Fin grid0.N, _)

theorem iblk0 : iblk m c 0 t = (a4 fun q i j => parts m c q (row t i) j : S4x512x256.Idx → EReal) := by
  refine eq_a4 _ _ fun q a b => ?_
  show _ = m ((c : Thread nD τ).loc main_arg0) (ix3 q (row t a) b)
  blk_ext! [iblk, V, (idx t).1, row]

theorem iblk1 : iblk m c 1 t = (a1 fun i j => wt m c (row t i) j : S1x512x256.Idx → EReal) := by
  refine eq_a1 _ _ fun a b => ?_
  show _ = m ((c : Thread nD τ).loc main_arg1) (ix3 0 (row t a) b)
  blk_ext! [iblk, V, (idx t).2.1, row]

theorem iblk2 : iblk m c 2 t = (a1 fun i j => m1 m c (row t i) j : S1x512x256.Idx → EReal) := by
  refine eq_a1 _ _ fun a b => ?_
  show _ = m ((c : Thread nD τ).loc main_arg2) (ix3 0 (row t a) b)
  blk_ext! [iblk, V, (idx t).2.2.1, row]

theorem iblk3 : iblk m c 3 t = (a1 fun i j => m2 m c (row t i) j : S1x512x256.Idx → EReal) := by
  refine eq_a1 _ _ fun a b => ?_
  show _ = m ((c : Thread nD τ).loc main_arg3) (ix3 0 (row t a) b)
  blk_ext! [iblk, V, (idx t).2.2.2.1, row]

/-- The gradient, the new moments and the step. -/
def grad (i : Fin 1024) (j : Fin 256) : EReal := tot fun q => parts m c q i j
def newM (i : Fin 1024) (j : Fin 256) : EReal := mom (grad m c i j) (m1 m c i j)
def newV (i : Fin 1024) (j : Fin 256) : EReal := sqm (grad m c i j) (m2 m c i j)
def delta (i : Fin 1024) (j : Fin 256) : EReal := step (wt m c i j) (newM m c i j) (newV m c i j)

theorem arr4 : (dats m 0 c).arrAt 4 cfg0.N = (a1 (grad m c) : S1x1024x256.Idx → EReal) := by
  refine (dats m 0 c).arrAt_eq_of_covers 4 _ (by decide +kernel) fun t _ y => ?_
  blk_simp
  rw [after0_4, iblk0, iblk1, iblk2, iblk3, out4]
  have e : (win0_4.blk t).view.emb y = (ix3 0 (row t (y 1)) (y 2) : S1x1024x256.Idx) := by
    blk_ext [(idx t).2.2.2.2.1, row]
  exact (congrArg (a1 (grad m c) : S1x1024x256.Idx → EReal) e).symm

theorem arr5 : (dats m 0 c).arrAt 5 cfg0.N = (a1 (delta m c) : S1x1024x256.Idx → EReal) := by
  refine (dats m 0 c).arrAt_eq_of_covers 5 _ (by decide +kernel) fun t _ y => ?_
  blk_simp
  rw [after0_5, iblk0, iblk1, iblk2, iblk3, out5]
  have e : (win0_5.blk t).view.emb y = (ix3 0 (row t (y 1)) (y 2) : S1x1024x256.Idx) := by
    blk_ext [(idx t).2.2.2.2.2.1, row]
  exact (congrArg (a1 (delta m c) : S1x1024x256.Idx → EReal) e).symm

theorem arr6 : (dats m 0 c).arrAt 6 cfg0.N = (a1 (newM m c) : S1x1024x256.Idx → EReal) := by
  refine (dats m 0 c).arrAt_eq_of_covers 6 _ (by decide +kernel) fun t _ y => ?_
  blk_simp
  rw [after0_6, iblk0, iblk1, iblk2, iblk3, out6]
  have e : (win0_6.blk t).view.emb y = (ix3 0 (row t (y 1)) (y 2) : S1x1024x256.Idx) := by
    blk_ext [(idx t).2.2.2.2.2.2.1, row]
  exact (congrArg (a1 (newM m c) : S1x1024x256.Idx → EReal) e).symm

theorem arr7 : (dats m 0 c).arrAt 7 cfg0.N = (a1 (newV m c) : S1x1024x256.Idx → EReal) := by
  refine (dats m 0 c).arrAt_eq_of_covers 7 _ (by decide +kernel) fun t _ y => ?_
  blk_simp
  rw [after0_7, iblk0, iblk1, iblk2, iblk3, out7]
  have e : (win0_7.blk t).view.emb y = (ix3 0 (row t (y 1)) (y 2) : S1x1024x256.Idx) := by
    blk_ext [(idx t).2.2.2.2.2.2.2, row]
  exact (congrArg (a1 (newV m c) : S1x1024x256.Idx → EReal) e).symm

end Array

theorem algebraic : Cert.algebraic_Kernel6Ideal_Reference6Ideal (hKernel6Ideal := Cert.Kernel6Ideal.Gen.facts)
    (hReference6Ideal := Cert.Reference6Ideal.Gen.facts) := by
  pair_intro
  · run_from Cert.Kernel6Ideal.Value.run_blocks m g
  · refine (θ_run _ _ _).mono (fun r h c => ?_) (Cert.Reference6Ideal.Value.run m' g')
    obtain ⟨g0, g1, g2, g3⟩ := hagree c
    obtain ⟨r0, r1, r2, r3, k⟩ := h c
    have e0 := g0.trans (eq_a4 _ (parts m c) fun _ _ _ => rfl)
    have e1 := g1.trans (eq_a1 _ (wt m c) fun _ _ => rfl)
    have e2 := g2.trans (eq_a1 _ (m1 m c) fun _ _ => rfl)
    have e3 := g3.trans (eq_a1 _ (m2 m c) fun _ _ => rfl)
    refine ⟨r0.trans ?_, r1.trans ?_, r2.trans ?_, r3.trans ?_, k⟩
    · rw [e0]
      exact (rTot_eq _ _ _ _ _ (by decide)).trans (arr4 m c).symm
    · rw [e0, e1, e2, e3]
      exact (ref_step _ _ _ _ _ _ _ _ _ (by decide)).trans (arr5 m c).symm
    · rw [e0, e2]
      exact (ref_mom _ _ _ _ _ _ _ (by decide)).trans (arr6 m c).symm
    · rw [e0, e3]
      exact (ref_sqm _ _ _ _ _ _ _ (by decide)).trans (arr7 m c).symm

end Cert.Adam6

end
-- ==== Proof.Adam7Claim.lean ====
/- The claims of the output projection's update: what its kernel's arrays hold, and that its reference leaves the same. -/
module

public import proofs.«01_k».proof.Defs
public import proofs.«01_k».proof.Proof.Gen.Kernel7.Frame
public import proofs.«01_k».proof.Proof.Gen.Kernel7Ideal.Value
public import proofs.«01_k».proof.Proof.Gen.Reference7Ideal
public import proofs.«01_k».proof.Proof.Gen.Reference7Ideal.Run
public import proofs.«01_k».proof.Proof.AdamSpec
public import Idealize.ShloMosaic.Lib.Pipeline.ValueKit
public import Idealize.ShloMosaic.Lib.Claim

@[expose] public section

set_option maxRecDepth 16384

noncomputable section

namespace Cert.Adam7

open Idealize.ShloMosaic Idealize.ShloMosaic.TcCoe Idealize.SL.Sem Idealize.ShloMosaic.Pipeline Cert.AdamSpec

theorem frame_p : Cert.quiescent_Kernel7 (hKernel7 := Cert.Kernel7.Gen.facts) := fun m g _ => Cert.Kernel7.Gen.frame m g

theorem frame_pi : Cert.quiescent_Kernel7Ideal (hKernel7Ideal := Cert.Kernel7Ideal.Gen.facts) := fun m g _ => Cert.Kernel7Ideal.Gen.frame m g

/-- The reference declares no semaphore, and its run leaves the arguments. -/
theorem frame_ri : Cert.quiescent_Reference7Ideal (hReference7Ideal := Cert.Reference7Ideal.Gen.facts) := fun m g _ =>
  (θ_run _ _ _).mono (fun r h => ⟨fun c => (h c).2.2.2.2, sem_eq_zero_of_no_sems (by decide) r.2⟩) (Cert.Reference7Ideal.Value.run m g)

section Block

open Cert.Kernel7Ideal Cert.Kernel7Ideal.Gen

variable (P : Fin 4 → Fin 128 → Fin 1024 → EReal) (W M V : Fin 128 → Fin 1024 → EReal)

/-- The loads of the four parts of a point's rows, and of a whole block. -/
theorem ld_0 : View.ld (Val := Elt Ideal) (e' := .bf16) (a4 P) r0_0 = a1 (P 0) := ld4 P 0 _
theorem ld_1 : View.ld (Val := Elt Ideal) (e' := .bf16) (a4 P) r0_1 = a1 (P 1) := ld4 P 1 _
theorem ld_2 : View.ld (Val := Elt Ideal) (e' := .bf16) (a4 P) r0_2 = a1 (P 2) := ld4 P 2 _
theorem ld_3 : View.ld (Val := Elt Ideal) (e' := .bf16) (a4 P) r0_3 = a1 (P 3) := ld4 P 3 _
theorem ld_4 : View.ld (Val := Elt Ideal) (e' := .f32) (a1 W) r0_4 = a1 W := ld1 W _

/-- What a point writes: the gradient, the step and the two moments of its rows. -/
theorem out4 : out0_4 (F := Ideal) (a4 P) (a1 W) (a1 M) (a1 V) = a1 fun a b => tot fun q => P q a b := by
  unfold_out out0_4
  refine (View.canon_unit_zero (by decide) _ _).trans ?_
  rw [ld_0, ld_1, ld_2, ld_3]
  exact pay_grad P _ _ _

theorem out5 : out0_5 (F := Ideal) (a4 P) (a1 W) (a1 M) (a1 V)
    = a1 fun a b => step (W a b) (mom (tot fun q => P q a b) (M a b)) (sqm (tot fun q => P q a b) (V a b)) := by
  unfold_out out0_5
  refine (View.canon_unit_zero (by decide) _ _).trans ?_
  rw [ld_0, ld_1, ld_2, ld_3, ld_4, ld_4, ld_4]
  exact pay_step P W M V _ _ _

theorem out6 : out0_6 (F := Ideal) (a4 P) (a1 W) (a1 M) (a1 V) = a1 fun a b => mom (tot fun q => P q a b) (M a b) := by
  unfold_out out0_6
  refine (View.canon_unit_zero (by decide) _ _).trans ?_
  rw [ld_0, ld_1, ld_2, ld_3, ld_4]
  exact pay_mom P M _ _ _

theorem out7 : out0_7 (F := Ideal) (a4 P) (a1 W) (a1 M) (a1 V) = a1 fun a b => sqm (tot fun q => P q a b) (V a b) := by
  unfold_out out0_7
  refine (View.canon_unit_zero (by decide) _ _).trans ?_
  rw [ld_0, ld_1, ld_2, ld_3, ld_4]
  exact pay_sqm P V _ _ _

end Block

section Array

open Cert.Kernel7Ideal Cert.Kernel7Ideal.Gen

variable (m : (ℓ : Loc nD τ sig) → Buf (Elt Ideal) ℓ) (c : Dev nD) (t : Fin cfg0.N)

/-- The delivered parts, the weight and its moments. -/
def parts (q : Fin 4) (i : Fin 128) (j : Fin 1024) : EReal := m ((c : Thread nD τ).loc main_arg0) (ix3 q i j)
def wt (i : Fin 128) (j : Fin 1024) : EReal := m ((c : Thread nD τ).loc main_arg1) (ix3 0 i j)
def m1 (i : Fin 128) (j : Fin 1024) : EReal := m ((c : Thread nD τ).loc main_arg2) (ix3 0 i j)
def m2 (i : Fin 128) (j : Fin 1024) : EReal := m ((c : Thread nD τ).loc main_arg3) (ix3 0 i j)

/-- Row `i` of a point's block. -/
def row (i : Fin 128) : Fin 128 := ⟨t.val * 128 + i.val, by have := lt_of_lt_of_eq t.isLt (show cfg0.N = 1 from N_0); omega⟩

theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] :=
  (by decide +kernel : ∀ t : Fin grid0.N, _)

theorem iblk0 : iblk m c 0 t = (a4 fun q i j => parts m c q (row t i) j : S4x128x1024.Idx → EReal) := by
  refine eq_a4 _ _ fun q a b => ?_
  show _ = m ((c : Thread nD τ).loc main_arg0) (ix3 q (row t a) b)
  blk_ext! [iblk, V, (idx t).1, row]

theorem iblk1 : iblk m c 1 t = (a1 fun i j => wt m c (row t i) j : S1x128x1024.Idx → EReal) := by
  refine eq_a1 _ _ fun a b => ?_
  show _ = m ((c : Thread nD τ).loc main_arg1) (ix3 0 (row t a) b)
  blk_ext! [iblk, V, (idx t).2.1, row]

theorem iblk2 : iblk m c 2 t = (a1 fun i j => m1 m c (row t i) j : S1x128x1024.Idx → EReal) := by
  refine eq_a1 _ _ fun a b => ?_
  show _ = m ((c : Thread nD τ).loc main_arg2) (ix3 0 (row t a) b)
  blk_ext! [iblk, V, (idx t).2.2.1, row]

theorem iblk3 : iblk m c 3 t = (a1 fun i j => m2 m c (row t i) j : S1x128x1024.Idx → EReal) := by
  refine eq_a1 _ _ fun a b => ?_
  show _ = m ((c : Thread nD τ).loc main_arg3) (ix3 0 (row t a) b)
  blk_ext! [iblk, V, (idx t).2.2.2.1, row]

/-- The gradient, the new moments and the step. -/
def grad (i : Fin 128) (j : Fin 1024) : EReal := tot fun q => parts m c q i j
def newM (i : Fin 128) (j : Fin 1024) : EReal := mom (grad m c i j) (m1 m c i j)
def newV (i : Fin 128) (j : Fin 1024) : EReal := sqm (grad m c i j) (m2 m c i j)
def delta (i : Fin 128) (j : Fin 1024) : EReal := step (wt m c i j) (newM m c i j) (newV m c i j)

theorem arr4 : (dats m 0 c).arrAt 4 cfg0.N = (a1 (grad m c) : S1x128x1024.Idx → EReal) := by
  refine (dats m 0 c).arrAt_eq_of_covers 4 _ (by decide +kernel) fun t _ y => ?_
  blk_simp
  rw [after0_4, iblk0, iblk1, iblk2, iblk3, out4]
  have e : (win0_4.blk t).view.emb y = (ix3 0 (row t (y 1)) (y 2) : S1x128x1024.Idx) := by
    blk_ext [(idx t).2.2.2.2.1, row]
  exact (congrArg (a1 (grad m c) : S1x128x1024.Idx → EReal) e).symm

theorem arr5 : (dats m 0 c).arrAt 5 cfg0.N = (a1 (delta m c) : S1x128x1024.Idx → EReal) := by
  refine (dats m 0 c).arrAt_eq_of_covers 5 _ (by decide +kernel) fun t _ y => ?_
  blk_simp
  rw [after0_5, iblk0, iblk1, iblk2, iblk3, out5]
  have e : (win0_5.blk t).view.emb y = (ix3 0 (row t (y 1)) (y 2) : S1x128x1024.Idx) := by
    blk_ext [(idx t).2.2.2.2.2.1, row]
  exact (congrArg (a1 (delta m c) : S1x128x1024.Idx → EReal) e).symm

theorem arr6 : (dats m 0 c).arrAt 6 cfg0.N = (a1 (newM m c) : S1x128x1024.Idx → EReal) := by
  refine (dats m 0 c).arrAt_eq_of_covers 6 _ (by decide +kernel) fun t _ y => ?_
  blk_simp
  rw [after0_6, iblk0, iblk1, iblk2, iblk3, out6]
  have e : (win0_6.blk t).view.emb y = (ix3 0 (row t (y 1)) (y 2) : S1x128x1024.Idx) := by
    blk_ext [(idx t).2.2.2.2.2.2.1, row]
  exact (congrArg (a1 (newM m c) : S1x128x1024.Idx → EReal) e).symm

theorem arr7 : (dats m 0 c).arrAt 7 cfg0.N = (a1 (newV m c) : S1x128x1024.Idx → EReal) := by
  refine (dats m 0 c).arrAt_eq_of_covers 7 _ (by decide +kernel) fun t _ y => ?_
  blk_simp
  rw [after0_7, iblk0, iblk1, iblk2, iblk3, out7]
  have e : (win0_7.blk t).view.emb y = (ix3 0 (row t (y 1)) (y 2) : S1x128x1024.Idx) := by
    blk_ext [(idx t).2.2.2.2.2.2.2, row]
  exact (congrArg (a1 (newV m c) : S1x128x1024.Idx → EReal) e).symm

end Array

theorem algebraic : Cert.algebraic_Kernel7Ideal_Reference7Ideal (hKernel7Ideal := Cert.Kernel7Ideal.Gen.facts)
    (hReference7Ideal := Cert.Reference7Ideal.Gen.facts) := by
  pair_intro
  · run_from Cert.Kernel7Ideal.Value.run_blocks m g
  · refine (θ_run _ _ _).mono (fun r h c => ?_) (Cert.Reference7Ideal.Value.run m' g')
    obtain ⟨g0, g1, g2, g3⟩ := hagree c
    obtain ⟨r0, r1, r2, r3, k⟩ := h c
    have e0 := g0.trans (eq_a4 _ (parts m c) fun _ _ _ => rfl)
    have e1 := g1.trans (eq_a1 _ (wt m c) fun _ _ => rfl)
    have e2 := g2.trans (eq_a1 _ (m1 m c) fun _ _ => rfl)
    have e3 := g3.trans (eq_a1 _ (m2 m c) fun _ _ => rfl)
    refine ⟨r0.trans ?_, r1.trans ?_, r2.trans ?_, r3.trans ?_, k⟩
    · rw [e0]
      exact (rTot_eq _ _ _ _ _ (by decide)).trans (arr4 m c).symm
    · rw [e0, e1, e2, e3]
      exact (ref_step _ _ _ _ _ _ _ _ _ (by decide)).trans (arr5 m c).symm
    · rw [e0, e2]
      exact (ref_mom _ _ _ _ _ _ _ (by decide)).trans (arr6 m c).symm
    · rw [e0, e3]
      exact (ref_sqm _ _ _ _ _ _ _ (by decide)).trans (arr7 m c).symm

end Cert.Adam7

end
-- ==== Proof.Adam8Claim.lean ====
/- The claims of the small weights' update: the conditioning's bias, the convolution, the pooling. Its kernel is one point and entry by entry, and so is its reference. -/
module

public import proofs.«01_k».proof.Defs
public import proofs.«01_k».proof.Proof.Gen.Kernel8.Frame
public import proofs.«01_k».proof.Proof.Gen.Kernel8Ideal.Value
public import proofs.«01_k».proof.Proof.Gen.Reference8Ideal
public import proofs.«01_k».proof.Proof.Gen.Reference8Ideal.Run
public import Idealize.ShloMosaic.Lib.Pipeline.ValueKit
public import Idealize.ShloMosaic.Lib.Claim

@[expose] public section

set_option maxRecDepth 16384

noncomputable section

namespace Cert.Adam8

open Idealize.ShloMosaic Idealize.ShloMosaic.TcCoe Idealize.SL.Sem Idealize.ShloMosaic.Pipeline

theorem frame_p : Cert.quiescent_Kernel8 (hKernel8 := Cert.Kernel8.Gen.facts) := fun m g _ => Cert.Kernel8.Gen.frame m g

theorem frame_pi : Cert.quiescent_Kernel8Ideal (hKernel8Ideal := Cert.Kernel8Ideal.Gen.facts) := fun m g _ => Cert.Kernel8Ideal.Gen.frame m g

/-- The reference declares no semaphore, and its run leaves the arguments. -/
theorem frame_ri : Cert.quiescent_Reference8Ideal (hReference8Ideal := Cert.Reference8Ideal.Gen.facts) := fun m g _ =>
  (θ_run _ _ _).mono (fun r h => ⟨fun c => (h c).2.2.2.2.2.2.2.2.2.2.2.2, sem_eq_zero_of_no_sems (by decide) r.2⟩) (Cert.Reference8Ideal.Value.run m g)

/-- Both runs leave the same function of the arguments: the two divisions are one, and so are the two square roots. -/
theorem algebraic : Cert.algebraic_Kernel8Ideal_Reference8Ideal (hKernel8Ideal := Cert.Kernel8Ideal.Gen.facts)
    (hReference8Ideal := Cert.Reference8Ideal.Gen.facts) := by
  pair_intro
  · run_from Cert.Kernel8Ideal.Value.run m g
  · refine (θ_run _ _ _).mono (fun r h c => ?_) (Cert.Reference8Ideal.Value.run m' g')
    obtain ⟨g0, g1, g2, g3, g4, g5, g6, g7, g8, g9, g10, g11, g12, g13, g14, g15⟩ := hagree c
    obtain ⟨r0, r1, r2, r3, r4, r5, r6, r7, r8, r9, r10, r11, k⟩ := h c
    refine ⟨r0.trans ?_, r1.trans ?_, r2.trans ?_, r3.trans ?_, r4.trans ?_, r5.trans ?_, r6.trans ?_, r7.trans ?_, r8.trans ?_, r9.trans ?_, r10.trans ?_, r11.trans ?_, k⟩
    all_goals
      simp only [g0, g1, g2, g3, g4, g5, g6, g7, g8, g9, g10, g11, g12, g13, g14, g15]
      rfl

end Cert.Adam8

end
-- ==== Proof.Adam9Claim.lean ====
/- The claims of the layer norms' update. Its kernel is one point and entry by entry, and so is its reference. -/
module

public import proofs.«01_k».proof.Defs
public import proofs.«01_k».proof.Proof.Gen.Kernel9.Frame
public import proofs.«01_k».proof.Proof.Gen.Kernel9Ideal.Value
public import proofs.«01_k».proof.Proof.Gen.Reference9Ideal
public import proofs.«01_k».proof.Proof.Gen.Reference9Ideal.Run
public import Idealize.ShloMosaic.Lib.Pipeline.ValueKit
public import Idealize.ShloMosaic.Lib.Claim

@[expose] public section

set_option maxRecDepth 16384

noncomputable section

namespace Cert.Adam9

open Idealize.ShloMosaic Idealize.ShloMosaic.TcCoe Idealize.SL.Sem Idealize.ShloMosaic.Pipeline

theorem frame_p : Cert.quiescent_Kernel9 (hKernel9 := Cert.Kernel9.Gen.facts) := fun m g _ => Cert.Kernel9.Gen.frame m g

theorem frame_pi : Cert.quiescent_Kernel9Ideal (hKernel9Ideal := Cert.Kernel9Ideal.Gen.facts) := fun m g _ => Cert.Kernel9Ideal.Gen.frame m g

/-- The reference declares no semaphore, and its run leaves the arguments. -/
theorem frame_ri : Cert.quiescent_Reference9Ideal (hReference9Ideal := Cert.Reference9Ideal.Gen.facts) := fun m g _ =>
  (θ_run _ _ _).mono (fun r h => ⟨fun c => (h c).2.2.2.2.2.2.2.2.2.2.2.2, sem_eq_zero_of_no_sems (by decide) r.2⟩) (Cert.Reference9Ideal.Value.run m g)

/-- Both runs leave the same function of the arguments: the two divisions are one, and so are the two square roots. -/
theorem algebraic : Cert.algebraic_Kernel9Ideal_Reference9Ideal (hKernel9Ideal := Cert.Kernel9Ideal.Gen.facts)
    (hReference9Ideal := Cert.Reference9Ideal.Gen.facts) := by
  pair_intro
  · run_from Cert.Kernel9Ideal.Value.run m g
  · refine (θ_run _ _ _).mono (fun r h c => ?_) (Cert.Reference9Ideal.Value.run m' g')
    obtain ⟨g0, g1, g2, g3, g4, g5, g6, g7, g8, g9, g10, g11, g12, g13, g14, g15⟩ := hagree c
    obtain ⟨r0, r1, r2, r3, r4, r5, r6, r7, r8, r9, r10, r11, k⟩ := h c
    refine ⟨r0.trans ?_, r1.trans ?_, r2.trans ?_, r3.trans ?_, r4.trans ?_, r5.trans ?_, r6.trans ?_, r7.trans ?_, r8.trans ?_, r9.trans ?_, r10.trans ?_, r11.trans ?_, k⟩
    all_goals
      simp only [g0, g1, g2, g3, g4, g5, g6, g7, g8, g9, g10, g11, g12, g13, g14, g15]
      rfl

end Cert.Adam9

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.MlpClaim
public import proofs.«01_k».proof.Proof.WgradClaim
public import proofs.«01_k».proof.Proof.MixClaim
public import proofs.«01_k».proof.Proof.Adam4Claim
public import proofs.«01_k».proof.Proof.Adam5Claim
public import proofs.«01_k».proof.Proof.Adam6Claim
public import proofs.«01_k».proof.Proof.Adam7Claim
public import proofs.«01_k».proof.Proof.Adam8Claim
public import proofs.«01_k».proof.Proof.Adam9Claim
public import proofs.«01_k».proof.Proof.Gen.KernelIdeal.Value
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite.Gen.facts, Cert.Pre_finite2.Gen.facts,
  Cert.MlpClaim.frame_p, Cert.MlpClaim.frame_pi, fun m g _ => Cert.MlpClaim.frame_pi m g trivial,
  Cert.MlpClaim.frame_ri, fun m g _ => Cert.MlpClaim.frame_ri m g trivial,
  Cert.MixClaim.frame_p, Cert.MixClaim.frame_pi, fun m g _ => Cert.MixClaim.frame_pi m g trivial,
  Cert.MixClaim.frame_ri, fun m g _ => Cert.MixClaim.frame_ri m g trivial,
  Cert.WgradClaim.frame_p, Cert.WgradClaim.frame_pi, Cert.WgradClaim.frame_ri,
  Cert.Adam4.frame_p, Cert.Adam4.frame_pi, Cert.Adam4.frame_ri,
  Cert.Adam5.frame_p, Cert.Adam5.frame_pi, Cert.Adam5.frame_ri,
  Cert.Adam6.frame_p, Cert.Adam6.frame_pi, Cert.Adam6.frame_ri,
  Cert.Adam7.frame_p, Cert.Adam7.frame_pi, Cert.Adam7.frame_ri,
  Cert.Adam8.frame_p, Cert.Adam8.frame_pi, Cert.Adam8.frame_ri,
  Cert.Adam9.frame_p, Cert.Adam9.frame_pi, Cert.Adam9.frame_ri,
  trivial, Cert.MlpClaim.algebraic, trivial, Cert.MixClaim.algebraic, trivial, Cert.WgradClaim.algebraic,
  trivial, Cert.Adam4.algebraic, trivial, Cert.Adam5.algebraic, trivial, Cert.Adam6.algebraic, trivial, Cert.Adam7.algebraic,
  trivial, Cert.Adam8.algebraic, trivial, Cert.Adam9.algebraic⟩

end Cert.Proof

end
